-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_weights [hPre_finite_weights : Cert.Pre_finite_weights.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_finite_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_finite_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_weights [hPre_finite_weights : Cert.Pre_finite_weights.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_weights.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_finite_weights.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_finite_weights.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_weights [hKernel5Ideal : Cert.Kernel5Ideal.Facts] [hPre_finite_weights : Cert.Pre_finite_weights.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_weights m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_weights [hReference5Ideal : Cert.Reference5Ideal.Facts] [hPre_finite_weights : Cert.Pre_finite_weights.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_weights m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def preserves_Kernel_KernelIdeal : Prop :=
  IdealRules.named_const.Statement Cert.KernelIdeal.κ "q_gain" .f32 0x3E38AA3B#32 (((8 * (Real.log 2))⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite_weights [hKernel5Ideal : Cert.Kernel5Ideal.Facts] [hReference5Ideal : Cert.Reference5Ideal.Facts] [hPre_finite_weights : Cert.Pre_finite_weights.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_weights m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v10_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_v67) = v1 c
          ∧ r.2.mem ((c.tc : Thread Cert.Reference5Ideal.nD Cert.Reference5Ideal.τ).loc Cert.Reference5Ideal.main_v68) = v2 c
          ∧ r.2.mem ((c.tc : Thread Cert.Reference5Ideal.nD Cert.Reference5Ideal.τ).loc Cert.Reference5Ideal.main_v69) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)) →
    ∃ (v0 : (c : Dev Cert.Kernel8Ideal.nD) → Buf (Elt Ideal) ((c.tc : Thread Cert.Kernel8Ideal.nD Cert.Kernel8Ideal.τ).loc Cert.Kernel8Ideal.main_v36_0)) (v1 : (c : Dev Cert.Kernel8Ideal.nD) → Buf (Elt Ideal) ((c.tc : Thread Cert.Kernel8Ideal.nD Cert.Kernel8Ideal.τ).loc Cert.Kernel8Ideal.main_v36_1)) (v2 : (c : Dev Cert.Kernel8Ideal.nD) → Buf (Elt Ideal) ((c.tc : Thread Cert.Kernel8Ideal.nD Cert.Kernel8Ideal.τ).loc Cert.Kernel8Ideal.main_v36_2)) (v3 : (c : Dev Cert.Kernel8Ideal.nD) → Buf (Elt Ideal) ((c.tc : Thread Cert.Kernel8Ideal.nD Cert.Kernel8Ideal.τ).loc Cert.Kernel8Ideal.main_v36_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v36_0) = v0 c
          ∧ r.2.mem ((c.tc : Thread Cert.Kernel8Ideal.nD Cert.Kernel8Ideal.τ).loc Cert.Kernel8Ideal.main_v36_1) = v1 c
          ∧ r.2.mem ((c.tc : Thread Cert.Kernel8Ideal.nD Cert.Kernel8Ideal.τ).loc Cert.Kernel8Ideal.main_v36_2) = v2 c
          ∧ r.2.mem ((c.tc : Thread Cert.Kernel8Ideal.nD Cert.Kernel8Ideal.τ).loc Cert.Kernel8Ideal.main_v36_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v157) = v0 c
          ∧ r.2.mem ((c.tc : Thread Cert.Reference8Ideal.nD Cert.Reference8Ideal.τ).loc Cert.Reference8Ideal.main_v158) = v1 c
          ∧ r.2.mem ((c.tc : Thread Cert.Reference8Ideal.nD Cert.Reference8Ideal.τ).loc Cert.Reference8Ideal.main_v159) = v2 c
          ∧ r.2.mem ((c.tc : Thread Cert.Reference8Ideal.nD Cert.Reference8Ideal.τ).loc Cert.Reference8Ideal.main_v160) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_scores : Cert.Pre_finite_scores.Facts) (hPre_finite_weights : Cert.Pre_finite_weights.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_weights (hKernel5Ideal := hKernel5Ideal) (hPre_finite_weights := hPre_finite_weights)
    ∧ quiescent_Reference5Ideal (hReference5Ideal := hReference5Ideal)
    ∧ quiescent_Reference5Ideal_pre_finite_weights (hReference5Ideal := hReference5Ideal) (hPre_finite_weights := hPre_finite_weights)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_weights (hKernel5Ideal := hKernel5Ideal) (hReference5Ideal := hReference5Ideal) (hPre_finite_weights := hPre_finite_weights)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_scores.lean ====
abbrev S65536x512 : Shape := ⟨2, ![65536, 512]⟩
abbrev S65536x128 : Shape := ⟨2, ![65536, 128]⟩
abbrev S4096x128 : Shape := ⟨2, ![4096, 128]⟩
abbrev S_ : Shape := ⟨0, ![]⟩

class Facts : Prop where
  bcast_S_S65536x512 : S_.BroadcastsInDim S65536x512 (![] : Fin 0 → Fin S65536x512.rank)
  bcast_S_S65536x128 : S_.BroadcastsInDim S65536x128 (![] : Fin 0 → Fin S65536x128.rank)
  bcast_S_S4096x128 : S_.BroadcastsInDim S4096x128 (![] : Fin 0 → Fin S4096x128.rank)

variable [Facts]

def fn {F : FTy → Type} [FloatOps F] (main_arg0 : FVec F S65536x512 .f32) (main_arg1 : FVec F S65536x128 .bf16) (main_arg2 : FVec F S65536x128 .bf16) (main_arg3 : FVec F S4096x128 .bf16) (main_arg4 : FVec F S4096x128 .bf16) : IVec S65536x512 1 × IVec S65536x128 1 × IVec S4096x128 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_v3 : FVec F S65536x128 .bf16 := Host.absf main_arg1
  let main_cst_0 : FVec F S_ .bf16 := constant S_ .bf16 0x7F80#16
  let main_v4 : FVec F S65536x128 .bf16 := broadcastInDim S65536x128 ![] bcast_S_S65536x128 main_cst_0
  let main_v5 : IVec S65536x128 1 := cmpf .olt main_v3 main_v4
  let main_v6 : FVec F S4096x128 .bf16 := Host.absf main_arg3
  let main_cst_1 : FVec F S_ .bf16 := constant S_ .bf16 0x7F80#16
  let main_v7 : FVec F S4096x128 .bf16 := broadcastInDim S4096x128 ![] bcast_S_S4096x128 main_cst_1
  let main_v8 : IVec S4096x128 1 := cmpf .olt main_v6 main_v7
  (main_v2, main_v5, main_v8)
-- ==== Pre_finite_weights.lean ====
abbrev S65536x1024 : Shape := ⟨2, ![65536, 1024]⟩
abbrev S16x3x1024 : Shape := ⟨3, ![16, 3, 1024]⟩
abbrev S1024 : Shape := ⟨1, ![1024]⟩
abbrev S2x1024x2560 : Shape := ⟨3, ![2, 1024, 2560]⟩
abbrev S64 : Shape := ⟨1, ![64]⟩
abbrev S256x512 : Shape := ⟨2, ![256, 512]⟩
abbrev S_ : Shape := ⟨0, ![]⟩

class Facts : Prop where
  bcast_S_S16x3x1024 : S_.BroadcastsInDim S16x3x1024 (![] : Fin 0 → Fin S16x3x1024.rank)
  bcast_S_S1024 : S_.BroadcastsInDim S1024 (![] : Fin 0 → Fin S1024.rank)
  bcast_S_S2x1024x2560 : S_.BroadcastsInDim S2x1024x2560 (![] : Fin 0 → Fin S2x1024x2560.rank)

variable [Facts]

def fn {F : FTy → Type} [FloatOps F] (main_arg0 : FVec F S65536x1024 .f32) (main_arg1 : FVec F S16x3x1024 .f32) (main_arg2 : FVec F S1024 .f32) (main_arg3 : FVec F S2x1024x2560 .f32) (main_arg4 : FVec F S64 .f32) (main_arg5 : FVec F S64 .f32) (main_arg6 : FVec F S256x512 .bf16) : IVec S16x3x1024 1 × IVec S1024 1 × IVec S2x1024x2560 1 :=
  let main_v0 : FVec F S16x3x1024 .f32 := Host.absf main_arg1
  let main_cst : FVec F S_ .f32 := constant S_ .f32 0x7F800000#32
  let main_v1 : FVec F S16x3x1024 .f32 := broadcastInDim S16x3x1024 ![] bcast_S_S16x3x1024 main_cst
  let main_v2 : IVec S16x3x1024 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S2x1024x2560 .f32 := Host.absf main_arg3
  let main_cst_1 : FVec F S_ .f32 := constant S_ .f32 0x7F800000#32
  let main_v7 : FVec F S2x1024x2560 .f32 := broadcastInDim S2x1024x2560 ![] bcast_S_S2x1024x2560 main_cst_1
  let main_v8 : IVec S2x1024x2560 1 := cmpf .olt main_v6 main_v7
  (main_v2, main_v5, main_v8)
-- ==== Kernel.lean ====
abbrev S65536x512 : Shape := ⟨2, ![65536, 512]⟩
abbrev S65536x128 : Shape := ⟨2, ![65536, 128]⟩
abbrev S4096x128 : Shape := ⟨2, ![4096, 128]⟩
abbrev S4096x512 : Shape := ⟨2, ![4096, 512]⟩
abbrev S256x128 : Shape := ⟨2, ![256, 128]⟩
abbrev S2x256x4352 : Shape := ⟨3, ![2, 256, 4352]⟩
abbrev S2x256x128 : Shape := ⟨3, ![2, 256, 128]⟩
abbrev S4352x128 : Shape := ⟨2, ![4352, 128]⟩
abbrev S4352x256 : Shape := ⟨2, ![4352, 256]⟩
abbrev S1x128 : Shape := ⟨2, ![1, 128]⟩
abbrev S64x128 : Shape := ⟨2, ![64, 128]⟩
abbrev S256x4352 : Shape := ⟨2, ![256, 4352]⟩
abbrev S1x256x4352 : Shape := ⟨3, ![1, 256, 4352]⟩
abbrev S256 : Shape := ⟨1, ![256]⟩
abbrev S256x1 : Shape := ⟨2, ![256, 1]⟩
abbrev S1x256x128 : Shape := ⟨3, ![1, 256, 128]⟩
abbrev S256x256 : Shape := ⟨2, ![256, 256]⟩

abbrev nBuf : Space → Nat
  | .hbm => 6
  | .vmem => 13
  | .smem => 0
  | _ => 0

abbrev bufTy : (tb : Table) → Fin (tcTables nBuf tb) → BufTy
  | .hbm, ⟨0, _⟩ => ⟨S65536x512, .f32⟩
  | .hbm, ⟨1, _⟩ => ⟨S65536x128, .bf16⟩
  | .hbm, ⟨2, _⟩ => ⟨S65536x128, .bf16⟩
  | .hbm, ⟨3, _⟩ => ⟨S4096x128, .bf16⟩
  | .hbm, ⟨4, _⟩ => ⟨S4096x128, .bf16⟩
  | .hbm, ⟨5, _⟩ => ⟨S65536x512, .bf16⟩
  | .local _ .vmem, ⟨0, _⟩ => ⟨S4096x512, .f32⟩
  | .local _ .vmem, ⟨1, _⟩ => ⟨S4096x128, .bf16⟩
  | .local _ .vmem, ⟨2, _⟩ => ⟨S4096x128, .bf16⟩
  | .local _ .vmem, ⟨3, _⟩ => ⟨S256x128, .bf16⟩
  | .local _ .vmem, ⟨4, _⟩ => ⟨S256x128, .bf16⟩
  | .local _ .vmem, ⟨5, _⟩ => ⟨S4096x512, .bf16⟩
  | .local _ .vmem, ⟨6, _⟩ => ⟨S4096x512, .bf16⟩
  | .local _ .vmem, ⟨7, _⟩ => ⟨S2x256x4352, .f32⟩
  | .local _ .vmem, ⟨8, _⟩ => ⟨S2x256x4352, .f32⟩
  | .local _ .vmem, ⟨9, _⟩ => ⟨S2x256x128, .f32⟩
  | .local _ .vmem, ⟨10, _⟩ => ⟨S2x256x128, .f32⟩
  | .local _ .vmem, ⟨11, _⟩ => ⟨S4352x128, .bf16⟩
  | .local _ .vmem, ⟨12, _⟩ => ⟨S4352x256, .bf16⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c64_i32_18 : BitVec 32 := 64#32
  let v27 : BitVec 32 := Scalar.muli c0_i32 c64_i32_18
  v27
def k0_off1 (c0_i32 : BitVec 32) : Fin 2 → Nat :=
  let c64_i32_18 : BitVec 32 := 64#32
  let v27 : BitVec 32 := Scalar.muli c0_i32 c64_i32_18
  let v28 : BitVec 32 := v27
  let v29 : Index := Scalar.indexCast v28
  let c0_19 : Index := 0#32
  ![v29.toNat, 0]
def k0_mult2 : BitVec 32 :=
  let c0_i32_21 : BitVec 32 := 0#32
  let c64_i32_22 : BitVec 32 := 64#32
  let v34 : BitVec 32 := Scalar.muli c0_i32_21 c64_i32_22
  v34
def k0_off2 (c0_i32_21 : BitVec 32) : Fin 2 → Nat :=
  let c64_i32_22 : BitVec 32 := 64#32
  let v34 : BitVec 32 := Scalar.muli c0_i32_21 c64_i32_22
  let v35 : BitVec 32 := v34
  let v36 : Index := Scalar.indexCast v35
  let c128_23 : Index := 128#32
  ![v36.toNat, 128]
def k0_mult3 : BitVec 32 :=
  let c0_i32_25 : BitVec 32 := 0#32
  let c64_i32_26 : BitVec 32 := 64#32
  let v41 : BitVec 32 := Scalar.muli c0_i32_25 c64_i32_26
  v41
def k0_off3 (c0_i32_25 : BitVec 32) : Fin 2 → Nat :=
  let c64_i32_26 : BitVec 32 := 64#32
  let v41 : BitVec 32 := Scalar.muli c0_i32_25 c64_i32_26
  let v42 : BitVec 32 := v41
  let v43 : Index := Scalar.indexCast v42
  let c256 : Index := 256#32
  ![v43.toNat, 256]
def k0_mult4 : BitVec 32 :=
  let c0_i32_28 : BitVec 32 := 0#32
  let c64_i32_29 : BitVec 32 := 64#32
  let v48 : BitVec 32 := Scalar.muli c0_i32_28 c64_i32_29
  v48
def k0_off4 (c0_i32_28 : BitVec 32) : Fin 2 → Nat :=
  let c64_i32_29 : BitVec 32 := 64#32
  let v48 : BitVec 32 := Scalar.muli c0_i32_28 c64_i32_29
  let v49 : BitVec 32 := v48
  let v50 : Index := Scalar.indexCast v49
  let c384 : Index := 384#32
  ![v50.toNat, 384]
@[reducible] def k0_t1_loop : Scf.Loop 32 :=
  let c1_i32 : BitVec 32 := 1#32
  let c63_i32 : BitVec 32 := 63#32
  let v117 : BitVec 32 := Scalar.addi c1_i32 c63_i32
  let c1_i32_62 : BitVec 32 := 1#32
  ⟨c1_i32, v117, c1_i32_62⟩
def k0_cond1 (k0_t1 : Fin k0_t1_loop.trips) : BitVec 1 :=
  let c1_i32 : BitVec 32 := 1#32
  let c1_i32_62 : BitVec 32 := 1#32
  let arg13 : BitVec 32 := Scf.iv c1_i32 c1_i32_62 k0_t1
  let c1_i32_94 : BitVec 32 := 1#32
  let v173 : BitVec 32 := Scalar.andi arg13 c1_i32_94
  let c0_i32_95 : BitVec 32 := 0#32
  let v174 : BitVec 1 := Scalar.cmpi .eq v173 c0_i32_95
  let v175 : BitVec 32 := Scalar.extui v174
  let c0_i32_96 : BitVec 32 := 0#32
  let v176 : BitVec 1 := Scalar.cmpi .ne v175 c0_i32_96
  v176

def k0_mult5 (k0_t1 : Fin k0_t1_loop.trips) : BitVec 32 :=
  let c1_i32 : BitVec 32 := 1#32
  let c1_i32_62 : BitVec 32 := 1#32
  let arg13 : BitVec 32 := Scf.iv c1_i32 c1_i32_62 k0_t1
  let c64_i32_100 : BitVec 32 := 64#32
  let v181 : BitVec 32 := Scalar.muli arg13 c64_i32_100
  v181
def k0_off5 (k0_t1 : Fin k0_t1_loop.trips) : Fin 2 → Nat :=
  let c1_i32 : BitVec 32 := 1#32
  let c1_i32_62 : BitVec 32 := 1#32
  let arg13 : BitVec 32 := Scf.iv c1_i32 c1_i32_62 k0_t1
  let c64_i32_100 : BitVec 32 := 64#32
  let v181 : BitVec 32 := Scalar.muli arg13 c64_i32_100
  let v182 : BitVec 32 := v181
  let v183 : Index := Scalar.indexCast v182
  let c0_101 : Index := 0#32
  ![v183.toNat, 0]
def k0_mult6 (k0_t1 : Fin k0_t1_loop.trips) : BitVec 32 :=
  let c1_i32 : BitVec 32 := 1#32
  let c1_i32_62 : BitVec 32 := 1#32
  let arg13 : BitVec 32 := Scf.iv c1_i32 c1_i32_62 k0_t1
  let c64_i32_103 : BitVec 32 := 64#32
  let v188 : BitVec 32 := Scalar.muli arg13 c64_i32_103
  v188
def k0_off6 (k0_t1 : Fin k0_t1_loop.trips) : Fin 2 → Nat :=
  let c1_i32 : BitVec 32 := 1#32
  let c1_i32_62 : BitVec 32 := 1#32
  let arg13 : BitVec 32 := Scf.iv c1_i32 c1_i32_62 k0_t1
  let c64_i32_103 : BitVec 32 := 64#32
  let v188 : BitVec 32 := Scalar.muli arg13 c64_i32_103
  let v189 : BitVec 32 := v188
  let v190 : Index := Scalar.indexCast v189
  let c128_104 : Index := 128#32
  ![v190.toNat, 128]
def k0_mult7 (k0_t1 : Fin k0_t1_loop.trips) : BitVec 32 :=
  let c1_i32 : BitVec 32 := 1#32
  let c1_i32_62 : BitVec 32 := 1#32
  let arg13 : BitVec 32 := Scf.iv c1_i32 c1_i32_62 k0_t1
  let c64_i32_106 : BitVec 32 := 64#32
  let v195 : BitVec 32 := Scalar.muli arg13 c64_i32_106
  v195
def k0_off7 (k0_t1 : Fin k0_t1_loop.trips) : Fin 2 → Nat :=
  let c1_i32 : BitVec 32 := 1#32
  let c1_i32_62 : BitVec 32 := 1#32
  let arg13 : BitVec 32 := Scf.iv c1_i32 c1_i32_62 k0_t1
  let c64_i32_106 : BitVec 32 := 64#32
  let v195 : BitVec 32 := Scalar.muli arg13 c64_i32_106
  let v196 : BitVec 32 := v195
  let v197 : Index := Scalar.indexCast v196
  let c256_107 : Index := 256#32
  ![v197.toNat, 256]
def k0_mult8 (k0_t1 : Fin k0_t1_loop.trips) : BitVec 32 :=
  let c1_i32 : BitVec 32 := 1#32
  let c1_i32_62 : BitVec 32 := 1#32
  let arg13 : BitVec 32 := Scf.iv c1_i32 c1_i32_62 k0_t1
  let c64_i32_109 : BitVec 32 := 64#32
  let v202 : BitVec 32 := Scalar.muli arg13 c64_i32_109
  v202
def k0_off8 (k0_t1 : Fin k0_t1_loop.trips) : Fin 2 → Nat :=
  let c1_i32 : BitVec 32 := 1#32
  let c1_i32_62 : BitVec 32 := 1#32
  let arg13 : BitVec 32 := Scf.iv c1_i32 c1_i32_62 k0_t1
  let c64_i32_109 : BitVec 32 := 64#32
  let v202 : BitVec 32 := Scalar.muli arg13 c64_i32_109
  let v203 : BitVec 32 := v202
  let v204 : Index := Scalar.indexCast v203
  let c384_110 : Index := 384#32
  ![v204.toNat, 384]
def k0_mult9 (k0_t1 : Fin k0_t1_loop.trips) : BitVec 32 :=
  let c1_i32 : BitVec 32 := 1#32
  let c1_i32_62 : BitVec 32 := 1#32
  let arg13 : BitVec 32 := Scf.iv c1_i32 c1_i32_62 k0_t1
  let c1_i32_144 : BitVec 32 := 1#32
  let v271 : BitVec 32 := Scalar.subi arg13 c1_i32_144
  let c64_i32_163 : BitVec 32 := 64#32
  let v308 : BitVec 32 := Scalar.muli v271 c64_i32_163
  v308
def k0_off9 (k0_t1 : Fin k0_t1_loop.trips) : Fin 2 → Nat :=
  let c1_i32 : BitVec 32 := 1#32
  let c1_i32_62 : BitVec 32 := 1#32
  let arg13 : BitVec 32 := Scf.iv c1_i32 c1_i32_62 k0_t1
  let c1_i32_144 : BitVec 32 := 1#32
  let v271 : BitVec 32 := Scalar.subi arg13 c1_i32_144
  let c64_i32_163 : BitVec 32 := 64#32
  let v308 : BitVec 32 := Scalar.muli v271 c64_i32_163
  let v309 : BitVec 32 := v308
  let v310 : Index := Scalar.indexCast v309
  let c0_164 : Index := 0#32
  ![v310.toNat, 0]
def k0_mult10 (k0_t1 : Fin k0_t1_loop.trips) : BitVec 32 :=
  let c1_i32 : BitVec 32 := 1#32
  let c1_i32_62 : BitVec 32 := 1#32
  let arg13 : BitVec 32 := Scf.iv c1_i32 c1_i32_62 k0_t1
  let c1_i32_144 : BitVec 32 := 1#32
  let v271 : BitVec 32 := Scalar.subi arg13 c1_i32_144
  let c64_i32_165 : BitVec 32 := 64#32
  let v313 : BitVec 32 := Scalar.muli v271 c64_i32_165
  v313
def k0_off10 (k0_t1 : Fin k0_t1_loop.trips) : Fin 2 → Nat :=
  let c1_i32 : BitVec 32 := 1#32
  let c1_i32_62 : BitVec 32 := 1#32
  let arg13 : BitVec 32 := Scf.iv c1_i32 c1_i32_62 k0_t1
  let c1_i32_144 : BitVec 32 := 1#32
  let v271 : BitVec 32 := Scalar.subi arg13 c1_i32_144
  let c64_i32_165 : BitVec 32 := 64#32
  let v313 : BitVec 32 := Scalar.muli v271 c64_i32_165
  let v314 : BitVec 32 := v313
  let v315 : Index := Scalar.indexCast v314
  let c128_166 : Index := 128#32
  ![v315.toNat, 128]
def k0_mult11 (k0_t1 : Fin k0_t1_loop.trips) : BitVec 32 :=
  let c1_i32 : BitVec 32 := 1#32
  let c1_i32_62 : BitVec 32 := 1#32
  let arg13 : BitVec 32 := Scf.iv c1_i32 c1_i32_62 k0_t1
  let c1_i32_144 : BitVec 32 := 1#32
  let v271 : BitVec 32 := Scalar.subi arg13 c1_i32_144
  let c64_i32_167 : BitVec 32 := 64#32
  let v318 : BitVec 32 := Scalar.muli v271 c64_i32_167
  v318
def k0_off11 (k0_t1 : Fin k0_t1_loop.trips) : Fin 2 → Nat :=
  let c1_i32 : BitVec 32 := 1#32
  let c1_i32_62 : BitVec 32 := 1#32
  let arg13 : BitVec 32 := Scf.iv c1_i32 c1_i32_62 k0_t1
  let c1_i32_144 : BitVec 32 := 1#32
  let v271 : BitVec 32 := Scalar.subi arg13 c1_i32_144
  let c64_i32_167 : BitVec 32 := 64#32
  let v318 : BitVec 32 := Scalar.muli v271 c64_i32_167
  let v319 : BitVec 32 := v318
  let v320 : Index := Scalar.indexCast v319
  let c256_168 : Index := 256#32
  ![v320.toNat, 256]
def k0_mult12 (k0_t1 : Fin k0_t1_loop.trips) : BitVec 32 :=
  let c1_i32 : BitVec 32 := 1#32
  let c1_i32_62 : BitVec 32 := 1#32
  let arg13 : BitVec 32 := Scf.iv c1_i32 c1_i32_62 k0_t1
  let c1_i32_144 : BitVec 32 := 1#32
  let v271 : BitVec 32 := Scalar.subi arg13 c1_i32_144
  let c64_i32_169 : BitVec 32 := 64#32
  let v323 : BitVec 32 := Scalar.muli v271 c64_i32_169
  v323
def k0_off12 (k0_t1 : Fin k0_t1_loop.trips) : Fin 2 → Nat :=
  let c1_i32 : BitVec 32 := 1#32
  let c1_i32_62 : BitVec 32 := 1#32
  let arg13 : BitVec 32 := Scf.iv c1_i32 c1_i32_62 k0_t1
  let c1_i32_144 : BitVec 32 := 1#32
  let v271 : BitVec 32 := Scalar.subi arg13 c1_i32_144
  let c64_i32_169 : BitVec 32 := 64#32
  let v323 : BitVec 32 := Scalar.muli v271 c64_i32_169
  let v324 : BitVec 32 := v323
  let v325 : Index := Scalar.indexCast v324
  let c384_170 : Index := 384#32
  ![v325.toNat, 384]
def k0_cond2 (k0_t1 : Fin k0_t1_loop.trips) : BitVec 1 :=
  let c1_i32 : BitVec 32 := 1#32
  let c1_i32_62 : BitVec 32 := 1#32
  let arg13 : BitVec 32 := Scf.iv c1_i32 c1_i32_62 k0_t1
  let c1_i32_97 : BitVec 32 := 1#32
  let v177 : BitVec 32 := Scalar.andi arg13 c1_i32_97
  let c1_i32_98 : BitVec 32 := 1#32
  let v178 : BitVec 1 := Scalar.cmpi .eq v177 c1_i32_98
  let v179 : BitVec 32 := Scalar.extui v178
  let c0_i32_99 : BitVec 32 := 0#32
  let v180 : BitVec 1 := Scalar.cmpi .ne v179 c0_i32_99
  v180

def k0_mult13 (k0_t1 : Fin k0_t1_loop.trips) : BitVec 32 :=
  let c1_i32 : BitVec 32 := 1#32
  let c1_i32_62 : BitVec 32 := 1#32
  let arg13 : BitVec 32 := Scf.iv c1_i32 c1_i32_62 k0_t1
  let c64_i32_100 : BitVec 32 := 64#32
  let v181 : BitVec 32 := Scalar.muli arg13 c64_i32_100
  v181
def k0_off13 (k0_t1 : Fin k0_t1_loop.trips) : Fin 2 → Nat :=
  let c1_i32 : BitVec 32 := 1#32
  let c1_i32_62 : BitVec 32 := 1#32
  let arg13 : BitVec 32 := Scf.iv c1_i32 c1_i32_62 k0_t1
  let c64_i32_100 : BitVec 32 := 64#32
  let v181 : BitVec 32 := Scalar.muli arg13 c64_i32_100
  let v182 : BitVec 32 := v181
  let v183 : Index := Scalar.indexCast v182
  let c0_101 : Index := 0#32
  ![v183.toNat, 0]
def k0_mult14 (k0_t1 : Fin k0_t1_loop.trips) : BitVec 32 :=
  let c1_i32 : BitVec 32 := 1#32
  let c1_i32_62 : BitVec 32 := 1#32
  let arg13 : BitVec 32 := Scf.iv c1_i32 c1_i32_62 k0_t1
  let c64_i32_103 : BitVec 32 := 64#32
  let v188 : BitVec 32 := Scalar.muli arg13 c64_i32_103
  v188
def k0_off14 (k0_t1 : Fin k0_t1_loop.trips) : Fin 2 → Nat :=
  let c1_i32 : BitVec 32 := 1#32
  let c1_i32_62 : BitVec 32 := 1#32
  let arg13 : BitVec 32 := Scf.iv c1_i32 c1_i32_62 k0_t1
  let c64_i32_103 : BitVec 32 := 64#32
  let v188 : BitVec 32 := Scalar.muli arg13 c64_i32_103
  let v189 : BitVec 32 := v188
  let v190 : Index := Scalar.indexCast v189
  let c128_104 : Index := 128#32
  ![v190.toNat, 128]
def k0_mult15 (k0_t1 : Fin k0_t1_loop.trips) : BitVec 32 :=
  let c1_i32 : BitVec 32 := 1#32
  let c1_i32_62 : BitVec 32 := 1#32
  let arg13 : BitVec 32 := Scf.iv c1_i32 c1_i32_62 k0_t1
  let c64_i32_106 : BitVec 32 := 64#32
  let v195 : BitVec 32 := Scalar.muli arg13 c64_i32_106
  v195
def k0_off15 (k0_t1 : Fin k0_t1_loop.trips) : Fin 2 → Nat :=
  let c1_i32 : BitVec 32 := 1#32
  let c1_i32_62 : BitVec 32 := 1#32
  let arg13 : BitVec 32 := Scf.iv c1_i32 c1_i32_62 k0_t1
  let c64_i32_106 : BitVec 32 := 64#32
  let v195 : BitVec 32 := Scalar.muli arg13 c64_i32_106
  let v196 : BitVec 32 := v195
  let v197 : Index := Scalar.indexCast v196
  let c256_107 : Index := 256#32
  ![v197.toNat, 256]
def k0_mult16 (k0_t1 : Fin k0_t1_loop.trips) : BitVec 32 :=
  let c1_i32 : BitVec 32 := 1#32
  let c1_i32_62 : BitVec 32 := 1#32
  let arg13 : BitVec 32 := Scf.iv c1_i32 c1_i32_62 k0_t1
  let c64_i32_109 : BitVec 32 := 64#32
  let v202 : BitVec 32 := Scalar.muli arg13 c64_i32_109
  v202
def k0_off16 (k0_t1 : Fin k0_t1_loop.trips) : Fin 2 → Nat :=
  let c1_i32 : BitVec 32 := 1#32
  let c1_i32_62 : BitVec 32 := 1#32
  let arg13 : BitVec 32 := Scf.iv c1_i32 c1_i32_62 k0_t1
  let c64_i32_109 : BitVec 32 := 64#32
  let v202 : BitVec 32 := Scalar.muli arg13 c64_i32_109
  let v203 : BitVec 32 := v202
  let v204 : Index := Scalar.indexCast v203
  let c384_110 : Index := 384#32
  ![v204.toNat, 384]
def k0_mult17 (k0_t1 : Fin k0_t1_loop.trips) : BitVec 32 :=
  let c1_i32 : BitVec 32 := 1#32
  let c1_i32_62 : BitVec 32 := 1#32
  let arg13 : BitVec 32 := Scf.iv c1_i32 c1_i32_62 k0_t1
  let c1_i32_144 : BitVec 32 := 1#32
  let v271 : BitVec 32 := Scalar.subi arg13 c1_i32_144
  let c64_i32_163 : BitVec 32 := 64#32
  let v308 : BitVec 32 := Scalar.muli v271 c64_i32_163
  v308
def k0_off17 (k0_t1 : Fin k0_t1_loop.trips) : Fin 2 → Nat :=
  let c1_i32 : BitVec 32 := 1#32
  let c1_i32_62 : BitVec 32 := 1#32
  let arg13 : BitVec 32 := Scf.iv c1_i32 c1_i32_62 k0_t1
  let c1_i32_144 : BitVec 32 := 1#32
  let v271 : BitVec 32 := Scalar.subi arg13 c1_i32_144
  let c64_i32_163 : BitVec 32 := 64#32
  let v308 : BitVec 32 := Scalar.muli v271 c64_i32_163
  let v309 : BitVec 32 := v308
  let v310 : Index := Scalar.indexCast v309
  let c0_164 : Index := 0#32
  ![v310.toNat, 0]
def k0_mult18 (k0_t1 : Fin k0_t1_loop.trips) : BitVec 32 :=
  let c1_i32 : BitVec 32 := 1#32
  let c1_i32_62 : BitVec 32 := 1#32
  let arg13 : BitVec 32 := Scf.iv c1_i32 c1_i32_62 k0_t1
  let c1_i32_144 : BitVec 32 := 1#32
  let v271 : BitVec 32 := Scalar.subi arg13 c1_i32_144
  let c64_i32_165 : BitVec 32 := 64#32
  let v313 : BitVec 32 := Scalar.muli v271 c64_i32_165
  v313
def k0_off18 (k0_t1 : Fin k0_t1_loop.trips) : Fin 2 → Nat :=
  let c1_i32 : BitVec 32 := 1#32
  let c1_i32_62 : BitVec 32 := 1#32
  let arg13 : BitVec 32 := Scf.iv c1_i32 c1_i32_62 k0_t1
  let c1_i32_144 : BitVec 32 := 1#32
  let v271 : BitVec 32 := Scalar.subi arg13 c1_i32_144
  let c64_i32_165 : BitVec 32 := 64#32
  let v313 : BitVec 32 := Scalar.muli v271 c64_i32_165
  let v314 : BitVec 32 := v313
  let v315 : Index := Scalar.indexCast v314
  let c128_166 : Index := 128#32
  ![v315.toNat, 128]
def k0_mult19 (k0_t1 : Fin k0_t1_loop.trips) : BitVec 32 :=
  let c1_i32 : BitVec 32 := 1#32
  let c1_i32_62 : BitVec 32 := 1#32
  let arg13 : BitVec 32 := Scf.iv c1_i32 c1_i32_62 k0_t1
  let c1_i32_144 : BitVec 32 := 1#32
  let v271 : BitVec 32 := Scalar.subi arg13 c1_i32_144
  let c64_i32_167 : BitVec 32 := 64#32
  let v318 : BitVec 32 := Scalar.muli v271 c64_i32_167
  v318
def k0_off19 (k0_t1 : Fin k0_t1_loop.trips) : Fin 2 → Nat :=
  let c1_i32 : BitVec 32 := 1#32
  let c1_i32_62 : BitVec 32 := 1#32
  let arg13 : BitVec 32 := Scf.iv c1_i32 c1_i32_62 k0_t1
  let c1_i32_144 : BitVec 32 := 1#32
  let v271 : BitVec 32 := Scalar.subi arg13 c1_i32_144
  let c64_i32_167 : BitVec 32 := 64#32
  let v318 : BitVec 32 := Scalar.muli v271 c64_i32_167
  let v319 : BitVec 32 := v318
  let v320 : Index := Scalar.indexCast v319
  let c256_168 : Index := 256#32
  ![v320.toNat, 256]
def k0_mult20 (k0_t1 : Fin k0_t1_loop.trips) : BitVec 32 :=
  let c1_i32 : BitVec 32 := 1#32
  let c1_i32_62 : BitVec 32 := 1#32
  let arg13 : BitVec 32 := Scf.iv c1_i32 c1_i32_62 k0_t1
  let c1_i32_144 : BitVec 32 := 1#32
  let v271 : BitVec 32 := Scalar.subi arg13 c1_i32_144
  let c64_i32_169 : BitVec 32 := 64#32
  let v323 : BitVec 32 := Scalar.muli v271 c64_i32_169
  v323
def k0_off20 (k0_t1 : Fin k0_t1_loop.trips) : Fin 2 → Nat :=
  let c1_i32 : BitVec 32 := 1#32
  let c1_i32_62 : BitVec 32 := 1#32
  let arg13 : BitVec 32 := Scf.iv c1_i32 c1_i32_62 k0_t1
  let c1_i32_144 : BitVec 32 := 1#32
  let v271 : BitVec 32 := Scalar.subi arg13 c1_i32_144
  let c64_i32_169 : BitVec 32 := 64#32
  let v323 : BitVec 32 := Scalar.muli v271 c64_i32_169
  let v324 : BitVec 32 := v323
  let v325 : Index := Scalar.indexCast v324
  let c384_170 : Index := 384#32
  ![v325.toNat, 384]
def k0_mult21 : BitVec 32 :=
  let c63_i32_82 : BitVec 32 := 63#32
  let c64_i32_83 : BitVec 32 := 64#32
  let v154 : BitVec 32 := Scalar.muli c63_i32_82 c64_i32_83
  v154
def k0_mult22 : BitVec 32 :=
  let c63_i32_85 : BitVec 32 := 63#32
  let c64_i32_86 : BitVec 32 := 64#32
  let v159 : BitVec 32 := Scalar.muli c63_i32_85 c64_i32_86
  v159
def k0_mult23 : BitVec 32 :=
  let c63_i32_88 : BitVec 32 := 63#32
  let c64_i32_89 : BitVec 32 := 64#32
  let v164 : BitVec 32 := Scalar.muli c63_i32_88 c64_i32_89
  v164
def k0_mult24 : BitVec 32 :=
  let c63_i32_91 : BitVec 32 := 63#32
  let c64_i32_92 : BitVec 32 := 64#32
  let v169 : BitVec 32 := Scalar.muli c63_i32_91 c64_i32_92
  v169
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 2 → Memref sig .tc .vmem S4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "q_gain" => some (((8 * (Real.log 2))⁻¹ : ℝ) : EReal)
  | _ => none
-- ==== ReferenceIdeal.lean ====
abbrev S65536x512 : Shape := ⟨2, ![65536, 512]⟩
abbrev S65536x128 : Shape := ⟨2, ![65536, 128]⟩
abbrev S4096x128 : Shape := ⟨2, ![4096, 128]⟩
abbrev S16x4096x4x2x64 : Shape := ⟨5, ![16, 4096, 4, 2, 64]⟩
abbrev S16x4096x2x64 : Shape := ⟨4, ![16, 4096, 2, 64]⟩
abbrev S16x256x2x64 : Shape := ⟨4, ![16, 256, 2, 64]⟩
abbrev S16x4352x2x64 : Shape := ⟨4, ![16, 4352, 2, 64]⟩
abbrev S16x2x4352x4096x4 : Shape := ⟨5, ![16, 2, 4352, 4096, 4]⟩
abbrev S16x2x4x4096x4352 : Shape := ⟨5, ![16, 2, 4, 4096, 4352]⟩
abbrev S_ : Shape := ⟨0, ![]⟩
abbrev S16x2x4x4096 : Shape := ⟨4, ![16, 2, 4, 4096]⟩
abbrev S16x2x4x4096x1 : Shape := ⟨5, ![16, 2, 4, 4096, 1]⟩
abbrev S16x2x64x4x4096 : Shape := ⟨5, ![16, 2, 64, 4, 4096]⟩

abbrev nBuf : Space → Nat
  | .hbm => 37
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x128, .bf16⟩
  | .hbm, ⟨2, _⟩ => ⟨S65536x128, .bf16⟩
  | .hbm, ⟨3, _⟩ => ⟨S4096x128, .bf16⟩
  | .hbm, ⟨4, _⟩ => ⟨S4096x128, .bf16⟩
  | .hbm, ⟨5, _⟩ => ⟨S16x4096x4x2x64, .f32⟩
  | .hbm, ⟨6, _⟩ => ⟨S16x4096x2x64, .bf16⟩
  | .hbm, ⟨7, _⟩ => ⟨S16x256x2x64, .bf16⟩
  | .hbm, ⟨8, _⟩ => ⟨S16x4352x2x64, .bf16⟩
  | .hbm, ⟨9, _⟩ => ⟨S16x4352x2x64, .f32⟩
  | .hbm, ⟨10, _⟩ => ⟨S16x4096x2x64, .bf16⟩
  | .hbm, ⟨11, _⟩ => ⟨S16x256x2x64, .bf16⟩
  | .hbm, ⟨12, _⟩ => ⟨S16x4352x2x64, .bf16⟩
  | .hbm, ⟨13, _⟩ => ⟨S16x4352x2x64, .f32⟩
  | .hbm, ⟨14, _⟩ => ⟨S16x2x4352x4096x4, .f32⟩
  | .hbm, ⟨15, _⟩ => ⟨S16x2x4x4096x4352, .f32⟩
  | .hbm, ⟨16, _⟩ => ⟨S_, .f32⟩
  | .hbm, ⟨17, _⟩ => ⟨S16x2x4x4096x4352, .f32⟩
  | .hbm, ⟨18, _⟩ => ⟨S16x2x4x4096x4352, .f32⟩
  | .hbm, ⟨19, _⟩ => ⟨S_, .f32⟩
  | .hbm, ⟨20, _⟩ => ⟨S16x2x4x4096, .f32⟩
  | .hbm, ⟨21, _⟩ => ⟨S_, .f32⟩
  | .hbm, ⟨22, _⟩ => ⟨S16x2x4x4096, .f32⟩
  | .hbm, ⟨23, _⟩ => ⟨S16x2x4x4096, .f32⟩
  | .hbm, ⟨24, _⟩ => ⟨S16x2x4x4096x1, .f32⟩
  | .hbm, ⟨25, _⟩ => ⟨S16x2x4x4096x4352, .f32⟩
  | .hbm, ⟨26, _⟩ => ⟨S16x2x4x4096x4352, .f32⟩
  | .hbm, ⟨27, _⟩ => ⟨S16x2x4x4096x4352, .f32⟩
  | .hbm, ⟨28, _⟩ => ⟨S_, .f32⟩
  | .hbm, ⟨29, _⟩ => ⟨S16x2x4x4096, .f32⟩
  | .hbm, ⟨30, _⟩ => ⟨S16x2x4x4096x1, .f32⟩
  | .hbm, ⟨31, _⟩ => ⟨S16x2x4x4096x4352, .f32⟩
  | .hbm, ⟨32, _⟩ => ⟨S16x2x4x4096x4352, .f32⟩
  | .hbm, ⟨33, _⟩ => ⟨S16x2x64x4x4096, .f32⟩
  | .hbm, ⟨34, _⟩ => ⟨S16x4096x4x2x64, .f32⟩
  | .hbm, ⟨35, _⟩ => ⟨S65536x512, .f32⟩
  | .hbm, ⟨36, _⟩ => ⟨S65536x512, .bf16⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel2.lean ====
abbrev S65536x1024 : Shape := ⟨2, ![65536, 1024]⟩
abbrev S16x3x1024 : Shape := ⟨3, ![16, 3, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S1x1024 : Shape := ⟨2, ![1, 1024]⟩
abbrev S512x1024 : Shape := ⟨2, ![512, 1024]⟩
abbrev S1x3x1024 : Shape := ⟨3, ![1, 3, 1024]⟩
abbrev S1x1x1024x5632 : Shape := ⟨4, ![1, 1, 1024, 5632]⟩
abbrev S1x1x2816x1024 : Shape := ⟨4, ![1, 1, 2816, 1024]⟩
abbrev S3x1024 : Shape := ⟨2, ![3, 1024]⟩
abbrev S512 : Shape := ⟨1, ![512]⟩
abbrev S512x1 : Shape := ⟨2, ![512, 1]⟩
abbrev S1024x5632 : Shape := ⟨2, ![1024, 5632]⟩
abbrev S512x5632 : Shape := ⟨2, ![512, 5632]⟩
abbrev S512x2816 : Shape := ⟨2, ![512, 2816]⟩
abbrev S2816x1024 : Shape := ⟨2, ![2816, 1024]⟩

abbrev nBuf : Space → Nat
  | .hbm => 9
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S16x3x1024, .f32⟩
  | .hbm, ⟨2, _⟩ => ⟨S1024, .f32⟩
  | .hbm, ⟨3, _⟩ => ⟨S4x2x1024x5632, .f32⟩
  | .hbm, ⟨4, _⟩ => ⟨S4x2x2816x1024, .f32⟩
  | .hbm, ⟨5, _⟩ => ⟨S4x2x1024x5632, .bf16⟩
  | .hbm, ⟨6, _⟩ => ⟨S4x2x2816x1024, .bf16⟩
  | .hbm, ⟨7, _⟩ => ⟨S1x1024, .f32⟩
  | .hbm, ⟨8, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S512x1024, .f32⟩
  | .local _ .vmem, ⟨8, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S65536x1024 : Shape := ⟨2, ![65536, 1024]⟩
abbrev S16x3x1024 : Shape := ⟨3, ![16, 3, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S16x4096x1024 : Shape := ⟨3, ![16, 4096, 1024]⟩
abbrev S16x3x1x1024 : Shape := ⟨4, ![16, 3, 1, 1024]⟩
abbrev S16x1x1x1024 : Shape := ⟨4, ![16, 1, 1, 1024]⟩
abbrev S16x1x1024 : Shape := ⟨3, ![16, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4096x2816 : Shape := ⟨3, ![16, 4096, 2816]⟩

abbrev nBuf : Space → Nat
  | .hbm => 61
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S16x3x1024, .f32⟩
  | .hbm, ⟨2, _⟩ => ⟨S1024, .f32⟩
  | .hbm, ⟨3, _⟩ => ⟨S4x2x1024x5632, .f32⟩
  | .hbm, ⟨4, _⟩ => ⟨S4x2x2816x1024, .f32⟩
  | .hbm, ⟨5, _⟩ => ⟨S16x4096x1024, .f32⟩
  | .hbm, ⟨6, _⟩ => ⟨S16x3x1x1024, .f32⟩
  | .hbm, ⟨7, _⟩ => ⟨S16x1x1x1024, .f32⟩
  | .hbm, ⟨8, _⟩ => ⟨S16x1x1024, .f32⟩
  | .hbm, ⟨9, _⟩ => ⟨S16x1x1x1024, .f32⟩
  | .hbm, ⟨10, _⟩ => ⟨S16x1x1024, .f32⟩
  | .hbm, ⟨11, _⟩ => ⟨S16x1x1x1024, .f32⟩
  | .hbm, ⟨12, _⟩ => ⟨S16x1x1024, .f32⟩
  | .hbm, ⟨13, _⟩ => ⟨S1x1x1024x5632, .f32⟩
  | .hbm, ⟨14, _⟩ => ⟨S1024x5632, .f32⟩
  | .hbm, ⟨15, _⟩ => ⟨S1x1x2816x1024, .f32⟩
  | .hbm, ⟨16, _⟩ => ⟨S2816x1024, .f32⟩
  | .hbm, ⟨17, _⟩ => ⟨S16x4096x1024, .f32⟩
  | .hbm, ⟨18, _⟩ => ⟨S_, .f32⟩
  | .hbm, ⟨19, _⟩ => ⟨S16x4096, .f32⟩
  | .hbm, ⟨20, _⟩ => ⟨S16x4096x1, .f32⟩
  | .hbm, ⟨21, _⟩ => ⟨S_, .f32⟩
  | .hbm, ⟨22, _⟩ => ⟨S16x4096x1, .f32⟩
  | .hbm, ⟨23, _⟩ => ⟨S16x4096x1, .f32⟩
  | .hbm, ⟨24, _⟩ => ⟨S_, .f32⟩
  | .hbm, ⟨25, _⟩ => ⟨S16x4096x1, .f32⟩
  | .hbm, ⟨26, _⟩ => ⟨S16x4096x1, .f32⟩
  | .hbm, ⟨27, _⟩ => ⟨S16x4096x1, .f32⟩
  | .hbm, ⟨28, _⟩ => ⟨S16x4096x1024, .f32⟩
  | .hbm, ⟨29, _⟩ => ⟨S16x4096x1024, .f32⟩
  | .hbm, ⟨30, _⟩ => ⟨S1x1x1024, .f32⟩
  | .hbm, ⟨31, _⟩ => ⟨S16x4096x1024, .f32⟩
  | .hbm, ⟨32, _⟩ => ⟨S16x4096x1024, .f32⟩
  | .hbm, ⟨33, _⟩ => ⟨S_, .f32⟩
  | .hbm, ⟨34, _⟩ => ⟨S16x1x1024, .f32⟩
  | .hbm, ⟨35, _⟩ => ⟨S16x1x1024, .f32⟩
  | .hbm, ⟨36, _⟩ => ⟨S16x4096x1024, .f32⟩
  | .hbm, ⟨37, _⟩ => ⟨S16x4096x1024, .f32⟩
  | .hbm, ⟨38, _⟩ => ⟨S16x4096x1024, .f32⟩
  | .hbm, ⟨39, _⟩ => ⟨S16x4096x1024, .f32⟩
  | .hbm, ⟨40, _⟩ => ⟨S_, .f32⟩
  | .hbm, ⟨41, _⟩ => ⟨S16x1x1024, .f32⟩
  | .hbm, ⟨42, _⟩ => ⟨S16x1x1024, .f32⟩
  | .hbm, ⟨43, _⟩ => ⟨S16x4096x5632, .f32⟩
  | .hbm, ⟨44, _⟩ => ⟨S16x4096x2816, .f32⟩
  | .hbm, ⟨45, _⟩ => ⟨S16x4096x2816, .f32⟩
  | .hbm, ⟨46, _⟩ => ⟨S16x4096x2816, .f32⟩
  | .hbm, ⟨47, _⟩ => ⟨S16x4096x2816, .f32⟩
  | .hbm, ⟨48, _⟩ => ⟨S_, .f32⟩
  | .hbm, ⟨49, _⟩ => ⟨S16x4096x2816, .f32⟩
  | .hbm, ⟨50, _⟩ => ⟨S16x4096x2816, .f32⟩
  | .hbm, ⟨51, _⟩ => ⟨S_, .f32⟩
  | .hbm, ⟨52, _⟩ => ⟨S16x4096x2816, .f32⟩
  | .hbm, ⟨53, _⟩ => ⟨S16x4096x2816, .f32⟩
  | .hbm, ⟨54, _⟩ => ⟨S16x4096x2816, .f32⟩
  | .hbm, ⟨55, _⟩ => ⟨S16x4096x2816, .f32⟩
  | .hbm, ⟨56, _⟩ => ⟨S16x4096x1024, .f32⟩
  | .hbm, ⟨57, _⟩ => ⟨S16x4096x1024, .f32⟩
  | .hbm, ⟨58, _⟩ => ⟨S16x4096x1024, .f32⟩
  | .hbm, ⟨59, _⟩ => ⟨S16x4096x1024, .f32⟩
  | .hbm, ⟨60, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Kernel3.lean ====
abbrev S65536x1024 : Shape := ⟨2, ![65536, 1024]⟩
abbrev S16x3x1024 : Shape := ⟨3, ![16, 3, 1024]⟩
abbrev S65536x768 : Shape := ⟨2, ![65536, 768]⟩
abbrev S65536x256 : Shape := ⟨2, ![65536, 256]⟩
abbrev S2x1024x1024 : Shape := ⟨3, ![2, 1024, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S1x1024 : Shape := ⟨2, ![1, 1024]⟩
abbrev S512x1024 : Shape := ⟨2, ![512, 1024]⟩
abbrev S1x3x1024 : Shape := ⟨3, ![1, 3, 1024]⟩
abbrev S512x768 : Shape := ⟨2, ![512, 768]⟩
abbrev S512x256 : Shape := ⟨2, ![512, 256]⟩
abbrev S1x1024x1024 : Shape := ⟨3, ![1, 1024, 1024]⟩
abbrev S1x1x1024x5632 : Shape := ⟨4, ![1, 1, 1024, 5632]⟩
abbrev S1x1x2816x1024 : Shape := ⟨4, ![1, 1, 2816, 1024]⟩
abbrev S1x768x1024 : Shape := ⟨3, ![1, 768, 1024]⟩
abbrev S768x1024 : Shape := ⟨2, ![768, 1024]⟩
abbrev S1x256x1024 : Shape := ⟨3, ![1, 256, 1024]⟩
abbrev S256x1024 : Shape := ⟨2, ![256, 1024]⟩
abbrev S3x1024 : Shape := ⟨2, ![3, 1024]⟩
abbrev S512 : Shape := ⟨1, ![512]⟩
abbrev S512x1 : Shape := ⟨2, ![512, 1]⟩
abbrev S1024x5632 : Shape := ⟨2, ![1024, 5632]⟩
abbrev S512x5632 : Shape := ⟨2, ![512, 5632]⟩
abbrev S512x2816 : Shape := ⟨2, ![512, 2816]⟩
abbrev S2816x1024 : Shape := ⟨2, ![2816, 1024]⟩

abbrev nBuf : Space → Nat
  | .hbm => 14
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S16x3x1024, .f32⟩
  | .hbm, ⟨2, _⟩ => ⟨S16x3x1024, .f32⟩
  | .hbm, ⟨3, _⟩ => ⟨S65536x768, .bf16⟩
  | .hbm, ⟨4, _⟩ => ⟨S65536x256, .bf16⟩
  | .hbm, ⟨5, _⟩ => ⟨S2x1024x1024, .f32⟩
  | .hbm, ⟨6, _⟩ => ⟨S1024, .f32⟩
  | .hbm, ⟨7, _⟩ => ⟨S4x2x1024x5632, .f32⟩
  | .hbm, ⟨8, _⟩ => ⟨S4x2x2816x1024, .f32⟩
  | .hbm, ⟨9, _⟩ => ⟨S2x1024x1024, .bf16⟩
  | .hbm, ⟨10, _⟩ => ⟨S4x2x1024x5632, .bf16⟩
  | .hbm, ⟨11, _⟩ => ⟨S4x2x2816x1024, .bf16⟩
  | .hbm, ⟨12, _⟩ => ⟨S1x1024, .f32⟩
  | .hbm, ⟨13, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x3x1024, .f32⟩
  | .local _ .vmem, ⟨5, _⟩ => ⟨S1x3x1024, .f32⟩
  | .local _ .vmem, ⟨6, _⟩ => ⟨S512x768, .bf16⟩
  | .local _ .vmem, ⟨7, _⟩ => ⟨S512x768, .bf16⟩
  | .local _ .vmem, ⟨8, _⟩ => ⟨S512x256, .bf16⟩
  | .local _ .vmem, ⟨9, _⟩ => ⟨S512x256, .bf16⟩
  | .local _ .vmem, ⟨10, _⟩ => ⟨S1x1024x1024, .bf16⟩
  | .local _ .vmem, ⟨11, _⟩ => ⟨S1x1024, .f32⟩
  | .local _ .vmem, ⟨12, _⟩ => ⟨S1x1x1024x5632, .bf16⟩
  | .local _ .vmem, ⟨13, _⟩ => ⟨S1x1x2816x1024, .bf16⟩
  | .local _ .vmem, ⟨14, _⟩ => ⟨S512x1024, .f32⟩
  | .local _ .vmem, ⟨15, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S65536x1024 : Shape := ⟨2, ![65536, 1024]⟩
abbrev S16x3x1024 : Shape := ⟨3, ![16, 3, 1024]⟩
abbrev S65536x768 : Shape := ⟨2, ![65536, 768]⟩
abbrev S65536x256 : Shape := ⟨2, ![65536, 256]⟩
abbrev S2x1024x1024 : Shape := ⟨3, ![2, 1024, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S16x4096x1024 : Shape := ⟨3, ![16, 4096, 1024]⟩
abbrev S16x3x1x1024 : Shape := ⟨4, ![16, 3, 1, 1024]⟩
abbrev S16x4096x768 : Shape := ⟨3, ![16, 4096, 768]⟩
abbrev S16x4096x256 : Shape := ⟨3, ![16, 4096, 256]⟩
abbrev S16x1x1x1024 : Shape := ⟨4, ![16, 1, 1, 1024]⟩
abbrev S16x1x1024 : Shape := ⟨3, ![16, 1, 1024]⟩
abbrev S1x1024x1024 : Shape := ⟨3, ![1, 1024, 1024]⟩
abbrev S1024x1024 : Shape := ⟨2, ![1024, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4096x2816 : Shape := ⟨3, ![16, 4096, 2816]⟩

abbrev nBuf : Space → Nat
  | .hbm => 78
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S16x3x1024, .f32⟩
  | .hbm, ⟨2, _⟩ => ⟨S16x3x1024, .f32⟩
  | .hbm, ⟨3, _⟩ => ⟨S65536x768, .bf16⟩
  | .hbm, ⟨4, _⟩ => ⟨S65536x256, .bf16⟩
  | .hbm, ⟨5, _⟩ => ⟨S2x1024x1024, .f32⟩
  | .hbm, ⟨6, _⟩ => ⟨S1024, .f32⟩
  | .hbm, ⟨7, _⟩ => ⟨S4x2x1024x5632, .f32⟩
  | .hbm, ⟨8, _⟩ => ⟨S4x2x2816x1024, .f32⟩
  | .hbm, ⟨9, _⟩ => ⟨S16x4096x1024, .f32⟩
  | .hbm, ⟨10, _⟩ => ⟨S16x3x1x1024, .f32⟩
  | .hbm, ⟨11, _⟩ => ⟨S16x3x1x1024, .f32⟩
  | .hbm, ⟨12, _⟩ => ⟨S16x4096x768, .bf16⟩
  | .hbm, ⟨13, _⟩ => ⟨S16x4096x256, .bf16⟩
  | .hbm, ⟨14, _⟩ => ⟨S16x4096x1024, .bf16⟩
  | .hbm, ⟨15, _⟩ => ⟨S16x1x1x1024, .f32⟩
  | .hbm, ⟨16, _⟩ => ⟨S16x1x1024, .f32⟩
  | .hbm, ⟨17, _⟩ => ⟨S16x4096x1024, .f32⟩
  | .hbm, ⟨18, _⟩ => ⟨S1x1024x1024, .f32⟩
  | .hbm, ⟨19, _⟩ => ⟨S1024x1024, .f32⟩
  | .hbm, ⟨20, _⟩ => ⟨S16x4096x1024, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S16x1x1x1024, .f32⟩
  | .hbm, ⟨25, _⟩ => ⟨S16x1x1024, .f32⟩
  | .hbm, ⟨26, _⟩ => ⟨S16x1x1x1024, .f32⟩
  | .hbm, ⟨27, _⟩ => ⟨S16x1x1024, .f32⟩
  | .hbm, ⟨28, _⟩ => ⟨S16x1x1x1024, .f32⟩
  | .hbm, ⟨29, _⟩ => ⟨S16x1x1024, .f32⟩
  | .hbm, ⟨30, _⟩ => ⟨S1x1x1024x5632, .f32⟩
  | .hbm, ⟨31, _⟩ => ⟨S1024x5632, .f32⟩
  | .hbm, ⟨32, _⟩ => ⟨S1x1x2816x1024, .f32⟩
  | .hbm, ⟨33, _⟩ => ⟨S2816x1024, .f32⟩
  | .hbm, ⟨34, _⟩ => ⟨S16x4096x1024, .f32⟩
  | .hbm, ⟨35, _⟩ => ⟨S_, .f32⟩
  | .hbm, ⟨36, _⟩ => ⟨S16x4096, .f32⟩
  | .hbm, ⟨37, _⟩ => ⟨S16x4096x1, .f32⟩
  | .hbm, ⟨38, _⟩ => ⟨S_, .f32⟩
  | .hbm, ⟨39, _⟩ => ⟨S16x4096x1, .f32⟩
  | .hbm, ⟨40, _⟩ => ⟨S16x4096x1, .f32⟩
  | .hbm, ⟨41, _⟩ => ⟨S_, .f32⟩
  | .hbm, ⟨42, _⟩ => ⟨S16x4096x1, .f32⟩
  | .hbm, ⟨43, _⟩ => ⟨S16x4096x1, .f32⟩
  | .hbm, ⟨44, _⟩ => ⟨S16x4096x1, .f32⟩
  | .hbm, ⟨45, _⟩ => ⟨S16x4096x1024, .f32⟩
  | .hbm, ⟨46, _⟩ => ⟨S16x4096x1024, .f32⟩
  | .hbm, ⟨47, _⟩ => ⟨S1x1x1024, .f32⟩
  | .hbm, ⟨48, _⟩ => ⟨S16x4096x1024, .f32⟩
  | .hbm, ⟨49, _⟩ => ⟨S16x4096x1024, .f32⟩
  | .hbm, ⟨50, _⟩ => ⟨S_, .f32⟩
  | .hbm, ⟨51, _⟩ => ⟨S16x1x1024, .f32⟩
  | .hbm, ⟨52, _⟩ => ⟨S16x1x1024, .f32⟩
  | .hbm, ⟨53, _⟩ => ⟨S16x4096x1024, .f32⟩
  | .hbm, ⟨54, _⟩ => ⟨S16x4096x1024, .f32⟩
  | .hbm, ⟨55, _⟩ => ⟨S16x4096x1024, .f32⟩
  | .hbm, ⟨56, _⟩ => ⟨S16x4096x1024, .f32⟩
  | .hbm, ⟨57, _⟩ => ⟨S_, .f32⟩
  | .hbm, ⟨58, _⟩ => ⟨S16x1x1024, .f32⟩
  | .hbm, ⟨59, _⟩ => ⟨S16x1x1024, .f32⟩
  | .hbm, ⟨60, _⟩ => ⟨S16x4096x5632, .f32⟩
  | .hbm, ⟨61, _⟩ => ⟨S16x4096x2816, .f32⟩
  | .hbm, ⟨62, _⟩ => ⟨S16x4096x2816, .f32⟩
  | .hbm, ⟨63, _⟩ => ⟨S16x4096x2816, .f32⟩
  | .hbm, ⟨64, _⟩ => ⟨S16x4096x2816, .f32⟩
  | .hbm, ⟨65, _⟩ => ⟨S_, .f32⟩
  | .hbm, ⟨66, _⟩ => ⟨S16x4096x2816, .f32⟩
  | .hbm, ⟨67, _⟩ => ⟨S16x4096x2816, .f32⟩
  | .hbm, ⟨68, _⟩ => ⟨S_, .f32⟩
  | .hbm, ⟨69, _⟩ => ⟨S16x4096x2816, .f32⟩
  | .hbm, ⟨70, _⟩ => ⟨S16x4096x2816, .f32⟩
  | .hbm, ⟨71, _⟩ => ⟨S16x4096x2816, .f32⟩
  | .hbm, ⟨72, _⟩ => ⟨S16x4096x2816, .f32⟩
  | .hbm, ⟨73, _⟩ => ⟨S16x4096x1024, .f32⟩
  | .hbm, ⟨74, _⟩ => ⟨S16x4096x1024, .f32⟩
  | .hbm, ⟨75, _⟩ => ⟨S16x4096x1024, .f32⟩
  | .hbm, ⟨76, _⟩ => ⟨S16x4096x1024, .f32⟩
  | .hbm, ⟨77, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Kernel4.lean ====
abbrev S65536x1024 : Shape := ⟨2, ![65536, 1024]⟩
abbrev S16x3x1024 : Shape := ⟨3, ![16, 3, 1024]⟩
abbrev S65536x512 : Shape := ⟨2, ![65536, 512]⟩
abbrev S2x1024x1024 : Shape := ⟨3, ![2, 1024, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S1x1024 : Shape := ⟨2, ![1, 1024]⟩
abbrev S512x1024 : Shape := ⟨2, ![512, 1024]⟩
abbrev S1x3x1024 : Shape := ⟨3, ![1, 3, 1024]⟩
abbrev S512x512 : Shape := ⟨2, ![512, 512]⟩
abbrev S1x1024x1024 : Shape := ⟨3, ![1, 1024, 1024]⟩
abbrev S1x1x1024x5632 : Shape := ⟨4, ![1, 1, 1024, 5632]⟩
abbrev S1x1x2816x1024 : Shape := ⟨4, ![1, 1, 2816, 1024]⟩
abbrev S1x512x1024 : Shape := ⟨3, ![1, 512, 1024]⟩
abbrev S3x1024 : Shape := ⟨2, ![3, 1024]⟩
abbrev S512 : Shape := ⟨1, ![512]⟩
abbrev S512x1 : Shape := ⟨2, ![512, 1]⟩
abbrev S1024x5632 : Shape := ⟨2, ![1024, 5632]⟩
abbrev S512x5632 : Shape := ⟨2, ![512, 5632]⟩
abbrev S512x2816 : Shape := ⟨2, ![512, 2816]⟩
abbrev S2816x1024 : Shape := ⟨2, ![2816, 1024]⟩

abbrev nBuf : Space → Nat
  | .hbm => 14
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S16x3x1024, .f32⟩
  | .hbm, ⟨2, _⟩ => ⟨S16x3x1024, .f32⟩
  | .hbm, ⟨3, _⟩ => ⟨S65536x512, .bf16⟩
  | .hbm, ⟨4, _⟩ => ⟨S65536x512, .bf16⟩
  | .hbm, ⟨5, _⟩ => ⟨S2x1024x1024, .f32⟩
  | .hbm, ⟨6, _⟩ => ⟨S1024, .f32⟩
  | .hbm, ⟨7, _⟩ => ⟨S4x2x1024x5632, .f32⟩
  | .hbm, ⟨8, _⟩ => ⟨S4x2x2816x1024, .f32⟩
  | .hbm, ⟨9, _⟩ => ⟨S2x1024x1024, .bf16⟩
  | .hbm, ⟨10, _⟩ => ⟨S4x2x1024x5632, .bf16⟩
  | .hbm, ⟨11, _⟩ => ⟨S4x2x2816x1024, .bf16⟩
  | .hbm, ⟨12, _⟩ => ⟨S1x1024, .f32⟩
  | .hbm, ⟨13, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x3x1024, .f32⟩
  | .local _ .vmem, ⟨5, _⟩ => ⟨S1x3x1024, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x1024x1024, .bf16⟩
  | .local _ .vmem, ⟨11, _⟩ => ⟨S1x1024, .f32⟩
  | .local _ .vmem, ⟨12, _⟩ => ⟨S1x1x1024x5632, .bf16⟩
  | .local _ .vmem, ⟨13, _⟩ => ⟨S1x1x2816x1024, .bf16⟩
  | .local _ .vmem, ⟨14, _⟩ => ⟨S512x1024, .f32⟩
  | .local _ .vmem, ⟨15, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S65536x1024 : Shape := ⟨2, ![65536, 1024]⟩
abbrev S16x3x1024 : Shape := ⟨3, ![16, 3, 1024]⟩
abbrev S65536x512 : Shape := ⟨2, ![65536, 512]⟩
abbrev S2x1024x1024 : Shape := ⟨3, ![2, 1024, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S16x4096x1024 : Shape := ⟨3, ![16, 4096, 1024]⟩
abbrev S16x3x1x1024 : Shape := ⟨4, ![16, 3, 1, 1024]⟩
abbrev S16x4096x512 : Shape := ⟨3, ![16, 4096, 512]⟩
abbrev S16x1x1x1024 : Shape := ⟨4, ![16, 1, 1, 1024]⟩
abbrev S16x1x1024 : Shape := ⟨3, ![16, 1, 1024]⟩
abbrev S1x1024x1024 : Shape := ⟨3, ![1, 1024, 1024]⟩
abbrev S1024x1024 : Shape := ⟨2, ![1024, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4096x2816 : Shape := ⟨3, ![16, 4096, 2816]⟩

abbrev nBuf : Space → Nat
  | .hbm => 78
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S16x3x1024, .f32⟩
  | .hbm, ⟨2, _⟩ => ⟨S16x3x1024, .f32⟩
  | .hbm, ⟨3, _⟩ => ⟨S65536x512, .bf16⟩
  | .hbm, ⟨4, _⟩ => ⟨S65536x512, .bf16⟩
  | .hbm, ⟨5, _⟩ => ⟨S2x1024x1024, .f32⟩
  | .hbm, ⟨6, _⟩ => ⟨S1024, .f32⟩
  | .hbm, ⟨7, _⟩ => ⟨S4x2x1024x5632, .f32⟩
  | .hbm, ⟨8, _⟩ => ⟨S4x2x2816x1024, .f32⟩
  | .hbm, ⟨9, _⟩ => ⟨S16x4096x1024, .f32⟩
  | .hbm, ⟨10, _⟩ => ⟨S16x3x1x1024, .f32⟩
  | .hbm, ⟨11, _⟩ => ⟨S16x3x1x1024, .f32⟩
  | .hbm, ⟨12, _⟩ => ⟨S16x4096x512, .bf16⟩
  | .hbm, ⟨13, _⟩ => ⟨S16x4096x512, .bf16⟩
  | .hbm, ⟨14, _⟩ => ⟨S16x4096x1024, .bf16⟩
  | .hbm, ⟨15, _⟩ => ⟨S16x1x1x1024, .f32⟩
  | .hbm, ⟨16, _⟩ => ⟨S16x1x1024, .f32⟩
  | .hbm, ⟨17, _⟩ => ⟨S16x4096x1024, .f32⟩
  | .hbm, ⟨18, _⟩ => ⟨S1x1024x1024, .f32⟩
  | .hbm, ⟨19, _⟩ => ⟨S1024x1024, .f32⟩
  | .hbm, ⟨20, _⟩ => ⟨S16x4096x1024, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S16x1x1x1024, .f32⟩
  | .hbm, ⟨25, _⟩ => ⟨S16x1x1024, .f32⟩
  | .hbm, ⟨26, _⟩ => ⟨S16x1x1x1024, .f32⟩
  | .hbm, ⟨27, _⟩ => ⟨S16x1x1024, .f32⟩
  | .hbm, ⟨28, _⟩ => ⟨S16x1x1x1024, .f32⟩
  | .hbm, ⟨29, _⟩ => ⟨S16x1x1024, .f32⟩
  | .hbm, ⟨30, _⟩ => ⟨S1x1x1024x5632, .f32⟩
  | .hbm, ⟨31, _⟩ => ⟨S1024x5632, .f32⟩
  | .hbm, ⟨32, _⟩ => ⟨S1x1x2816x1024, .f32⟩
  | .hbm, ⟨33, _⟩ => ⟨S2816x1024, .f32⟩
  | .hbm, ⟨34, _⟩ => ⟨S16x4096x1024, .f32⟩
  | .hbm, ⟨35, _⟩ => ⟨S_, .f32⟩
  | .hbm, ⟨36, _⟩ => ⟨S16x4096, .f32⟩
  | .hbm, ⟨37, _⟩ => ⟨S16x4096x1, .f32⟩
  | .hbm, ⟨38, _⟩ => ⟨S_, .f32⟩
  | .hbm, ⟨39, _⟩ => ⟨S16x4096x1, .f32⟩
  | .hbm, ⟨40, _⟩ => ⟨S16x4096x1, .f32⟩
  | .hbm, ⟨41, _⟩ => ⟨S_, .f32⟩
  | .hbm, ⟨42, _⟩ => ⟨S16x4096x1, .f32⟩
  | .hbm, ⟨43, _⟩ => ⟨S16x4096x1, .f32⟩
  | .hbm, ⟨44, _⟩ => ⟨S16x4096x1, .f32⟩
  | .hbm, ⟨45, _⟩ => ⟨S16x4096x1024, .f32⟩
  | .hbm, ⟨46, _⟩ => ⟨S16x4096x1024, .f32⟩
  | .hbm, ⟨47, _⟩ => ⟨S1x1x1024, .f32⟩
  | .hbm, ⟨48, _⟩ => ⟨S16x4096x1024, .f32⟩
  | .hbm, ⟨49, _⟩ => ⟨S16x4096x1024, .f32⟩
  | .hbm, ⟨50, _⟩ => ⟨S_, .f32⟩
  | .hbm, ⟨51, _⟩ => ⟨S16x1x1024, .f32⟩
  | .hbm, ⟨52, _⟩ => ⟨S16x1x1024, .f32⟩
  | .hbm, ⟨53, _⟩ => ⟨S16x4096x1024, .f32⟩
  | .hbm, ⟨54, _⟩ => ⟨S16x4096x1024, .f32⟩
  | .hbm, ⟨55, _⟩ => ⟨S16x4096x1024, .f32⟩
  | .hbm, ⟨56, _⟩ => ⟨S16x4096x1024, .f32⟩
  | .hbm, ⟨57, _⟩ => ⟨S_, .f32⟩
  | .hbm, ⟨58, _⟩ => ⟨S16x1x1024, .f32⟩
  | .hbm, ⟨59, _⟩ => ⟨S16x1x1024, .f32⟩
  | .hbm, ⟨60, _⟩ => ⟨S16x4096x5632, .f32⟩
  | .hbm, ⟨61, _⟩ => ⟨S16x4096x2816, .f32⟩
  | .hbm, ⟨62, _⟩ => ⟨S16x4096x2816, .f32⟩
  | .hbm, ⟨63, _⟩ => ⟨S16x4096x2816, .f32⟩
  | .hbm, ⟨64, _⟩ => ⟨S16x4096x2816, .f32⟩
  | .hbm, ⟨65, _⟩ => ⟨S_, .f32⟩
  | .hbm, ⟨66, _⟩ => ⟨S16x4096x2816, .f32⟩
  | .hbm, ⟨67, _⟩ => ⟨S16x4096x2816, .f32⟩
  | .hbm, ⟨68, _⟩ => ⟨S_, .f32⟩
  | .hbm, ⟨69, _⟩ => ⟨S16x4096x2816, .f32⟩
  | .hbm, ⟨70, _⟩ => ⟨S16x4096x2816, .f32⟩
  | .hbm, ⟨71, _⟩ => ⟨S16x4096x2816, .f32⟩
  | .hbm, ⟨72, _⟩ => ⟨S16x4096x2816, .f32⟩
  | .hbm, ⟨73, _⟩ => ⟨S16x4096x1024, .f32⟩
  | .hbm, ⟨74, _⟩ => ⟨S16x4096x1024, .f32⟩
  | .hbm, ⟨75, _⟩ => ⟨S16x4096x1024, .f32⟩
  | .hbm, ⟨76, _⟩ => ⟨S16x4096x1024, .f32⟩
  | .hbm, ⟨77, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Kernel5.lean ====
abbrev S65536x1024 : Shape := ⟨2, ![65536, 1024]⟩
abbrev S16x3x1024 : Shape := ⟨3, ![16, 3, 1024]⟩
abbrev S1024 : Shape := ⟨1, ![1024]⟩
abbrev S2x1024x2560 : Shape := ⟨3, ![2, 1024, 2560]⟩
abbrev S64 : Shape := ⟨1, ![64]⟩
abbrev S256x512 : Shape := ⟨2, ![256, 512]⟩
abbrev S1x64 : Shape := ⟨2, ![1, 64]⟩
abbrev S12x64 : Shape := ⟨2, ![12, 64]⟩
abbrev S768 : Shape := ⟨1, ![768]⟩
abbrev S1x768 : Shape := ⟨2, ![1, 768]⟩
abbrev S1x1024 : Shape := ⟨2, ![1, 1024]⟩
abbrev S65536x768 : Shape := ⟨2, ![65536, 768]⟩
abbrev S65536x512 : Shape := ⟨2, ![65536, 512]⟩
abbrev S1024x1024 : Shape := ⟨2, ![1024, 1024]⟩
abbrev S1x3x1024 : Shape := ⟨3, ![1, 3, 1024]⟩
abbrev S1x1024x2560 : Shape := ⟨3, ![1, 1024, 2560]⟩
abbrev S1024x768 : Shape := ⟨2, ![1024, 768]⟩
abbrev S1024x512 : Shape := ⟨2, ![1024, 512]⟩
abbrev S3x1024 : Shape := ⟨2, ![3, 1024]⟩
abbrev S1024x1 : Shape := ⟨2, ![1024, 1]⟩
abbrev S1024x2560 : Shape := ⟨2, ![1024, 2560]⟩
abbrev S1024x256 : Shape := ⟨2, ![1024, 256]⟩
abbrev S1x128 : Shape := ⟨2, ![1, 128]⟩
abbrev S1024x128 : Shape := ⟨2, ![1024, 128]⟩
abbrev S1x256 : Shape := ⟨2, ![1, 256]⟩

abbrev nBuf : Space → Nat
  | .hbm => 21
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S16x3x1024, .f32⟩
  | .hbm, ⟨2, _⟩ => ⟨S1024, .f32⟩
  | .hbm, ⟨3, _⟩ => ⟨S2x1024x2560, .f32⟩
  | .hbm, ⟨4, _⟩ => ⟨S64, .f32⟩
  | .hbm, ⟨5, _⟩ => ⟨S64, .f32⟩
  | .hbm, ⟨6, _⟩ => ⟨S256x512, .bf16⟩
  | .hbm, ⟨7, _⟩ => ⟨S2x1024x2560, .bf16⟩
  | .hbm, ⟨8, _⟩ => ⟨S1x64, .f32⟩
  | .hbm, ⟨9, _⟩ => ⟨S12x64, .f32⟩
  | .hbm, ⟨10, _⟩ => ⟨S768, .f32⟩
  | .hbm, ⟨11, _⟩ => ⟨S1x768, .f32⟩
  | .hbm, ⟨12, _⟩ => ⟨S1x64, .f32⟩
  | .hbm, ⟨13, _⟩ => ⟨S12x64, .f32⟩
  | .hbm, ⟨14, _⟩ => ⟨S768, .f32⟩
  | .hbm, ⟨15, _⟩ => ⟨S1x768, .f32⟩
  | .hbm, ⟨16, _⟩ => ⟨S1x1024, .f32⟩
  | .hbm, ⟨17, _⟩ => ⟨S65536x768, .bf16⟩
  | .hbm, ⟨18, _⟩ => ⟨S65536x768, .bf16⟩
  | .hbm, ⟨19, _⟩ => ⟨S65536x768, .bf16⟩
  | .hbm, ⟨20, _⟩ => ⟨S65536x512, .bf16⟩
  | .local _ .vmem, ⟨0, _⟩ => ⟨S1024x1024, .f32⟩
  | .local _ .vmem, ⟨1, _⟩ => ⟨S1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1x1024x2560, .bf16⟩
  | .local _ .vmem, ⟨6, _⟩ => ⟨S1x768, .f32⟩
  | .local _ .vmem, ⟨7, _⟩ => ⟨S1x768, .f32⟩
  | .local _ .vmem, ⟨8, _⟩ => ⟨S256x512, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S1024x768, .bf16⟩
  | .local _ .vmem, ⟨13, _⟩ => ⟨S1024x768, .bf16⟩
  | .local _ .vmem, ⟨14, _⟩ => ⟨S1024x768, .bf16⟩
  | .local _ .vmem, ⟨15, _⟩ => ⟨S1024x512, .bf16⟩
  | .local _ .vmem, ⟨16, _⟩ => ⟨S1024x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S65536x1024 : Shape := ⟨2, ![65536, 1024]⟩
abbrev S16x3x1024 : Shape := ⟨3, ![16, 3, 1024]⟩
abbrev S1024 : Shape := ⟨1, ![1024]⟩
abbrev S2x1024x2560 : Shape := ⟨3, ![2, 1024, 2560]⟩
abbrev S64 : Shape := ⟨1, ![64]⟩
abbrev S256x512 : Shape := ⟨2, ![256, 512]⟩
abbrev S16x3x1x1024 : Shape := ⟨4, ![16, 3, 1, 1024]⟩
abbrev S16x4096x1024 : Shape := ⟨3, ![16, 4096, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x1x1x1024 : Shape := ⟨4, ![16, 1, 1, 1024]⟩
abbrev S16x1x1024 : Shape := ⟨3, ![16, 1, 1024]⟩
abbrev S1x1024x2560 : Shape := ⟨3, ![1, 1024, 2560]⟩
abbrev S1024x2560 : Shape := ⟨2, ![1024, 2560]⟩
abbrev S16x4096x2560 : Shape := ⟨3, ![16, 4096, 2560]⟩
abbrev S16x4096x768 : Shape := ⟨3, ![16, 4096, 768]⟩
abbrev S16x4096x256 : Shape := ⟨3, ![16, 4096, 256]⟩
abbrev S16x4096x12x64 : Shape := ⟨4, ![16, 4096, 12, 64]⟩
abbrev S16x4096x12 : Shape := ⟨3, ![16, 4096, 12]⟩
abbrev S16x4096x12x1 : Shape := ⟨4, ![16, 4096, 12, 1]⟩
abbrev S1x1x1x64 : Shape := ⟨4, ![1, 1, 1, 64]⟩
abbrev S65536x768 : Shape := ⟨2, ![65536, 768]⟩
abbrev S16x4096x512 : Shape := ⟨3, ![16, 4096, 512]⟩
abbrev S65536x512 : Shape := ⟨2, ![65536, 512]⟩

abbrev nBuf : Space → Nat
  | .hbm => 87
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S16x3x1024, .f32⟩
  | .hbm, ⟨2, _⟩ => ⟨S1024, .f32⟩
  | .hbm, ⟨3, _⟩ => ⟨S2x1024x2560, .f32⟩
  | .hbm, ⟨4, _⟩ => ⟨S64, .f32⟩
  | .hbm, ⟨5, _⟩ => ⟨S64, .f32⟩
  | .hbm, ⟨6, _⟩ => ⟨S256x512, .bf16⟩
  | .hbm, ⟨7, _⟩ => ⟨S16x3x1x1024, .f32⟩
  | .hbm, ⟨8, _⟩ => ⟨S16x4096x1024, .f32⟩
  | .hbm, ⟨9, _⟩ => ⟨S16x4096x1024, .f32⟩
  | .hbm, ⟨10, _⟩ => ⟨S_, .f32⟩
  | .hbm, ⟨11, _⟩ => ⟨S16x4096, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S_, .f32⟩
  | .hbm, ⟨17, _⟩ => ⟨S16x4096x1, .f32⟩
  | .hbm, ⟨18, _⟩ => ⟨S16x4096x1, .f32⟩
  | .hbm, ⟨19, _⟩ => ⟨S16x4096x1, .f32⟩
  | .hbm, ⟨20, _⟩ => ⟨S16x4096x1024, .f32⟩
  | .hbm, ⟨21, _⟩ => ⟨S16x4096x1024, .f32⟩
  | .hbm, ⟨22, _⟩ => ⟨S1x1x1024, .f32⟩
  | .hbm, ⟨23, _⟩ => ⟨S16x4096x1024, .f32⟩
  | .hbm, ⟨24, _⟩ => ⟨S16x4096x1024, .f32⟩
  | .hbm, ⟨25, _⟩ => ⟨S16x1x1x1024, .f32⟩
  | .hbm, ⟨26, _⟩ => ⟨S16x1x1024, .f32⟩
  | .hbm, ⟨27, _⟩ => ⟨S16x1x1x1024, .f32⟩
  | .hbm, ⟨28, _⟩ => ⟨S16x1x1024, .f32⟩
  | .hbm, ⟨29, _⟩ => ⟨S_, .f32⟩
  | .hbm, ⟨30, _⟩ => ⟨S16x1x1024, .f32⟩
  | .hbm, ⟨31, _⟩ => ⟨S16x1x1024, .f32⟩
  | .hbm, ⟨32, _⟩ => ⟨S16x4096x1024, .f32⟩
  | .hbm, ⟨33, _⟩ => ⟨S16x4096x1024, .f32⟩
  | .hbm, ⟨34, _⟩ => ⟨S16x4096x1024, .f32⟩
  | .hbm, ⟨35, _⟩ => ⟨S16x4096x1024, .f32⟩
  | .hbm, ⟨36, _⟩ => ⟨S1x1024x2560, .f32⟩
  | .hbm, ⟨37, _⟩ => ⟨S1024x2560, .f32⟩
  | .hbm, ⟨38, _⟩ => ⟨S16x4096x2560, .f32⟩
  | .hbm, ⟨39, _⟩ => ⟨S16x4096x768, .f32⟩
  | .hbm, ⟨40, _⟩ => ⟨S16x4096x768, .f32⟩
  | .hbm, ⟨41, _⟩ => ⟨S16x4096x768, .f32⟩
  | .hbm, ⟨42, _⟩ => ⟨S16x4096x256, .f32⟩
  | .hbm, ⟨43, _⟩ => ⟨S16x4096x12x64, .f32⟩
  | .hbm, ⟨44, _⟩ => ⟨S16x4096x12x64, .f32⟩
  | .hbm, ⟨45, _⟩ => ⟨S_, .f32⟩
  | .hbm, ⟨46, _⟩ => ⟨S16x4096x12, .f32⟩
  | .hbm, ⟨47, _⟩ => ⟨S16x4096x12x1, .f32⟩
  | .hbm, ⟨48, _⟩ => ⟨S_, .f32⟩
  | .hbm, ⟨49, _⟩ => ⟨S16x4096x12x1, .f32⟩
  | .hbm, ⟨50, _⟩ => ⟨S16x4096x12x1, .f32⟩
  | .hbm, ⟨51, _⟩ => ⟨S_, .f32⟩
  | .hbm, ⟨52, _⟩ => ⟨S16x4096x12x1, .f32⟩
  | .hbm, ⟨53, _⟩ => ⟨S16x4096x12x1, .f32⟩
  | .hbm, ⟨54, _⟩ => ⟨S16x4096x12x1, .f32⟩
  | .hbm, ⟨55, _⟩ => ⟨S16x4096x12x64, .f32⟩
  | .hbm, ⟨56, _⟩ => ⟨S16x4096x12x64, .f32⟩
  | .hbm, ⟨57, _⟩ => ⟨S1x1x1x64, .f32⟩
  | .hbm, ⟨58, _⟩ => ⟨S16x4096x12x64, .f32⟩
  | .hbm, ⟨59, _⟩ => ⟨S16x4096x12x64, .f32⟩
  | .hbm, ⟨60, _⟩ => ⟨S65536x768, .f32⟩
  | .hbm, ⟨61, _⟩ => ⟨S16x4096x12x64, .f32⟩
  | .hbm, ⟨62, _⟩ => ⟨S16x4096x12x64, .f32⟩
  | .hbm, ⟨63, _⟩ => ⟨S_, .f32⟩
  | .hbm, ⟨64, _⟩ => ⟨S16x4096x12, .f32⟩
  | .hbm, ⟨65, _⟩ => ⟨S16x4096x12x1, .f32⟩
  | .hbm, ⟨66, _⟩ => ⟨S_, .f32⟩
  | .hbm, ⟨67, _⟩ => ⟨S16x4096x12x1, .f32⟩
  | .hbm, ⟨68, _⟩ => ⟨S16x4096x12x1, .f32⟩
  | .hbm, ⟨69, _⟩ => ⟨S_, .f32⟩
  | .hbm, ⟨70, _⟩ => ⟨S16x4096x12x1, .f32⟩
  | .hbm, ⟨71, _⟩ => ⟨S16x4096x12x1, .f32⟩
  | .hbm, ⟨72, _⟩ => ⟨S16x4096x12x1, .f32⟩
  | .hbm, ⟨73, _⟩ => ⟨S16x4096x12x64, .f32⟩
  | .hbm, ⟨74, _⟩ => ⟨S16x4096x12x64, .f32⟩
  | .hbm, ⟨75, _⟩ => ⟨S1x1x1x64, .f32⟩
  | .hbm, ⟨76, _⟩ => ⟨S16x4096x12x64, .f32⟩
  | .hbm, ⟨77, _⟩ => ⟨S16x4096x12x64, .f32⟩
  | .hbm, ⟨78, _⟩ => ⟨S65536x768, .f32⟩
  | .hbm, ⟨79, _⟩ => ⟨S256x512, .f32⟩
  | .hbm, ⟨80, _⟩ => ⟨S16x4096x512, .f32⟩
  | .hbm, ⟨81, _⟩ => ⟨S65536x512, .f32⟩
  | .hbm, ⟨82, _⟩ => ⟨S65536x768, .f32⟩
  | .hbm, ⟨83, _⟩ => ⟨S65536x768, .bf16⟩
  | .hbm, ⟨84, _⟩ => ⟨S65536x768, .bf16⟩
  | .hbm, ⟨85, _⟩ => ⟨S65536x768, .bf16⟩
  | .hbm, ⟨86, _⟩ => ⟨S65536x512, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Kernel6.lean ====
abbrev S65536x512 : Shape := ⟨2, ![65536, 512]⟩
abbrev S4096x4096 : Shape := ⟨2, ![4096, 4096]⟩
abbrev S16x4096x512 : Shape := ⟨3, ![16, 4096, 512]⟩
abbrev S16x4096x256 : Shape := ⟨3, ![16, 4096, 256]⟩
abbrev S512x4096 : Shape := ⟨2, ![512, 4096]⟩
abbrev S1x4096x512 : Shape := ⟨3, ![1, 4096, 512]⟩
abbrev S1x512x256 : Shape := ⟨3, ![1, 512, 256]⟩
abbrev S4096x512 : Shape := ⟨2, ![4096, 512]⟩
abbrev S4096x256 : Shape := ⟨2, ![4096, 256]⟩
abbrev S512x256 : Shape := ⟨2, ![512, 256]⟩

abbrev nBuf : Space → Nat
  | .hbm => 5
  | .vmem => 8
  | .smem => 0
  | _ => 0

abbrev bufTy : (tb : Table) → Fin (tcTables nBuf tb) → BufTy
  | .hbm, ⟨0, _⟩ => ⟨S65536x512, .bf16⟩
  | .hbm, ⟨1, _⟩ => ⟨S4096x4096, .bf16⟩
  | .hbm, ⟨2, _⟩ => ⟨S4096x4096, .bf16⟩
  | .hbm, ⟨3, _⟩ => ⟨S16x4096x512, .bf16⟩
  | .hbm, ⟨4, _⟩ => ⟨S16x4096x256, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x512x256, .bf16⟩
  | .local _ .vmem, ⟨7, _⟩ => ⟨S1x512x256, .bf16⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S65536x512 : Shape := ⟨2, ![65536, 512]⟩
abbrev S4096x4096 : Shape := ⟨2, ![4096, 4096]⟩
abbrev S16x4096x512 : Shape := ⟨3, ![16, 4096, 512]⟩
abbrev S16x4096x256 : Shape := ⟨3, ![16, 4096, 256]⟩
abbrev S16x256x4096 : Shape := ⟨3, ![16, 256, 4096]⟩

abbrev nBuf : Space → Nat
  | .hbm => 15
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S4096x4096, .bf16⟩
  | .hbm, ⟨2, _⟩ => ⟨S4096x4096, .bf16⟩
  | .hbm, ⟨3, _⟩ => ⟨S65536x512, .f32⟩
  | .hbm, ⟨4, _⟩ => ⟨S16x4096x512, .f32⟩
  | .hbm, ⟨5, _⟩ => ⟨S16x4096x256, .f32⟩
  | .hbm, ⟨6, _⟩ => ⟨S16x4096x256, .f32⟩
  | .hbm, ⟨7, _⟩ => ⟨S4096x4096, .f32⟩
  | .hbm, ⟨8, _⟩ => ⟨S16x256x4096, .f32⟩
  | .hbm, ⟨9, _⟩ => ⟨S16x4096x256, .f32⟩
  | .hbm, ⟨10, _⟩ => ⟨S4096x4096, .f32⟩
  | .hbm, ⟨11, _⟩ => ⟨S16x256x4096, .f32⟩
  | .hbm, ⟨12, _⟩ => ⟨S16x4096x256, .f32⟩
  | .hbm, ⟨13, _⟩ => ⟨S16x4096x256, .f32⟩
  | .hbm, ⟨14, _⟩ => ⟨S16x4096x256, .bf16⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel7.lean ====
abbrev S24x1024 : Shape := ⟨2, ![24, 1024]⟩
abbrev S4x1024x9216 : Shape := ⟨3, ![4, 1024, 9216]⟩
abbrev S4x9216 : Shape := ⟨2, ![4, 9216]⟩
abbrev S4x1x9216 : Shape := ⟨3, ![4, 1, 9216]⟩
abbrev S4x24x9216 : Shape := ⟨3, ![4, 24, 9216]⟩
abbrev S1x1024x1536 : Shape := ⟨3, ![1, 1024, 1536]⟩
abbrev S1x1x1536 : Shape := ⟨3, ![1, 1, 1536]⟩
abbrev S1x24x1536 : Shape := ⟨3, ![1, 24, 1536]⟩
abbrev S1024x1536 : Shape := ⟨2, ![1024, 1536]⟩
abbrev S24x1536 : Shape := ⟨2, ![24, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S4x1024x9216, .f32⟩
  | .hbm, ⟨2, _⟩ => ⟨S4x9216, .f32⟩
  | .hbm, ⟨3, _⟩ => ⟨S4x1x9216, .f32⟩
  | .hbm, ⟨4, _⟩ => ⟨S4x24x9216, .f32⟩
  | .local _ .vmem, ⟨0, _⟩ => ⟨S24x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x24x1536, .f32⟩
  | .local _ .vmem, ⟨6, _⟩ => ⟨S1x24x1536, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S24x1024 : Shape := ⟨2, ![24, 1024]⟩
abbrev S4x1024x9216 : Shape := ⟨3, ![4, 1024, 9216]⟩
abbrev S4x9216 : Shape := ⟨2, ![4, 9216]⟩
abbrev S_ : Shape := ⟨0, ![]⟩
abbrev S4x9216x24 : Shape := ⟨3, ![4, 9216, 24]⟩
abbrev S4x24x9216 : Shape := ⟨3, ![4, 24, 9216]⟩
abbrev S4x1x9216 : Shape := ⟨3, ![4, 1, 9216]⟩

abbrev nBuf : Space → Nat
  | .hbm => 17
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S4x1024x9216, .f32⟩
  | .hbm, ⟨2, _⟩ => ⟨S4x9216, .f32⟩
  | .hbm, ⟨3, _⟩ => ⟨S24x1024, .f32⟩
  | .hbm, ⟨4, _⟩ => ⟨S24x1024, .f32⟩
  | .hbm, ⟨5, _⟩ => ⟨S_, .f32⟩
  | .hbm, ⟨6, _⟩ => ⟨S24x1024, .f32⟩
  | .hbm, ⟨7, _⟩ => ⟨S24x1024, .f32⟩
  | .hbm, ⟨8, _⟩ => ⟨S_, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S4x9216x24, .f32⟩
  | .hbm, ⟨13, _⟩ => ⟨S4x24x9216, .f32⟩
  | .hbm, ⟨14, _⟩ => ⟨S4x1x9216, .f32⟩
  | .hbm, ⟨15, _⟩ => ⟨S4x24x9216, .f32⟩
  | .hbm, ⟨16, _⟩ => ⟨S4x24x9216, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel8.lean ====
abbrev S65536x1024 : Shape := ⟨2, ![65536, 1024]⟩
abbrev S16x3x1024 : Shape := ⟨3, ![16, 3, 1024]⟩
abbrev S1024 : Shape := ⟨1, ![1024]⟩
abbrev S2x1024x1792 : Shape := ⟨3, ![2, 1024, 1792]⟩
abbrev S64 : Shape := ⟨1, ![64]⟩
abbrev S4096x32 : Shape := ⟨2, ![4096, 32]⟩
abbrev S512 : Shape := ⟨1, ![512]⟩
abbrev S4x128x128 : Shape := ⟨3, ![4, 128, 128]⟩
abbrev S4x128 : Shape := ⟨2, ![4, 128]⟩
abbrev S4096x32x2 : Shape := ⟨3, ![4096, 32, 2]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4096x32x1 : Shape := ⟨3, ![4096, 32, 1]⟩
abbrev S4x128x1 : Shape := ⟨3, ![4, 128, 1]⟩
abbrev S1x64 : Shape := ⟨2, ![1, 64]⟩
abbrev S8x64 : Shape := ⟨2, ![8, 64]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S4x4 : Shape := ⟨2, ![4, 4]⟩
abbrev S_ : Shape := ⟨0, ![]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S1x1024 : Shape := ⟨2, ![1, 1024]⟩
abbrev S65536x512 : Shape := ⟨2, ![65536, 512]⟩
abbrev S65536x128 : Shape := ⟨2, ![65536, 128]⟩
abbrev S1024x1024 : Shape := ⟨2, ![1024, 1024]⟩
abbrev S1x3x1024 : Shape := ⟨3, ![1, 3, 1024]⟩
abbrev S1x1024x1792 : Shape := ⟨3, ![1, 1024, 1792]⟩
abbrev S1024x128 : Shape := ⟨2, ![1024, 128]⟩
abbrev S1024x512 : Shape := ⟨2, ![1024, 512]⟩
abbrev S3x1024 : Shape := ⟨2, ![3, 1024]⟩
abbrev S1024x1 : Shape := ⟨2, ![1024, 1]⟩
abbrev S1024x1792 : Shape := ⟨2, ![1024, 1792]⟩
abbrev S1024x256 : Shape := ⟨2, ![1024, 256]⟩
abbrev S1x256 : Shape := ⟨2, ![1, 256]⟩
abbrev S128x128 : Shape := ⟨2, ![128, 128]⟩
abbrev S1x128x128 : Shape := ⟨3, ![1, 128, 128]⟩

abbrev nBuf : Space → Nat
  | .hbm => 58
  | .vmem => 24
  | .smem => 0
  | _ => 0

abbrev bufTy : (tb : Table) → Fin (tcTables nBuf tb) → BufTy
  | .hbm, ⟨0, _⟩ => ⟨S65536x1024, .f32⟩
  | .hbm, ⟨1, _⟩ => ⟨S16x3x1024, .f32⟩
  | .hbm, ⟨2, _⟩ => ⟨S1024, .f32⟩
  | .hbm, ⟨3, _⟩ => ⟨S2x1024x1792, .f32⟩
  | .hbm, ⟨4, _⟩ => ⟨S64, .f32⟩
  | .hbm, ⟨5, _⟩ => ⟨S64, .f32⟩
  | .hbm, ⟨6, _⟩ => ⟨S4096x32, .f32⟩
  | .hbm, ⟨7, _⟩ => ⟨S4096x32, .f32⟩
  | .hbm, ⟨8, _⟩ => ⟨S512, .f32⟩
  | .hbm, ⟨9, _⟩ => ⟨S4x128x128, .f32⟩
  | .hbm, ⟨10, _⟩ => ⟨S4x128, .f32⟩
  | .hbm, ⟨11, _⟩ => ⟨S4096x32x2, .f32⟩
  | .hbm, ⟨12, _⟩ => ⟨S4096x64, .f32⟩
  | .hbm, ⟨13, _⟩ => ⟨S1x4096x1x64, .f32⟩
  | .hbm, ⟨14, _⟩ => ⟨S1x4096x2x64, .f32⟩
  | .hbm, ⟨15, _⟩ => ⟨S4096x128, .f32⟩
  | .hbm, ⟨16, _⟩ => ⟨S4096x32, .f32⟩
  | .hbm, ⟨17, _⟩ => ⟨S4096x32x1, .f32⟩
  | .hbm, ⟨18, _⟩ => ⟨S4096x32x1, .f32⟩
  | .hbm, ⟨19, _⟩ => ⟨S4096x32x2, .f32⟩
  | .hbm, ⟨20, _⟩ => ⟨S4096x64, .f32⟩
  | .hbm, ⟨21, _⟩ => ⟨S1x4096x1x64, .f32⟩
  | .hbm, ⟨22, _⟩ => ⟨S1x4096x2x64, .f32⟩
  | .hbm, ⟨23, _⟩ => ⟨S4096x128, .f32⟩
  | .hbm, ⟨24, _⟩ => ⟨S4x128x1, .f32⟩
  | .hbm, ⟨25, _⟩ => ⟨S4x128x128, .f32⟩
  | .hbm, ⟨26, _⟩ => ⟨S2x1024x1792, .bf16⟩
  | .hbm, ⟨27, _⟩ => ⟨S1x64, .f32⟩
  | .hbm, ⟨28, _⟩ => ⟨S8x64, .f32⟩
  | .hbm, ⟨29, _⟩ => ⟨S512, .f32⟩
  | .hbm, ⟨30, _⟩ => ⟨S1x512, .f32⟩
  | .hbm, ⟨31, _⟩ => ⟨S1x64, .f32⟩
  | .hbm, ⟨32, _⟩ => ⟨S2x64, .f32⟩
  | .hbm, ⟨33, _⟩ => ⟨S128, .f32⟩
  | .hbm, ⟨34, _⟩ => ⟨S1x128, .f32⟩
  | .hbm, ⟨35, _⟩ => ⟨S4x4, .i32⟩
  | .hbm, ⟨36, _⟩ => ⟨S4x4, .i32⟩
  | .hbm, ⟨37, _⟩ => ⟨S_, .i32⟩
  | .hbm, ⟨38, _⟩ => ⟨S4x4, .i32⟩
  | .hbm, ⟨39, _⟩ => ⟨S4x4, .i32⟩
  | .hbm, ⟨40, _⟩ => ⟨S4x4, .i1⟩
  | .hbm, ⟨41, _⟩ => ⟨S4x4, .f32⟩
  | .hbm, ⟨42, _⟩ => ⟨S_, .f32⟩
  | .hbm, ⟨43, _⟩ => ⟨S64x64, .f32⟩
  | .hbm, ⟨44, _⟩ => ⟨S4x1x4x1, .f32⟩
  | .hbm, ⟨45, _⟩ => ⟨S1x64x1x64, .f32⟩
  | .hbm, ⟨46, _⟩ => ⟨S4x64x4x64, .f32⟩
  | .hbm, ⟨47, _⟩ => ⟨S4x64x4x64, .f32⟩
  | .hbm, ⟨48, _⟩ => ⟨S4x64x4x64, .f32⟩
  | .hbm, ⟨49, _⟩ => ⟨S256x256, .f32⟩
  | .hbm, ⟨50, _⟩ => ⟨S256x256, .bf16⟩
  | .hbm, ⟨51, _⟩ => ⟨S1x512, .f32⟩
  | .hbm, ⟨52, _⟩ => ⟨S4x128x128, .bf16⟩
  | .hbm, ⟨53, _⟩ => ⟨S1x1024, .f32⟩
  | .hbm, ⟨54, _⟩ => ⟨S65536x512, .bf16⟩
  | .hbm, ⟨55, _⟩ => ⟨S65536x128, .bf16⟩
  | .hbm, ⟨56, _⟩ => ⟨S65536x128, .bf16⟩
  | .hbm, ⟨57, _⟩ => ⟨S65536x512, .bf16⟩
  | .local _ .vmem, ⟨0, _⟩ => ⟨S1024x1024, .f32⟩
  | .local _ .vmem, ⟨1, _⟩ => ⟨S1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1x1024x1792, .bf16⟩
  | .local _ .vmem, ⟨6, _⟩ => ⟨S1x512, .f32⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S256x256, .bf16⟩
  | .local _ .vmem, ⟨13, _⟩ => ⟨S1x512, .f32⟩
  | .local _ .vmem, ⟨14, _⟩ => ⟨S4x128x128, .bf16⟩
  | .local _ .vmem, ⟨15, _⟩ => ⟨S4x128x128, .f32⟩
  | .local _ .vmem, ⟨16, _⟩ => ⟨S1024x512, .bf16⟩
  | .local _ .vmem, ⟨17, _⟩ => ⟨S1024x512, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S1024x512, .bf16⟩
  | .local _ .vmem, ⟨23, _⟩ => ⟨S1024x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36_0 : Ref sig .tc := ⟨.hbm, 54, rfl⟩
abbrev main_v36_1 : Ref sig .tc := ⟨.hbm, 55, rfl⟩
abbrev main_v36_2 : Ref sig .tc := ⟨.hbm, 56, rfl⟩
abbrev main_v36_3 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference8Ideal.lean ====
abbrev S65536x1024 : Shape := ⟨2, ![65536, 1024]⟩
abbrev S16x3x1024 : Shape := ⟨3, ![16, 3, 1024]⟩
abbrev S1024 : Shape := ⟨1, ![1024]⟩
abbrev S2x1024x1792 : Shape := ⟨3, ![2, 1024, 1792]⟩
abbrev S64 : Shape := ⟨1, ![64]⟩
abbrev S4096x32 : Shape := ⟨2, ![4096, 32]⟩
abbrev S512 : Shape := ⟨1, ![512]⟩
abbrev S4x128x128 : Shape := ⟨3, ![4, 128, 128]⟩
abbrev S4x128 : Shape := ⟨2, ![4, 128]⟩
abbrev S16x3x1x1024 : Shape := ⟨4, ![16, 3, 1, 1024]⟩
abbrev S16x4096x1024 : Shape := ⟨3, ![16, 4096, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x1x1x1024 : Shape := ⟨4, ![16, 1, 1, 1024]⟩
abbrev S16x1x1024 : Shape := ⟨3, ![16, 1, 1024]⟩
abbrev S1x1024x1792 : Shape := ⟨3, ![1, 1024, 1792]⟩
abbrev S1024x1792 : Shape := ⟨2, ![1024, 1792]⟩
abbrev S16x4096x1792 : Shape := ⟨3, ![16, 4096, 1792]⟩
abbrev S16x4096x512 : Shape := ⟨3, ![16, 4096, 512]⟩
abbrev S16x4096x128 : Shape := ⟨3, ![16, 4096, 128]⟩
abbrev S16x4096x8x64 : Shape := ⟨4, ![16, 4096, 8, 64]⟩
abbrev S16x4096x8 : Shape := ⟨3, ![16, 4096, 8]⟩
abbrev S16x4096x8x1 : Shape := ⟨4, ![16, 4096, 8, 1]⟩
abbrev S1x1x1x64 : Shape := ⟨4, ![1, 1, 1, 64]⟩
abbrev S16x4096x8x32x2 : Shape := ⟨5, ![16, 4096, 8, 32, 2]⟩
abbrev S16x4096x8x32x1 : Shape := ⟨5, ![16, 4096, 8, 32, 1]⟩
abbrev S16x4096x8x32 : Shape := ⟨4, ![16, 4096, 8, 32]⟩
abbrev S1x4096x1x32 : Shape := ⟨4, ![1, 4096, 1, 32]⟩
abbrev S65536x512 : Shape := ⟨2, ![65536, 512]⟩
abbrev S16x4096x2x64 : Shape := ⟨4, ![16, 4096, 2, 64]⟩
abbrev S16x4096x2 : Shape := ⟨3, ![16, 4096, 2]⟩
abbrev S16x4096x2x1 : Shape := ⟨4, ![16, 4096, 2, 1]⟩
abbrev S16x4096x2x32x2 : Shape := ⟨5, ![16, 4096, 2, 32, 2]⟩
abbrev S16x4096x2x32x1 : Shape := ⟨5, ![16, 4096, 2, 32, 1]⟩
abbrev S16x4096x2x32 : Shape := ⟨4, ![16, 4096, 2, 32]⟩
abbrev S65536x128 : Shape := ⟨2, ![65536, 128]⟩
abbrev S16x4096x4x128 : Shape := ⟨4, ![16, 4096, 4, 128]⟩
abbrev S16x4096x4 : Shape := ⟨3, ![16, 4096, 4]⟩
abbrev S16x4096x4x1 : Shape := ⟨4, ![16, 4096, 4, 1]⟩
abbrev S1x1x4x128 : Shape := ⟨4, ![1, 1, 4, 128]⟩
abbrev S16x32x128x4x128 : Shape := ⟨5, ![16, 32, 128, 4, 128]⟩
abbrev S4x16x32x128x128 : Shape := ⟨5, ![4, 16, 32, 128, 128]⟩
abbrev S128x4 : Shape := ⟨2, ![128, 4]⟩
abbrev S1x1x128x4x1 : Shape := ⟨5, ![1, 1, 128, 4, 1]⟩

abbrev nBuf : Space → Nat
  | .hbm => 193
  | .vmem => 0
  | .smem => 0
  | _ => 0

abbrev hbmTy0_0 (i : Nat) : BufTy := match i % 128 with
  | 0 => ⟨S65536x1024, .f32⟩
  | 1 => ⟨S16x3x1024, .f32⟩
  | 2 => ⟨S1024, .f32⟩
  | 3 => ⟨S2x1024x1792, .f32⟩
  | 4 => ⟨S64, .f32⟩
  | 5 => ⟨S64, .f32⟩
  | 6 => ⟨S4096x32, .f32⟩
  | 7 => ⟨S4096x32, .f32⟩
  | 8 => ⟨S512, .f32⟩
  | 9 => ⟨S4x128x128, .f32⟩
  | 10 => ⟨S4x128, .f32⟩
  | 11 => ⟨S16x3x1x1024, .f32⟩
  | 12 => ⟨S16x4096x1024, .f32⟩
  | 13 => ⟨S16x4096x1024, .f32⟩
  | 14 => ⟨S_, .f32⟩
  | 15 => ⟨S16x4096, .f32⟩
  | 16 => ⟨S16x4096x1, .f32⟩
  | 17 => ⟨S_, .f32⟩
  | 18 => ⟨S16x4096x1, .f32⟩
  | 19 => ⟨S16x4096x1, .f32⟩
  | 20 => ⟨S_, .f32⟩
  | 21 => ⟨S16x4096x1, .f32⟩
  | 22 => ⟨S16x4096x1, .f32⟩
  | 23 => ⟨S16x4096x1, .f32⟩
  | 24 => ⟨S16x4096x1024, .f32⟩
  | 25 => ⟨S16x4096x1024, .f32⟩
  | 26 => ⟨S1x1x1024, .f32⟩
  | 27 => ⟨S16x4096x1024, .f32⟩
  | 28 => ⟨S16x4096x1024, .f32⟩
  | 29 => ⟨S16x1x1x1024, .f32⟩
  | 30 => ⟨S16x1x1024, .f32⟩
  | 31 => ⟨S16x1x1x1024, .f32⟩
  | 32 => ⟨S16x1x1024, .f32⟩
  | 33 => ⟨S_, .f32⟩
  | 34 => ⟨S16x1x1024, .f32⟩
  | 35 => ⟨S16x1x1024, .f32⟩
  | 36 => ⟨S16x4096x1024, .f32⟩
  | 37 => ⟨S16x4096x1024, .f32⟩
  | 38 => ⟨S16x4096x1024, .f32⟩
  | 39 => ⟨S16x4096x1024, .f32⟩
  | 40 => ⟨S1x1024x1792, .f32⟩
  | 41 => ⟨S1024x1792, .f32⟩
  | 42 => ⟨S16x4096x1792, .f32⟩
  | 43 => ⟨S16x4096x512, .f32⟩
  | 44 => ⟨S16x4096x128, .f32⟩
  | 45 => ⟨S16x4096x128, .f32⟩
  | 46 => ⟨S16x4096x512, .f32⟩
  | 47 => ⟨S16x4096x512, .f32⟩
  | 48 => ⟨S16x4096x8x64, .f32⟩
  | 49 => ⟨S16x4096x8x64, .f32⟩
  | 50 => ⟨S_, .f32⟩
  | 51 => ⟨S16x4096x8, .f32⟩
  | 52 => ⟨S16x4096x8x1, .f32⟩
  | 53 => ⟨S_, .f32⟩
  | 54 => ⟨S16x4096x8x1, .f32⟩
  | 55 => ⟨S16x4096x8x1, .f32⟩
  | 56 => ⟨S_, .f32⟩
  | 57 => ⟨S16x4096x8x1, .f32⟩
  | 58 => ⟨S16x4096x8x1, .f32⟩
  | 59 => ⟨S16x4096x8x1, .f32⟩
  | 60 => ⟨S16x4096x8x64, .f32⟩
  | 61 => ⟨S16x4096x8x64, .f32⟩
  | 62 => ⟨S1x1x1x64, .f32⟩
  | 63 => ⟨S16x4096x8x64, .f32⟩
  | 64 => ⟨S16x4096x8x64, .f32⟩
  | 65 => ⟨S16x4096x8x32x2, .f32⟩
  | 66 => ⟨S16x4096x8x32x1, .f32⟩
  | 67 => ⟨S16x4096x8x32, .f32⟩
  | 68 => ⟨S16x4096x8x32x1, .f32⟩
  | 69 => ⟨S16x4096x8x32, .f32⟩
  | 70 => ⟨S1x4096x1x32, .f32⟩
  | 71 => ⟨S1x4096x1x32, .f32⟩
  | 72 => ⟨S16x4096x8x32, .f32⟩
  | 73 => ⟨S16x4096x8x32, .f32⟩
  | 74 => ⟨S16x4096x8x32, .f32⟩
  | 75 => ⟨S16x4096x8x32, .f32⟩
  | 76 => ⟨S16x4096x8x32, .f32⟩
  | 77 => ⟨S16x4096x8x32, .f32⟩
  | 78 => ⟨S16x4096x8x32, .f32⟩
  | 79 => ⟨S16x4096x8x32, .f32⟩
  | 80 => ⟨S16x4096x8x32, .f32⟩
  | 81 => ⟨S16x4096x8x32, .f32⟩
  | 82 => ⟨S16x4096x8x32x1, .f32⟩
  | 83 => ⟨S16x4096x8x32x1, .f32⟩
  | 84 => ⟨S16x4096x8x32x2, .f32⟩
  | 85 => ⟨S16x4096x8x64, .f32⟩
  | 86 => ⟨S65536x512, .f32⟩
  | 87 => ⟨S16x4096x2x64, .f32⟩
  | 88 => ⟨S16x4096x2x64, .f32⟩
  | 89 => ⟨S_, .f32⟩
  | 90 => ⟨S16x4096x2, .f32⟩
  | 91 => ⟨S16x4096x2x1, .f32⟩
  | 92 => ⟨S_, .f32⟩
  | 93 => ⟨S16x4096x2x1, .f32⟩
  | 94 => ⟨S16x4096x2x1, .f32⟩
  | 95 => ⟨S_, .f32⟩
  | 96 => ⟨S16x4096x2x1, .f32⟩
  | 97 => ⟨S16x4096x2x1, .f32⟩
  | 98 => ⟨S16x4096x2x1, .f32⟩
  | 99 => ⟨S16x4096x2x64, .f32⟩
  | 100 => ⟨S16x4096x2x64, .f32⟩
  | 101 => ⟨S1x1x1x64, .f32⟩
  | 102 => ⟨S16x4096x2x64, .f32⟩
  | 103 => ⟨S16x4096x2x64, .f32⟩
  | 104 => ⟨S16x4096x2x32x2, .f32⟩
  | 105 => ⟨S16x4096x2x32x1, .f32⟩
  | 106 => ⟨S16x4096x2x32, .f32⟩
  | 107 => ⟨S16x4096x2x32x1, .f32⟩
  | 108 => ⟨S16x4096x2x32, .f32⟩
  | 109 => ⟨S1x4096x1x32, .f32⟩
  | 110 => ⟨S1x4096x1x32, .f32⟩
  | 111 => ⟨S16x4096x2x32, .f32⟩
  | 112 => ⟨S16x4096x2x32, .f32⟩
  | 113 => ⟨S16x4096x2x32, .f32⟩
  | 114 => ⟨S16x4096x2x32, .f32⟩
  | 115 => ⟨S16x4096x2x32, .f32⟩
  | 116 => ⟨S16x4096x2x32, .f32⟩
  | 117 => ⟨S16x4096x2x32, .f32⟩
  | 118 => ⟨S16x4096x2x32, .f32⟩
  | 119 => ⟨S16x4096x2x32, .f32⟩
  | 120 => ⟨S16x4096x2x32, .f32⟩
  | 121 => ⟨S16x4096x2x32x1, .f32⟩
  | 122 => ⟨S16x4096x2x32x1, .f32⟩
  | 123 => ⟨S16x4096x2x32x2, .f32⟩
  | 124 => ⟨S16x4096x2x64, .f32⟩
  | 125 => ⟨S65536x128, .f32⟩
  | 126 => ⟨S16x4096x512, .f32⟩
  | 127 => ⟨S16x4096x512, .f32⟩
  | _ => ⟨S65536x1024, .f32⟩

abbrev hbmTy0_1 (i : Nat) : BufTy := match i % 128 with
  | 0 => ⟨S_, .f32⟩
  | 1 => ⟨S16x4096x512, .f32⟩
  | 2 => ⟨S16x4096x512, .f32⟩
  | 3 => ⟨S16x4096x512, .f32⟩
  | 4 => ⟨S_, .f32⟩
  | 5 => ⟨S16x4096x512, .f32⟩
  | 6 => ⟨S16x4096x512, .f32⟩
  | 7 => ⟨S16x4096x512, .f32⟩
  | 8 => ⟨S_, .f32⟩
  | 9 => ⟨S16x4096x512, .f32⟩
  | 10 => ⟨S16x4096x512, .f32⟩
  | 11 => ⟨S_, .f32⟩
  | 12 => ⟨S16x4096x512, .f32⟩
  | 13 => ⟨S16x4096x512, .f32⟩
  | 14 => ⟨S16x4096x512, .f32⟩
  | 15 => ⟨S16x4096x512, .f32⟩
  | 16 => ⟨S16x4096x512, .f32⟩
  | 17 => ⟨S_, .f32⟩
  | 18 => ⟨S16x4096x512, .f32⟩
  | 19 => ⟨S16x4096x512, .f32⟩
  | 20 => ⟨S16x4096x512, .f32⟩
  | 21 => ⟨S_, .f32⟩
  | 22 => ⟨S16x4096x512, .f32⟩
  | 23 => ⟨S16x4096x512, .f32⟩
  | 24 => ⟨S16x4096x512, .f32⟩
  | 25 => ⟨S_, .f32⟩
  | 26 => ⟨S16x4096x512, .f32⟩
  | 27 => ⟨S16x4096x512, .f32⟩
  | 28 => ⟨S_, .f32⟩
  | 29 => ⟨S16x4096x512, .f32⟩
  | 30 => ⟨S16x4096x512, .f32⟩
  | 31 => ⟨S16x4096x512, .f32⟩
  | 32 => ⟨S16x4096x4x128, .f32⟩
  | 33 => ⟨S4x128, .f32⟩
  | 34 => ⟨S16x4096x4x128, .f32⟩
  | 35 => ⟨S_, .f32⟩
  | 36 => ⟨S16x4096x4, .f32⟩
  | 37 => ⟨S16x4096x4x1, .f32⟩
  | 38 => ⟨S_, .f32⟩
  | 39 => ⟨S16x4096x4x1, .f32⟩
  | 40 => ⟨S16x4096x4x1, .f32⟩
  | 41 => ⟨S_, .f32⟩
  | 42 => ⟨S16x4096x4x1, .f32⟩
  | 43 => ⟨S16x4096x4x1, .f32⟩
  | 44 => ⟨S16x4096x4x1, .f32⟩
  | 45 => ⟨S16x4096x4x128, .f32⟩
  | 46 => ⟨S16x4096x4x128, .f32⟩
  | 47 => ⟨S1x1x4x128, .f32⟩
  | 48 => ⟨S16x4096x4x128, .f32⟩
  | 49 => ⟨S16x4096x4x128, .f32⟩
  | 50 => ⟨S16x32x128x4x128, .f32⟩
  | 51 => ⟨S4x16x32x128x128, .f32⟩
  | 52 => ⟨S16x32x128x4x128, .f32⟩
  | 53 => ⟨S128x4, .f32⟩
  | 54 => ⟨S1x1x128x4x1, .f32⟩
  | 55 => ⟨S16x32x128x4x128, .f32⟩
  | 56 => ⟨S16x32x128x4x128, .f32⟩
  | 57 => ⟨S16x4096x512, .f32⟩
  | 58 => ⟨S16x4096x512, .f32⟩
  | 59 => ⟨S65536x512, .f32⟩
  | 60 => ⟨S65536x128, .f32⟩
  | 61 => ⟨S65536x512, .bf16⟩
  | 62 => ⟨S65536x128, .bf16⟩
  | 63 => ⟨S65536x128, .bf16⟩
  | 64 => ⟨S65536x512, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_6 : Ref sig .tc := ⟨.hbm, 89, rfl⟩
abbrev main_v71 : Ref sig .tc := ⟨.hbm, 90, rfl⟩
abbrev main_v72 : Ref sig .tc := ⟨.hbm, 91, rfl⟩
abbrev main_cst_7 : Ref sig .tc := ⟨.hbm, 92, rfl⟩
abbrev main_v73 : Ref sig .tc := ⟨.hbm, 93, rfl⟩
abbrev main_v74 : Ref sig .tc := ⟨.hbm, 94, rfl⟩
abbrev main_cst_8 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_9 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_cst_10 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_11 : Ref sig .tc := ⟨.hbm, 136, rfl⟩
abbrev main_v113 : Ref sig .tc := ⟨.hbm, 137, rfl⟩
abbrev main_v114 : Ref sig .tc := ⟨.hbm, 138, rfl⟩
abbrev main_cst_12 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_cst_13 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_cst_14 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_cst_15 : Ref sig .tc := ⟨.hbm, 153, rfl⟩
abbrev main_v126 : Ref sig .tc := ⟨.hbm, 154, rfl⟩
abbrev main_v127 : Ref sig .tc := ⟨.hbm, 155, rfl⟩
abbrev main_cst_16 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_cst_17 : Ref sig .tc := ⟨.hbm, 163, rfl⟩
abbrev main_v134 : Ref sig .tc := ⟨.hbm, 164, rfl⟩
abbrev main_v135 : Ref sig .tc := ⟨.hbm, 165, rfl⟩
abbrev main_cst_18 : Ref sig .tc := ⟨.hbm, 166, rfl⟩
abbrev main_v136 : Ref sig .tc := ⟨.hbm, 167, rfl⟩
abbrev main_v137 : Ref sig .tc := ⟨.hbm, 168, rfl⟩
abbrev main_cst_19 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩

abbrev nD : Nat := 1
abbrev τ : Topo := Topo.v7x

variable {F : FTy → Type} [FloatOps F]
-- ==== Proof.Id.Trip.lean ====
/-
  The attention kernel's loop, one trip at a time, at any float interpretation, of the idealized program.

  The kernel works through 64 units of 64 query rows. Before the loop it fills the key and value scratch and puts the
  scores and row maxima of unit 0 into the first pair of slots. Trip `k` puts unit `k + 1`'s scores and maxima into the
  slots unit `k` does not occupy, then turns unit `k`'s into its 64 rows of the output. So before trip `k` one pair of
  slots holds unit `k`, and the rows of the units before `k` are written.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame

@[expose] public section

set_option maxRecDepth 16384
set_option warn.classDefReducibility false

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev 𝒱₀ : Variants := Variants.none

/-! ## The values -/

/-- Unit `u`'s 64 query rows, lanes `128 h` to `128 h + 127`. -/
theorem rowsInb (u : ℕ) (h : Fin 4) : ∀ a, (![64 * (u % 64), 128 * h.val] : Fin 2 → ℕ) a + S64x128.size a ≤ S4096x512.size a := by
  have := Nat.mod_lt u (show 64 > 0 by omega)
  have := h.isLt
  intro a; fin_cases a
  · show 64 * (u % 64) + 64 ≤ 4096; omega
  · show 128 * h.val + 128 ≤ 512; omega
abbrev rowsR (u : ℕ) (h : Fin 4) : Rect S4096x512 := Rect.unit (s := S4096x512) ![64 * (u % 64), 128 * h.val] S64x128.size (rowsInb u h)

abbrev slotR0 : Rect S2x256x4352 := Rect.unit (s := S2x256x4352) ![0, 0, 0] S1x256x4352.size inb_S2x256x4352_S1x256x4352_0_0_0
abbrev slotR1 : Rect S2x256x4352 := Rect.unit (s := S2x256x4352) ![1, 0, 0] S1x256x4352.size inb_S2x256x4352_S1x256x4352_1_0_0
abbrev maxR0 : Rect S2x256x128 := Rect.unit (s := S2x256x128) ![0, 0, 0] S1x256x128.size inb_S2x256x128_S1x256x128_0_0_0
abbrev maxR1 : Rect S2x256x128 := Rect.unit (s := S2x256x128) ![1, 0, 0] S1x256x128.size inb_S2x256x128_S1x256x128_1_0_0
abbrev keysR : Rect S4352x128 := Rect.unit (s := S4352x128) ![0, 0] S4352x128.size inb_S4352x128_S4352x128_0_0
abbrev valsR : Rect S4352x256 := Rect.unit (s := S4352x256) ![0, 0] S4352x256.size inb_S4352x256_S4352x256_0_0

/-- Scores of a unit against every key, for the heads of key/value head 0. -/
def sc0 (v2 : IVec S1x128 1) (q : Fin 4 → Vec F S64x128 .f32) (K : Vec F S4352x128 .bf16) : FVec F S1x256x4352 .f32 :=
  k0_pay15 (k0_pay10 v2 (q 0)) (k0_pay11 v2 (q 1)) (k0_pay12 v2 (q 2)) (k0_pay13 v2 (q 3)) K
def mx0 (v2 : IVec S1x128 1) (q : Fin 4 → Vec F S64x128 .f32) (K : Vec F S4352x128 .bf16) : FVec F S1x256x128 .f32 :=
  k0_pay16 (k0_pay10 v2 (q 0)) (k0_pay11 v2 (q 1)) (k0_pay12 v2 (q 2)) (k0_pay13 v2 (q 3)) K
/-- The same for key/value head 1. -/
def sc1 (v2 : IVec S1x128 1) (q : Fin 4 → Vec F S64x128 .f32) (K : Vec F S4352x128 .bf16) : FVec F S1x256x4352 .f32 :=
  k0_pay18 (k0_pay17 v2 (k0_pay6 (q 0)) (k0_pay7 (q 1)) (k0_pay8 (q 2)) (k0_pay9 (q 3)) K)
def mx1 (v2 : IVec S1x128 1) (q : Fin 4 → Vec F S64x128 .f32) (K : Vec F S4352x128 .bf16) : FVec F S1x256x128 .f32 :=
  k0_pay19 (k0_pay17 v2 (k0_pay6 (q 0)) (k0_pay7 (q 1)) (k0_pay8 (q 2)) (k0_pay9 (q 3)) K)
/-- A unit's output from its scores and maxima, its four 128-lane groups stacked: 256 rows. -/
def attOf (v2 : IVec S1x128 1) (a : FVec F S1x256x4352 .f32) (ma : FVec F S1x256x128 .f32) (b : FVec F S1x256x4352 .f32) (mb : FVec F S1x256x128 .f32)
    (V : Vec F S4352x256 .bf16) : FVec F S256x128 .bf16 :=
  k0_pay64 v2 (k0_pay20 b mb) V (k0_pay22 a ma V) (k0_pay23 a ma V)
def att (v2 : IVec S1x128 1) (q : Fin 4 → Vec F S64x128 .f32) (K : Vec F S4352x128 .bf16) (V : Vec F S4352x256 .bf16) : FVec F S256x128 .bf16 :=
  attOf v2 (sc0 v2 q K) (mx0 v2 q K) (sc1 v2 q K) (mx1 v2 q K) V

section Trip

variable (c : Dev nD) (i : grid0.Coords) (arg1 : Memref sig .tc .vmem S4096x512 .f32) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S4096x512 .bf16) (harg6 : arg6.IsWhole) (arg7 : Memref sig .tc .vmem S2x256x4352 .f32) (harg7 : arg7.IsWhole) (arg8 : Memref sig .tc .vmem S2x256x4352 .f32) (harg8 : arg8.IsWhole) (arg9 : Memref sig .tc .vmem S2x256x128 .f32) (harg9 : arg9.IsWhole) (arg10 : Memref sig .tc .vmem S2x256x128 .f32) (harg10 : arg10.IsWhole) (arg11 : Memref sig .tc .vmem S4352x128 .bf16) (harg11 : arg11.IsWhole) (arg12 : Memref sig .tc .vmem S4352x256 .bf16) (harg12 : arg12.IsWhole)

/-- Unit `u`'s query rows as the kernel reads them from the query block's contents `f1`. -/
def qAt (f1 : Buf (Elt F) (arg1.view.loc (c : Thread nD τ))) (u : ℕ) (h : Fin 4) : Vec F S64x128 .f32 :=
  arg1.view.readAt (Elt F) (rowsR u h).toLoadRect f1
def keysAt (f11 : Buf (Elt F) (arg11.view.loc (c : Thread nD τ))) : Vec F S4352x128 .bf16 := arg11.view.readAt (Elt F) keysR.toLoadRect f11
def valsAt (f12 : Buf (Elt F) (arg12.view.loc (c : Thread nD τ))) : Vec F S4352x256 .bf16 := arg12.view.readAt (Elt F) valsR.toLoadRect f12

/-- Unit `u`'s four pieces of the output, the last written first. -/
def rowPieces (o : FVec F S256x128 .bf16) (u : ℕ) : List (View.Piece (Elt F) S4096x512 .bf16) :=
  [⟨rowsR u 3, extractStridedSlice S64x128 ![192, 0] o slices_S256x128_o192_0_S64x128⟩, ⟨rowsR u 2, extractStridedSlice S64x128 ![128, 0] o slices_S256x128_o128_0_S64x128⟩,
   ⟨rowsR u 1, extractStridedSlice S64x128 ![64, 0] o slices_S256x128_o64_0_S64x128⟩, ⟨rowsR u 0, extractStridedSlice S64x128 ![0, 0] o slices_S256x128_o0_0_S64x128⟩]
/-- The pieces of the units before `k`. -/
def piecesTo (o : ℕ → FVec F S256x128 .bf16) : ℕ → List (View.Piece (Elt F) S4096x512 .bf16)
  | 0 => []
  | k + 1 => rowPieces (o k) k ++ piecesTo o k

/-- A pair of slots holding one unit's scores and maxima. -/
def slotPieces (a b : FVec F S1x256x4352 .f32) : List (View.Piece (Elt F) S2x256x4352 .f32) := [⟨slotR1, b⟩, ⟨slotR0, a⟩]
def maxPieces (a b : FVec F S1x256x128 .f32) : List (View.Piece (Elt F) S2x256x128 .f32) := [⟨maxR1, b⟩, ⟨maxR0, a⟩]

theorem cond_even : ∀ k : Fin k0_t1_loop.trips, k.val % 2 = 0 → ¬ k0_cond1 k = 1#1 ∧ k0_cond2 k = 1#1 := by decide +kernel
theorem cond_odd : ∀ k : Fin k0_t1_loop.trips, ¬ k.val % 2 = 0 → k0_cond1 k = 1#1 ∧ ¬ k0_cond2 k = 1#1 := by decide +kernel
theorem trips_lt (k : Fin k0_t1_loop.trips) : k.val < 63 := k.isLt

variable (v2 : IVec S1x128 1) (v106 : FVec F S256x4352 .f32)

abbrev pt {sh : Shape} {e : EltTy} (m : Memref sig .tc .vmem sh e) (f : Buf (Elt F) (m.view.loc (c : Thread nD τ))) : sProp 𝕄 :=
  m.view.loc (c : Thread nD τ) ↦{fullShare} f

/-- A pair of slots holding one unit. -/
def slotsAt (A : Memref sig .tc .vmem S2x256x4352 .f32) (B : Memref sig .tc .vmem S2x256x128 .f32) (q : Fin 4 → Vec F S64x128 .f32)
    (K : Vec F S4352x128 .bf16) : sProp 𝕄 :=
  iprop(∃ g h, pt c A (A.view.writes (Elt F) g (slotPieces (sc0 v2 q K) (sc1 v2 q K)))
    ∗ pt c B (B.view.writes (Elt F) h (maxPieces (mx0 v2 q K) (mx1 v2 q K))))
/-- A pair of slots at anything. -/
def slotsAny (A : Memref sig .tc .vmem S2x256x4352 .f32) (B : Memref sig .tc .vmem S2x256x128 .f32) : sProp 𝕄 :=
  iprop(∃ g h, pt c A g ∗ pt (F := F) c B h)

section Values
variable (f1 : Buf (Elt F) (arg1.view.loc (c : Thread nD τ))) (f11 : Buf (Elt F) (arg11.view.loc (c : Thread nD τ)))
    (f12 : Buf (Elt F) (arg12.view.loc (c : Thread nD τ))) (f6 : Buf (Elt F) (arg6.view.loc (c : Thread nD τ)))

/-- Unit `u`'s output from the buffers' contents. -/
def outAt (u : ℕ) : FVec F S256x128 .bf16 := att v2 (qAt c arg1 f1 u) (keysAt c arg11 f11) (valsAt c arg12 f12)

/-- Before trip `k`. -/
def invAt (k : ℕ) : sProp 𝕄 :=
  iprop(pt c arg1 f1 ∗ pt c arg11 f11 ∗ pt c arg12 f12
    ∗ (if k % 2 = 0 then iprop(slotsAt c v2 arg7 arg9 (qAt c arg1 f1 k) (keysAt c arg11 f11) ∗ slotsAny c arg8 arg10)
       else iprop(slotsAt c v2 arg8 arg10 (qAt c arg1 f1 k) (keysAt c arg11 f11) ∗ slotsAny c arg7 arg9))
    ∗ pt c arg6 (arg6.view.writes (Elt F) f6 (piecesTo (outAt c arg1 arg11 arg12 v2 f1 f11 f12) k)))

theorem readAt_off {sh : Shape} {e : EltTy} {m : Memref sig .tc .vmem sh e} {f : Buf (Elt F) (m.view.loc (c : Thread nD τ))}
    {off off' size : Fin sh.rank → ℕ} (h : off = off') (i1 : ∀ a, off a + size a ≤ sh.size a) (i2 : ∀ a, off' a + size a ≤ sh.size a) :
    m.view.readAt (Elt F) (Rect.unit off size i1).toLoadRect f = m.view.readAt (Elt F) (Rect.unit off' size i2).toLoadRect f := by
  subst h; rfl

theorem piece_off {sh : Shape} {e : EltTy} {off off' size : Fin sh.rank → ℕ} (h : off = off') (i1 : ∀ a, off a + size a ≤ sh.size a)
    (i2 : ∀ a, off' a + size a ≤ sh.size a) (w : (⟨sh.rank, size⟩ : Shape).Idx → Elt F e) :
    (⟨Rect.unit off size i1, w⟩ : View.Piece (Elt F) sh e) = ⟨Rect.unit off' size i2, w⟩ := by
  subst h; rfl

/-- The offsets of unit `u`'s rows, below the number of units. -/
theorem rows_off {u : ℕ} (hu : u < 64) (h : Fin 4) {n o : ℕ} (hn : n = 64 * u) (ho : o = 128 * h.val) : (![n, o] : Fin 2 → ℕ) = ![64 * (u % 64), 128 * h.val] := by
  rw [Nat.mod_eq_of_lt hu, hn, ho]

theorem slot_disj : Disjoint slotR1.set slotR0.set := by
  refine Finset.disjoint_left.mpr fun y h1 h0 => ?_
  have a := (Rect.mem_set_unit.mp h1 0).1
  have b := (Rect.mem_set_unit.mp h0 0).2
  exact absurd (Nat.lt_of_le_of_lt a b) (by decide)
theorem max_disj : Disjoint maxR1.set maxR0.set := by
  refine Finset.disjoint_left.mpr fun y h1 h0 => ?_
  have a := (Rect.mem_set_unit.mp h1 0).1
  have b := (Rect.mem_set_unit.mp h0 0).2
  exact absurd (Nat.lt_of_le_of_lt a b) (by decide)
theorem slot_read0 (A : Memref sig .tc .vmem S2x256x4352 .f32) (a b : FVec F S1x256x4352 .f32) :
    A.view.readCov (slotPieces a b) slotR0.toLoadRect = a := by
  unfold slotPieces
  have h : Disjoint ((⟨slotR1, b⟩ : View.Piece (Elt F) S2x256x4352 .f32)).1.set slotR0.toLoadRect.set := slot_disj
  exact (View.readCov_cons_of_disjoint A.view _ _ _ h).trans (View.readCov_cons_toLoadRect ..)
theorem slot_read1 (A : Memref sig .tc .vmem S2x256x4352 .f32) (a b : FVec F S1x256x4352 .f32) :
    A.view.readCov (slotPieces a b) slotR1.toLoadRect = b := View.readCov_cons_toLoadRect ..
theorem max_read0 (A : Memref sig .tc .vmem S2x256x128 .f32) (a b : FVec F S1x256x128 .f32) :
    A.view.readCov (maxPieces a b) maxR0.toLoadRect = a := by
  unfold maxPieces
  have h : Disjoint ((⟨maxR1, b⟩ : View.Piece (Elt F) S2x256x128 .f32)).1.set maxR0.toLoadRect.set := max_disj
  exact (View.readCov_cons_of_disjoint A.view _ _ _ h).trans (View.readCov_cons_toLoadRect ..)
theorem max_read1 (A : Memref sig .tc .vmem S2x256x128 .f32) (a b : FVec F S1x256x128 .f32) :
    A.view.readCov (maxPieces a b) maxR1.toLoadRect = b := View.readCov_cons_toLoadRect ..

theorem q5 (k : Fin k0_t1_loop.trips) (inb) : arg1.view.readAt (Elt F) (Rect.unit (s := S4096x512) (k0_off5 k) S64x128.size inb).toLoadRect f1 = qAt c arg1 f1 (k.val + 1) 0 :=
  readAt_off c ((k0_off5_eq k).trans (rows_off (by have := trips_lt k; omega) 0 (by omega) rfl)) _ _
theorem q6 (k : Fin k0_t1_loop.trips) (inb) : arg1.view.readAt (Elt F) (Rect.unit (s := S4096x512) (k0_off6 k) S64x128.size inb).toLoadRect f1 = qAt c arg1 f1 (k.val + 1) 1 :=
  readAt_off c ((k0_off6_eq k).trans (rows_off (by have := trips_lt k; omega) 1 (by omega) rfl)) _ _
theorem q7 (k : Fin k0_t1_loop.trips) (inb) : arg1.view.readAt (Elt F) (Rect.unit (s := S4096x512) (k0_off7 k) S64x128.size inb).toLoadRect f1 = qAt c arg1 f1 (k.val + 1) 2 :=
  readAt_off c ((k0_off7_eq k).trans (rows_off (by have := trips_lt k; omega) 2 (by omega) rfl)) _ _
theorem q8 (k : Fin k0_t1_loop.trips) (inb) : arg1.view.readAt (Elt F) (Rect.unit (s := S4096x512) (k0_off8 k) S64x128.size inb).toLoadRect f1 = qAt c arg1 f1 (k.val + 1) 3 :=
  readAt_off c ((k0_off8_eq k).trans (rows_off (by have := trips_lt k; omega) 3 (by omega) rfl)) _ _
theorem q13 (k : Fin k0_t1_loop.trips) (inb) : arg1.view.readAt (Elt F) (Rect.unit (s := S4096x512) (k0_off13 k) S64x128.size inb).toLoadRect f1 = qAt c arg1 f1 (k.val + 1) 0 :=
  readAt_off c ((k0_off13_eq k).trans (rows_off (by have := trips_lt k; omega) 0 (by omega) rfl)) _ _
theorem q14 (k : Fin k0_t1_loop.trips) (inb) : arg1.view.readAt (Elt F) (Rect.unit (s := S4096x512) (k0_off14 k) S64x128.size inb).toLoadRect f1 = qAt c arg1 f1 (k.val + 1) 1 :=
  readAt_off c ((k0_off14_eq k).trans (rows_off (by have := trips_lt k; omega) 1 (by omega) rfl)) _ _
theorem q15 (k : Fin k0_t1_loop.trips) (inb) : arg1.view.readAt (Elt F) (Rect.unit (s := S4096x512) (k0_off15 k) S64x128.size inb).toLoadRect f1 = qAt c arg1 f1 (k.val + 1) 2 :=
  readAt_off c ((k0_off15_eq k).trans (rows_off (by have := trips_lt k; omega) 2 (by omega) rfl)) _ _
theorem q16 (k : Fin k0_t1_loop.trips) (inb) : arg1.view.readAt (Elt F) (Rect.unit (s := S4096x512) (k0_off16 k) S64x128.size inb).toLoadRect f1 = qAt c arg1 f1 (k.val + 1) 3 :=
  readAt_off c ((k0_off16_eq k).trans (rows_off (by have := trips_lt k; omega) 3 (by omega) rfl)) _ _
theorem p9 (k : Fin k0_t1_loop.trips) (inb) (w : S64x128.Idx → Elt F .bf16) :
    (⟨Rect.unit (s := S4096x512) (k0_off9 k) S64x128.size inb, w⟩ : View.Piece (Elt F) S4096x512 .bf16) = ⟨rowsR k.val 0, w⟩ :=
  piece_off (sh := S4096x512) (e := .bf16) (size := S64x128.size) ((k0_off9_eq k).trans (rows_off (by have := trips_lt k; omega) 0 rfl rfl)) _ _ w
theorem p10 (k : Fin k0_t1_loop.trips) (inb) (w : S64x128.Idx → Elt F .bf16) :
    (⟨Rect.unit (s := S4096x512) (k0_off10 k) S64x128.size inb, w⟩ : View.Piece (Elt F) S4096x512 .bf16) = ⟨rowsR k.val 1, w⟩ :=
  piece_off (sh := S4096x512) (e := .bf16) (size := S64x128.size) ((k0_off10_eq k).trans (rows_off (by have := trips_lt k; omega) 1 rfl rfl)) _ _ w
theorem p11 (k : Fin k0_t1_loop.trips) (inb) (w : S64x128.Idx → Elt F .bf16) :
    (⟨Rect.unit (s := S4096x512) (k0_off11 k) S64x128.size inb, w⟩ : View.Piece (Elt F) S4096x512 .bf16) = ⟨rowsR k.val 2, w⟩ :=
  piece_off (sh := S4096x512) (e := .bf16) (size := S64x128.size) ((k0_off11_eq k).trans (rows_off (by have := trips_lt k; omega) 2 rfl rfl)) _ _ w
theorem p12 (k : Fin k0_t1_loop.trips) (inb) (w : S64x128.Idx → Elt F .bf16) :
    (⟨Rect.unit (s := S4096x512) (k0_off12 k) S64x128.size inb, w⟩ : View.Piece (Elt F) S4096x512 .bf16) = ⟨rowsR k.val 3, w⟩ :=
  piece_off (sh := S4096x512) (e := .bf16) (size := S64x128.size) ((k0_off12_eq k).trans (rows_off (by have := trips_lt k; omega) 3 rfl rfl)) _ _ w
theorem p17 (k : Fin k0_t1_loop.trips) (inb) (w : S64x128.Idx → Elt F .bf16) :
    (⟨Rect.unit (s := S4096x512) (k0_off17 k) S64x128.size inb, w⟩ : View.Piece (Elt F) S4096x512 .bf16) = ⟨rowsR k.val 0, w⟩ :=
  piece_off (sh := S4096x512) (e := .bf16) (size := S64x128.size) ((k0_off17_eq k).trans (rows_off (by have := trips_lt k; omega) 0 rfl rfl)) _ _ w
theorem p18 (k : Fin k0_t1_loop.trips) (inb) (w : S64x128.Idx → Elt F .bf16) :
    (⟨Rect.unit (s := S4096x512) (k0_off18 k) S64x128.size inb, w⟩ : View.Piece (Elt F) S4096x512 .bf16) = ⟨rowsR k.val 1, w⟩ :=
  piece_off (sh := S4096x512) (e := .bf16) (size := S64x128.size) ((k0_off18_eq k).trans (rows_off (by have := trips_lt k; omega) 1 rfl rfl)) _ _ w
theorem p19 (k : Fin k0_t1_loop.trips) (inb) (w : S64x128.Idx → Elt F .bf16) :
    (⟨Rect.unit (s := S4096x512) (k0_off19 k) S64x128.size inb, w⟩ : View.Piece (Elt F) S4096x512 .bf16) = ⟨rowsR k.val 2, w⟩ :=
  piece_off (sh := S4096x512) (e := .bf16) (size := S64x128.size) ((k0_off19_eq k).trans (rows_off (by have := trips_lt k; omega) 2 rfl rfl)) _ _ w
theorem p20 (k : Fin k0_t1_loop.trips) (inb) (w : S64x128.Idx → Elt F .bf16) :
    (⟨Rect.unit (s := S4096x512) (k0_off20 k) S64x128.size inb, w⟩ : View.Piece (Elt F) S4096x512 .bf16) = ⟨rowsR k.val 3, w⟩ :=
  piece_off (sh := S4096x512) (e := .bf16) (size := S64x128.size) ((k0_off20_eq k).trans (rows_off (by have := trips_lt k; omega) 3 rfl rfl)) _ _ w

theorem pt_congr {sh : Shape} {e : EltTy} (m : Memref sig .tc .vmem sh e) {f f' : Buf (Elt F) (m.view.loc (c : Thread nD τ))}
    (h : f = f') : pt c m f ⊢ pt c m f' := by rw [h]

/-- What a trip of even number leaves in the slots it fills, and in the output. -/
theorem fill_even (q : Fin 4 → Vec F S64x128 .f32) (K : Vec F S4352x128 .bf16) (x0 x1 x2 x3 : Vec F S64x128 .f32)
    (h0 : x0 = q 0) (h1 : x1 = q 1) (h2 : x2 = q 2) (h3 : x3 = q 3) :
    ([⟨slotR1, k0_pay36 (k0_pay35 v2 (k0_pay24 x0) (k0_pay25 x1) (k0_pay26 x2) (k0_pay27 x3) K)⟩,
      ⟨slotR0, k0_pay33 (k0_pay28 v2 x0) (k0_pay29 v2 x1) (k0_pay30 v2 x2) (k0_pay31 v2 x3) K⟩]
      : List (View.Piece (Elt F) S2x256x4352 .f32)) = slotPieces (sc0 v2 q K) (sc1 v2 q K) := by
  subst h0 h1 h2 h3; rfl
theorem fillMax_even (q : Fin 4 → Vec F S64x128 .f32) (K : Vec F S4352x128 .bf16) (x0 x1 x2 x3 : Vec F S64x128 .f32)
    (h0 : x0 = q 0) (h1 : x1 = q 1) (h2 : x2 = q 2) (h3 : x3 = q 3) :
    ([⟨maxR1, k0_pay37 (k0_pay35 v2 (k0_pay24 x0) (k0_pay25 x1) (k0_pay26 x2) (k0_pay27 x3) K)⟩,
      ⟨maxR0, k0_pay34 (k0_pay28 v2 x0) (k0_pay29 v2 x1) (k0_pay30 v2 x2) (k0_pay31 v2 x3) K⟩]
      : List (View.Piece (Elt F) S2x256x128 .f32)) = maxPieces (mx0 v2 q K) (mx1 v2 q K) := by
  subst h0 h1 h2 h3; rfl
theorem rows_even (k : Fin k0_t1_loop.trips) (i0 i1 i2 i3) (A : Memref sig .tc .vmem S2x256x4352 .f32) (B : Memref sig .tc .vmem S2x256x128 .f32)
    (a b : FVec F S1x256x4352 .f32) (ma mb : FVec F S1x256x128 .f32) (V : Vec F S4352x256 .bf16) (L : List (View.Piece (Elt F) S4096x512 .bf16)) :
    (⟨Rect.unit (s := S4096x512) (k0_off20 k) S64x128.size i3, k0_pay73 v2 (k0_pay38 (A.view.readCov (slotPieces a b) slotR1.toLoadRect) (B.view.readCov (maxPieces ma mb) maxR1.toLoadRect)) V (k0_pay40 (A.view.readCov (slotPieces a b) slotR0.toLoadRect) (B.view.readCov (maxPieces ma mb) maxR0.toLoadRect) V) (k0_pay41 (A.view.readCov (slotPieces a b) slotR0.toLoadRect) (B.view.readCov (maxPieces ma mb) maxR0.toLoadRect) V)⟩
      :: ⟨Rect.unit (s := S4096x512) (k0_off19 k) S64x128.size i2, k0_pay72 v2 (k0_pay38 (A.view.readCov (slotPieces a b) slotR1.toLoadRect) (B.view.readCov (maxPieces ma mb) maxR1.toLoadRect)) V (k0_pay40 (A.view.readCov (slotPieces a b) slotR0.toLoadRect) (B.view.readCov (maxPieces ma mb) maxR0.toLoadRect) V) (k0_pay41 (A.view.readCov (slotPieces a b) slotR0.toLoadRect) (B.view.readCov (maxPieces ma mb) maxR0.toLoadRect) V)⟩
      :: ⟨Rect.unit (s := S4096x512) (k0_off18 k) S64x128.size i1, k0_pay71 v2 (k0_pay38 (A.view.readCov (slotPieces a b) slotR1.toLoadRect) (B.view.readCov (maxPieces ma mb) maxR1.toLoadRect)) V (k0_pay40 (A.view.readCov (slotPieces a b) slotR0.toLoadRect) (B.view.readCov (maxPieces ma mb) maxR0.toLoadRect) V) (k0_pay41 (A.view.readCov (slotPieces a b) slotR0.toLoadRect) (B.view.readCov (maxPieces ma mb) maxR0.toLoadRect) V)⟩
      :: ⟨Rect.unit (s := S4096x512) (k0_off17 k) S64x128.size i0, k0_pay70 v2 (k0_pay38 (A.view.readCov (slotPieces a b) slotR1.toLoadRect) (B.view.readCov (maxPieces ma mb) maxR1.toLoadRect)) V (k0_pay40 (A.view.readCov (slotPieces a b) slotR0.toLoadRect) (B.view.readCov (maxPieces ma mb) maxR0.toLoadRect) V) (k0_pay41 (A.view.readCov (slotPieces a b) slotR0.toLoadRect) (B.view.readCov (maxPieces ma mb) maxR0.toLoadRect) V)⟩ :: L
      : List (View.Piece (Elt F) S4096x512 .bf16)) = rowPieces (attOf v2 a ma b mb V) k.val ++ L := by
  rw [p17, p18, p19, p20, slot_read0, slot_read1, max_read0, max_read1]; rfl
/-- The same for a trip of odd number. -/
theorem fill_odd (q : Fin 4 → Vec F S64x128 .f32) (K : Vec F S4352x128 .bf16) (x0 x1 x2 x3 : Vec F S64x128 .f32)
    (h0 : x0 = q 0) (h1 : x1 = q 1) (h2 : x2 = q 2) (h3 : x3 = q 3) :
    ([⟨slotR1, k0_pay18 (k0_pay17 v2 (k0_pay6 x0) (k0_pay7 x1) (k0_pay8 x2) (k0_pay9 x3) K)⟩,
      ⟨slotR0, k0_pay15 (k0_pay10 v2 x0) (k0_pay11 v2 x1) (k0_pay12 v2 x2) (k0_pay13 v2 x3) K⟩]
      : List (View.Piece (Elt F) S2x256x4352 .f32)) = slotPieces (sc0 v2 q K) (sc1 v2 q K) := by
  subst h0 h1 h2 h3; rfl
theorem fillMax_odd (q : Fin 4 → Vec F S64x128 .f32) (K : Vec F S4352x128 .bf16) (x0 x1 x2 x3 : Vec F S64x128 .f32)
    (h0 : x0 = q 0) (h1 : x1 = q 1) (h2 : x2 = q 2) (h3 : x3 = q 3) :
    ([⟨maxR1, k0_pay19 (k0_pay17 v2 (k0_pay6 x0) (k0_pay7 x1) (k0_pay8 x2) (k0_pay9 x3) K)⟩,
      ⟨maxR0, k0_pay16 (k0_pay10 v2 x0) (k0_pay11 v2 x1) (k0_pay12 v2 x2) (k0_pay13 v2 x3) K⟩]
      : List (View.Piece (Elt F) S2x256x128 .f32)) = maxPieces (mx0 v2 q K) (mx1 v2 q K) := by
  subst h0 h1 h2 h3; rfl
theorem rows_odd (k : Fin k0_t1_loop.trips) (i0 i1 i2 i3) (A : Memref sig .tc .vmem S2x256x4352 .f32) (B : Memref sig .tc .vmem S2x256x128 .f32)
    (a b : FVec F S1x256x4352 .f32) (ma mb : FVec F S1x256x128 .f32) (V : Vec F S4352x256 .bf16) (L : List (View.Piece (Elt F) S4096x512 .bf16)) :
    (⟨Rect.unit (s := S4096x512) (k0_off12 k) S64x128.size i3, k0_pay68 v2 (k0_pay20 (A.view.readCov (slotPieces a b) slotR1.toLoadRect) (B.view.readCov (maxPieces ma mb) maxR1.toLoadRect)) V (k0_pay22 (A.view.readCov (slotPieces a b) slotR0.toLoadRect) (B.view.readCov (maxPieces ma mb) maxR0.toLoadRect) V) (k0_pay23 (A.view.readCov (slotPieces a b) slotR0.toLoadRect) (B.view.readCov (maxPieces ma mb) maxR0.toLoadRect) V)⟩
      :: ⟨Rect.unit (s := S4096x512) (k0_off11 k) S64x128.size i2, k0_pay67 v2 (k0_pay20 (A.view.readCov (slotPieces a b) slotR1.toLoadRect) (B.view.readCov (maxPieces ma mb) maxR1.toLoadRect)) V (k0_pay22 (A.view.readCov (slotPieces a b) slotR0.toLoadRect) (B.view.readCov (maxPieces ma mb) maxR0.toLoadRect) V) (k0_pay23 (A.view.readCov (slotPieces a b) slotR0.toLoadRect) (B.view.readCov (maxPieces ma mb) maxR0.toLoadRect) V)⟩
      :: ⟨Rect.unit (s := S4096x512) (k0_off10 k) S64x128.size i1, k0_pay66 v2 (k0_pay20 (A.view.readCov (slotPieces a b) slotR1.toLoadRect) (B.view.readCov (maxPieces ma mb) maxR1.toLoadRect)) V (k0_pay22 (A.view.readCov (slotPieces a b) slotR0.toLoadRect) (B.view.readCov (maxPieces ma mb) maxR0.toLoadRect) V) (k0_pay23 (A.view.readCov (slotPieces a b) slotR0.toLoadRect) (B.view.readCov (maxPieces ma mb) maxR0.toLoadRect) V)⟩
      :: ⟨Rect.unit (s := S4096x512) (k0_off9 k) S64x128.size i0, k0_pay65 v2 (k0_pay20 (A.view.readCov (slotPieces a b) slotR1.toLoadRect) (B.view.readCov (maxPieces ma mb) maxR1.toLoadRect)) V (k0_pay22 (A.view.readCov (slotPieces a b) slotR0.toLoadRect) (B.view.readCov (maxPieces ma mb) maxR0.toLoadRect) V) (k0_pay23 (A.view.readCov (slotPieces a b) slotR0.toLoadRect) (B.view.readCov (maxPieces ma mb) maxR0.toLoadRect) V)⟩ :: L
      : List (View.Piece (Elt F) S4096x512 .bf16)) = rowPieces (attOf v2 a ma b mb V) k.val ++ L := by
  rw [p9, p10, p11, p12, slot_read0, slot_read1, max_read0, max_read1]; rfl

set_option maxHeartbeats 400000 in
theorem trip_even (k : Fin k0_t1_loop.trips) (hk : k.val % 2 = 0) :
    invAt c arg1 arg6 arg7 arg8 arg9 arg10 arg11 arg12 v2 f1 f11 f12 f6 k.val
    ⊢ wp Idealize.ShloMosaic.frame (wpE (defs₀ (F := F)) 𝒱₀ (c : Thread nD τ) none) Set.univ
      (k0_t1_body (F := F) i arg1 harg1 arg2 harg2 arg3 harg3 arg4 harg4 arg5 harg5 arg6 harg6 arg7 harg7 arg8 harg8 arg9 harg9 arg10 harg10 arg11 harg11 arg12 harg12 v2 v106 k ())
      (fun _ => invAt c arg1 arg6 arg7 arg8 arg9 arg10 arg11 arg12 v2 f1 f11 f12 f6 (k.val + 1)) := by
  have hc1 := (cond_even k hk).1
  have hc2 := (cond_even k hk).2
  unfold invAt
  rw [if_pos hk, if_neg (show ¬ (k.val + 1) % 2 = 0 by omega)]
  unfold slotsAt slotsAny
  iintro ⟨H1, H11, H12, ⟨⟨%g7, %g9, H7, H9⟩, ⟨%g8, %g10, H8, H10⟩⟩, H6⟩
  unfold slotPieces maxPieces
  sl_unfold [k0_t1_body]
  sl_exec
  sl_step
  isplitl [H1]; · iexact H1
  isplitl [H11]; · iexact H11
  isplitl [H12]; · iexact H12
  isplitr [H6]
  · isplitl [H8 H10]
    · iexists g8, g10
      isplitl [H8]
      · iapply (pt_congr c arg8 (congrArg (arg8.view.writes (Elt F) g8) (fill_even v2 (qAt c arg1 f1 (k.val + 1)) (keysAt c arg11 f11) _ _ _ _ (q13 c arg1 f1 k _) (q14 c arg1 f1 k _) (q15 c arg1 f1 k _) (q16 c arg1 f1 k _))))
        iexact H8
      · iapply (pt_congr c arg10 (congrArg (arg10.view.writes (Elt F) g10) (fillMax_even v2 (qAt c arg1 f1 (k.val + 1)) (keysAt c arg11 f11) _ _ _ _ (q13 c arg1 f1 k _) (q14 c arg1 f1 k _) (q15 c arg1 f1 k _) (q16 c arg1 f1 k _))))
        iexact H10
    · iexists _, _
      isplitl [H7]; · iexact H7
      iexact H9
  · iapply (pt_congr c arg6 (congrArg (arg6.view.writes (Elt F) f6) (rows_even v2 k _ _ _ _ arg7 arg9 _ _ _ _ (valsAt c arg12 f12) _)))
    iexact H6

set_option maxHeartbeats 400000 in
theorem trip_odd (k : Fin k0_t1_loop.trips) (hk : ¬ k.val % 2 = 0) :
    invAt c arg1 arg6 arg7 arg8 arg9 arg10 arg11 arg12 v2 f1 f11 f12 f6 k.val
    ⊢ wp Idealize.ShloMosaic.frame (wpE (defs₀ (F := F)) 𝒱₀ (c : Thread nD τ) none) Set.univ
      (k0_t1_body (F := F) i arg1 harg1 arg2 harg2 arg3 harg3 arg4 harg4 arg5 harg5 arg6 harg6 arg7 harg7 arg8 harg8 arg9 harg9 arg10 harg10 arg11 harg11 arg12 harg12 v2 v106 k ())
      (fun _ => invAt c arg1 arg6 arg7 arg8 arg9 arg10 arg11 arg12 v2 f1 f11 f12 f6 (k.val + 1)) := by
  have hc1 := (cond_odd k hk).1
  have hc2 := (cond_odd k hk).2
  unfold invAt
  rw [if_neg hk, if_pos (show (k.val + 1) % 2 = 0 by omega)]
  unfold slotsAt slotsAny
  iintro ⟨H1, H11, H12, ⟨⟨%g8, %g10, H8, H10⟩, ⟨%g7, %g9, H7, H9⟩⟩, H6⟩
  unfold slotPieces maxPieces
  sl_unfold [k0_t1_body]
  sl_exec
  sl_step
  isplitl [H1]; · iexact H1
  isplitl [H11]; · iexact H11
  isplitl [H12]; · iexact H12
  isplitr [H6]
  · isplitl [H7 H9]
    · iexists g7, g9
      isplitl [H7]
      · iapply (pt_congr c arg7 (congrArg (arg7.view.writes (Elt F) g7) (fill_odd v2 (qAt c arg1 f1 (k.val + 1)) (keysAt c arg11 f11) _ _ _ _ (q5 c arg1 f1 k _) (q6 c arg1 f1 k _) (q7 c arg1 f1 k _) (q8 c arg1 f1 k _))))
        iexact H7
      · iapply (pt_congr c arg9 (congrArg (arg9.view.writes (Elt F) g9) (fillMax_odd v2 (qAt c arg1 f1 (k.val + 1)) (keysAt c arg11 f11) _ _ _ _ (q5 c arg1 f1 k _) (q6 c arg1 f1 k _) (q7 c arg1 f1 k _) (q8 c arg1 f1 k _))))
        iexact H9
    · iexists _, _
      isplitl [H8]; · iexact H8
      iexact H10
  · iapply (pt_congr c arg6 (congrArg (arg6.view.writes (Elt F) f6) (rows_odd v2 k _ _ _ _ arg8 arg10 _ _ _ _ (valsAt c arg12 f12) _)))
    iexact H6

end Values

end Trip

end Cert.KernelIdeal.Att
-- ==== Proof.Id.Body.lean ====
/-
  The attention kernel's body: from the five input blocks and scratch at anything, the output block holds the 64 units'
  rows, and the inputs are as they were.
-/
module

public import proofs.«01_k».proof.Proof.Id.Trip

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg1 : Memref sig .tc .vmem S4096x512 .f32) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S4096x512 .bf16) (harg6 : arg6.IsWhole) (arg7 : Memref sig .tc .vmem S2x256x4352 .f32) (harg7 : arg7.IsWhole) (arg8 : Memref sig .tc .vmem S2x256x4352 .f32) (harg8 : arg8.IsWhole) (arg9 : Memref sig .tc .vmem S2x256x128 .f32) (harg9 : arg9.IsWhole) (arg10 : Memref sig .tc .vmem S2x256x128 .f32) (harg10 : arg10.IsWhole) (arg11 : Memref sig .tc .vmem S4352x128 .bf16) (harg11 : arg11.IsWhole) (arg12 : Memref sig .tc .vmem S4352x256 .bf16) (harg12 : arg12.IsWhole)

abbrev latR : Rect S4096x128 := Rect.unit (s := S4096x128) ![0, 0] S4096x128.size inb_S4096x128_S4096x128_0_0
abbrev ctxR : Rect S256x128 := Rect.unit (s := S256x128) ![0, 0] S256x128.size inb_S256x128_S256x128_0_0

/-- The key scratch: the latent keys above the context's. -/
def keyPieces (kl : Vec F S4096x128 .bf16) (kc : Vec F S256x128 .bf16) : List (View.Piece (Elt F) S4352x128 .bf16) :=
  [⟨Rect.unit (s := S4352x128) ![4096, 0] S256x128.size inb_S4352x128_S256x128_4096_0, k0_pay44 kc⟩,
   ⟨Rect.unit (s := S4352x128) ![0, 0] S4096x128.size inb_S4352x128_S4096x128_0_0, k0_pay43 kl⟩]
/-- The value scratch: the latent values above the context's, a block of ones on their right. -/
def valPieces (vl : Vec F S4096x128 .bf16) (vc : Vec F S256x128 .bf16) : List (View.Piece (Elt F) S4352x256 .bf16) :=
  [⟨Rect.unit (s := S4352x256) ![4096, 128] S256x128.size inb_S4352x256_S256x128_4096_128, k0_pay48 (F := F)⟩,
   ⟨Rect.unit (s := S4352x256) ![4096, 0] S256x128.size inb_S4352x256_S256x128_4096_0, k0_pay47 vc⟩,
   ⟨Rect.unit (s := S4352x256) ![0, 128] S4096x128.size inb_S4352x256_S4096x128_0_128, k0_pay46 (F := F)⟩,
   ⟨Rect.unit (s := S4352x256) ![0, 0] S4096x128.size inb_S4352x256_S4096x128_0_0, k0_pay45 vl⟩]

/-- What the code before the loop leaves in the first pair of slots: unit 0's scores and maxima. -/
theorem fill_first (v2 : IVec S1x128 1) (q : Fin 4 → Vec F S64x128 .f32) (K : Vec F S4352x128 .bf16) (x0 x1 x2 x3 : Vec F S64x128 .f32)
    (h0 : x0 = q 0) (h1 : x1 = q 1) (h2 : x2 = q 2) (h3 : x3 = q 3) :
    ([⟨slotR1, k0_pay62 (k0_pay61 v2 (k0_pay49 x0) (k0_pay50 x1) (k0_pay51 x2) (k0_pay52 x3) K)⟩,
      ⟨slotR0, k0_pay59 (k0_pay52 x3) (k0_pay53 v2 x0) (k0_pay54 v2 x1) (k0_pay55 v2 x2) k0_pay56 (k0_pay57 v2) K⟩]
      : List (View.Piece (Elt F) S2x256x4352 .f32)) = slotPieces (sc0 v2 q K) (sc1 v2 q K) := by
  subst h0 h1 h2 h3; rfl
theorem fillMax_first (v2 : IVec S1x128 1) (q : Fin 4 → Vec F S64x128 .f32) (K : Vec F S4352x128 .bf16) (x0 x1 x2 x3 : Vec F S64x128 .f32)
    (h0 : x0 = q 0) (h1 : x1 = q 1) (h2 : x2 = q 2) (h3 : x3 = q 3) :
    ([⟨maxR1, k0_pay63 (k0_pay61 v2 (k0_pay49 x0) (k0_pay50 x1) (k0_pay51 x2) (k0_pay52 x3) K)⟩,
      ⟨maxR0, k0_pay60 (k0_pay52 x3) (k0_pay53 v2 x0) (k0_pay54 v2 x1) (k0_pay55 v2 x2) k0_pay56 (k0_pay57 v2) K⟩]
      : List (View.Piece (Elt F) S2x256x128 .f32)) = maxPieces (mx0 v2 q K) (mx1 v2 q K) := by
  subst h0 h1 h2 h3; rfl
/-- The first unit's query rows. -/
theorem q_first (f1 : Buf (Elt F) (arg1.view.loc (c : Thread nD τ))) (h : Fin 4) {off : Fin 2 → ℕ} (ho : off = ![64 * (0 % 64), 128 * h.val]) (inb) :
    arg1.view.readAt (Elt F) (Rect.unit (s := S4096x512) off S64x128.size inb).toLoadRect f1 = qAt c arg1 f1 0 h :=
  readAt_off c ho _ _
/-- The four pieces the code after the loop writes: unit 63's. -/
theorem rows_last (v2 : IVec S1x128 1) (A : Memref sig .tc .vmem S2x256x4352 .f32) (B : Memref sig .tc .vmem S2x256x128 .f32)
    (a b : FVec F S1x256x4352 .f32) (ma mb : FVec F S1x256x128 .f32) (V : Vec F S4352x256 .bf16) (i0 i1 i2 i3)
    (x0 x1 : Vec F S1x256x4352 .f32) (y0 y1 : Vec F S1x256x128 .f32)
    (hx0 : x0 = A.view.readCov (slotPieces a b) slotR0.toLoadRect) (hy0 : y0 = B.view.readCov (maxPieces ma mb) maxR0.toLoadRect)
    (hx1 : x1 = A.view.readCov (slotPieces a b) slotR1.toLoadRect) (hy1 : y1 = B.view.readCov (maxPieces ma mb) maxR1.toLoadRect)
    (L : List (View.Piece (Elt F) S4096x512 .bf16)) :
    (⟨Rect.unit (s := S4096x512) ![4032, 384] S64x128.size i3, k0_pay5 v2 (k0_pay74 x1 y1) V (k0_pay75 x0 y0 V)⟩
      :: ⟨Rect.unit (s := S4096x512) ![4032, 256] S64x128.size i2, k0_pay4 v2 (k0_pay74 x1 y1) V (k0_pay75 x0 y0 V)⟩
      :: ⟨Rect.unit (s := S4096x512) ![4032, 128] S64x128.size i1, k0_pay3 v2 (k0_pay74 x1 y1) V (k0_pay75 x0 y0 V)⟩
      :: ⟨Rect.unit (s := S4096x512) ![4032, 0] S64x128.size i0, k0_pay2 v2 (k0_pay74 x1 y1) V (k0_pay75 x0 y0 V)⟩ :: L
      : List (View.Piece (Elt F) S4096x512 .bf16)) = rowPieces (attOf v2 a ma b mb V) 63 ++ L := by
  rw [slot_read0] at hx0; rw [slot_read1] at hx1; rw [max_read0] at hy0; rw [max_read1] at hy1
  subst hx0 hx1 hy0 hy1
  rfl

/-- The output block from the five input blocks: `u` is the unit. -/
def outOf (x1 : Vec F S4096x512 .f32) (x2 x3 : Vec F S4096x128 .bf16) (x4 x5 : Vec F S256x128 .bf16) (u : ℕ) : FVec F S256x128 .bf16 :=
  att k0_pay42 (fun h => fun j => x1 ((rowsR u h).toLoadRect.idx j))
    (fun j => View.canon (keyPieces (fun j => x2 (latR.toLoadRect.idx j)) (fun j => x4 (ctxR.toLoadRect.idx j))) (keysR.toLoadRect.idx j))
    (fun j => View.canon (valPieces (fun j => x3 (latR.toLoadRect.idx j)) (fun j => x5 (ctxR.toLoadRect.idx j))) (valsR.toLoadRect.idx j))
def outBlk (x1 : Vec F S4096x512 .f32) (x2 x3 : Vec F S4096x128 .bf16) (x4 x5 : Vec F S256x128 .bf16) : Vec F S4096x512 .bf16 :=
  View.canon (piecesTo (outOf x1 x2 x3 x4 x5) 64)

theorem outAt_eq (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ)))
    (f5 : Buf (Elt F) (arg5.view.loc (c : Thread nD τ))) :
    outAt c arg1 arg11 arg12 k0_pay42 f1
      (arg11.view.writes (Elt F) arg11.view.junk (keyPieces (arg2.view.readAt (Elt F) latR.toLoadRect f2) (arg4.view.readAt (Elt F) ctxR.toLoadRect f4)))
      (arg12.view.writes (Elt F) arg12.view.junk (valPieces (arg3.view.readAt (Elt F) latR.toLoadRect f3) (arg5.view.readAt (Elt F) ctxR.toLoadRect f5)))
    = outOf (arg1.view.read (Elt F) f1) (arg2.view.read (Elt F) f2) (arg3.view.read (Elt F) f3) (arg4.view.read (Elt F) f4) (arg5.view.read (Elt F) f5) := by
  funext u
  unfold outAt outOf keysAt valsAt
  rw [View.readAt_writes_junk_eq_canon, View.readAt_writes_junk_eq_canon]
  rfl

theorem mem_piecesTo (o : ℕ → FVec F S256x128 .bf16) (y : S4096x512.Idx) : ∀ k u : ℕ, u < k → ∀ h : Fin 4, y ∈ (rowsR u h).set →
    ∃ p ∈ piecesTo o k, y ∈ p.1.set
  | 0, _, hu, _, _ => absurd hu (Nat.not_lt_zero _)
  | k + 1, u, hu, h, hy => by
    unfold piecesTo
    by_cases hk : u = k
    · subst hk
      unfold rowPieces
      fin_cases h
      · exact ⟨⟨rowsR u 0, extractStridedSlice S64x128 ![0, 0] (o u) slices_S256x128_o0_0_S64x128⟩, by simp, hy⟩
      · exact ⟨⟨rowsR u 1, extractStridedSlice S64x128 ![64, 0] (o u) slices_S256x128_o64_0_S64x128⟩, by simp, hy⟩
      · exact ⟨⟨rowsR u 2, extractStridedSlice S64x128 ![128, 0] (o u) slices_S256x128_o128_0_S64x128⟩, by simp, hy⟩
      · exact ⟨⟨rowsR u 3, extractStridedSlice S64x128 ![192, 0] (o u) slices_S256x128_o192_0_S64x128⟩, by simp, hy⟩
    · obtain ⟨p, hp, h'⟩ := mem_piecesTo o y k u (by omega) h hy
      exact ⟨p, List.mem_append_right _ hp, h'⟩

/-- The units' pieces cover the output block. -/
theorem cover_piecesTo (o : ℕ → FVec F S256x128 .bf16) (y : S4096x512.Idx) : ∃ p ∈ piecesTo o 64, y ∈ p.1.set := by
  have h0 : (y 0).val < 4096 := (y 0).isLt
  have h1 : (y 1).val < 512 := (y 1).isLt
  refine mem_piecesTo o y 64 ((y 0).val / 64) (by omega) ⟨(y 1).val / 128, by omega⟩ (Rect.mem_set_unit.mpr fun a => ?_)
  fin_cases a
  · show 64 * ((y 0).val / 64 % 64) ≤ (y 0).val ∧ (y 0).val < 64 * ((y 0).val / 64 % 64) + 64
    omega
  · show 128 * ((y 1).val / 128) ≤ (y 1).val ∧ (y 1).val < 128 * ((y 1).val / 128) + 128
    omega

set_option maxHeartbeats 400000 in
theorem body_run
    (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ)))
    (f7 : Buf (Elt F) (arg7.view.loc (c : Thread nD τ))) (f8 : Buf (Elt F) (arg8.view.loc (c : Thread nD τ)))
    (f9 : Buf (Elt F) (arg9.view.loc (c : Thread nD τ))) (f10 : Buf (Elt F) (arg10.view.loc (c : Thread nD τ)))
    (f11 : Buf (Elt F) (arg11.view.loc (c : Thread nD τ))) (f12 : Buf (Elt F) (arg12.view.loc (c : Thread nD τ)))
    (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8
      ∗ pt c arg9 f9 ∗ pt c arg10 f10 ∗ pt c arg11 f11 ∗ pt c arg12 f12
      ∗ (iprop(pt c arg1 f1 ∗ pt c arg2 f2 ∗ pt c arg3 f3 ∗ pt c arg4 f4 ∗ pt c arg5 f5
          ∗ pt c arg6 (arg6.view.writes (Elt F) f6 (piecesTo (outOf (arg1.view.read (Elt F) f1) (arg2.view.read (Elt F) f2) (arg3.view.read (Elt F) f3) (arg4.view.read (Elt F) f4) (arg5.view.read (Elt F) f5)) 64))
          ∗ (∃ g, pt c arg7 g) ∗ (∃ g, pt c arg8 g) ∗ (∃ g, pt c arg9 g) ∗ (∃ g, pt c arg10 g) ∗ (∃ g, pt c arg11 g) ∗ (∃ g, pt c arg12 g)) -∗ Q ⟨⟩))
    ⊢ wp Idealize.ShloMosaic.frame (wpE (defs₀ (F := F)) 𝒱₀ (c : Thread nD τ) none) Set.univ
      (cc0_gqa_attention (F := F) i arg1 harg1 arg2 harg2 arg3 harg3 arg4 harg4 arg5 harg5 arg6 harg6 arg7 harg7 arg8 harg8 arg9 harg9 arg10 harg10 arg11 harg11 arg12 harg12) Q := by
  simp only [cc0_gqa_attention_eq_skeleton]
  unfold cc0_gqa_attention_skel
  simp only [k0_part7_eq_skeleton, k0_part8_eq_skeleton, k0_part9_eq_skeleton, k0_part10_eq_skeleton]
  iintro ⟨H1, H2, H3, H4, H5, H6, H7, H8, H9, H10, H11, H12, Hk⟩
  sl_exec
  unfold body_run.sl.H7_2 body_run.sl.H9_2 body_run.sl.H11_2 body_run.sl.H12_4
  sl_for (fun k _ => invAt c arg1 arg6 arg7 arg8 arg9 arg10 arg11 arg12 k0_pay42 f1 (arg11.view.writes (Elt F) arg11.view.junk (keyPieces (arg2.view.readAt (Elt F) latR.toLoadRect f2) (arg4.view.readAt (Elt F) ctxR.toLoadRect f4))) (arg12.view.writes (Elt F) arg12.view.junk (valPieces (arg3.view.readAt (Elt F) latR.toLoadRect f3) (arg5.view.readAt (Elt F) ctxR.toLoadRect f5))) f6 k) $$ [H1 H11 H12 H7 H9 H8 H10 H6]
  · intro k _
    by_cases hk : k.val % 2 = 0
    · exact trip_even c i arg1 harg1 arg2 harg2 arg3 harg3 arg4 harg4 arg5 harg5 arg6 harg6 arg7 harg7 arg8 harg8 arg9 harg9 arg10 harg10 arg11 harg11 arg12 harg12 k0_pay42 _ f1 _ _ f6 k hk
    · exact trip_odd c i arg1 harg1 arg2 harg2 arg3 harg3 arg4 harg4 arg5 harg5 arg6 harg6 arg7 harg7 arg8 harg8 arg9 harg9 arg10 harg10 arg11 harg11 arg12 harg12 k0_pay42 _ f1 _ _ f6 k hk
  · unfold invAt
    rw [if_pos (show 0 % 2 = 0 from rfl)]
    unfold slotsAt slotsAny
    isplitl [H1]; · iexact H1
    isplitl [H11]; · iexact H11
    isplitl [H12]; · iexact H12
    isplitr [H6]
    · isplitl [H7 H9]
      · iexists arg7.view.junk, arg9.view.junk
        isplitl [H7]
        · unfold body_run.sl.r_7 body_run.sl.r_6 body_run.sl.r_5 body_run.sl.r_4 body_run.sl.r_3 body_run.sl.r_2 body_run.sl.r_1 body_run.sl.r body_run.sl.v72
          iapply (pt_congr c arg7 (congrArg (arg7.view.writes (Elt F) arg7.view.junk) (fill_first k0_pay42 (qAt c arg1 f1 0) _ _ _ _ _ (q_first c arg1 f1 0 rfl _) (q_first c arg1 f1 1 rfl _) (q_first c arg1 f1 2 rfl _) (q_first c arg1 f1 3 rfl _))))
          iexact H7
        · unfold body_run.sl.r_7 body_run.sl.r_6 body_run.sl.r_5 body_run.sl.r_4 body_run.sl.r_3 body_run.sl.r_2 body_run.sl.r_1 body_run.sl.r body_run.sl.v72
          iapply (pt_congr c arg9 (congrArg (arg9.view.writes (Elt F) arg9.view.junk) (fillMax_first k0_pay42 (qAt c arg1 f1 0) _ _ _ _ _ (q_first c arg1 f1 0 rfl _) (q_first c arg1 f1 1 rfl _) (q_first c arg1 f1 2 rfl _) (q_first c arg1 f1 3 rfl _))))
          iexact H9
      · iexists _, _
        isplitl [H8]; · iexact H8
        iexact H10
    · iexact H6
  iintro %acc HI
  unfold invAt
  rw [if_neg (show ¬ (Scf.trips k0_t1_loop.lb k0_t1_loop.ub k0_t1_loop.st) % 2 = 0 by decide +kernel)]
  unfold slotsAt slotsAny slotPieces maxPieces body_run.sl.prog.cont_1
  icases HI with ⟨H1, H11, H12, ⟨⟨%g8, %g10, H8, H10⟩, ⟨%g7, %g9, H7, H9⟩⟩, H6⟩
  sl_exec
  sl_step
  unfold body_run.sl.r_8 body_run.sl.r_9
  iapply Hk
  isplitl [H1]; · iexact H1
  isplitl [H2]; · iexact H2
  isplitl [H3]; · iexact H3
  isplitl [H4]; · iexact H4
  isplitl [H5]; · iexact H5
  isplitl [H6]
  · rw [← outAt_eq c arg1 arg2 arg3 arg4 arg5 arg11 arg12 f1 f2 f3 f4 f5]
    iapply (pt_congr c arg6 (congrArg (arg6.view.writes (Elt F) f6) (rows_last k0_pay42 arg8 arg10 _ _ _ _ _ _ _ _ _ _ _ _ _ rfl rfl rfl rfl _)))
    iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

end Cert.KernelIdeal.Att
-- ==== Proof.Id.Run.lean ====
/-
  The attention kernel's run at any float interpretation, of the idealized program: what each grid point leaves in the output block, the launch,
  the argument arrays unchanged and every semaphore counter back at zero.
-/
module

public import proofs.«01_k».proof.Proof.Id.Body
public import Idealize.ShloMosaic.Lib.Pipeline.Quiescent

@[expose] public section

set_option maxRecDepth 16384
set_option warn.classDefReducibility false

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body on whole memrefs: the inputs stay, the output block is `outBlk` of them, the scratch ends at anything. -/
theorem sound_kernel (c : Dev nD) (i : grid0.Coords) (arg1 : Memref sig .tc .vmem S4096x512 .f32) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S4096x512 .bf16) (harg6 : arg6.IsWhole) (arg7 : Memref sig .tc .vmem S2x256x4352 .f32) (harg7 : arg7.IsWhole) (arg8 : Memref sig .tc .vmem S2x256x4352 .f32) (harg8 : arg8.IsWhole) (arg9 : Memref sig .tc .vmem S2x256x128 .f32) (harg9 : arg9.IsWhole) (arg10 : Memref sig .tc .vmem S2x256x128 .f32) (harg10 : arg10.IsWhole) (arg11 : Memref sig .tc .vmem S4352x128 .bf16) (harg11 : arg11.IsWhole) (arg12 : Memref sig .tc .vmem S4352x256 .bf16) (harg12 : arg12.IsWhole)
    (x1 : Vec F S4096x512 .f32) (x2 x3 : Vec F S4096x128 .bf16) (x4 x5 : Vec F S256x128 .bf16)
    (f7 : Buf (Elt F) (arg7.view.loc (c : Thread nD τ))) (f8 : Buf (Elt F) (arg8.view.loc (c : Thread nD τ)))
    (f9 : Buf (Elt F) (arg9.view.loc (c : Thread nD τ))) (f10 : Buf (Elt F) (arg10.view.loc (c : Thread nD τ)))
    (f11 : Buf (Elt F) (arg11.view.loc (c : Thread nD τ))) (f12 : Buf (Elt F) (arg12.view.loc (c : Thread nD τ)))
    (Q : PUnit → sProp 𝕄) :
    iprop(owns (c : Thread nD τ) arg1 fullShare x1 ∗ owns (c : Thread nD τ) arg2 fullShare x2 ∗ owns (c : Thread nD τ) arg3 fullShare x3
      ∗ owns (c : Thread nD τ) arg4 fullShare x4 ∗ owns (c : Thread nD τ) arg5 fullShare x5 ∗ (∃ d, owns (c : Thread nD τ) arg6 fullShare d)
      ∗ pt c arg7 f7 ∗ pt c arg8 f8 ∗ pt c arg9 f9 ∗ pt c arg10 f10 ∗ pt c arg11 f11 ∗ pt c arg12 f12
      ∗ (iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare x5
          ∗ owns (c : Thread nD τ) arg6 fullShare (outBlk x1 x2 x3 x4 x5)
          ∗ (∃ g, pt c arg7 g) ∗ (∃ g, pt c arg8 g) ∗ (∃ g, pt c arg9 g) ∗ (∃ g, pt c arg10 g) ∗ (∃ g, pt c arg11 g) ∗ (∃ g, pt c arg12 g)) -∗ Q ⟨⟩))
    ⊢ wp Idealize.ShloMosaic.frame (wpE (defs₀ (F := F)) 𝒱₀ (c : Thread nD τ) none) Set.univ
      (cc0_gqa_attention (F := F) i arg1 harg1 arg2 harg2 arg3 harg3 arg4 harg4 arg5 harg5 arg6 harg6 arg7 harg7 arg8 harg8 arg9 harg9 arg10 harg10 arg11 harg11 arg12 harg12) Q := by
  unfold owns
  rw [harg1.set_eq_univ, harg2.set_eq_univ, harg3.set_eq_univ, harg4.set_eq_univ, harg5.set_eq_univ, harg6.set_eq_univ]
  iintro ⟨⟨%f1, %h1, H1⟩, ⟨%f2, %h2, H2⟩, ⟨%f3, %h3, H3⟩, ⟨%f4, %h4, H4⟩, ⟨%f5, %h5, H5⟩, ⟨%d6, %f6, -, H6⟩, H7, H8, H9, H10, H11, H12, Hk⟩
  subst h1 h2 h3 h4 h5
  iapply (body_run c i arg1 harg1 arg2 harg2 arg3 harg3 arg4 harg4 arg5 harg5 arg6 harg6 arg7 harg7 arg8 harg8 arg9 harg9 arg10 harg10 arg11 harg11 arg12 harg12 f1 f2 f3 f4 f5 f6 f7 f8 f9 f10 f11 f12 Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, HS⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_piecesTo _)
  iexact HS

variable (m : (ℓ : Loc nD τ sig) → Buf (Elt F) ℓ) (ρ : Dev nD → PrngReg)

/-- What point `t` leaves in the output block. -/
def outsAt (c : Dev nD) (t : Fin cfg0.N) : Vec F S4096x512 .bf16 :=
  outBlk (iblk m c 0 t) (iblk m c 1 t) (iblk m c 2 t) (iblk m c 3 t) (iblk m c 4 t)

/-- The arrays as the region finds them; each input block stays, the output block ends at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outsAt m c t := by dsimp only [dats]

theorem before_0 (c : Dev nD) (t : Fin cfg0.N) (d) : (dats m 0 c).before 0 t d = iblk m c 0 t := before0_0_of m _ (A_eq m c 0) (after_0 m c) t d
theorem before_1 (c : Dev nD) (t : Fin cfg0.N) (d) : (dats m 0 c).before 1 t d = iblk m c 1 t := before0_1_of m _ (A_eq m c 1) (after_1 m c) t d
theorem before_2 (c : Dev nD) (t : Fin cfg0.N) (d) : (dats m 0 c).before 2 t d = iblk m c 2 t := before0_2_of m _ (A_eq m c 2) (after_2 m c) t d
theorem before_3 (c : Dev nD) (t : Fin cfg0.N) (d) : (dats m 0 c).before 3 t d = iblk m c 3 t := before0_3_of m _ (A_eq m c 3) (after_3 m c) t d
theorem before_4 (c : Dev nD) (t : Fin cfg0.N) (d) : (dats m 0 c).before 4 t d = iblk m c 4 t := before0_4_of m _ (A_eq m c 4) (after_4 m c) t d

/-- What the body is called with at point `t`, the windows one by one, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1600000 in
theorem sound_body (c : Dev nD) (t : Fin cfg0.N) :
    bodyPre m c t ⊢ wp Idealize.ShloMosaic.frame (wpE (defs₀ (F := F)) 𝒱₀ (c : Thread nD τ) none) Set.univ (bodyAt0 t) (fun _ => bodyPost m c t) := by
  unfold bodyPre bodyPost bodyAt0
  simp only [before_0, before_1, before_2, before_3, before_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5]
  unfold Pipeline.ΦA outsAt
  rw [scopedRest0_eq]
  iintro ⟨⟨⟨⟨%f7, S7⟩, ⟨%f8, S8⟩, ⟨%f9, S9⟩, ⟨%f10, S10⟩, ⟨%f11, S11⟩, ⟨%f12, S12⟩⟩, Hp⟩, Ho, ⟨%d1, H1⟩, ⟨%d2, H2⟩, ⟨%d3, H3⟩, ⟨%d4, H4⟩, ⟨%d5, H5⟩, ⟨%d6, H6⟩⟩
  iapply (sound_kernel c _ _ _ _ _ _ _ _ _ _ _ _ _ _ _ _ _ _ _ _ _ _ _ _ _ (iblk m c 0 t) (iblk m c 1 t) (iblk m c 2 t) (iblk m c 3 t) (iblk m c 4 t) f7 f8 f9 f10 f11 f12 _)
  isplitl [H1]; · iexact H1
  isplitl [H2]; · iexact H2
  isplitl [H3]; · iexact H3
  isplitl [H4]; · iexact H4
  isplitl [H5]; · iexact H5
  isplitl [H6]; · iexists _; iexact H6
  isplitl [S7]; · iexact S7
  isplitl [S8]; · iexact S8
  isplitl [S9]; · iexact S9
  isplitl [S10]; · iexact S10
  isplitl [S11]; · iexact S11
  isplitl [S12]; · iexact S12
  iintro ⟨H1, H2, H3, H4, H5, H6, HS⟩
  isplitl [HS Hp]
  · isplitl [HS]; · iexact HS
    iexact Hp
  isplitl [Ho]; · iexact Ho
  isplitl [H1]; · iexact H1
  isplitl [H2]; · iexact H2
  isplitl [H3]; · iexact H3
  isplitl [H4]; · iexact H4
  isplitl [H5]; · iexact H5
  iexact H6

/-- The body the pipeline calls at point `t`. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The launch, every counter at zero at the end. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The arguments end as launched, the counters at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) (A_eq m)) (run_main m ρ)

end Cert.KernelIdeal.Att

end
-- ==== Proof.Id.Soft.lean ====
/-
  Softmax by base 2 with the division last, against softmax by base e with the division first, at extended reals: equal when
  the scores are real, whatever the values are.
-/
module

public import Idealize.ShloMosaic.PureOps.Ideal
public import Idealize.ShloMosaic.Lib.ValueIdx

@[expose] public section

noncomputable section

namespace Cert.Soft

open Idealize.ShloMosaic Idealize.ShloMosaic.ValueIdx

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A factor that is a real and not negative goes into a sum, whatever the terms. -/
theorem sum_mul_coe {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a s h ih =>
    rw [Finset.sum_insert h, Finset.sum_insert h, EReal.right_distrib_of_nonneg_of_ne_top (EReal.coe_nonneg.mpr hr) (EReal.coe_ne_top r), ih]

/-- The maximum of finitely many reals is a real, and a positive factor goes through it. -/
theorem fold_max {n : ℕ} (hn : 0 < n) (d : Fin n → ℝ) : ∃ M : ℝ, ∀ a : ℝ, 0 < a →
    (Finset.univ : Finset (Fin n)).fold max (⊥ : EReal) (fun t => ((a * d t : ℝ) : EReal)) = ((a * M : ℝ) : EReal) := by
  have hne : (Finset.univ : Finset (Fin n)).Nonempty := ⟨⟨0, hn⟩, Finset.mem_univ _⟩
  obtain ⟨j, -, hj⟩ := Finset.exists_max_image Finset.univ d hne
  refine ⟨d j, fun a ha => le_antisymm ?_ ?_⟩
  · exact (Finset.fold_max_le _).mpr ⟨bot_le, fun t _ => EReal.coe_le_coe_iff.mpr (mul_le_mul_of_nonneg_left (hj t (Finset.mem_univ _)) ha.le)⟩
  · exact (Finset.le_fold_max _).mpr (Or.inr ⟨j, Finset.mem_univ _, le_refl _⟩)

theorem div_coe_pos {Z : ℝ} (hZ : 0 < Z) (x : EReal) : Ideal.div x (Z : EReal) = x * ((Z⁻¹ : ℝ) : EReal) := by
  unfold Ideal.div
  rw [if_neg (by exact_mod_cast hZ.ne'), EReal.coe_inv]

/-- The scores' factor in the kernel. -/
abbrev gain : ℝ := (8 * Real.log 2)⁻¹

/-- The two normalised weighted sums. -/
theorem soft {n : ℕ} (hn : 0 < n) (d : Fin n → ℝ) (v : Fin n → EReal) :
    (∑ t, Ideal.exp2 (((gain * d t : ℝ) : EReal) - (Finset.univ : Finset (Fin n)).fold max (⊥ : EReal) (fun t => ((gain * d t : ℝ) : EReal))) * v t)
        * Ideal.div 1 (∑ t, Ideal.exp2 (((gain * d t : ℝ) : EReal) - (Finset.univ : Finset (Fin n)).fold max (⊥ : EReal) (fun t => ((gain * d t : ℝ) : EReal))) * 1)
      = ∑ t, v t * Ideal.div (Ideal.exp (((8⁻¹ * d t : ℝ) : EReal) - max ⊥ ((Finset.univ : Finset (Fin n)).fold max (⊥ : EReal) (fun t => ((8⁻¹ * d t : ℝ) : EReal)))))
          (0 + ∑ t, Ideal.exp (((8⁻¹ * d t : ℝ) : EReal) - max ⊥ ((Finset.univ : Finset (Fin n)).fold max (⊥ : EReal) (fun t => ((8⁻¹ * d t : ℝ) : EReal))))) := by
  obtain ⟨M, hM⟩ := fold_max hn d
  have hl : 0 < Real.log 2 := Real.log_pos (by norm_num)
  have hg : 0 < gain := by unfold gain; positivity
  rw [hM gain hg, hM 8⁻¹ (by norm_num), max_eq_right bot_le]
  set p : Fin n → ℝ := fun t => Real.exp (8⁻¹ * (d t - M)) with hp
  have e1 : ∀ t, Ideal.exp2 (((gain * d t : ℝ) : EReal) - ((gain * M : ℝ) : EReal)) = (p t : EReal) := fun t => by
    rw [← EReal.coe_sub, Ideal.exp2_coe]
    refine congrArg _ (?_ : (2:ℝ) ^ (gain * d t - gain * M) = Real.exp (8⁻¹ * (d t - M)))
    rw [Real.rpow_def_of_pos (by norm_num)]
    congr 1
    unfold gain; field_simp
  have e2 : ∀ t, Ideal.exp (((8⁻¹ * d t : ℝ) : EReal) - ((8⁻¹ * M : ℝ) : EReal)) = (p t : EReal) := fun t => by
    rw [← EReal.coe_sub, Ideal.exp_coe]
    exact congrArg _ (congrArg _ (mul_sub _ _ _).symm)
  simp only [e1, e2, mul_one, zero_add]
  have hZ : 0 < ∑ t, p t := Finset.sum_pos (fun t _ => Real.exp_pos _) ⟨⟨0, hn⟩, Finset.mem_univ _⟩
  rw [← coe_sum, div_coe_pos hZ, one_mul, sum_mul_coe _ _ (inv_nonneg.mpr hZ.le)]
  refine Finset.sum_congr rfl fun t _ => ?_
  rw [div_coe_pos hZ, mul_comm (p t : EReal) (v t), mul_assoc]

/-- An element of the attention with the weights normalised first, by base e: scores `d` over 8, values `v`. -/
def soft1 (d : Fin 4352 → ℝ) (v : Fin 4352 → EReal) : EReal :=
  ∑ t, v t * Ideal.div (Ideal.exp (((8⁻¹ * d t : ℝ) : EReal) - max ⊥ ((Finset.univ : Finset (Fin 4352)).fold max (⊥ : EReal) (fun t => ((8⁻¹ * d t : ℝ) : EReal)))))
    (0 + ∑ t, Ideal.exp (((8⁻¹ * d t : ℝ) : EReal) - max ⊥ ((Finset.univ : Finset (Fin 4352)).fold max (⊥ : EReal) (fun t => ((8⁻¹ * d t : ℝ) : EReal)))))

/-- Row `t` of sample `b`'s tokens: its 4096 latent ones, then its 256 context ones. -/
def cat {α : Type} (A : (⟨2, ![65536, 128]⟩ : Shape).Idx → α) (B : (⟨2, ![4096, 128]⟩ : Shape).Idx → α) (b : Fin 16) (t : Fin 4352) (l : Fin 128) : α :=
  if h : t.val < 4096 then A (ix2 ⟨4096 * b.val + t.val, by omega⟩ l) else B (ix2 ⟨256 * b.val + (t.val - 4096), by omega⟩ l)

/-- A query row against the keys: head `2 p + h`. -/
def dotAt (q : Fin 512 → ℝ) (k : Fin 4352 → Fin 128 → ℝ) (p : Fin 4) (h : Fin 2) (t : Fin 4352) : ℝ :=
  ∑ j : Fin 64, q ⟨128 * p.val + (64 * h.val + j.val), by omega⟩ * k t ⟨64 * h.val + j.val, by omega⟩

end Cert.Soft

end
-- ==== Proof.Id.Elem.lean ====
/-
  One element of a unit's output at extended reals, for real queries and keys: the values weighted by the softmax of the
  scores, each weight normalised.
-/
module

public import proofs.«01_k».proof.Proof.Id.Trip
public import proofs.«01_k».proof.Proof.Id.Soft
public import Idealize.ShloMosaic.Lib.MatmulPlain
public import Idealize.ShloMosaic.Lib.ValueIdx
public import Idealize.ShloMosaic.Lib.IdealHost
public import Idealize.ShloMosaic.Lib.ValueLayout
public import Idealize.ShloMosaic.Lib.ValueLayoutCasts

@[expose] public section

set_option maxRecDepth 16384

noncomputable section

namespace Cert.KernelIdeal.Att

open Cert.KernelIdeal Cert.KernelIdeal.Gen
open Idealize.ShloMosaic Idealize.ShloMosaic.ValueIdx
open Cert.Soft

/-- The lanes of key/value head 0. -/
theorem mask_apply : ∀ l : Fin 128, k0_pay42 (ix2 (0 : Fin 1) l) = if l.val < 64 then 1#1 else 0#1 := by decide +kernel

/-- The mask along the rows. -/
theorem maskRows_apply {n : ℕ} (v : IVec S1x128 1) (h1 : S1x128.ShapeCasts S1x128) (h2 : S1x128.Broadcasts ⟨2, ![n, 128]⟩) (r : Fin n) (l : Fin 128) :
    broadcastTo ⟨2, ![n, 128]⟩ (shapeCast S1x128 v h1) h2 (ix2 r l) = v (ix2 (0 : Fin 1) l) := by
  rw [broadcastTo_1b_ab_apply, shapeCast_self]

theorem gain_eq : Named.named (F := Ideal) κ "q_gain" (φ := .f32) 0x3E38AA3B#32 = ((gain : ℝ) : EReal) :=
  IdealRules.named_const.ideal_named_scalar _ _ _ _ rfl

theorem ofBits_ninf : Ideal.ofBits .f32 0xFF800000#32 = ⊥ := by
  simp [Ideal.ofBits, Ideal.ieee]

/-- A query tile, times the factor, the other head's lanes at zero. -/
theorem tile0_apply (q : Vec Ideal S64x128 .f32) (r : Fin 64) (l : Fin 128) :
    k0_pay10 k0_pay42 q (ix2 r l) = if l.val < 64 then q (ix2 r l) * ((gain : ℝ) : EReal) else (0 : EReal) := by
  unfold k0_pay10 k0_pay6
  dsimp only
  rw [select_apply, maskRows_apply, mask_apply, truncf_apply, mulf_apply, broadcast_apply, broadcast_apply, gain_eq]
  split
  · exact select_one _ _
  · exact (select_zero _ _).trans Ideal.ofBits_zero_bf16

/-- The mask the other way round. -/
theorem maskNot_apply (l : Fin 128) : xori k0_pay42 (constantI S1x128 1 1#1) (ix2 (0 : Fin 1) l) = if l.val < 64 then 0#1 else 1#1 := by
  show k0_pay42 (ix2 (0 : Fin 1) l) ^^^ 1#1 = _
  rw [mask_apply]; split <;> rfl

/-- The tiles of key/value head 1. -/
def tile1 (x : FVec Ideal S64x128 .bf16) : FVec Ideal S64x128 .bf16 :=
  select (broadcastTo S64x128 (shapeCast S1x128 (xori k0_pay42 (constantI S1x128 1 1#1)) shapeCasts_S1x128_S1x128) broadcasts_S1x128_S64x128) x
    (broadcast S64x128 (Scalar.ofBits .bf16 0x0000#16))
theorem tile1_apply (q : Vec Ideal S64x128 .f32) (r : Fin 64) (l : Fin 128) :
    tile1 (k0_pay6 q) (ix2 r l) = if l.val < 64 then (0 : EReal) else q (ix2 r l) * ((gain : ℝ) : EReal) := by
  unfold tile1 k0_pay6
  dsimp only
  rw [select_apply, maskRows_apply, maskNot_apply, truncf_apply, mulf_apply, broadcast_apply, broadcast_apply, gain_eq]
  split
  · exact (select_zero _ _).trans Ideal.ofBits_zero_bf16
  · exact select_one _ _

/-- The four tiles stacked. -/
theorem cat_apply (T : Fin 4 → FVec Ideal S64x128 .bf16) (p : Fin 4) (y : Fin 64) (l : Fin 128) (ρ : Fin 256) (hρ : ρ.val = 64 * p.val + y.val) :
    concatenate S256x128 0 [⟨S64x128, T 0⟩, ⟨S64x128, T 1⟩, ⟨S64x128, T 2⟩, ⟨S64x128, T 3⟩]
      concatenates_S64x128_S64x128_S64x128_S64x128_S256x128_d0 (ix2 ρ l) = T p (ix2 y l) := by
  refine concatenate_ofFn_apply (t := S256x128) (s₁ := S64x128) 0 T concatenates_S64x128_S64x128_S64x128_S64x128_S256x128_d0 rfl 64 rfl (ix2 ρ l) p
    (show ρ.val / 64 = p.val by omega) (ix2 y l) (show y.val = ρ.val % 64 by omega) fun b hb => ?_
  match b, hb with
  | ⟨0, _⟩, hb => exact absurd rfl hb
  | ⟨1, _⟩, _ => rfl

theorem scores_apply (T : Fin 4 → FVec Ideal S64x128 .bf16) (K : Vec Ideal S4352x128 .bf16) (p : Fin 4) (y : Fin 64) (t : Fin 4352) (ρ : Fin 256)
    (hρ : ρ.val = 64 * p.val + y.val) :
    k0_pay14 (T 0) (T 1) (T 2) (T 3) K (ix2 ρ t) = ∑ l : Fin 128, T p (ix2 y l) * K (ix2 t l) := by
  unfold k0_pay14
  refine (Ideal.matmul_transposedRhs_apply (M := 256) (K := 128) (N := 4352) none _ K _ ρ t).trans ?_
  rw [constant_apply, Ideal.ofBits_zero_f32, zero_add]
  exact Finset.sum_congr rfl fun l _ => by rw [cat_apply T p y l ρ hρ]

/-- The row maximum, at every lane. -/
theorem rowMax_apply (x : FVec Ideal S256x4352 .f32) (ρ : Fin 256) (l : Fin 128) :
    k0_pay19 x (ix3 (0 : Fin 1) ρ l) = (Finset.univ : Finset (Fin 4352)).fold max (⊥ : EReal) (fun t => x (ix2 ρ t)) := by
  unfold k0_pay19
  dsimp only
  rw [shapeCast_ab_1ab_apply]
  rw [broadcastTo_apply _ _ (ix2 ρ l) (ix2 ρ (0 : Fin 1)) (fun a => by match a with | ⟨0, _⟩ => rfl | ⟨1, _⟩ => rfl)]
  rw [shapeCast_self, shapeCast_a_a1_apply]
  refine (Ideal.multiReduction_maximumf_single _ _ _ _ _ _).trans ?_
  rw [show FloatOps.ofBits (F := Ideal) .f32 0xFF800000#32 = (⊥ : EReal) from ofBits_ninf]
  exact congrArg (fun f => (Finset.univ : Finset (Fin 4352)).fold max (⊥ : EReal) f) (funext fun t => congrArg x (by
    funext a; match a with | ⟨0, _⟩ => rfl | ⟨1, _⟩ => rfl))

/-- A unit's scores against the keys, one key/value head: row `64 p + y` of the stacked tiles. -/
def dot (h : Fin 2) (q : Fin 4 → Fin 64 → Fin 128 → ℝ) (k : Fin 4352 → Fin 128 → ℝ) (p : Fin 4) (y : Fin 64) (t : Fin 4352) : ℝ :=
  ∑ j : Fin 64, q p y ⟨64 * h.val + j.val, by omega⟩ * k t ⟨64 * h.val + j.val, by omega⟩

theorem coe_mul_sum {n : ℕ} (f g : Fin n → ℝ) : ∑ j, (f j : EReal) * ((gain : ℝ) : EReal) * (g j : EReal) = ((gain * ∑ j, f j * g j : ℝ) : EReal) := by
  rw [Finset.mul_sum, coe_sum]
  refine Finset.sum_congr rfl fun j _ => ?_
  rw [← EReal.coe_mul, ← EReal.coe_mul]
  exact congrArg _ (by ring)

section Real
variable (q : Fin 4 → Vec Ideal S64x128 .f32) (K : Vec Ideal S4352x128 .bf16) (qr : Fin 4 → Fin 64 → Fin 128 → ℝ) (kr : Fin 4352 → Fin 128 → ℝ)
  (hq : ∀ p y l, q p (ix2 y l) = (qr p y l : EReal)) (hk : ∀ t l, K (ix2 t l) = (kr t l : EReal))
include hq hk

theorem sum0 (p : Fin 4) (y : Fin 64) (t : Fin 4352) :
    ∑ l : Fin 128, k0_pay10 k0_pay42 (q p) (ix2 y l) * K (ix2 t l) = ((gain * dot 0 qr kr p y t : ℝ) : EReal) := by
  refine (Fin.sum_univ_add (a := 64) (b := 64) _).trans ((congrArg₂ (· + ·) (Finset.sum_congr rfl fun j _ => ?_) (Finset.sum_eq_zero fun j _ => ?_)).trans
    ((add_zero _).trans (coe_mul_sum (fun j : Fin 64 => qr p y ⟨64 * (0 : Fin 2).val + j.val, by have := j.isLt; simp; omega⟩)
      (fun j : Fin 64 => kr t ⟨64 * (0 : Fin 2).val + j.val, by have := j.isLt; simp; omega⟩))))
  · rw [tile0_apply, if_pos (by show j.val < 64; omega), hq, hk]
    have e : (Fin.castAdd 64 j : Fin 128) = ⟨64 * (0 : Fin 2).val + j.val, by have := j.isLt; simp; omega⟩ := Fin.ext (by simp)
    rw [← e]
  · rw [tile0_apply, if_neg (by show ¬ (64 + j.val < 64); omega), zero_mul]
theorem sum1 (p : Fin 4) (y : Fin 64) (t : Fin 4352) :
    ∑ l : Fin 128, tile1 (k0_pay6 (q p)) (ix2 y l) * K (ix2 t l) = ((gain * dot 1 qr kr p y t : ℝ) : EReal) := by
  refine (Fin.sum_univ_add (a := 64) (b := 64) _).trans ((congrArg₂ (· + ·) (Finset.sum_eq_zero fun j _ => ?_) (Finset.sum_congr rfl fun j _ => ?_)).trans
    ((zero_add _).trans (coe_mul_sum (fun j : Fin 64 => qr p y ⟨64 * (1 : Fin 2).val + j.val, by have := j.isLt; simp; omega⟩)
      (fun j : Fin 64 => kr t ⟨64 * (1 : Fin 2).val + j.val, by have := j.isLt; simp; omega⟩))))
  · rw [tile1_apply, if_pos (by show j.val < 64; omega), zero_mul]
  · rw [tile1_apply, if_neg (by show ¬ (64 + j.val < 64); omega), hq, hk]
    have e : (Fin.natAdd 64 j : Fin 128) = ⟨64 * (1 : Fin 2).val + j.val, by have := j.isLt; simp; omega⟩ := Fin.ext (by simp [Nat.add_comm])
    rw [← e]

theorem sc0_apply (p : Fin 4) (y : Fin 64) (t : Fin 4352) (ρ : Fin 256) (hρ : ρ.val = 64 * p.val + y.val) :
    sc0 k0_pay42 q K (ix3 (0 : Fin 1) ρ t) = ((gain * dot 0 qr kr p y t : ℝ) : EReal) := by
  unfold sc0 k0_pay15
  rw [shapeCast_ab_1ab_apply]
  exact (scores_apply (fun i => k0_pay10 k0_pay42 (q i)) K p y t ρ hρ).trans (sum0 q K qr kr hq hk p y t)
theorem pay17_apply (p : Fin 4) (y : Fin 64) (t : Fin 4352) (ρ : Fin 256) (hρ : ρ.val = 64 * p.val + y.val) :
    k0_pay17 k0_pay42 (k0_pay6 (q 0)) (k0_pay7 (q 1)) (k0_pay8 (q 2)) (k0_pay9 (q 3)) K (ix2 ρ t) = ((gain * dot 1 qr kr p y t : ℝ) : EReal) :=
  (scores_apply (fun i => tile1 (k0_pay6 (q i))) K p y t ρ hρ).trans (sum1 q K qr kr hq hk p y t)
theorem sc1_apply (p : Fin 4) (y : Fin 64) (t : Fin 4352) (ρ : Fin 256) (hρ : ρ.val = 64 * p.val + y.val) :
    sc1 k0_pay42 q K (ix3 (0 : Fin 1) ρ t) = ((gain * dot 1 qr kr p y t : ℝ) : EReal) := by
  unfold sc1 k0_pay18
  rw [shapeCast_ab_1ab_apply]
  exact pay17_apply q K qr kr hq hk p y t ρ hρ
theorem mx0_apply (p : Fin 4) (y : Fin 64) (l : Fin 128) (ρ : Fin 256) (hρ : ρ.val = 64 * p.val + y.val) :
    mx0 k0_pay42 q K (ix3 (0 : Fin 1) ρ l) = (Finset.univ : Finset (Fin 4352)).fold max (⊥ : EReal) (fun t => ((gain * dot 0 qr kr p y t : ℝ) : EReal)) := by
  refine (rowMax_apply (k0_pay14 (k0_pay10 k0_pay42 (q 0)) (k0_pay11 k0_pay42 (q 1)) (k0_pay12 k0_pay42 (q 2)) (k0_pay13 k0_pay42 (q 3)) K) ρ l).trans ?_
  exact congrArg (fun f => (Finset.univ : Finset (Fin 4352)).fold max (⊥ : EReal) f) (funext fun t =>
    (scores_apply (fun i => k0_pay10 k0_pay42 (q i)) K p y t ρ hρ).trans (sum0 q K qr kr hq hk p y t))
theorem mx1_apply (p : Fin 4) (y : Fin 64) (l : Fin 128) (ρ : Fin 256) (hρ : ρ.val = 64 * p.val + y.val) :
    mx1 k0_pay42 q K (ix3 (0 : Fin 1) ρ l) = (Finset.univ : Finset (Fin 4352)).fold max (⊥ : EReal) (fun t => ((gain * dot 1 qr kr p y t : ℝ) : EReal)) := by
  refine (rowMax_apply (k0_pay17 k0_pay42 (k0_pay6 (q 0)) (k0_pay7 (q 1)) (k0_pay8 (q 2)) (k0_pay9 (q 3)) K) ρ l).trans ?_
  exact congrArg (fun f => (Finset.univ : Finset (Fin 4352)).fold max (⊥ : EReal) f) (funext fun t => pay17_apply q K qr kr hq hk p y t ρ hρ)
end Real

/-- The weights. -/
theorem weight_apply (s : FVec Ideal S1x256x4352 .f32) (m : FVec Ideal S1x256x128 .f32) (ρ : Fin 256) (t : Fin 4352) :
    k0_pay20 (F := Ideal) s m (ix2 ρ t) = Ideal.exp2 (s (ix3 (0 : Fin 1) ρ t) - m (ix3 (0 : Fin 1) ρ (0 : Fin 128))) := by
  unfold k0_pay20
  rw [truncf_apply]
  show Ideal.exp2 (shapeCast S256x4352 s _ (ix2 ρ t) - broadcastTo S256x4352 _ _ (ix2 ρ t)) = _
  rw [shapeCast_1ab_ab_apply,
    broadcastTo_apply _ _ (ix2 ρ t) (ix2 ρ (0 : Fin 1)) (fun a => by match a with | ⟨0, _⟩ => rfl | ⟨1, _⟩ => rfl),
    slice2_axis1_apply 0 _ _ ρ (0 : Fin 1) (0 : Fin 128) rfl, shapeCast_1ab_ab_apply]

/-- The weights against the values. -/
abbrev pv (s : FVec Ideal S1x256x4352 .f32) (m : FVec Ideal S1x256x128 .f32) (V : Vec Ideal S4352x256 .bf16) : FVec Ideal S256x256 .f32 :=
  matmul (φ₁ := .bf16) (φ₂ := .bf16) dot_S256x4352_S4352x256_S256x256_1_0_0_1_n_n none (k0_pay20 (F := Ideal) s m : FVec Ideal S256x4352 .bf16) (V : FVec Ideal S4352x256 .bf16) (constant S256x256 .f32 0x00000000#32)
theorem pv_apply (s : FVec Ideal S1x256x4352 .f32) (m : FVec Ideal S1x256x128 .f32) (V : Vec Ideal S4352x256 .bf16) (ρ k : Fin 256) :
    pv s m V (ix2 ρ k) = ∑ t : Fin 4352, Ideal.exp2 (s (ix3 (0 : Fin 1) ρ t) - m (ix3 (0 : Fin 1) ρ (0 : Fin 128))) * V (ix2 t k) := by
  refine (Ideal.matmul_plain_apply (M := 256) (K := 4352) (N := 256) none _ V _ ρ k).trans ?_
  rw [constant_apply, Ideal.ofBits_zero_f32, zero_add]
  exact Finset.sum_congr rfl fun t _ => by rw [weight_apply]

/-- One key/value head's quotient. -/
def quot (s : FVec Ideal S1x256x4352 .f32) (m : FVec Ideal S1x256x128 .f32) (V : Vec Ideal S4352x256 .bf16) : FVec Ideal S256x128 .f32 :=
  mulf (extractStridedSlice S256x128 ![0, 0] (pv s m V) slices_S256x256_o0_0_S256x128)
    (divf (broadcast S256x128 (Scalar.ofBits .f32 0x3F800000#32)) (extractStridedSlice S256x128 ![0, 128] (pv s m V) slices_S256x256_o0_128_S256x128))
theorem quot_apply (s : FVec Ideal S1x256x4352 .f32) (m : FVec Ideal S1x256x128 .f32) (V : Vec Ideal S4352x256 .bf16) (ρ : Fin 256) (l : Fin 128) :
    quot s m V (ix2 ρ l) = pv s m V (ix2 ρ ⟨l.val, by omega⟩) * Ideal.div 1 (pv s m V (ix2 ρ ⟨128 + l.val, by omega⟩)) := by
  have e0 : extractStridedSlice S256x128 ![0, 0] (pv s m V) slices_S256x256_o0_0_S256x128 (ix2 ρ l) = pv s m V (ix2 ρ ⟨l.val, by omega⟩) :=
    slice2_axis1_apply 0 _ _ ρ l ⟨l.val, by omega⟩ (Nat.zero_add _).symm
  have e1 : extractStridedSlice S256x128 ![0, 128] (pv s m V) slices_S256x256_o0_128_S256x128 (ix2 ρ l) = pv s m V (ix2 ρ ⟨128 + l.val, by omega⟩) :=
    slice2_axis1_apply 128 _ _ ρ l ⟨128 + l.val, by omega⟩ rfl
  unfold quot
  rw [mulf_apply, divf_apply, broadcast_apply, e0, e1]
  exact congrArg (fun o => _ * Ideal.div o _) Ideal.ofBits_one_f32
theorem attOf_apply (a b : FVec Ideal S1x256x4352 .f32) (ma mb : FVec Ideal S1x256x128 .f32) (V : Vec Ideal S4352x256 .bf16) (ρ : Fin 256) (l : Fin 128) :
    attOf k0_pay42 a ma b mb V (ix2 ρ l) = if l.val < 64 then quot a ma V (ix2 ρ l) else quot b mb V (ix2 ρ l) := by
  show select (broadcastTo S256x128 (shapeCast S1x128 k0_pay42 shapeCasts_S1x128_S1x128) broadcasts_S1x128_S256x128) (quot a ma V) (quot b mb V) (ix2 ρ l) = _
  rw [select_apply, maskRows_apply, mask_apply]
  split
  · exact select_one _ _
  · exact select_zero _ _

theorem quot_soft (s : FVec Ideal S1x256x4352 .f32) (m : FVec Ideal S1x256x128 .f32) (V : Vec Ideal S4352x256 .bf16) (ρ : Fin 256) (l : Fin 128)
    (d : Fin 4352 → ℝ) (hs : ∀ t, s (ix3 (0 : Fin 1) ρ t) = ((gain * d t : ℝ) : EReal))
    (hm : m (ix3 (0 : Fin 1) ρ (0 : Fin 128)) = (Finset.univ : Finset (Fin 4352)).fold max (⊥ : EReal) (fun t => ((gain * d t : ℝ) : EReal)))
    (hV : ∀ t, V (ix2 t ⟨128 + l.val, by omega⟩) = (1 : EReal)) :
    quot s m V (ix2 ρ l) = soft1 d fun t => V (ix2 t ⟨l.val, by omega⟩) := by
  rw [quot_apply, pv_apply, pv_apply]
  simp only [hs, hm, hV]
  exact soft (by norm_num) d _

/-- An element of a unit's output, for real queries and keys. -/
theorem att_apply (q : Fin 4 → Vec Ideal S64x128 .f32) (K : Vec Ideal S4352x128 .bf16) (V : Vec Ideal S4352x256 .bf16)
    (qr : Fin 4 → Fin 64 → Fin 128 → ℝ) (kr : Fin 4352 → Fin 128 → ℝ)
    (hq : ∀ p y l, q p (ix2 y l) = (qr p y l : EReal)) (hk : ∀ t l, K (ix2 t l) = (kr t l : EReal))
    (hV : ∀ t (l : Fin 128), V (ix2 t ⟨128 + l.val, by omega⟩) = (1 : EReal))
    (p : Fin 4) (y : Fin 64) (h : Fin 2) (l : Fin 128) (hl : l.val / 64 = h.val) (ρ : Fin 256) (hρ : ρ.val = 64 * p.val + y.val) :
    att k0_pay42 q K V (ix2 ρ l) = soft1 (dot h qr kr p y) fun t => V (ix2 t ⟨l.val, by omega⟩) := by
  unfold att
  rw [attOf_apply]
  match h, hl with
  | ⟨0, _⟩, hl =>
    rw [if_pos (show l.val < 64 from by have : l.val / 64 = 0 := hl; omega)]
    exact quot_soft _ _ V ρ l _ (fun t => sc0_apply q K qr kr hq hk p y t ρ hρ) (mx0_apply q K qr kr hq hk p y 0 ρ hρ) (fun t => hV t l)
  | ⟨1, _⟩, hl =>
    rw [if_neg (show ¬ l.val < 64 from by have : l.val / 64 = 1 := hl; omega)]
    exact quot_soft _ _ V ρ l _ (fun t => sc1_apply q K qr kr hq hk p y t ρ hρ) (mx1_apply q K qr kr hq hk p y 0 ρ hρ) (fun t => hV t l)

end Cert.KernelIdeal.Att

end
-- ==== Proof.Id.Blk.lean ====
/-
  The output block of a grid point at extended reals: every element is the attention of its query row over the block's
  keys and values, when the queries and keys are reals.
-/
module

public import proofs.«01_k».proof.Proof.Id.Elem
public import proofs.«01_k».proof.Proof.Id.Run
public import Idealize.ShloMosaic.Lib.Pipeline.Value

@[expose] public section

set_option maxRecDepth 16384

noncomputable section

namespace Cert.KernelIdeal.Att

open Cert.KernelIdeal Cert.KernelIdeal.Gen
open Idealize.ShloMosaic Idealize.ShloMosaic.ValueIdx
open Cert.Soft

/-- Row `t` of a block's tokens: 4096 latent ones, then 256 context ones. -/
def catb {α : Type} (A : S4096x128.Idx → α) (B : S256x128.Idx → α) (t : Fin 4352) (l : Fin 128) : α :=
  if h : t.val < 4096 then A (ix2 ⟨t.val, h⟩ l) else B (ix2 ⟨t.val - 4096, by omega⟩ l)

theorem catb_lat {α : Type} (A : S4096x128.Idx → α) (B : S256x128.Idx → α) (t : Fin 4352) (l : Fin 128) (x : S4096x128.Idx)
    (h0 : t.val = (x 0).val) (h1 : l.val = (x 1).val) : A x = catb A B t l := by
  have hx : (x 0).val < 4096 := (x 0).isLt
  unfold catb
  rw [dif_pos (by omega)]
  refine congrArg A (funext fun a => Fin.ext ?_)
  match a with
  | ⟨0, _⟩ => exact h0.symm
  | ⟨1, _⟩ => exact h1.symm

theorem catb_ctx {α : Type} (A : S4096x128.Idx → α) (B : S256x128.Idx → α) (t : Fin 4352) (l : Fin 128) (x : S256x128.Idx)
    (h0 : t.val = 4096 + (x 0).val) (h1 : l.val = (x 1).val) : B x = catb A B t l := by
  unfold catb
  rw [dif_neg (by omega)]
  refine congrArg B (funext fun a => Fin.ext ?_)
  match a with
  | ⟨0, _⟩ => show (x 0).val = t.val - 4096; omega
  | ⟨1, _⟩ => exact h1.symm

/-- The value scratch: the tokens' values, then ones. -/
def valsOf (A : Vec Ideal S4096x128 .bf16) (B : Vec Ideal S256x128 .bf16) (t : Fin 4352) (l : Fin 256) : EReal :=
  if h : l.val < 128 then catb A B t ⟨l.val, h⟩ else 1

theorem keys_apply (kl : Vec Ideal S4096x128 .bf16) (kc : Vec Ideal S256x128 .bf16) (t : Fin 4352) (l : Fin 128) :
    View.canon (keyPieces kl kc) (ix2 t l) = catb kl kc t l := by
  refine View.canon_apply_of_pieces (fun y => catb kl kc (y 0) (y 1)) (keyPieces kl kc) ?_ (ix2 t l) ?_
  · intro p hp
    unfold keyPieces at hp
    simp only [List.mem_cons, List.not_mem_nil, or_false] at hp
    rcases hp with rfl | rfl
    · intro x
      refine (congrFun (shapeCast_self (s := S256x128) kc _) x).trans (catb_ctx kl kc _ _ x ?_ ?_)
      · show 4096 + 1 * (x 0).val = _; omega
      · show 0 + 1 * (x 1).val = _; omega
    · intro x
      refine (congrFun (shapeCast_self (s := S4096x128) kl _) x).trans (catb_lat kl kc _ _ x ?_ ?_)
      · show 0 + 1 * (x 0).val = _; omega
      · show 0 + 1 * (x 1).val = _; omega
  · by_cases h : t.val < 4096
    · refine ⟨_, List.mem_cons_of_mem _ List.mem_cons_self, show _ ∈ (Rect.unit (s := S4352x128) ![0, 0] S4096x128.size inb_S4352x128_S4096x128_0_0).set from Rect.mem_set_unit.mpr fun a => ?_⟩
      match a with
      | ⟨0, _⟩ => show 0 ≤ t.val ∧ t.val < 0 + 4096; omega
      | ⟨1, _⟩ => show 0 ≤ l.val ∧ l.val < 0 + 128; omega
    · refine ⟨_, List.mem_cons_self, show _ ∈ (Rect.unit (s := S4352x128) ![4096, 0] S256x128.size inb_S4352x128_S256x128_4096_0).set from Rect.mem_set_unit.mpr fun a => ?_⟩
      match a with
      | ⟨0, _⟩ => show 4096 ≤ t.val ∧ t.val < 4096 + 256; omega
      | ⟨1, _⟩ => show 0 ≤ l.val ∧ l.val < 0 + 128; omega

/-- The block of ones, whichever its height. -/
theorem ones_apply {s : Shape} (h : s.ShapeCasts s) (x : s.Idx) :
    shapeCast s (broadcast s (Scalar.ofBits (F := Ideal) .bf16 0x3F80#16)) h x = (1 : EReal) := by
  rw [shapeCast_self, broadcast_apply]
  exact Ideal.ofBits_one_bf16

theorem valsOf_val (A : Vec Ideal S4096x128 .bf16) (B : Vec Ideal S256x128 .bf16) (t : Fin 4352) (l : Fin 256) (l' : Fin 128)
    (h : l.val = l'.val) : catb A B t l' = valsOf A B t l := by
  unfold valsOf
  rw [dif_pos (by omega)]
  exact congrArg _ (Fin.ext h.symm)
theorem valsOf_one (A : Vec Ideal S4096x128 .bf16) (B : Vec Ideal S256x128 .bf16) (t : Fin 4352) (l : Fin 256)
    (h : 128 ≤ l.val) : (1 : EReal) = valsOf A B t l := by
  unfold valsOf
  rw [dif_neg (by omega)]

theorem vals_apply (vl : Vec Ideal S4096x128 .bf16) (vc : Vec Ideal S256x128 .bf16) (t : Fin 4352) (l : Fin 256) :
    View.canon (valPieces vl vc) (ix2 t l) = valsOf vl vc t l := by
  refine View.canon_apply_of_pieces (fun y => valsOf vl vc (y 0) (y 1)) (valPieces vl vc) ?_ (ix2 t l) ?_
  · intro p hp
    unfold valPieces at hp
    simp only [List.mem_cons, List.not_mem_nil, or_false] at hp
    rcases hp with rfl | rfl | rfl | rfl
    · intro x
      refine (ones_apply (s := S256x128) shapeCasts_S256x128_S256x128 x).trans (valsOf_one vl vc _ _ ?_)
      show 128 ≤ 128 + 1 * (x 1).val; omega
    · intro x
      refine (congrFun (shapeCast_self (s := S256x128) vc _) x).trans
        ((catb_ctx vl vc _ (x 1) x ?_ rfl).trans (valsOf_val vl vc _ _ (x 1) ?_))
      · show 4096 + 1 * (x 0).val = _; omega
      · show 0 + 1 * (x 1).val = _; omega
    · intro x
      refine (ones_apply (s := S4096x128) shapeCasts_S4096x128_S4096x128 x).trans (valsOf_one vl vc _ _ ?_)
      show 128 ≤ 128 + 1 * (x 1).val; omega
    · intro x
      refine (congrFun (shapeCast_self (s := S4096x128) vl _) x).trans
        ((catb_lat vl vc _ (x 1) x ?_ rfl).trans (valsOf_val vl vc _ _ (x 1) ?_))
      · show 0 + 1 * (x 0).val = _; omega
      · show 0 + 1 * (x 1).val = _; omega
  · unfold valPieces
    by_cases h : t.val < 4096 <;> by_cases h' : l.val < 128
    · refine ⟨_, List.mem_cons_of_mem _ (List.mem_cons_of_mem _ (List.mem_cons_of_mem _ List.mem_cons_self)), show _ ∈ (Rect.unit (s := S4352x256) ![0, 0] S4096x128.size inb_S4352x256_S4096x128_0_0).set from Rect.mem_set_unit.mpr fun a => ?_⟩
      match a with
      | ⟨0, _⟩ => show 0 ≤ t.val ∧ t.val < 0 + 4096; omega
      | ⟨1, _⟩ => show 0 ≤ l.val ∧ l.val < 0 + 128; omega
    · refine ⟨_, List.mem_cons_of_mem _ (List.mem_cons_of_mem _ List.mem_cons_self), show _ ∈ (Rect.unit (s := S4352x256) ![0, 128] S4096x128.size inb_S4352x256_S4096x128_0_128).set from Rect.mem_set_unit.mpr fun a => ?_⟩
      match a with
      | ⟨0, _⟩ => show 0 ≤ t.val ∧ t.val < 0 + 4096; omega
      | ⟨1, _⟩ => show 128 ≤ l.val ∧ l.val < 128 + 128; omega
    · refine ⟨_, List.mem_cons_of_mem _ List.mem_cons_self, show _ ∈ (Rect.unit (s := S4352x256) ![4096, 0] S256x128.size inb_S4352x256_S256x128_4096_0).set from Rect.mem_set_unit.mpr fun a => ?_⟩
      match a with
      | ⟨0, _⟩ => show 4096 ≤ t.val ∧ t.val < 4096 + 256; omega
      | ⟨1, _⟩ => show 0 ≤ l.val ∧ l.val < 0 + 128; omega
    · refine ⟨_, List.mem_cons_self, show _ ∈ (Rect.unit (s := S4352x256) ![4096, 128] S256x128.size inb_S4352x256_S256x128_4096_128).set from Rect.mem_set_unit.mpr fun a => ?_⟩
      match a with
      | ⟨0, _⟩ => show 4096 ≤ t.val ∧ t.val < 4096 + 256; omega
      | ⟨1, _⟩ => show 128 ≤ l.val ∧ l.val < 128 + 128; omega

/-- Where unit `u`'s row `ρ` and lane land: the element of the output block at `y`. -/
def atUnit (o : ℕ → FVec Ideal S256x128 .bf16) (y : S4096x512.Idx) : EReal :=
  o ((y 0).val / 64) (ix2 (⟨64 * ((y 1).val / 128) + (y 0).val % 64, by have : (y 1).val < 512 := (y 1).isLt; omega⟩ : Fin 256)
    (⟨(y 1).val % 128, by omega⟩ : Fin 128))

/-- A unit's piece is its rows of the output. -/
theorem row_atUnit (o : ℕ → FVec Ideal S256x128 .bf16) (u : ℕ) (hu : u < 64) (h : Fin 4) (off : ℕ) (ho : off = 64 * h.val)
    (hs : S256x128.Slices ![off, 0] S64x128) (x : S64x128.Idx) :
    extractStridedSlice S64x128 ![off, 0] (o u) hs x = atUnit o ((rowsR u h).emb x) := by
  have hx0 : (x 0).val < 64 := (x 0).isLt
  have hx1 : (x 1).val < 128 := (x 1).isLt
  have e0 : ((rowsR u h).emb x 0).val = 64 * (u % 64) + 1 * (x 0).val := rfl
  have e1 : ((rowsR u h).emb x 1).val = 128 * h.val + 1 * (x 1).val := rfl
  unfold atUnit
  have eu : ((rowsR u h).emb x 0).val / 64 = u := by rw [e0]; omega
  rw [eu]
  refine congrArg (o u) (funext fun a => Fin.ext ?_)
  match a with
  | ⟨0, _⟩ =>
    show off + (x 0).val = 64 * (((rowsR u h).emb x 1).val / 128) + ((rowsR u h).emb x 0).val % 64
    rw [e0, e1, ho]; omega
  | ⟨1, _⟩ =>
    show 0 + (x 1).val = ((rowsR u h).emb x 1).val % 128
    rw [e1]; omega

theorem pieces_atUnit (o : ℕ → FVec Ideal S256x128 .bf16) : ∀ k, k ≤ 64 → ∀ p ∈ piecesTo o k, ∀ x : p.1.shape.Idx, p.2 x = atUnit o (p.1.emb x)
  | 0, _, _, hp => absurd hp List.not_mem_nil
  | k + 1, hk, p, hp => by
    unfold piecesTo at hp
    rcases List.mem_append.mp hp with h | h
    · unfold rowPieces at h
      simp only [List.mem_cons, List.not_mem_nil, or_false] at h
      rcases h with rfl | rfl | rfl | rfl
      · exact row_atUnit o k hk 3 192 rfl slices_S256x128_o192_0_S64x128
      · exact row_atUnit o k hk 2 128 rfl slices_S256x128_o128_0_S64x128
      · exact row_atUnit o k hk 1 64 rfl slices_S256x128_o64_0_S64x128
      · exact row_atUnit o k hk 0 0 rfl slices_S256x128_o0_0_S64x128
    · exact pieces_atUnit o k (by omega) p h

/-- An element of the output block. -/
theorem outBlk_apply (x1 : Vec Ideal S4096x512 .f32) (x2 x3 : Vec Ideal S4096x128 .bf16) (x4 x5 : Vec Ideal S256x128 .bf16)
    (qr : Fin 4096 → Fin 512 → ℝ) (kr : Fin 4352 → Fin 128 → ℝ)
    (hq : ∀ s C, x1 (ix2 s C) = (qr s C : EReal)) (hk : ∀ t l, catb x2 x4 t l = (kr t l : EReal))
    (s : Fin 4096) (C : Fin 512) (h : Fin 2) (p : Fin 4) (d : Fin 64) (hC : C.val = 128 * p.val + (64 * h.val + d.val)) :
    outBlk x1 x2 x3 x4 x5 (ix2 s C) = soft1 (dotAt (qr s) kr p h) fun t => catb x3 x5 t ⟨64 * h.val + d.val, by omega⟩ := by
  unfold outBlk
  rw [View.canon_apply_of_pieces (atUnit (outOf x1 x2 x3 x4 x5)) _ (pieces_atUnit _ 64 le_rfl) _ (cover_piecesTo _ _)]
  have e2 : (fun j => x2 (latR.toLoadRect.idx j)) = x2 := funext fun j => congrArg x2 (funext fun a => Fin.ext (by
    match a with
    | ⟨0, _⟩ => show 0 + 1 * (j 0).val = (j 0).val; omega
    | ⟨1, _⟩ => show 0 + 1 * (j 1).val = (j 1).val; omega))
  have e3 : (fun j => x3 (latR.toLoadRect.idx j)) = x3 := funext fun j => congrArg x3 (funext fun a => Fin.ext (by
    match a with
    | ⟨0, _⟩ => show 0 + 1 * (j 0).val = (j 0).val; omega
    | ⟨1, _⟩ => show 0 + 1 * (j 1).val = (j 1).val; omega))
  have e4 : (fun j => x4 (ctxR.toLoadRect.idx j)) = x4 := funext fun j => congrArg x4 (funext fun a => Fin.ext (by
    match a with
    | ⟨0, _⟩ => show 0 + 1 * (j 0).val = (j 0).val; omega
    | ⟨1, _⟩ => show 0 + 1 * (j 1).val = (j 1).val; omega))
  have e5 : (fun j => x5 (ctxR.toLoadRect.idx j)) = x5 := funext fun j => congrArg x5 (funext fun a => Fin.ext (by
    match a with
    | ⟨0, _⟩ => show 0 + 1 * (j 0).val = (j 0).val; omega
    | ⟨1, _⟩ => show 0 + 1 * (j 1).val = (j 1).val; omega))
  have hkeys : ∀ t l, (fun j => View.canon (keyPieces x2 x4) (keysR.toLoadRect.idx j)) (ix2 t l) = (kr t l : EReal) := fun t l => by
    refine (congrArg (View.canon (keyPieces x2 x4)) (?_ : keysR.toLoadRect.idx (ix2 t l) = ix2 t l)).trans ((keys_apply x2 x4 t l).trans (hk t l))
    funext a; apply Fin.ext
    match a with
    | ⟨0, _⟩ => show 0 + 1 * t.val = t.val; omega
    | ⟨1, _⟩ => show 0 + 1 * l.val = l.val; omega
  have hvals : ∀ (t : Fin 4352) (l : Fin 256), (fun j => View.canon (valPieces x3 x5) (valsR.toLoadRect.idx j)) (ix2 t l) = valsOf x3 x5 t l := fun t l => by
    refine (congrArg (View.canon (valPieces x3 x5)) (?_ : valsR.toLoadRect.idx (ix2 t l) = ix2 t l)).trans (vals_apply x3 x5 t l)
    funext a; apply Fin.ext
    match a with
    | ⟨0, _⟩ => show 0 + 1 * t.val = t.val; omega
    | ⟨1, _⟩ => show 0 + 1 * l.val = l.val; omega
  have eo : outOf x1 x2 x3 x4 x5 = fun u => att k0_pay42 (fun h => fun j => x1 ((rowsR u h).toLoadRect.idx j))
      (fun j => View.canon (keyPieces x2 x4) (keysR.toLoadRect.idx j)) (fun j => View.canon (valPieces x3 x5) (valsR.toLoadRect.idx j)) := by
    funext u
    exact congrArg₂ (att k0_pay42 _)
      (congrArg₂ (fun (a : Vec Ideal S4096x128 .bf16) (b : Vec Ideal S256x128 .bf16) => fun j => View.canon (keyPieces a b) (keysR.toLoadRect.idx j)) e2 e4)
      (congrArg₂ (fun (a : Vec Ideal S4096x128 .bf16) (b : Vec Ideal S256x128 .bf16) => fun j => View.canon (valPieces a b) (valsR.toLoadRect.idx j)) e3 e5)
  rw [eo]
  unfold atUnit
  have hs : s.val < 4096 := s.isLt
  set u := ((ix2 s C : S4096x512.Idx) 0).val / 64 with hu
  have hu' : u = s.val / 64 := hu
  have hl : C.val % 128 = 64 * h.val + d.val := by omega
  refine (att_apply _ _ _ (fun p y l => qr ⟨64 * u + y.val, by omega⟩ ⟨128 * p.val + l.val, by omega⟩) kr ?_ hkeys ?_ p
    ⟨s.val % 64, by omega⟩ h _ (show C.val % 128 / 64 = h.val by omega) _ (show 64 * (C.val / 128) + s.val % 64 = 64 * p.val + s.val % 64 by omega)).trans ?_
  · intro p y l
    refine (congrArg x1 (?_ : _ = ix2 (⟨64 * u + y.val, by omega⟩ : Fin 4096) (⟨128 * p.val + l.val, by omega⟩ : Fin 512))).trans (hq _ _)
    funext a; apply Fin.ext
    match a with
    | ⟨0, _⟩ => show 64 * (u % 64) + 1 * y.val = 64 * u + y.val; omega
    | ⟨1, _⟩ => show 128 * p.val + 1 * l.val = 128 * p.val + l.val; omega
  · intro t l
    exact (hvals t _).trans (valsOf_one x3 x5 t _ (Nat.le_add_right _ _)).symm
  · have e : (fun t => (fun j => View.canon (valPieces x3 x5) (valsR.toLoadRect.idx j)) (ix2 t (⟨C.val % 128, by omega⟩ : Fin 256)))
        = fun t => catb x3 x5 t ⟨64 * h.val + d.val, by omega⟩ :=
      funext fun t => (hvals t _).trans (valsOf_val x3 x5 t _ _ hl).symm
    refine (congrArg (soft1 _) e).trans (congrArg (fun D => soft1 D _) (funext fun t => ?_))
    unfold dot dotAt
    refine Finset.sum_congr rfl fun j _ => ?_
    have es : (⟨64 * u + s.val % 64, by omega⟩ : Fin 4096) = s := Fin.ext (show 64 * u + s.val % 64 = s.val by omega)
    show qr ⟨64 * u + s.val % 64, _⟩ _ * _ = _
    rw [es]

end Cert.KernelIdeal.Att

end
-- ==== Proof.Id.RefVal.lean ====
/-
  One element of the reference's result, for real queries and keys.
-/
module

public import proofs.«01_k».proof.Proof.Gen.ReferenceIdeal.Read
public import proofs.«01_k».proof.Proof.Id.Soft
public import Idealize.ShloMosaic.Lib.IdealHost
public import Idealize.ShloMosaic.Lib.KernelVsHost

@[expose] public section

set_option maxRecDepth 16384

noncomputable section

namespace Cert.ReferenceIdeal.Att

open Cert.ReferenceIdeal Cert.ReferenceIdeal.Gen Cert.ReferenceIdeal.Read
open Idealize.ShloMosaic Idealize.ShloMosaic.ValueIdx
open Cert.Soft

theorem ofBits_eighth : Ideal.ofBits .f32 0x3E000000#32 = ((8⁻¹ : ℝ) : EReal) := by
  simp [Ideal.ofBits, Ideal.ieee, -EReal.coe_mul]; norm_num
theorem ofBits_ninf : Ideal.ofBits .f32 0xFF800000#32 = ⊥ := by
  simp [Ideal.ofBits, Ideal.ieee]

variable (x0 : FVec Ideal S65536x512 .f32) (x1 x2 : FVec Ideal S65536x128 .bf16) (x3 x4 : FVec Ideal S4096x128 .bf16)

/-- The joined keys, and (at the values) the joined values. -/
theorem cat_apply (b : Fin 16) (t : Fin 4352) (h : Fin 2) (j : Fin 64) :
    val_main_v3 (F := Ideal) x1 x3 (ix4 b t h j) = cat x1 x3 b t ⟨64 * h.val + j.val, by omega⟩ := by
  unfold val_main_v3 cat
  by_cases ht : t.val < 4096
  · rw [dif_pos ht]
    refine (concatenate_pair_apply_left (t := S16x4352x2x64) (s₁ := S16x4096x2x64) (s₂ := S16x256x2x64) 1 _ _ _ (ix4 b t h j) rfl (ix4 b ⟨t.val, ht⟩ h j)
      (fun a => by match a with | ⟨0, _⟩ => rfl | ⟨1, _⟩ => rfl | ⟨2, _⟩ => rfl | ⟨3, _⟩ => rfl)).trans ?_
    rw [val_main_v1_apply]
    refine congrArg x1 (funext fun a => Fin.ext ?_)
    match a with
    | ⟨0, _⟩ => show (((b.val * 4096 + t.val) * 2 + h.val) * 64 + j.val) / 128 = 4096 * b.val + t.val; omega
    | ⟨1, _⟩ => show (((b.val * 4096 + t.val) * 2 + h.val) * 64 + j.val) % 128 = 64 * h.val + j.val; omega
  · rw [dif_neg ht]
    refine (concatenate_pair_apply_right (t := S16x4352x2x64) (s₁ := S16x4096x2x64) (s₂ := S16x256x2x64) 1 _ _ _ (ix4 b t h j) rfl rfl
      (ix4 b ⟨t.val - 4096, by omega⟩ h j) (fun a ha => by match a, ha with | ⟨0, _⟩, _ => rfl | ⟨1, _⟩, ha => exact absurd rfl ha | ⟨2, _⟩, _ => rfl | ⟨3, _⟩, _ => rfl)
      (show t.val - 4096 + 4096 = t.val by omega)).trans ?_
    rw [val_main_v2_apply]
    refine congrArg x3 (funext fun a => Fin.ext ?_)
    match a with
    | ⟨0, _⟩ => show (((b.val * 256 + (t.val - 4096)) * 2 + h.val) * 64 + j.val) / 128 = 256 * b.val + (t.val - 4096); omega
    | ⟨1, _⟩ => show (((b.val * 256 + (t.val - 4096)) * 2 + h.val) * 64 + j.val) % 128 = 64 * h.val + j.val; omega

theorem hostMax (y : FVec Ideal S16x2x4x4096x4352 .f32) (b : Fin 16) (h : Fin 2) (p : Fin 4) (s : Fin 4096) :
    Host.reduce FloatOps.maximumf y (constant S_ .f32 0xFF800000#32) reducesTo_S16x2x4x4096x4352_S16x2x4x4096_d4 h_S_ (ix4 b h p s)
      = (Finset.univ : Finset (Fin 4352)).fold max (⊥ : EReal) (fun t => y (ix5 b h p s t)) := by
  have hr : S16x2x4x4096x4352.Reduces [4] S16x2x4x4096 := by decide
  have e := hostReduce_maximumf_eq_multiReduction (u := S_) y 0xFF800000#32 reducesTo_S16x2x4x4096x4352_S16x2x4x4096_d4 h_S_ hr (.inl rfl) rfl
  rw [e]
  refine (Ideal.multiReduction_maximumf_single _ _ _ _ _ _).trans ?_
  rw [show FloatOps.ofBits (F := Ideal) .f32 0xFF800000#32 = (⊥ : EReal) from ofBits_ninf]
  refine congrArg (fun f => (Finset.univ : Finset (Fin 4352)).fold max (⊥ : EReal) f) (funext fun t => congrArg y ?_)
  funext a; match a with | ⟨0, _⟩ => rfl | ⟨1, _⟩ => rfl | ⟨2, _⟩ => rfl | ⟨3, _⟩ => rfl | ⟨4, _⟩ => rfl

/-- A query row of the sample. -/
theorem row_lt (b : Fin 16) (s : Fin 4096) : 4096 * b.val + s.val < 65536 := by omega

section Real
variable (b : Fin 16) (s : Fin 4096) (qr : Fin 512 → ℝ) (kr : Fin 4352 → Fin 128 → ℝ)
  (hq : ∀ C : Fin 512, x0 (ix2 ⟨4096 * b.val + s.val, row_lt b s⟩ C) = (qr C : EReal)) (hk : ∀ t l, cat x1 x3 b t l = (kr t l : EReal))
include hq hk

/-- The scaled scores. -/
theorem score_apply (h : Fin 2) (p : Fin 4) (t : Fin 4352) :
    val_main_v12 (F := Ideal) x0 x1 x3 (ix5 b h p s t) = ((8⁻¹ * dotAt qr kr p h t : ℝ) : EReal) := by
  rw [val_main_v12_apply, val_main_v10_apply, val_main_v9_apply, val_main_v11_apply, val_main_cst_apply]
  rw [Finset.sum_congr rfl (g := fun j : Fin 64 => (((qr ⟨128 * p.val + (64 * h.val + j.val), by omega⟩ * kr t ⟨64 * h.val + j.val, by omega⟩ : ℝ)) : EReal)) (fun j _ => ?_),
    ← coe_sum]
  · refine (congrArg (fun z : EReal => ((dotAt qr kr p h t : ℝ) : EReal) * z) ofBits_eighth).trans ?_
    rw [← EReal.coe_mul, mul_comm]
  · rw [val_main_v4_apply, val_main_v0_apply]
    have e1 : val_main_v3 (F := Ideal) x1 x3 (lidx_main_v9 (idx_main_v10 (ix5 b h p s t)) j) = (kr t ⟨64 * h.val + j.val, by omega⟩ : EReal) := by
      refine (congrArg (val_main_v3 (F := Ideal) x1 x3) (funext fun a => ?_)).trans ((cat_apply x1 x3 b t h j).trans (hk _ _))
      match a with | ⟨0, _⟩ => rfl | ⟨1, _⟩ => rfl | ⟨2, _⟩ => rfl | ⟨3, _⟩ => rfl
    have e2 : x0 (idx_main_v0 (ridx_main_v9 (idx_main_v10 (ix5 b h p s t)) j)) = (qr ⟨128 * p.val + (64 * h.val + j.val), by omega⟩ : EReal) := by
      refine (congrArg x0 (funext fun a => Fin.ext ?_)).trans (hq _)
      match a with
      | ⟨0, _⟩ => show ((((b.val * 4096 + s.val) * 4 + p.val) * 2 + h.val) * 64 + j.val) / 512 = 4096 * b.val + s.val; omega
      | ⟨1, _⟩ => show ((((b.val * 4096 + s.val) * 4 + p.val) * 2 + h.val) * 64 + j.val) % 512 = 128 * p.val + (64 * h.val + j.val); omega
    rw [e2]
    refine (congrArg (fun z : EReal => z * _) e1).trans ?_
    rw [← EReal.coe_mul, mul_comm]

/-- The row maximum. -/
theorem max_apply (h : Fin 2) (p : Fin 4) :
    val_main_v13 (F := Ideal) x0 x1 x3 (ix4 b h p s) = (Finset.univ : Finset (Fin 4352)).fold max (⊥ : EReal) (fun t => ((8⁻¹ * dotAt qr kr p h t : ℝ) : EReal)) := by
  have e := fun t => score_apply x0 x1 x3 b s qr kr hq hk h p t
  unfold val_main_v13 val_main_cst_0
  generalize val_main_v12 (F := Ideal) x0 x1 x3 = y at e ⊢
  exact (hostMax y b h p s).trans (congrArg (fun f => (Finset.univ : Finset (Fin 4352)).fold max (⊥ : EReal) f) (funext e))

/-- The weights before the division. -/
theorem exp_apply (h : Fin 2) (p : Fin 4) (t : Fin 4352) :
    val_main_v19 (F := Ideal) x0 x1 x3 (ix5 b h p s t)
      = Ideal.exp (((8⁻¹ * dotAt qr kr p h t : ℝ) : EReal) - max ⊥ ((Finset.univ : Finset (Fin 4352)).fold max (⊥ : EReal) (fun t => ((8⁻¹ * dotAt qr kr p h t : ℝ) : EReal)))) := by
  rw [val_main_v19_apply, val_main_v18_apply, score_apply x0 x1 x3 b s qr kr hq hk, val_main_v17_apply, val_main_v16_apply, val_main_v15_apply, val_main_v14_apply, val_main_cst_1_apply]
  have e : idx_main_v16 (idx_main_v17 (ix5 b h p s t)) = ix4 b h p s := by
    funext a; match a with | ⟨0, _⟩ => rfl | ⟨1, _⟩ => rfl | ⟨2, _⟩ => rfl | ⟨3, _⟩ => rfl
  rw [e, max_apply x0 x1 x3 b s qr kr hq hk, show FloatOps.ofBits (F := Ideal) .f32 0xFF800000#32 = (⊥ : EReal) from ofBits_ninf]
  generalize Finset.fold max (⊥ : EReal) _ _ = w
  generalize ((8⁻¹ * dotAt qr kr p h t : ℝ) : EReal) = z
  rfl

theorem sum_apply (h : Fin 2) (p : Fin 4) :
    val_main_v20 (F := Ideal) x0 x1 x3 (ix4 b h p s)
      = 0 + ∑ t, Ideal.exp (((8⁻¹ * dotAt qr kr p h t : ℝ) : EReal) - max ⊥ ((Finset.univ : Finset (Fin 4352)).fold max (⊥ : EReal) (fun t => ((8⁻¹ * dotAt qr kr p h t : ℝ) : EReal)))) := by
  rw [val_main_v20_apply, val_main_cst_2_apply]
  refine congrArg₂ (· + ·) Ideal.ofBits_zero_f32 (Finset.sum_congr rfl fun t _ => ?_)
  refine (congrArg (val_main_v19 (F := Ideal) x0 x1 x3) (funext fun a => ?_)).trans (exp_apply x0 x1 x3 b s qr kr hq hk h p t)
  match a with | ⟨0, _⟩ => rfl | ⟨1, _⟩ => rfl | ⟨2, _⟩ => rfl | ⟨3, _⟩ => rfl | ⟨4, _⟩ => rfl

/-- An element of the result. -/
theorem res_apply (h : Fin 2) (p : Fin 4) (d : Fin 64) (R : Fin 65536) (C : Fin 512) (hR : R.val = 4096 * b.val + s.val)
    (hC : C.val = 128 * p.val + (64 * h.val + d.val)) :
    val_main_v27 (F := Ideal) x0 x1 x2 x3 x4 (ix2 R C) = soft1 (dotAt qr kr p h) fun t => cat x2 x4 b t ⟨64 * h.val + d.val, by omega⟩ := by
  rw [val_main_v27_apply]
  show val_main_v26 (F := Ideal) x0 x1 x2 x3 x4 (ix2 R C) = _
  rw [val_main_v26_apply, val_main_v25_apply, val_main_v24_apply]
  unfold soft1
  have eidx : idx_main_v25 (idx_main_v26 (ix2 R C)) = ix5 b h d p s := by
    funext a; apply Fin.ext
    match a with
    | ⟨0, _⟩ => show (R.val * 512 + C.val) / 2097152 = b.val; omega
    | ⟨1, _⟩ => show (R.val * 512 + C.val) / 64 % 2 = h.val; omega
    | ⟨2, _⟩ => show (R.val * 512 + C.val) % 64 = d.val; omega
    | ⟨3, _⟩ => show (R.val * 512 + C.val) / 128 % 4 = p.val; omega
    | ⟨4, _⟩ => show (R.val * 512 + C.val) / 512 % 4096 = s.val; omega
  rw [eidx]
  refine Finset.sum_congr rfl fun t _ => congrArg₂ (· * ·) ?_ ?_
  · rw [val_main_v8_apply]
    refine (congrArg (val_main_v3 (F := Ideal) x2 x4) (funext fun a => ?_)).trans (cat_apply x2 x4 b t h d)
    match a with | ⟨0, _⟩ => rfl | ⟨1, _⟩ => rfl | ⟨2, _⟩ => rfl | ⟨3, _⟩ => rfl
  · have e : ridx_main_v24 (ix5 b h d p s) t = ix5 b h p s t := by
      funext a; match a with | ⟨0, _⟩ => rfl | ⟨1, _⟩ => rfl | ⟨2, _⟩ => rfl | ⟨3, _⟩ => rfl | ⟨4, _⟩ => rfl
    have e' : idx_main_v21 (idx_main_v22 (ix5 b h p s t)) = ix4 b h p s := by
      funext a; match a with | ⟨0, _⟩ => rfl | ⟨1, _⟩ => rfl | ⟨2, _⟩ => rfl | ⟨3, _⟩ => rfl
    rw [e, val_main_v23_apply, exp_apply x0 x1 x3 b s qr kr hq hk, val_main_v22_apply, val_main_v21_apply, e', sum_apply x0 x1 x3 b s qr kr hq hk]
    rfl
end Real

end Cert.ReferenceIdeal.Att

end
-- ==== Proof.Id.Arr.lean ====
/-
  The result array of the attention kernel at extended reals, for finite queries and keys: the reference's result of the
  same arguments, block by block.
-/
module

public import proofs.«01_k».proof.Proof.Id.Blk
public import proofs.«01_k».proof.Proof.Id.RefVal

@[expose] public section

set_option maxRecDepth 16384

noncomputable section

namespace Cert.KernelIdeal.Att

open Cert.KernelIdeal Cert.KernelIdeal.Gen
open Idealize.ShloMosaic Idealize.ShloMosaic.ValueIdx Idealize.ShloMosaic.TcCoe
open Cert.Soft

variable (m : (ℓ : Loc nD τ sig) → Buf (Elt Ideal) ℓ)

/-- Point `t` takes sample `t`: every window's block index is `t` on the rows. -/
theorem idx_0 : ∀ t : Fin cfg0.N, win0_0.index t (0 : Fin 2) = t.val ∧ win0_0.index t (1 : Fin 2) = 0 := (by decide +kernel : ∀ t : Fin grid0.N, _)
theorem idx_1 : ∀ t : Fin cfg0.N, win0_1.index t (0 : Fin 2) = t.val ∧ win0_1.index t (1 : Fin 2) = 0 := (by decide +kernel : ∀ t : Fin grid0.N, _)
theorem idx_2 : ∀ t : Fin cfg0.N, win0_2.index t (0 : Fin 2) = t.val ∧ win0_2.index t (1 : Fin 2) = 0 := (by decide +kernel : ∀ t : Fin grid0.N, _)
theorem idx_3 : ∀ t : Fin cfg0.N, win0_3.index t (0 : Fin 2) = t.val ∧ win0_3.index t (1 : Fin 2) = 0 := (by decide +kernel : ∀ t : Fin grid0.N, _)
theorem idx_4 : ∀ t : Fin cfg0.N, win0_4.index t (0 : Fin 2) = t.val ∧ win0_4.index t (1 : Fin 2) = 0 := (by decide +kernel : ∀ t : Fin grid0.N, _)
theorem idx_5 : ∀ t : Fin cfg0.N, win0_5.index t (0 : Fin 2) = t.val ∧ win0_5.index t (1 : Fin 2) = 0 := (by decide +kernel : ∀ t : Fin grid0.N, _)

theorem lt_16 (t : Fin cfg0.N) : t.val < 16 := lt_of_lt_of_eq t.isLt N_0

/-- The sample point `t` takes. -/
abbrev smp (t : Fin cfg0.N) : Fin 16 := ⟨t.val, lt_16 t⟩

/-- The launched arguments. -/
abbrev arg0 (c : Dev nD) : Vec Ideal S65536x512 .f32 := m ((c : Thread nD τ).loc main_arg0)
abbrev arg1 (c : Dev nD) : Vec Ideal S65536x128 .bf16 := m ((c : Thread nD τ).loc main_arg1)
abbrev arg2 (c : Dev nD) : Vec Ideal S65536x128 .bf16 := m ((c : Thread nD τ).loc main_arg2)
abbrev arg3 (c : Dev nD) : Vec Ideal S4096x128 .bf16 := m ((c : Thread nD τ).loc main_arg3)
abbrev arg4 (c : Dev nD) : Vec Ideal S4096x128 .bf16 := m ((c : Thread nD τ).loc main_arg4)

theorem blk0_apply (c : Dev nD) (t : Fin cfg0.N) (s : Fin 4096) (C : Fin 512) (h : 4096 * (smp t).val + s.val < 65536) :
    (iblk m c 0 t : Vec Ideal S4096x512 .f32) (ix2 s C) = arg0 m c (ix2 ⟨4096 * (smp t).val + s.val, h⟩ C) := by
  obtain ⟨e0, e1⟩ := idx_0 t
  show arg0 m c (((cfg0.win 0).blk t).view.emb (ix2 s C)) = _
  refine congrArg (arg0 m c) (funext fun a => Fin.ext ?_)
  match a with
  | ⟨0, _⟩ => show win0_0.index t (0 : Fin 2) * 4096 + 1 * s.val = 4096 * t.val + s.val; omega
  | ⟨1, _⟩ => show win0_0.index t (1 : Fin 2) * 512 + 1 * C.val = C.val; omega

/-- A sample's latent rows next to its context rows, out of the arrays or out of the point's blocks. -/
theorem catb_eq (A : Vec Ideal S65536x128 .bf16) (B : Vec Ideal S4096x128 .bf16) (A' : Vec Ideal S4096x128 .bf16) (B' : Vec Ideal S256x128 .bf16)
    (b : Fin 16) (hA : ∀ (s : Fin 4096) (l : Fin 128), A' (ix2 s l) = A (ix2 ⟨4096 * b.val + s.val, by omega⟩ l))
    (hB : ∀ (s : Fin 256) (l : Fin 128), B' (ix2 s l) = B (ix2 ⟨256 * b.val + s.val, by omega⟩ l)) (t : Fin 4352) (l : Fin 128) :
    catb A' B' t l = cat A B b t l := by
  unfold catb cat
  split
  · exact hA _ _
  · exact hB _ _

theorem keys_cat (c : Dev nD) (t : Fin cfg0.N) : ∀ (r : Fin 4352) (l : Fin 128), catb (iblk m c 1 t : Vec Ideal S4096x128 .bf16) (iblk m c 3 t : Vec Ideal S256x128 .bf16) r l = cat (arg1 m c) (arg3 m c) (smp t) r l := by
  obtain ⟨e0, e1⟩ := idx_1 t
  obtain ⟨f0, f1⟩ := idx_3 t
  refine catb_eq _ _ _ _ (smp t) (fun s l => ?_) (fun s l => ?_)
  · show arg1 m c (((cfg0.win 1).blk t).view.emb (ix2 s l)) = _
    refine congrArg (arg1 m c) (funext fun a => Fin.ext ?_)
    match a with
    | ⟨0, _⟩ => show win0_1.index t (0 : Fin 2) * 4096 + 1 * s.val = 4096 * t.val + s.val; omega
    | ⟨1, _⟩ => show win0_1.index t (1 : Fin 2) * 128 + 1 * l.val = l.val; omega
  · show arg3 m c (((cfg0.win 3).blk t).view.emb (ix2 s l)) = _
    refine congrArg (arg3 m c) (funext fun a => Fin.ext ?_)
    match a with
    | ⟨0, _⟩ => show win0_3.index t (0 : Fin 2) * 256 + 1 * s.val = 256 * t.val + s.val; omega
    | ⟨1, _⟩ => show win0_3.index t (1 : Fin 2) * 128 + 1 * l.val = l.val; omega

theorem vals_cat (c : Dev nD) (t : Fin cfg0.N) : ∀ (r : Fin 4352) (l : Fin 128), catb (iblk m c 2 t : Vec Ideal S4096x128 .bf16) (iblk m c 4 t : Vec Ideal S256x128 .bf16) r l = cat (arg2 m c) (arg4 m c) (smp t) r l := by
  obtain ⟨e0, e1⟩ := idx_2 t
  obtain ⟨f0, f1⟩ := idx_4 t
  refine catb_eq _ _ _ _ (smp t) (fun s l => ?_) (fun s l => ?_)
  · show arg2 m c (((cfg0.win 2).blk t).view.emb (ix2 s l)) = _
    refine congrArg (arg2 m c) (funext fun a => Fin.ext ?_)
    match a with
    | ⟨0, _⟩ => show win0_2.index t (0 : Fin 2) * 4096 + 1 * s.val = 4096 * t.val + s.val; omega
    | ⟨1, _⟩ => show win0_2.index t (1 : Fin 2) * 128 + 1 * l.val = l.val; omega
  · show arg4 m c (((cfg0.win 4).blk t).view.emb (ix2 s l)) = _
    refine congrArg (arg4 m c) (funext fun a => Fin.ext ?_)
    match a with
    | ⟨0, _⟩ => show win0_4.index t (0 : Fin 2) * 256 + 1 * s.val = 256 * t.val + s.val; omega
    | ⟨1, _⟩ => show win0_4.index t (1 : Fin 2) * 128 + 1 * l.val = l.val; omega

/-- Every element a real. -/
abbrev Real' {s : Shape} (x : s.Idx → EReal) : Prop := ∀ i, ∃ r : ℝ, x i = (r : EReal)

/-- What the result array is shown to hold. -/
abbrev res (c : Dev nD) : Vec Ideal S65536x512 .bf16 :=
  Cert.ReferenceIdeal.Read.val_main_v27 (F := Ideal) (arg0 m c) (arg1 m c) (arg2 m c) (arg3 m c) (arg4 m c)

theorem emb_5 (t : Fin cfg0.N) (s : Fin 4096) (C : Fin 512) (h : 4096 * t.val + s.val < 65536) :
    ((cfg0.win 5).blk t).view.emb (ix2 s C) = ix2 (⟨4096 * t.val + s.val, h⟩ : Fin 65536) C := by
  obtain ⟨e0, e1⟩ := idx_5 t
  funext a; apply Fin.ext
  match a with
  | ⟨0, _⟩ => show win0_5.index t (0 : Fin 2) * 4096 + 1 * s.val = 4096 * t.val + s.val; omega
  | ⟨1, _⟩ => show win0_5.index t (1 : Fin 2) * 512 + 1 * C.val = C.val; omega

/-- What point `t` leaves is its rows of the reference's result. -/
theorem outsAt_apply (c : Dev nD) (hq : Real' (arg0 m c)) (hl : Real' (arg1 m c)) (hc : Real' (arg3 m c)) (t : Fin cfg0.N) (s : Fin 4096) (C : Fin 512) :
    outsAt m c t (ix2 s C) = res m c (((cfg0.win 5).blk t).view.emb (ix2 s C)) := by
  have ht := lt_16 t
  rw [emb_5 t s C (by omega)]
  choose q hq using hq
  choose kl hl using hl
  choose kc hc using hc
  have hk : ∀ r l, cat (arg1 m c) (arg3 m c) (smp t) r l = ((cat kl kc (smp t) r l : ℝ) : EReal) := fun r l => by
    unfold cat
    split
    · exact hl _
    · exact hc _
  set p : Fin 4 := ⟨C.val / 128, by omega⟩ with hp
  set h : Fin 2 := ⟨C.val % 128 / 64, by omega⟩ with hh
  set d : Fin 64 := ⟨C.val % 64, by omega⟩ with hd
  have hC : C.val = 128 * p.val + (64 * h.val + d.val) := by
    show C.val = 128 * (C.val / 128) + (64 * (C.val % 128 / 64) + C.val % 64); omega
  refine (outBlk_apply (iblk m c 0 t) (iblk m c 1 t) (iblk m c 2 t) (iblk m c 3 t) (iblk m c 4 t)
    (fun s C => q (ix2 ⟨4096 * (smp t).val + s.val, by have := (smp t).isLt; omega⟩ C)) (cat kl kc (smp t))
    (fun s C => (blk0_apply m c t s C _).trans (hq _)) (fun r l => (keys_cat m c t r l).trans (hk r l)) s C h p d hC).trans ?_
  refine (congrArg (soft1 _) (funext fun r => vals_cat m c t r _)).trans ?_
  exact (Cert.ReferenceIdeal.Att.res_apply (arg0 m c) (arg1 m c) (arg2 m c) (arg3 m c) (arg4 m c) (smp t) s
    (fun C => q (ix2 ⟨4096 * (smp t).val + s.val, by have := (smp t).isLt; omega⟩ C)) (cat kl kc (smp t))
    (fun C => hq _) hk h p d _ C rfl hC).symm

theorem flushed_5 (c : Dev nD) (hq : Real' (arg0 m c)) (hl : Real' (arg1 m c)) (hc : Real' (arg3 m c)) (t : Fin cfg0.N) :
    (dats m 0 c).flushed 5 t = ((cfg0.win 5).blk t).view.read (Elt Ideal) (res m c) := by
  show (cfg0.win 5).cut (grid0.coords t) ((dats m 0 c).after 5 t) = _
  rw [after_5]
  funext j
  have e := outsAt_apply m c hq hl hc t (j 0) (j 1)
  have ej : (ix2 (j 0) (j 1) : S4096x512.Idx) = j := funext fun a => by match a with | ⟨0, _⟩ => rfl | ⟨1, _⟩ => rfl
  rw [ej] at e
  exact e

/-- The points' blocks fill the array. -/
theorem covered_5 (i : S65536x512.Idx) : ∃ t : Fin cfg0.N, (cfg0.win 5).flush t = true ∧ i ∈ ((cfg0.win 5).blk t).view.set := by
  have h0 : (i 0).val < 65536 := (i 0).isLt
  have hN : cfg0.N = 16 := N_0
  refine ⟨⟨(i 0).val / 4096, by omega⟩, flush0_5 _, ?_⟩
  have h := ((cfg0.win 5).blk (⟨(i 0).val / 4096, by omega⟩ : Fin cfg0.N)).view.emb_mem_set (ix2 (⟨(i 0).val % 4096, by omega⟩ : Fin 4096) (i 1))
  have e := emb_5 (⟨(i 0).val / 4096, by omega⟩ : Fin cfg0.N) ⟨(i 0).val % 4096, by omega⟩ (i 1) (show 4096 * ((i 0).val / 4096) + (i 0).val % 4096 < 65536 by omega)
  rw [e] at h
  have ei : (ix2 (⟨4096 * ((i 0).val / 4096) + (i 0).val % 4096, by omega⟩ : Fin 65536) (i 1) : S65536x512.Idx) = i := funext fun a => Fin.ext (by
    match a with
    | ⟨0, _⟩ => show 4096 * ((i 0).val / 4096) + (i 0).val % 4096 = (i 0).val; omega
    | ⟨1, _⟩ => rfl)
  rwa [ei] at h

theorem final_5 (c : Dev nD) (hq : Real' (arg0 m c)) (hl : Real' (arg1 m c)) (hc : Real' (arg3 m c)) : (dats m 0 c).arrAt 5 cfg0.N = res m c :=
  (dats m 0 c).arrAt_eq_of_cover 5 (res m c) (fun t _ => flushed_5 m c hq hl hc t) covered_5

/-- The run's result, the arguments as launched. -/
theorem run_res (ρ : Dev nD → PrngReg) (hfin : ∀ c, Real' (arg0 m c) ∧ Real' (arg1 m c) ∧ Real' (arg3 m c)) :
    θ_run defs (onTc (τ := τ) (main (F := Ideal))) ⟨m, fun _ => 0, ρ⟩ (fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final_5 m c (hfin c).1 (hfin c).2.1 (hfin c).2.2),
    ((h.1 c).1 0).trans ((dats m 0 c).arrAt_in 0 rfl _), ((h.1 c).1 1).trans ((dats m 0 c).arrAt_in 1 rfl _),
    ((h.1 c).1 2).trans ((dats m 0 c).arrAt_in 2 rfl _), ((h.1 c).1 3).trans ((dats m 0 c).arrAt_in 3 rfl _),
    ((h.1 c).1 4).trans ((dats m 0 c).arrAt_in 4 rfl _)⟩) (run_main m ρ)

end Cert.KernelIdeal.Att

end
-- ==== Proof.Id.Fin.lean ====
/-
  What the precondition says at extended reals: an element whose absolute value is below infinity is a real.
-/
module

public import proofs.«01_k».proof.Pre_finite_scores
public import Idealize.ShloMosaic.Lib.ValueIdx
public import Idealize.ShloMosaic.Lib.IdealHost

@[expose] public section

set_option maxRecDepth 16384

noncomputable section

namespace Cert.Pre_finite_scores.Att

open Cert.Pre_finite_scores
open Idealize.ShloMosaic Idealize.ShloMosaic.ValueIdx

theorem facts : Cert.Pre_finite_scores.Facts := ⟨by decide, by decide, by decide⟩

theorem ofBits_inf_f32 : Ideal.ofBits .f32 0x7F800000#32 = ⊤ := by simp [Ideal.ofBits, Ideal.ieee]
theorem ofBits_inf_bf16 : Ideal.ofBits .bf16 0x7F80#16 = ⊤ := by simp [Ideal.ofBits, Ideal.ieee]

/-- An element tested is a real. -/
theorem real_of_lt {s : Shape} {φ : FTy} (x y : FVec Ideal s φ) (hy : ∀ i, y i = (⊤ : EReal))
    (h : cmpf .olt (Host.absf x) y = fun _ => 1#1) (i : s.Idx) : ∃ r : ℝ, x i = (r : EReal) := by
  have hi : Ideal.cmp .olt (max (x i : EReal) (-(x i : EReal))) (⊤ : EReal) = 1#1 := by
    rw [← hy i]; exact congrFun h i
  have hlt : max (x i : EReal) (-(x i : EReal)) < ⊤ := by
    by_contra hn
    simp [Ideal.cmp, hn] at hi
  obtain ⟨h1, h2⟩ := max_lt_iff.mp hlt
  refine ⟨(x i : EReal).toReal, (EReal.coe_toReal h1.ne fun hb => ?_).symm⟩
  rw [hb, EReal.neg_bot] at h2
  exact lt_irrefl _ h2

/-- The three tests passed: queries and keys are reals. -/
theorem real_of_pre [Cert.Pre_finite_scores.Facts] (x0 : FVec Ideal S65536x512 .f32) (x1 x2 : FVec Ideal S65536x128 .bf16) (x3 x4 : FVec Ideal S4096x128 .bf16)
    (h : (fn (F := Ideal) x0 x1 x2 x3 x4).1 = (fun _ => 1#1) ∧ (fn (F := Ideal) x0 x1 x2 x3 x4).2.1 = (fun _ => 1#1) ∧ (fn (F := Ideal) x0 x1 x2 x3 x4).2.2 = (fun _ => 1#1)) :
    (∀ i, ∃ r : ℝ, x0 i = (r : EReal)) ∧ (∀ i, ∃ r : ℝ, x1 i = (r : EReal)) ∧ (∀ i, ∃ r : ℝ, x3 i = (r : EReal)) :=
  ⟨real_of_lt x0 _ (fun _ => ofBits_inf_f32) h.1, real_of_lt x1 _ (fun _ => ofBits_inf_bf16) h.2.1, real_of_lt x3 _ (fun _ => ofBits_inf_bf16) h.2.2⟩

end Cert.Pre_finite_scores.Att

end
-- ==== Proof.Ffn.Row.lean ====
/-
  One row of the feed-forward part at extended reals: normalised, scaled and shifted, through the gated hidden layer and
  back, half of it gated onto the row itself.
-/
module

public import Idealize.ShloMosaic.PureOps.Ideal

@[expose] public section

noncomputable section

namespace Cert.Ffn

open Idealize.ShloMosaic

/-- The factor that normalises a row. -/
def rinv (x : Fin 1024 → EReal) : EReal :=
  Ideal.rsqrt (Ideal.div (∑ j : Fin 1024, x j * x j) (Ideal.ofBits .f32 0x44800000#32) + Ideal.ofBits .f32 0x358637BD#32)

/-- The row that enters the hidden layer. -/
def hid (x sh sc g : Fin 1024 → EReal) (k : Fin 1024) : EReal := x k * rinv x * g k * (1 + sc k) + sh k

/-- The hidden layer's two halves in one. -/
def gu (h : Fin 1024 → EReal) (W : Fin 1024 → Fin 5632 → EReal) (n : Fin 5632) : EReal := ∑ k : Fin 1024, h k * W k n

/-- The gated activation. -/
def act (u v : EReal) : EReal := u * Ideal.div 1 (1 + Ideal.exp (-u)) * v

theorem lo_lt (n : Fin 2816) : n.val < 5632 := by omega
theorem hi_lt (n : Fin 2816) : 2816 + n.val < 5632 := by omega

/-- The hidden row. -/
def mid (y : Fin 5632 → EReal) (n : Fin 2816) : EReal := act (y ⟨n.val, lo_lt n⟩) (y ⟨2816 + n.val, hi_lt n⟩)

/-- The row that leaves. -/
def row (x sh sc ga g : Fin 1024 → EReal) (W : Fin 1024 → Fin 5632 → EReal) (D : Fin 2816 → Fin 1024 → EReal) (C : Fin 1024) : EReal :=
  x C + Ideal.ofBits .f32 0x3F000000#32 * ga C * ∑ n : Fin 2816, mid (gu (hid x sh sc g) W) n * D n C

end Cert.Ffn

end
-- ==== Proof.Ffn.Blk.lean ====
/-
  One element of what a point of the feed-forward kernel leaves, at extended reals.
-/
module

public import proofs.«01_k».proof.Proof.Gen.Kernel2Ideal.Frame
public import proofs.«01_k».proof.Proof.Ffn.Row
public import Idealize.ShloMosaic.Lib.MatmulPlain
public import Idealize.ShloMosaic.Lib.ValueIdx
public import Idealize.ShloMosaic.Lib.IdealHost
public import Idealize.ShloMosaic.Lib.ValueLayout
public import Idealize.ShloMosaic.Lib.ValueLayoutCasts

@[expose] public section

set_option maxRecDepth 16384

noncomputable section

namespace Cert.Kernel2Ideal.Ffn

open Cert.Kernel2Ideal Cert.Kernel2Ideal.Gen
open Idealize.ShloMosaic Idealize.ShloMosaic.ValueIdx
open Cert.Ffn

section Tile
variable (x : FVec Ideal S512x1024 .f32) (md : FVec Ideal S1x3x1024 .f32) (g : FVec Ideal S1x1024 .f32)
  (W : FVec Ideal S1x1x1024x5632 .bf16) (D : FVec Ideal S1x1x2816x1024 .bf16)

/-- The column of the rows' normalising factors. -/
def normCol : FVec Ideal S512x1 .f32 :=
  rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))

theorem normCol_apply (r : Fin 512) : normCol x (ix2 r (0 : Fin 1)) = rinv fun k => x (ix2 r k) := by
  unfold normCol rinv
  show Ideal.rsqrt (Ideal.div (shapeCast S512x1 _ _ (ix2 r (0 : Fin 1))) _ + _) = _
  rw [shapeCast_a_a1_apply]
  refine congrArg (fun s => Ideal.rsqrt (Ideal.div s _ + _)) ((Ideal.multiReduction_add_single _ _ _ _ _ _).trans ?_)
  refine Finset.sum_congr rfl fun k _ => ?_
  rw [mulf_apply]
  exact congrArg (fun i => x i * x i) (funext fun a => by match a with | ⟨0, _⟩ => rfl | ⟨1, _⟩ => rfl)

/-- A row of the modulation. -/
theorem md_apply (o : ℕ) (h : S3x1024.Slices ![o, 0] S1x1024) (e : Fin 3) (he : e.val = o) (C : Fin 1024) :
    extractStridedSlice S1x1024 ![o, 0] (k0_pay2 md) h (ix2 (0 : Fin 1) C) = md (ix3 (0 : Fin 1) e C) := by
  rw [slice2_axis0_apply o _ _ (0 : Fin 1) C e (by simpa using he)]
  unfold k0_pay2
  exact shapeCast_1ab_ab_apply _ _ _ _

/-- The rows that enter the hidden layer. -/
def hids : FVec Ideal S512x1024 .bf16 :=
  truncf .bf16 (addf (mulf (mulf (mulf x (broadcastTo S512x1024 (normCol x) broadcasts_S512x1_S512x1024))
      (broadcastTo S512x1024 (shapeCast S1x1024 g shapeCasts_S1x1024_S1x1024) broadcasts_S1x1024_S512x1024))
      (broadcastTo S512x1024 (addf (broadcast S1x1024 (Scalar.ofBits .f32 0x3F800000#32)) (extractStridedSlice S1x1024 ![1, 0] (k0_pay2 md) slices_S3x1024_o1_0_S1x1024)) broadcasts_S1x1024_S512x1024))
    (broadcastTo S512x1024 (extractStridedSlice S1x1024 ![0, 0] (k0_pay2 md) slices_S3x1024_o0_0_S1x1024) broadcasts_S1x1024_S512x1024)) bitsLt_bf16_f32

theorem hids_apply (r : Fin 512) (k : Fin 1024) :
    hids x md g (ix2 r k) = hid (fun k => x (ix2 r k)) (fun k => md (ix3 (0 : Fin 1) (0 : Fin 3) k)) (fun k => md (ix3 (0 : Fin 1) (1 : Fin 3) k)) (fun k => g (ix2 (0 : Fin 1) k)) k := by
  unfold hids hid
  rw [truncf_apply, addf_apply, mulf_apply, mulf_apply, mulf_apply, broadcastTo_1b_ab_apply, broadcastTo_1b_ab_apply, broadcastTo_1b_ab_apply,
    addf_apply, broadcast_apply, md_apply md 1 _ 1 rfl, md_apply md 0 _ 0 rfl, shapeCast_self,
    broadcastTo_apply _ _ (ix2 r k) (ix2 r (0 : Fin 1)) (fun a => by match a with | ⟨0, _⟩ => rfl | ⟨1, _⟩ => rfl), normCol_apply]
  exact congrArg (fun o => _ * (o + _) + _) Ideal.ofBits_one_f32

/-- The hidden layer's two halves in one. -/
def gus (H : FVec Ideal S512x1024 .bf16) : FVec Ideal S512x5632 .f32 :=
  matmul dot_S512x1024_S1024x5632_S512x5632_1_0_0_1_n_n none H (shapeCast S1024x5632 W shapeCasts_S1x1x1024x5632_S1024x5632 : FVec Ideal S1024x5632 .bf16) (constant S512x5632 .f32 0x00000000#32)

theorem cast4_apply {a b : ℕ} (w : FVec Ideal ⟨4, ![1, 1, a, b]⟩ .bf16) (h : (⟨4, ![1, 1, a, b]⟩ : Shape).ShapeCasts ⟨2, ![a, b]⟩) (i : Fin a) (j : Fin b) :
    shapeCast ⟨2, ![a, b]⟩ w h (ix2 i j) = w (ix4 (0 : Fin 1) (0 : Fin 1) i j) :=
  congrArg w ((reshapeEquiv_ix2_11ab _ i j))

theorem gus_apply (H : FVec Ideal S512x1024 .bf16) (r : Fin 512) (n : Fin 5632) :
    gus W H (ix2 r n) = gu (fun k => H (ix2 r k)) (fun k n => W (ix4 (0 : Fin 1) (0 : Fin 1) k n)) n := by
  unfold gus gu
  refine (Ideal.matmul_plain_apply (M := 512) (K := 1024) (N := 5632) none H _ _ r n).trans ?_
  rw [constant_apply, Ideal.ofBits_zero_f32, zero_add]
  exact Finset.sum_congr rfl fun k _ => congrArg (H (ix2 r k) * ·) (cast4_apply W _ k n)

/-- The hidden rows. -/
def mids (y : FVec Ideal S512x5632 .f32) : FVec Ideal S512x2816 .f32 :=
  mulf (mulf (extractStridedSlice S512x2816 ![0, 0] y slices_S512x5632_o0_0_S512x2816)
      (divf (broadcast S512x2816 (Scalar.ofBits .f32 0x3F800000#32)) (addf (broadcast S512x2816 (Scalar.ofBits .f32 0x3F800000#32))
        (exp (subf (broadcast S512x2816 (Scalar.ofBits .f32 0x00000000#32)) (extractStridedSlice S512x2816 ![0, 0] y slices_S512x5632_o0_0_S512x2816))))))
    (extractStridedSlice S512x2816 ![0, 2816] y slices_S512x5632_o0_2816_S512x2816)

theorem mids_apply (y : FVec Ideal S512x5632 .f32) (r : Fin 512) (n : Fin 2816) : mids y (ix2 r n) = mid (fun n => y (ix2 r n)) n := by
  have e0 : extractStridedSlice S512x2816 ![0, 0] y slices_S512x5632_o0_0_S512x2816 (ix2 r n) = y (ix2 r ⟨n.val, lo_lt n⟩) :=
    slice2_axis1_apply 0 _ _ r n ⟨n.val, lo_lt n⟩ (Nat.zero_add _).symm
  have e1 : extractStridedSlice S512x2816 ![0, 2816] y slices_S512x5632_o0_2816_S512x2816 (ix2 r n) = y (ix2 r ⟨2816 + n.val, hi_lt n⟩) :=
    slice2_axis1_apply 2816 _ _ r n ⟨2816 + n.val, hi_lt n⟩ rfl
  unfold mids mid act
  show _ * Ideal.div (Ideal.ofBits .f32 0x3F800000#32) (Ideal.ofBits .f32 0x3F800000#32 + Ideal.exp (Ideal.ofBits .f32 0x00000000#32 - _)) * _ = _
  rw [e0, e1, Ideal.ofBits_one_f32, Ideal.ofBits_zero_f32, zero_sub]

theorem pay3_eq : k0_pay3 (F := Ideal) x md g W = mids (gus W (hids x md g)) := rfl

theorem pay1_apply (y : FVec Ideal S512x2816 .f32) (r : Fin 512) (C : Fin 1024) :
    k0_pay1 (F := Ideal) x (k0_pay2 md) y D (ix2 r C)
      = x (ix2 r C) + Ideal.ofBits .f32 0x3F000000#32 * md (ix3 (0 : Fin 1) (2 : Fin 3) C) * ∑ n : Fin 2816, y (ix2 r n) * D (ix4 (0 : Fin 1) (0 : Fin 1) n C) := by
  unfold k0_pay1
  rw [addf_apply, mulf_apply, broadcastTo_1b_ab_apply, mulf_apply, broadcast_apply, md_apply md 2 _ 2 rfl]
  refine congrArg (fun s : EReal => x (ix2 r C) + Ideal.ofBits .f32 0x3F000000#32 * md (ix3 (0 : Fin 1) (2 : Fin 3) C) * s) ?_
  refine (Ideal.matmul_plain_apply (M := 512) (K := 2816) (N := 1024) none _ _ _ r C).trans ?_
  rw [constant_apply, Ideal.ofBits_zero_f32, zero_add]
  exact Finset.sum_congr rfl fun n _ => congrArg (_ * ·) (cast4_apply D _ n C)

/-- One element of the tile's rows. -/
theorem tile_apply (r : Fin 512) (C : Fin 1024) :
    k0_pay1 (F := Ideal) x (k0_pay2 md) (k0_pay3 x md g W) D (ix2 r C)
      = row (fun k => x (ix2 r k)) (fun k => md (ix3 (0 : Fin 1) (0 : Fin 3) k)) (fun k => md (ix3 (0 : Fin 1) (1 : Fin 3) k)) (fun k => md (ix3 (0 : Fin 1) (2 : Fin 3) k))
          (fun k => g (ix2 (0 : Fin 1) k)) (fun k n => W (ix4 (0 : Fin 1) (0 : Fin 1) k n)) (fun n C => D (ix4 (0 : Fin 1) (0 : Fin 1) n C)) C := by
  rw [pay1_apply, pay3_eq]
  unfold row
  refine congrArg (fun s => x (ix2 r C) + _ * s) (Finset.sum_congr rfl fun n _ => congrArg (· * _) ?_)
  rw [mids_apply]
  refine congrArg (fun y => mid y n) (funext fun n => ?_)
  rw [gus_apply]
  exact congrArg (fun h => gu h _ n) (funext fun k => hids_apply x md g r k)
end Tile

/-- What a point leaves is the tile of its blocks. -/
theorem out_eq (x : FVec Ideal S512x1024 .f32) (md : FVec Ideal S1x3x1024 .f32) (g : FVec Ideal S1x1024 .f32)
    (W : FVec Ideal S1x1x1024x5632 .bf16) (D : FVec Ideal S1x1x2816x1024 .bf16) :
    out0_5 (F := Ideal) x md g W D = k0_pay1 (F := Ideal) x (k0_pay2 md) (k0_pay3 x md g W) D := by
  have h2 : (![0, 0] : Fin 2 → ℕ) = fun _ => 0 := funext fun a => by fin_cases a <;> rfl
  have h3 : (![0, 0, 0] : Fin 3 → ℕ) = fun _ => 0 := funext fun a => by fin_cases a <;> rfl
  have h4 : (![0, 0, 0, 0] : Fin 4 → ℕ) = fun _ => 0 := funext fun a => by fin_cases a <;> rfl
  unfold out0_5
  refine (View.canon_unit_zero h2 ..).trans ?_
  refine congr (congr (congr (congrArg _ (View.ld_unit_zero h2 ..)) (congrArg _ (View.ld_unit_zero h3 ..))) ?_) (View.ld_unit_zero h4 ..)
  exact congr (congr (congr (congrArg _ (View.ld_unit_zero h2 ..)) (View.ld_unit_zero h3 ..)) (View.ld_unit_zero h2 ..)) (View.ld_unit_zero h4 ..)

end Cert.Kernel2Ideal.Ffn

end
-- ==== Proof.Ffn.RefVal.lean ====
/-
  One element of the feed-forward reference's result.
-/
module

public import proofs.«01_k».proof.Proof.Gen.Reference2Ideal.Read
public import proofs.«01_k».proof.Proof.Ffn.Row
public import Idealize.ShloMosaic.Lib.IdealHost
public import Idealize.ShloMosaic.Lib.KernelVsHost

@[expose] public section

set_option maxRecDepth 16384

noncomputable section

namespace Cert.Reference2Ideal.Ffn

open Cert.Reference2Ideal Cert.Reference2Ideal.Gen Cert.Reference2Ideal.Read
open Idealize.ShloMosaic Idealize.ShloMosaic.ValueIdx
open Cert.Ffn

theorem row_lt (b : Fin 16) (s : Fin 4096) : 4096 * b.val + s.val < 65536 := by omega

/-- A row of a sample. -/
abbrev at_ (b : Fin 16) (s : Fin 4096) : Fin 65536 := ⟨4096 * b.val + s.val, row_lt b s⟩

variable (x0 : FVec Ideal S65536x1024 .f32) (x1 : FVec Ideal S16x3x1024 .f32) (x2 : FVec Ideal S1024 .f32)
  (x3 : FVec Ideal S4x2x1024x5632 .f32) (x4 : FVec Ideal S4x2x2816x1024 .f32) (b : Fin 16) (s : Fin 4096)

theorem x_apply (k : Fin 1024) : val_main_v0 (F := Ideal) x0 (ix3 b s k) = x0 (ix2 (at_ b s) k) := by
  rw [val_main_v0_apply]
  refine congrArg x0 (funext fun a => Fin.ext ?_)
  match a with
  | ⟨0, _⟩ => show ((b.val * 4096 + s.val) * 1024 + k.val) / 1024 = 4096 * b.val + s.val; omega
  | ⟨1, _⟩ => show ((b.val * 4096 + s.val) * 1024 + k.val) % 1024 = k.val; omega

/-- A modulation row out of the reshaped array. -/
theorem md_apply (e : Fin 3) (k : Fin 1024) : val_main_v1 (F := Ideal) x1 (ix4 b e (0 : Fin 1) k) = x1 (ix3 b e k) := by
  rw [val_main_v1_apply]
  refine congrArg x1 (funext fun a => Fin.ext ?_)
  match a with
  | ⟨0, _⟩ => show (((b.val * 3 + e.val) * 1 + 0) * 1024 + k.val) / 3072 = b.val; omega
  | ⟨1, _⟩ => show (((b.val * 3 + e.val) * 1 + 0) * 1024 + k.val) / 1024 % 3 = e.val; omega
  | ⟨2, _⟩ => show (((b.val * 3 + e.val) * 1 + 0) * 1024 + k.val) % 1024 = k.val; omega

theorem shift_apply (k : Fin 1024) : val_main_v3 (F := Ideal) x1 (ix3 b (0 : Fin 1) k) = x1 (ix3 b (0 : Fin 3) k) := by
  rw [val_main_v3_apply, val_main_v2_apply, ← md_apply x1 b 0 k]
  refine congrArg _ (funext fun a => Fin.ext ?_)
  match a with
  | ⟨0, _⟩ => show ((b.val * 1 + 0) * 1024 + k.val) / 1024 = b.val; omega
  | ⟨1, _⟩ => rfl
  | ⟨2, _⟩ => rfl
  | ⟨3, _⟩ => show ((b.val * 1 + 0) * 1024 + k.val) % 1024 = k.val; omega

theorem scale_apply (k : Fin 1024) : val_main_v5 (F := Ideal) x1 (ix3 b (0 : Fin 1) k) = x1 (ix3 b (1 : Fin 3) k) := by
  rw [val_main_v5_apply, val_main_v4_apply, ← md_apply x1 b 1 k]
  refine congrArg _ (funext fun a => Fin.ext ?_)
  match a with
  | ⟨0, _⟩ => show ((b.val * 1 + 0) * 1024 + k.val) / 1024 = b.val; omega
  | ⟨1, _⟩ => rfl
  | ⟨2, _⟩ => rfl
  | ⟨3, _⟩ => show ((b.val * 1 + 0) * 1024 + k.val) % 1024 = k.val; omega

theorem gate_apply (k : Fin 1024) : val_main_v7 (F := Ideal) x1 (ix3 b (0 : Fin 1) k) = x1 (ix3 b (2 : Fin 3) k) := by
  rw [val_main_v7_apply, val_main_v6_apply, ← md_apply x1 b 2 k]
  refine congrArg _ (funext fun a => Fin.ext ?_)
  match a with
  | ⟨0, _⟩ => show ((b.val * 1 + 0) * 1024 + k.val) / 1024 = b.val; omega
  | ⟨1, _⟩ => rfl
  | ⟨2, _⟩ => rfl
  | ⟨3, _⟩ => show ((b.val * 1 + 0) * 1024 + k.val) % 1024 = k.val; omega

theorem up_apply (k : Fin 1024) (n : Fin 5632) : val_main_v9 (F := Ideal) x3 (ix2 k n) = x3 (ix4 (0 : Fin 4) (0 : Fin 2) k n) := by
  rw [val_main_v9_apply, val_main_v8_apply]
  refine congrArg x3 (funext fun a => Fin.ext ?_)
  match a with
  | ⟨0, _⟩ => rfl
  | ⟨1, _⟩ => rfl
  | ⟨2, _⟩ => show (k.val * 5632 + n.val) / 5632 % 1024 = k.val; omega
  | ⟨3, _⟩ => show (k.val * 5632 + n.val) % 5632 = n.val; omega

theorem down_apply (n : Fin 2816) (k : Fin 1024) : val_main_v11 (F := Ideal) x4 (ix2 n k) = x4 (ix4 (0 : Fin 4) (0 : Fin 2) n k) := by
  rw [val_main_v11_apply, val_main_v10_apply]
  refine congrArg x4 (funext fun a => Fin.ext ?_)
  match a with
  | ⟨0, _⟩ => rfl
  | ⟨1, _⟩ => rfl
  | ⟨2, _⟩ => show (n.val * 1024 + k.val) / 1024 % 2816 = n.val; omega
  | ⟨3, _⟩ => show (n.val * 1024 + k.val) % 1024 = k.val; omega

theorem norm_apply : val_main_v19 (F := Ideal) x0 (ix3 b s (0 : Fin 1)) = rinv fun k => x0 (ix2 (at_ b s) k) := by
  have e14 : idx_main_v14 (ix3 b s (0 : Fin 1)) = ix2 b s := funext fun a => by match a with | ⟨0, _⟩ => rfl | ⟨1, _⟩ => rfl
  rw [val_main_v19_apply, val_main_v18_apply, val_main_v16_apply, val_main_v14_apply, e14, val_main_v13_apply, val_main_v15_apply, val_main_v17_apply]
  unfold rinv
  refine congrArg (fun s => Ideal.rsqrt (Ideal.div s _ + _)) ?_
  refine (congrArg (· + _) Ideal.ofBits_zero_f32).trans ((zero_add _).trans (Finset.sum_congr rfl fun k _ => ?_))
  have e13 : idx_main_v13 (ix2 b s) k = ix3 b s k := funext fun a => by match a with | ⟨0, _⟩ => rfl | ⟨1, _⟩ => rfl | ⟨2, _⟩ => rfl
  rw [e13, val_main_v12_apply, x_apply]
  rfl

theorem hid_apply (k : Fin 1024) :
    val_main_v30 (F := Ideal) x0 x1 x2 (ix3 b s k)
      = hid (fun k => x0 (ix2 (at_ b s) k)) (fun k => x1 (ix3 b (0 : Fin 3) k)) (fun k => x1 (ix3 b (1 : Fin 3) k)) (fun k => x2 (ix1 k)) k := by
  have e20 : idx_main_v20 (ix3 b s k) = ix3 b s (0 : Fin 1) := funext fun a => by match a with | ⟨0, _⟩ => rfl | ⟨1, _⟩ => rfl | ⟨2, _⟩ => rfl
  have e22 : idx_main_v22 (idx_main_v23 (ix3 b s k)) = ix1 k := funext fun a => by match a with | ⟨0, _⟩ => rfl
  have e27 : idx_main_v27 (ix3 b s k) = ix3 b (0 : Fin 1) k := funext fun a => by match a with | ⟨0, _⟩ => rfl | ⟨1, _⟩ => rfl | ⟨2, _⟩ => rfl
  have e29 : idx_main_v29 (ix3 b s k) = ix3 b (0 : Fin 1) k := funext fun a => by match a with | ⟨0, _⟩ => rfl | ⟨1, _⟩ => rfl | ⟨2, _⟩ => rfl
  rw [val_main_v30_apply, val_main_v28_apply, val_main_v24_apply, val_main_v21_apply, val_main_v20_apply, val_main_v23_apply, val_main_v22_apply,
    val_main_v27_apply, val_main_v29_apply, e20, e22, e27, e29, val_main_v26_apply, val_main_v25_apply, x_apply, norm_apply, shift_apply, scale_apply]
  exact congrArg (fun o => _ * (o + _) + _) Ideal.ofBits_one_f32

theorem gu_apply (n : Fin 5632) :
    val_main_v33 (F := Ideal) x0 x1 x2 x3 (ix3 b s n)
      = gu (fun k => val_main_v30 (F := Ideal) x0 x1 x2 (ix3 b s k)) (fun k n => x3 (ix4 (0 : Fin 4) (0 : Fin 2) k n)) n := by
  rw [val_main_v33_apply]
  refine Finset.sum_congr rfl fun k _ => congrArg₂ (· * ·) (congrArg _ (funext fun a => by match a with | ⟨0, _⟩ => rfl | ⟨1, _⟩ => rfl | ⟨2, _⟩ => rfl)) ?_
  exact (congrArg (val_main_v9 (F := Ideal) x3) (show _ = ix2 k n from funext fun a => by match a with | ⟨0, _⟩ => rfl | ⟨1, _⟩ => rfl)).trans (up_apply x3 k n)

theorem mid_apply (n : Fin 2816) :
    val_main_v37 (F := Ideal) x0 x1 x2 x3 (ix3 b s n) = mid (fun n => val_main_v33 (F := Ideal) x0 x1 x2 x3 (ix3 b s n)) n := by
  have e34 : idx_main_v34 (ix3 b s n) = ix3 b s (⟨n.val, lo_lt n⟩ : Fin 5632) := funext fun a => by match a with | ⟨0, _⟩ => rfl | ⟨1, _⟩ => rfl | ⟨2, _⟩ => rfl
  have e35 : idx_main_v35 (ix3 b s n) = ix3 b s (⟨2816 + n.val, hi_lt n⟩ : Fin 5632) := funext fun a => by match a with | ⟨0, _⟩ => rfl | ⟨1, _⟩ => rfl | ⟨2, _⟩ => rfl
  rw [val_main_v37_apply, val_main_v36_apply, val_main_call0_v5_apply, val_main_call0_v3_apply, val_main_call0_v1_apply, val_main_call0_v0_apply,
    val_main_call0_v4_apply, val_main_call0_v2_apply, val_main_v34_apply, val_main_v35_apply, e34, e35]
  unfold mid act
  exact congrArg (fun o => _ * Ideal.div o (o + _) * _) Ideal.ofBits_one_f32

/-- One element of the result. -/
theorem res_apply (C : Fin 1024) :
    val_main_v42 (F := Ideal) x0 x1 x2 x3 x4 (ix2 (at_ b s) C)
      = row (fun k => x0 (ix2 (at_ b s) k)) (fun k => x1 (ix3 b (0 : Fin 3) k)) (fun k => x1 (ix3 b (1 : Fin 3) k)) (fun k => x1 (ix3 b (2 : Fin 3) k))
          (fun k => x2 (ix1 k)) (fun k n => x3 (ix4 (0 : Fin 4) (0 : Fin 2) k n)) (fun n C => x4 (ix4 (0 : Fin 4) (0 : Fin 2) n C)) C := by
  have e42 : idx_main_v42 (ix2 (at_ b s) C) = ix3 b s C := funext fun a => Fin.ext (by
    match a with
    | ⟨0, _⟩ => show ((4096 * b.val + s.val) * 1024 + C.val) / 4194304 = b.val; omega
    | ⟨1, _⟩ => show ((4096 * b.val + s.val) * 1024 + C.val) / 1024 % 4096 = s.val; omega
    | ⟨2, _⟩ => show ((4096 * b.val + s.val) * 1024 + C.val) % 1024 = C.val; omega)
  have e39 : idx_main_v39 (ix3 b s C) = ix3 b (0 : Fin 1) C := funext fun a => by match a with | ⟨0, _⟩ => rfl | ⟨1, _⟩ => rfl | ⟨2, _⟩ => rfl
  rw [val_main_v42_apply, e42, val_main_v41_apply, val_main_v40_apply, val_main_v39_apply, e39, val_main_v32_apply, val_main_v31_apply, gate_apply, x_apply, val_main_v38_apply]
  unfold row
  refine congrArg (fun s => _ + _ * s) (Finset.sum_congr rfl fun n _ => congrArg₂ (· * ·) ?_ ?_)
  · refine (congrArg (val_main_v37 (F := Ideal) x0 x1 x2 x3) (show _ = ix3 b s n from funext fun a => by match a with | ⟨0, _⟩ => rfl | ⟨1, _⟩ => rfl | ⟨2, _⟩ => rfl)).trans ?_
    rw [mid_apply]
    refine congrArg (fun y => mid y n) (funext fun n => ?_)
    rw [gu_apply]
    exact congrArg (fun h => gu h _ n) (funext fun k => hid_apply x0 x1 x2 b s k)
  · exact (congrArg (val_main_v11 (F := Ideal) x4) (show _ = ix2 n C from funext fun a => by match a with | ⟨0, _⟩ => rfl | ⟨1, _⟩ => rfl)).trans (down_apply x4 n C)

end Cert.Reference2Ideal.Ffn

end
-- ==== Proof.Ffn.Arr.lean ====
/-
  The result array of the feed-forward kernel at extended reals: the reference's result of the same arguments, block by
  block.
-/
module

public import proofs.«01_k».proof.Proof.Gen.Kernel2Ideal.Value
public import proofs.«01_k».proof.Proof.Ffn.Blk
public import proofs.«01_k».proof.Proof.Ffn.RefVal
public import Idealize.ShloMosaic.Lib.Claim

@[expose] public section

set_option maxRecDepth 16384

noncomputable section

namespace Cert.Kernel2Ideal.Ffn

open Cert.Kernel2Ideal Cert.Kernel2Ideal.Gen
open Idealize.ShloMosaic Idealize.ShloMosaic.ValueIdx Idealize.ShloMosaic.TcCoe Idealize.ShloMosaic.Tactic
open Cert.Ffn
open Cert.Reference2Ideal.Ffn (at_)

variable (m : (ℓ : Loc nD τ sig) → Buf (Elt Ideal) ℓ)

/-- Point `t` takes rows `512 t` on, of sample `t / 8`. -/
theorem idx_0 : ∀ t : Fin cfg0.N, win0_0.index t (0 : Fin 2) = t.val ∧ win0_0.index t (1 : Fin 2) = 0 := (by decide +kernel : ∀ t : Fin grid0.N, _)
theorem idx_1 : ∀ t : Fin cfg0.N, win0_1.index t (0 : Fin 3) = t.val / 8 ∧ win0_1.index t (1 : Fin 3) = 0 ∧ win0_1.index t (2 : Fin 3) = 0 := (by decide +kernel : ∀ t : Fin grid0.N, _)
theorem idx_2 : ∀ t : Fin cfg0.N, win0_2.index t (0 : Fin 2) = 0 ∧ win0_2.index t (1 : Fin 2) = 0 := (by decide +kernel : ∀ t : Fin grid0.N, _)
theorem idx_3 : ∀ t : Fin cfg0.N, win0_3.index t (0 : Fin 4) = 0 ∧ win0_3.index t (1 : Fin 4) = 0 ∧ win0_3.index t (2 : Fin 4) = 0 ∧ win0_3.index t (3 : Fin 4) = 0 := (by decide +kernel : ∀ t : Fin grid0.N, _)
theorem idx_4 : ∀ t : Fin cfg0.N, win0_4.index t (0 : Fin 4) = 0 ∧ win0_4.index t (1 : Fin 4) = 0 ∧ win0_4.index t (2 : Fin 4) = 0 ∧ win0_4.index t (3 : Fin 4) = 0 := (by decide +kernel : ∀ t : Fin grid0.N, _)
theorem idx_5 : ∀ t : Fin cfg0.N, win0_5.index t (0 : Fin 2) = t.val ∧ win0_5.index t (1 : Fin 2) = 0 := (by decide +kernel : ∀ t : Fin grid0.N, _)

theorem lt_128 (t : Fin cfg0.N) : t.val < 128 := lt_of_lt_of_eq t.isLt N_0

theorem smp_lt (t : Fin cfg0.N) : t.val / 8 < 16 := by have := lt_128 t; omega
theorem pos_lt (t : Fin cfg0.N) (r : Fin 512) : 512 * (t.val % 8) + r.val < 4096 := by omega

/-- The sample point `t` takes, and the place in it of the block's row `r`. -/
abbrev smp (t : Fin cfg0.N) : Fin 16 := ⟨t.val / 8, smp_lt t⟩
abbrev pos (t : Fin cfg0.N) (r : Fin 512) : Fin 4096 := ⟨512 * (t.val % 8) + r.val, pos_lt t r⟩

/-- The launched arguments. -/
abbrev arg0 (c : Dev nD) : Vec Ideal S65536x1024 .f32 := m ((c : Thread nD τ).loc main_arg0)
abbrev arg1 (c : Dev nD) : Vec Ideal S16x3x1024 .f32 := m ((c : Thread nD τ).loc main_arg1)
abbrev arg2 (c : Dev nD) : Vec Ideal S1024 .f32 := m ((c : Thread nD τ).loc main_arg2)
abbrev arg3 (c : Dev nD) : Vec Ideal S4x2x1024x5632 .f32 := m ((c : Thread nD τ).loc main_arg3)
abbrev arg4 (c : Dev nD) : Vec Ideal S4x2x2816x1024 .f32 := m ((c : Thread nD τ).loc main_arg4)

theorem blk0_apply (c : Dev nD) (t : Fin cfg0.N) (r : Fin 512) (C : Fin 1024) :
    (iblk m c 0 t : Vec Ideal S512x1024 .f32) (ix2 r C) = arg0 m c (ix2 (at_ (smp t) (pos t r)) C) := by
  obtain ⟨e0, e1⟩ := idx_0 t
  show V m c main_arg0 (((cfg0.win 0).blk t).view.emb (ix2 r C)) = _
  rw [V_main_arg0]
  refine congrArg (arg0 m c) (funext fun a => Fin.ext ?_)
  match a with
  | ⟨0, _⟩ => show win0_0.index t (0 : Fin 2) * 512 + 1 * r.val = 4096 * (t.val / 8) + (512 * (t.val % 8) + r.val); omega
  | ⟨1, _⟩ => show win0_0.index t (1 : Fin 2) * 1024 + 1 * C.val = C.val; omega

theorem blk1_apply (c : Dev nD) (t : Fin cfg0.N) (e : Fin 3) (C : Fin 1024) :
    (iblk m c 1 t : Vec Ideal S1x3x1024 .f32) (ix3 (0 : Fin 1) e C) = arg1 m c (ix3 (smp t) e C) := by
  obtain ⟨e0, e1, e2⟩ := idx_1 t
  show V m c main_arg1 (((cfg0.win 1).blk t).view.emb (ix3 (0 : Fin 1) e C)) = _
  rw [V_main_arg1]
  refine congrArg (arg1 m c) (funext fun a => Fin.ext ?_)
  match a with
  | ⟨0, _⟩ => show win0_1.index t (0 : Fin 3) * 1 + 1 * 0 = t.val / 8; omega
  | ⟨1, _⟩ => show win0_1.index t (1 : Fin 3) * 3 + 1 * e.val = e.val; omega
  | ⟨2, _⟩ => show win0_1.index t (2 : Fin 3) * 1024 + 1 * C.val = C.val; omega

theorem V_g (c : Dev nD) : (V m c main_v2 : Vec Ideal S1x1024 .f32) = shapeCast S1x1024 (arg2 m c) shapeCasts_S1024_S1x1024 := by
  entry_read <;> rfl
theorem V_up (c : Dev nD) : (V m c main_v0 : Vec Ideal S4x2x1024x5632 .bf16) = truncf (F := Ideal) .bf16 (arg3 m c : FVec Ideal S4x2x1024x5632 .f32) bitsLt_bf16_f32 := by
  entry_read <;> rfl
theorem V_down (c : Dev nD) : (V m c main_v1 : Vec Ideal S4x2x2816x1024 .bf16) = truncf (F := Ideal) .bf16 (arg4 m c : FVec Ideal S4x2x2816x1024 .f32) bitsLt_bf16_f32 := by
  entry_read <;> rfl

theorem blk2_apply (c : Dev nD) (t : Fin cfg0.N) (C : Fin 1024) :
    (iblk m c 2 t : Vec Ideal S1x1024 .f32) (ix2 (0 : Fin 1) C) = arg2 m c (ix1 C) := by
  obtain ⟨e0, e1⟩ := idx_2 t
  show (V m c main_v2 : Vec Ideal S1x1024 .f32) (((cfg0.win 2).blk t).view.emb (ix2 (0 : Fin 1) C)) = _
  rw [V_g]
  refine (congrArg (shapeCast S1x1024 (arg2 m c) shapeCasts_S1024_S1x1024) (show _ = ix2 (0 : Fin 1) C from funext fun a => Fin.ext ?_)).trans (shapeCast_a_1a_apply _ _ _ _)
  match a with
  | ⟨0, _⟩ => show win0_2.index t (0 : Fin 2) * 1 + 1 * 0 = 0; omega
  | ⟨1, _⟩ => show win0_2.index t (1 : Fin 2) * 1024 + 1 * C.val = C.val; omega

theorem blk3_apply (c : Dev nD) (t : Fin cfg0.N) (k : Fin 1024) (n : Fin 5632) :
    (iblk m c 3 t : Vec Ideal S1x1x1024x5632 .bf16) (ix4 (0 : Fin 1) (0 : Fin 1) k n) = arg3 m c (ix4 (0 : Fin 4) (0 : Fin 2) k n) := by
  obtain ⟨e0, e1, e2, e3⟩ := idx_3 t
  show (V m c main_v0 : Vec Ideal S4x2x1024x5632 .bf16) (((cfg0.win 3).blk t).view.emb (ix4 (0 : Fin 1) (0 : Fin 1) k n)) = _
  rw [V_up]
  refine congrArg (arg3 m c) (funext fun a => Fin.ext ?_)
  match a with
  | ⟨0, _⟩ => show win0_3.index t (0 : Fin 4) * 1 + 1 * 0 = 0; omega
  | ⟨1, _⟩ => show win0_3.index t (1 : Fin 4) * 1 + 1 * 0 = 0; omega
  | ⟨2, _⟩ => show win0_3.index t (2 : Fin 4) * 1024 + 1 * k.val = k.val; omega
  | ⟨3, _⟩ => show win0_3.index t (3 : Fin 4) * 5632 + 1 * n.val = n.val; omega

theorem blk4_apply (c : Dev nD) (t : Fin cfg0.N) (n : Fin 2816) (k : Fin 1024) :
    (iblk m c 4 t : Vec Ideal S1x1x2816x1024 .bf16) (ix4 (0 : Fin 1) (0 : Fin 1) n k) = arg4 m c (ix4 (0 : Fin 4) (0 : Fin 2) n k) := by
  obtain ⟨e0, e1, e2, e3⟩ := idx_4 t
  show (V m c main_v1 : Vec Ideal S4x2x2816x1024 .bf16) (((cfg0.win 4).blk t).view.emb (ix4 (0 : Fin 1) (0 : Fin 1) n k)) = _
  rw [V_down]
  refine congrArg (arg4 m c) (funext fun a => Fin.ext ?_)
  match a with
  | ⟨0, _⟩ => show win0_4.index t (0 : Fin 4) * 1 + 1 * 0 = 0; omega
  | ⟨1, _⟩ => show win0_4.index t (1 : Fin 4) * 1 + 1 * 0 = 0; omega
  | ⟨2, _⟩ => show win0_4.index t (2 : Fin 4) * 2816 + 1 * n.val = n.val; omega
  | ⟨3, _⟩ => show win0_4.index t (3 : Fin 4) * 1024 + 1 * k.val = k.val; omega

/-- What the result array is shown to hold. -/
abbrev res (c : Dev nD) : Vec Ideal S65536x1024 .f32 :=
  Cert.Reference2Ideal.Read.val_main_v42 (F := Ideal) (arg0 m c) (arg1 m c) (arg2 m c) (arg3 m c) (arg4 m c)

theorem emb_5 (t : Fin cfg0.N) (r : Fin 512) (C : Fin 1024) :
    ((cfg0.win 5).blk t).view.emb (ix2 r C) = ix2 (at_ (smp t) (pos t r)) C := by
  obtain ⟨e0, e1⟩ := idx_5 t
  funext a; apply Fin.ext
  match a with
  | ⟨0, _⟩ => show win0_5.index t (0 : Fin 2) * 512 + 1 * r.val = 4096 * (t.val / 8) + (512 * (t.val % 8) + r.val); omega
  | ⟨1, _⟩ => show win0_5.index t (1 : Fin 2) * 1024 + 1 * C.val = C.val; omega

/-- What point `t` leaves is its rows of the reference's result. -/
theorem out_apply (c : Dev nD) (t : Fin cfg0.N) (r : Fin 512) (C : Fin 1024) :
    (out0_5 (iblk m c 0 t) (iblk m c 1 t) (iblk m c 2 t) (iblk m c 3 t) (iblk m c 4 t) : Vec Ideal S512x1024 .f32) (ix2 r C)
      = res m c (((cfg0.win 5).blk t).view.emb (ix2 r C)) := by
  rw [emb_5, out_eq]
  refine (tile_apply _ _ _ _ _ r C).trans ?_
  refine Eq.trans ?_ (Cert.Reference2Ideal.Ffn.res_apply (arg0 m c) (arg1 m c) (arg2 m c) (arg3 m c) (arg4 m c) (smp t) (pos t r) C).symm
  simp only [blk0_apply, blk1_apply, blk2_apply, blk3_apply, blk4_apply]

theorem flushed_5 (c : Dev nD) (t : Fin cfg0.N) :
    (dats m 0 c).flushed 5 t = ((cfg0.win 5).blk t).view.read (Elt Ideal) (res m c) := by
  rw [Cert.Kernel2Ideal.Value.flushed5]
  funext j
  have e := out_apply m c t (j 0) (j 1)
  have ej : (ix2 (j 0) (j 1) : S512x1024.Idx) = j := funext fun a => by match a with | ⟨0, _⟩ => rfl | ⟨1, _⟩ => rfl
  rw [ej] at e
  exact e

/-- The points' blocks fill the array. -/
theorem covered_5 (i : S65536x1024.Idx) : ∃ t : Fin cfg0.N, (cfg0.win 5).flush t = true ∧ i ∈ ((cfg0.win 5).blk t).view.set := by
  have h0 : (i 0).val < 65536 := (i 0).isLt
  have hN : cfg0.N = 128 := N_0
  refine ⟨⟨(i 0).val / 512, by omega⟩, flush0_5 _, ?_⟩
  have h := ((cfg0.win 5).blk (⟨(i 0).val / 512, by omega⟩ : Fin cfg0.N)).view.emb_mem_set (ix2 (⟨(i 0).val % 512, by omega⟩ : Fin 512) (i 1))
  have e := emb_5 (⟨(i 0).val / 512, by omega⟩ : Fin cfg0.N) ⟨(i 0).val % 512, by omega⟩ (i 1)
  rw [e] at h
  have ei : (ix2 (at_ (smp ⟨(i 0).val / 512, by omega⟩) (pos ⟨(i 0).val / 512, by omega⟩ ⟨(i 0).val % 512, by omega⟩)) (i 1) : S65536x1024.Idx) = i := funext fun a => Fin.ext (by
    match a with
    | ⟨0, _⟩ => show 4096 * ((i 0).val / 512 / 8) + (512 * ((i 0).val / 512 % 8) + (i 0).val % 512) = (i 0).val; omega
    | ⟨1, _⟩ => rfl)
  rwa [ei] at h

theorem final_5 (c : Dev nD) : (dats m 0 c).arrAt 5 cfg0.N = res m c :=
  (dats m 0 c).arrAt_eq_of_cover 5 (res m c) (fun t _ => flushed_5 m c t) covered_5

/-- The run's result, the arguments as launched. -/
theorem run_res (ρ : Dev nD → PrngReg) :
    θ_run defs (onTc (τ := τ) (main (F := Ideal))) ⟨m, fun _ => 0, ρ⟩ (fun r => ∀ c : Dev nD,
      r.2.mem ((c.tc : Thread nD τ).loc main_v3) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (final_5 m c), (h c).2⟩) (Cert.Kernel2Ideal.Value.run_blocks m ρ)

end Cert.Kernel2Ideal.Ffn

end
-- ==== Proof.Mix.Row.lean ====
/-
  What the two output-projection calls share: one row with the projected branches gated onto it, and the places the joined
  branches, the projection's rows and the sample's rows are read at.
-/
module

public import proofs.«01_k».proof.Proof.Ffn.Blk
public import proofs.«01_k».proof.Proof.Ffn.RefVal
public import Idealize.ShloMosaic.Lib.Claim

@[expose] public section

set_option maxRecDepth 16384

noncomputable section

namespace Cert.Mix

open Idealize.ShloMosaic Idealize.ShloMosaic.ValueIdx
open Cert.Reference2Ideal.Ffn (at_)

/-- An index is known by its coordinates. -/
theorem ix2_of {A B : ℕ} (i : (⟨2, ![A, B]⟩ : Shape).Idx) (p : Fin A) (q : Fin B) (h0 : (i 0).val = p.val) (h1 : (i 1).val = q.val) : i = ix2 p q :=
  funext fun a => Fin.ext (by match a with | ⟨0, _⟩ => exact h0 | ⟨1, _⟩ => exact h1)

theorem ix3_of {A B C : ℕ} (i : (⟨3, ![A, B, C]⟩ : Shape).Idx) (p : Fin A) (q : Fin B) (r : Fin C) (h0 : (i 0).val = p.val) (h1 : (i 1).val = q.val)
    (h2 : (i 2).val = r.val) : i = ix3 p q r :=
  funext fun a => Fin.ext (by match a with | ⟨0, _⟩ => exact h0 | ⟨1, _⟩ => exact h1 | ⟨2, _⟩ => exact h2)

theorem ix4_of {A B C D : ℕ} (i : (⟨4, ![A, B, C, D]⟩ : Shape).Idx) (p : Fin A) (q : Fin B) (r : Fin C) (s : Fin D) (h0 : (i 0).val = p.val)
    (h1 : (i 1).val = q.val) (h2 : (i 2).val = r.val) (h3 : (i 3).val = s.val) : i = ix4 p q r s :=
  funext fun a => Fin.ext (by match a with | ⟨0, _⟩ => exact h0 | ⟨1, _⟩ => exact h1 | ⟨2, _⟩ => exact h2 | ⟨3, _⟩ => exact h3)

/-- The sample tile `t` of 512 rows lies in, and the place in it of the tile's row `r`. -/
abbrev tileSmp (t : ℕ) (h : t < 128) : Fin 16 := ⟨t / 8, by omega⟩
abbrev tilePos (t : ℕ) (r : Fin 512) : Fin 4096 := ⟨512 * (t % 8) + r.val, by omega⟩

/-- A tile's row in the whole array, a place along an axis taken whole, and the place of a unit block. -/
theorem row_at {x t : ℕ} (h : x = t) (r : Fin 512) : x * 512 + 1 * r.val = 4096 * (t / 8) + (512 * (t % 8) + r.val) := by omega
theorem col_at {n x : ℕ} (h : x = 0) (k : Fin n) : x * n + 1 * k.val = k.val := by subst h; omega
theorem one_at {x y : ℕ} (h : x = y) : x * 1 + 1 * 0 = y := by omega
theorem tile_of {i : ℕ} (h : i < 65536) : i = 4096 * (i / 512 / 8) + (512 * (i / 512 % 8) + i % 512) := by omega

variable {p q n : ℕ}

theorem lo_lt (h : p + q = n) (i : Fin p) : i.val < n := by omega
theorem hi_lt (h : p + q = n) (i : Fin q) : p + i.val < n := by omega

/-- A sum over joined places is the two parts' sums. -/
theorem sum_split (h : p + q = n) (f : Fin n → EReal) :
    ∑ j : Fin n, f j = ∑ i : Fin p, f ⟨i.val, lo_lt h i⟩ + ∑ i : Fin q, f ⟨p + i.val, hi_lt h i⟩ := by
  subst h
  exact Fin.sum_univ_add f

/-- The projection of two joined branches. -/
def proj (h : p + q = n) (a : Fin p → EReal) (b : Fin q → EReal) (w : Fin n → EReal) : EReal :=
  ∑ i : Fin p, a i * w ⟨i.val, lo_lt h i⟩ + ∑ i : Fin q, b i * w ⟨p + i.val, hi_lt h i⟩

/-- The row the projection is gated onto. -/
def mixed (h : p + q = n) (x ga : Fin 1024 → EReal) (a : Fin p → EReal) (b : Fin q → EReal) (w : Fin n → Fin 1024 → EReal) (k : Fin 1024) : EReal :=
  x k + ga k * proj h a b fun j => w j k

/-- The rows of a branch by sample and place. -/
theorem rows_apply {α : Type} (a : (⟨2, ![65536, n]⟩ : Shape).Idx → α) (h : (⟨2, ![65536, n]⟩ : Shape).ShapeCasts ⟨3, ![16, 4096, n]⟩)
    (b : Fin 16) (s : Fin 4096) (j : Fin n) : shapeCast ⟨3, ![16, 4096, n]⟩ a h (ix3 b s j) = a (ix2 (at_ b s) j) :=
  shapeCast_apply a h _ _ (by
    rw [Shape.rowMajor_val_three, Shape.rowMajor_val_two]
    show (4096 * b.val + s.val) * n + j.val = (b.val * 4096 + s.val) * n + j.val
    rw [Nat.mul_comm 4096])

section Join

variable {α : Type} (h : p + q = n) (a : (⟨2, ![65536, p]⟩ : Shape).Idx → α) (b : (⟨2, ![65536, q]⟩ : Shape).Idx → α)
  (ha : (⟨2, ![65536, p]⟩ : Shape).ShapeCasts ⟨3, ![16, 4096, p]⟩) (hb : (⟨2, ![65536, q]⟩ : Shape).ShapeCasts ⟨3, ![16, 4096, q]⟩)
  (hc : Shape.Concatenates [(⟨3, ![16, 4096, p]⟩ : Shape), ⟨3, ![16, 4096, q]⟩] ⟨3, ![16, 4096, n]⟩ 2) (e : Fin 16) (s : Fin 4096)

/-- The joined branches, in the first and in the second. -/
theorem join_lo (i : Fin p) :
    concatenate (⟨3, ![16, 4096, n]⟩ : Shape) 2 [⟨⟨3, ![16, 4096, p]⟩, shapeCast ⟨3, ![16, 4096, p]⟩ a ha⟩, ⟨⟨3, ![16, 4096, q]⟩, shapeCast ⟨3, ![16, 4096, q]⟩ b hb⟩] hc
      (ix3 e s ⟨i.val, lo_lt h i⟩) = a (ix2 (at_ e s) i) :=
  (concatenate_pair_apply_left (t := ⟨3, ![16, 4096, n]⟩) (s₁ := ⟨3, ![16, 4096, p]⟩) (s₂ := ⟨3, ![16, 4096, q]⟩) 2 _ _ hc (ix3 e s ⟨i.val, lo_lt h i⟩) rfl (ix3 e s i)
    (fun a => by match a with | ⟨0, _⟩ => rfl | ⟨1, _⟩ => rfl | ⟨2, _⟩ => rfl)).trans (rows_apply a ha e s i)

theorem join_hi (i : Fin q) :
    concatenate (⟨3, ![16, 4096, n]⟩ : Shape) 2 [⟨⟨3, ![16, 4096, p]⟩, shapeCast ⟨3, ![16, 4096, p]⟩ a ha⟩, ⟨⟨3, ![16, 4096, q]⟩, shapeCast ⟨3, ![16, 4096, q]⟩ b hb⟩] hc
      (ix3 e s ⟨p + i.val, hi_lt h i⟩) = b (ix2 (at_ e s) i) :=
  (concatenate_pair_apply_right (t := ⟨3, ![16, 4096, n]⟩) (s₁ := ⟨3, ![16, 4096, p]⟩) (s₂ := ⟨3, ![16, 4096, q]⟩) 2 _ _ hc (ix3 e s ⟨p + i.val, hi_lt h i⟩) rfl rfl (ix3 e s i)
    (fun a ha => by match a, ha with | ⟨0, _⟩, _ => rfl | ⟨1, _⟩, _ => rfl | ⟨2, _⟩, ha => exact absurd rfl ha)
    (show i.val + p = p + i.val from Nat.add_comm i.val p)).trans (rows_apply b hb e s i)

end Join

/-- One branch's part of the projection, a tile of rows against the projection's rows. -/
theorem part_apply {K : ℕ} (a : FVec Ideal ⟨2, ![512, K]⟩ .bf16) (w : FVec Ideal ⟨3, ![1, K, 1024]⟩ .bf16) (h : (⟨3, ![1, K, 1024]⟩ : Shape).ShapeCasts ⟨2, ![K, 1024]⟩)
    (r : Fin 512) (C : Fin 1024) :
    matmul (DotDims.plain 512 K 1024) none a (shapeCast ⟨2, ![K, 1024]⟩ w h : FVec Ideal ⟨2, ![K, 1024]⟩ .bf16) (constant ⟨2, ![512, 1024]⟩ .f32 0x00000000#32) (ix2 r C)
      = ∑ k : Fin K, a (ix2 r k) * w (ix3 (0 : Fin 1) k C) := by
  refine (Ideal.matmul_plain_apply (M := 512) (K := K) (N := 1024) none _ _ _ r C).trans ?_
  rw [constant_apply, Ideal.ofBits_zero_f32, zero_add]
  exact Finset.sum_congr rfl fun k _ => congrArg (a (ix2 r k) * ·) (shapeCast_1ab_ab_apply w h k C)

end Cert.Mix

end
-- ==== Proof.Mix.Blk3.lean ====
/-
  One block of the first output-projection kernel's result (768 and 256 branch columns).
-/
module

public import proofs.«01_k».proof.Proof.Gen.Kernel3Ideal.Frame
public import proofs.«01_k».proof.Proof.Mix.Row

@[expose] public section

set_option maxRecDepth 16384

noncomputable section

namespace Cert.Kernel3Ideal.Mix

open Cert.Kernel3Ideal Cert.Kernel3Ideal.Gen
open Idealize.ShloMosaic Idealize.ShloMosaic.ValueIdx
open Cert.Ffn Cert.Mix

variable (x : FVec Ideal S512x1024 .f32) (mm md : FVec Ideal S1x3x1024 .f32) (a : FVec Ideal S512x768 .bf16) (b : FVec Ideal S512x256 .bf16)
  (wo : FVec Ideal S1x1024x1024 .bf16) (g : FVec Ideal S1x1024 .f32) (W : FVec Ideal S1x1x1024x5632 .bf16) (D : FVec Ideal S1x1x2816x1024 .bf16)

/-- The rows that enter the feed-forward part. -/
def ins : FVec Ideal S512x1024 .f32 := k0_pay2 (F := Ideal) a (View.ld wo r0_1) b (View.ld wo r0_3) x mm

theorem ins_apply (r : Fin 512) (k : Fin 1024) :
    ins x mm a b wo (ix2 r k)
      = mixed (p := 768) (q := 256) (n := 1024) rfl (fun k => x (ix2 r k)) (fun k => mm (ix3 (0 : Fin 1) (2 : Fin 3) k))
          (fun i => a (ix2 r i)) (fun i => b (ix2 r i)) (fun j k => wo (ix3 (0 : Fin 1) j k)) k := by
  unfold ins k0_pay2 mixed proj
  rw [addf_apply, mulf_apply, broadcastTo_1b_ab_apply, addf_apply]
  refine congrArg (x (ix2 r k) + ·) (congrArg₂ (· * ·) (Cert.Kernel2Ideal.Ffn.md_apply mm 2 _ 2 rfl k) (congrArg₂ (· + ·) ?_ ?_))
  · exact (part_apply a _ _ r k).trans (Finset.sum_congr rfl fun i _ => congrArg (fun j => a (ix2 r i) * wo j) (ix3_of _ _ _ _ rfl (by show 0 + 1 * i.val = i.val; omega) (by show 0 + 1 * k.val = k.val; omega)))
  · exact (part_apply b _ _ r k).trans (Finset.sum_congr rfl fun i _ => congrArg (fun j => b (ix2 r i) * wo j) (ix3_of _ _ _ _ rfl (by show 768 + 1 * i.val = 768 + i.val; omega) (by show 0 + 1 * k.val = k.val; omega)))

/-- What the body stores is the feed-forward body's own function of those rows. -/
theorem out_eq : out0_9 (F := Ideal) x mm md a b wo g W D
    = Cert.Kernel2Ideal.Gen.k0_pay1 (F := Ideal) (ins x mm a b wo) (Cert.Kernel2Ideal.Gen.k0_pay2 md) (Cert.Kernel2Ideal.Gen.k0_pay3 (ins x mm a b wo) md g W) D := by
  have h2 : (![0, 0] : Fin 2 → ℕ) = fun _ => 0 := funext fun a => by fin_cases a <;> rfl
  have h3 : (![0, 0, 0] : Fin 3 → ℕ) = fun _ => 0 := funext fun a => by fin_cases a <;> rfl
  have h4 : (![0, 0, 0, 0] : Fin 4 → ℕ) = fun _ => 0 := funext fun a => by fin_cases a <;> rfl
  unfold out0_9
  refine (View.canon_unit_zero h2 ..).trans ?_
  have e0 : View.ld (Val := Elt Ideal) (e' := .f32) x r0_4 = x := View.ld_unit_zero h2 ..
  have e1 : View.ld (Val := Elt Ideal) (e' := .f32) mm r0_5 = mm := View.ld_unit_zero h3 ..
  have e2 : View.ld (Val := Elt Ideal) (e' := .f32) md r0_5 = md := View.ld_unit_zero h3 ..
  have e3 : View.ld (Val := Elt Ideal) (e' := .bf16) a r0_0 = a := View.ld_unit_zero h2 ..
  have e4 : View.ld (Val := Elt Ideal) (e' := .bf16) b r0_2 = b := View.ld_unit_zero h2 ..
  have e5 : View.ld (Val := Elt Ideal) (e' := .f32) g r0_6 = g := View.ld_unit_zero h2 ..
  have e6 : View.ld (Val := Elt Ideal) (e' := .bf16) W r0_7 = W := View.ld_unit_zero h4 ..
  have e7 : View.ld (Val := Elt Ideal) (e' := .bf16) D r0_8 = D := View.ld_unit_zero h4 ..
  rw [e0, e1, e2, e3, e4, e5, e6, e7]
  rfl

/-- One element of the block. -/
theorem out_apply (r : Fin 512) (C : Fin 1024) :
    (out0_9 (F := Ideal) x mm md a b wo g W D : FVec Ideal S512x1024 .f32) (ix2 r C)
      = row (mixed (p := 768) (q := 256) (n := 1024) rfl (fun k => x (ix2 r k)) (fun k => mm (ix3 (0 : Fin 1) (2 : Fin 3) k))
            (fun i => a (ix2 r i)) (fun i => b (ix2 r i)) (fun j k => wo (ix3 (0 : Fin 1) j k)))
          (fun k => md (ix3 (0 : Fin 1) (0 : Fin 3) k)) (fun k => md (ix3 (0 : Fin 1) (1 : Fin 3) k)) (fun k => md (ix3 (0 : Fin 1) (2 : Fin 3) k))
          (fun k => g (ix2 (0 : Fin 1) k)) (fun k n => W (ix4 (0 : Fin 1) (0 : Fin 1) k n)) (fun n C => D (ix4 (0 : Fin 1) (0 : Fin 1) n C)) C := by
  rw [out_eq]
  refine (Cert.Kernel2Ideal.Ffn.tile_apply _ _ _ _ _ r C).trans ?_
  exact congrArg (fun y => row y _ _ _ _ _ _ C) (funext fun k => ins_apply x mm a b wo r k)

end Cert.Kernel3Ideal.Mix

end
-- ==== Proof.Mix.Chain.lean ====
/-
  The reference's feed-forward part as a function of the rows that enter it, and one element of its result.
-/
module

public import proofs.«01_k».proof.Proof.Mix.Row

@[expose] public section

set_option maxRecDepth 16384

noncomputable section

namespace Cert.Mix

open Cert.Reference2Ideal Cert.Reference2Ideal.Gen Cert.Reference2Ideal.Read Cert.Reference2Ideal.Ffn
open Idealize.ShloMosaic Idealize.ShloMosaic.ValueIdx
open Cert.Ffn

variable (xl : FVec Ideal S16x4096x1024 .f32) (md : FVec Ideal S16x3x1024 .f32) (g : FVec Ideal S1024 .f32)
  (W : FVec Ideal S1024x5632 .f32) (D : FVec Ideal S2816x1024 .f32)

/-- The rows as they enter the hidden layer. -/
def chainHid : FVec Ideal S16x4096x1024 .f32 :=
  addf (mulf (mulf (mulf xl (broadcastInDim S16x4096x1024 ![0, 1, 2] bcast_S16x4096x1_S16x4096x1024_0_1_2
      (Host.rsqrt (addf (Host.divf (broadcastInDim S16x4096x1 ![0, 1] bcast_S16x4096_S16x4096x1_0_1
        (Host.reduceAdd (mulf xl xl) (val_main_cst (F := Ideal)) reducesTo_S16x4096x1024_S16x4096_d2 h_S_)) (val_main_v15 (F := Ideal))) (val_main_v17 (F := Ideal))))))
      (val_main_v23 (F := Ideal) g)) (val_main_v27 (F := Ideal) md)) (val_main_v29 (F := Ideal) md)

/-- The hidden layer's two halves in one. -/
def chainGu : FVec Ideal S16x4096x5632 .f32 :=
  Host.dotGeneral dot_S16x4096x1024_S1024x5632_S16x4096x5632_2_0_01_1_n_n none (chainHid xl md g) W

/-- The first half, which the activation is of. -/
def chainLo : FVec Ideal S16x4096x2816 .f32 :=
  extractStridedSlice S16x4096x2816 ![0, 0, 0] (chainGu xl md g W) slices_S16x4096x5632_S16x4096x2816_0_0_0

/-- The hidden rows. -/
def chainMid : FVec Ideal S16x4096x2816 .f32 :=
  mulf (mulf (chainLo xl md g W) (Host.divf (val_main_call0_v4 (F := Ideal)) (addf (val_main_call0_v2 (F := Ideal)) (Host.exp (Host.negf (chainLo xl md g W))))))
    (extractStridedSlice S16x4096x2816 ![0, 0, 2816] (chainGu xl md g W) slices_S16x4096x5632_S16x4096x2816_0_0_2816)

/-- The rows that leave. -/
def chain : FVec Ideal S65536x1024 .f32 :=
  shapeCast S65536x1024 (addf xl (mulf (val_main_v39 (F := Ideal) md)
    (Host.dotGeneral dot_S16x4096x2816_S2816x1024_S16x4096x1024_2_0_01_1_n_n none (chainMid xl md g W) D))) shapeCasts_S16x4096x1024_S65536x1024

/-- The feed-forward reference is that function of its own pieces. -/
theorem val_chain (x0 : FVec Ideal S65536x1024 .f32) (x3 : FVec Ideal S4x2x1024x5632 .f32) (x4 : FVec Ideal S4x2x2816x1024 .f32) :
    val_main_v42 (F := Ideal) x0 md g x3 x4 = chain (val_main_v0 (F := Ideal) x0) md g (val_main_v9 (F := Ideal) x3) (val_main_v11 (F := Ideal) x4) := rfl

/-- One element, whatever the pieces. -/
theorem chain_apply (b : Fin 16) (s : Fin 4096) (C : Fin 1024) :
    chain xl md g W D (ix2 (at_ b s) C)
      = row (fun k => xl (ix3 b s k)) (fun k => md (ix3 b (0 : Fin 3) k)) (fun k => md (ix3 b (1 : Fin 3) k)) (fun k => md (ix3 b (2 : Fin 3) k))
          (fun k => g (ix1 k)) (fun k n => W (ix2 k n)) (fun n C => D (ix2 n C)) C := by
  let x0 : FVec Ideal S65536x1024 .f32 := shapeCast S65536x1024 xl shapeCasts_S16x4096x1024_S65536x1024
  let x3 : FVec Ideal S4x2x1024x5632 .f32 := fun i => W (ix2 (i 2) (i 3))
  let x4 : FVec Ideal S4x2x2816x1024 .f32 := fun i => D (ix2 (i 2) (i 3))
  have e0 : val_main_v0 (F := Ideal) x0 = xl := shapeCast_shapeCast xl _ _
  have e3 : val_main_v9 (F := Ideal) x3 = W := funext fun i => by
    rw [ix2_of i (i 0) (i 1) rfl rfl]; exact up_apply x3 (i 0) (i 1)
  have e4 : val_main_v11 (F := Ideal) x4 = D := funext fun i => by
    rw [ix2_of i (i 0) (i 1) rfl rfl]; exact down_apply x4 (i 0) (i 1)
  have e := val_chain md g x0 x3 x4
  rw [e0, e3, e4] at e
  rw [← e, res_apply x0 md g x3 x4 b s C]
  have ex : (fun k => x0 (ix2 (at_ b s) k)) = fun k => xl (ix3 b s k) := funext fun k => by rw [← x_apply x0 b s k, e0]
  rw [ex]

end Cert.Mix

end
-- ==== Proof.Mix.Ref3.lean ====
/-
  One element of the first output-projection reference's result (768 and 256 branch columns).
-/
module

public import proofs.«01_k».proof.Proof.Gen.Reference3Ideal.Read
public import proofs.«01_k».proof.Proof.Mix.Chain

@[expose] public section

set_option maxRecDepth 16384

noncomputable section

namespace Cert.Reference3Ideal.Mix

open Cert.Reference3Ideal Cert.Reference3Ideal.Gen Cert.Reference3Ideal.Read
open Idealize.ShloMosaic Idealize.ShloMosaic.ValueIdx
open Cert.Ffn Cert.Mix
open Cert.Reference2Ideal.Ffn (at_)

variable (x0 : FVec Ideal S65536x1024 .f32) (x1 x2 : FVec Ideal S16x3x1024 .f32) (x3 : FVec Ideal S65536x768 .bf16) (x4 : FVec Ideal S65536x256 .bf16)
  (x5 : FVec Ideal S2x1024x1024 .f32) (x6 : FVec Ideal S1024 .f32) (x7 : FVec Ideal S4x2x1024x5632 .f32) (x8 : FVec Ideal S4x2x2816x1024 .f32)
  (b : Fin 16) (s : Fin 4096)

theorem wo_apply (j k : Fin 1024) : val_main_v10 (F := Ideal) x5 (ix2 j k) = x5 (ix3 (0 : Fin 2) j k) := by
  rw [val_main_v10_apply, val_main_v9_apply]
  refine congrArg x5 (ix3_of _ _ _ _ rfl ?_ ?_)
  · show (j.val * 1024 + k.val) / 1024 % 1024 = j.val; omega
  · show (j.val * 1024 + k.val) % 1024 = k.val; omega

/-- The rows that enter the feed-forward part. -/
theorem mix_apply (k : Fin 1024) :
    val_main_v14 (F := Ideal) x0 x1 x3 x4 x5 (ix3 b s k)
      = mixed (p := 768) (q := 256) (n := 1024) rfl (fun k => x0 (ix2 (at_ b s) k)) (fun k => x1 (ix3 b (2 : Fin 3) k))
          (fun i => x3 (ix2 (at_ b s) i)) (fun i => x4 (ix2 (at_ b s) i)) (fun j k => x5 (ix3 (0 : Fin 2) j k)) k := by
  rw [val_main_v14_apply, val_main_v13_apply, val_main_v12_apply, val_main_v11_apply, sum_split (p := 768) (q := 256) (n := 1024) rfl]
  unfold mixed proj
  refine congrArg₂ (· + ·) (Cert.Reference2Ideal.Ffn.x_apply x0 b s k) (congrArg₂ (· * ·) ?_ (congrArg₂ (· + ·) ?_ ?_))
  · exact (congrArg (val_main_v7 (F := Ideal) x1) (ix3_of _ b (0 : Fin 1) k rfl rfl rfl)).trans (Cert.Reference2Ideal.Ffn.gate_apply x1 b k)
  · refine Finset.sum_congr rfl fun i _ => congrArg₂ (· * ·) ?_ ?_
    · exact (congrArg (val_main_v5 (F := Ideal) x3 x4) (ix3_of _ b s _ rfl rfl rfl)).trans (join_lo (p := 768) (q := 256) (n := 1024) rfl x3 x4 _ _ _ b s i)
    · exact (congrArg (val_main_v10 (F := Ideal) x5) (ix2_of _ _ k rfl rfl)).trans (wo_apply x5 _ k)
  · refine Finset.sum_congr rfl fun i _ => congrArg₂ (· * ·) ?_ ?_
    · exact (congrArg (val_main_v5 (F := Ideal) x3 x4) (ix3_of _ b s _ rfl rfl rfl)).trans (join_hi (p := 768) (q := 256) (n := 1024) rfl x3 x4 _ _ _ b s i)
    · exact (congrArg (val_main_v10 (F := Ideal) x5) (ix2_of _ _ k rfl rfl)).trans (wo_apply x5 _ k)

theorem up_apply (k : Fin 1024) (n : Fin 5632) : val_main_v22 (F := Ideal) x7 (ix2 k n) = x7 (ix4 (0 : Fin 4) (1 : Fin 2) k n) := by
  rw [val_main_v22_apply, val_main_v21_apply]
  refine congrArg x7 (ix4_of _ _ _ _ _ rfl rfl ?_ ?_)
  · show (k.val * 5632 + n.val) / 5632 % 1024 = k.val; omega
  · show (k.val * 5632 + n.val) % 5632 = n.val; omega

theorem down_apply (n : Fin 2816) (k : Fin 1024) : val_main_v24 (F := Ideal) x8 (ix2 n k) = x8 (ix4 (0 : Fin 4) (1 : Fin 2) n k) := by
  rw [val_main_v24_apply, val_main_v23_apply]
  refine congrArg x8 (ix4_of _ _ _ _ _ rfl rfl ?_ ?_)
  · show (n.val * 1024 + k.val) / 1024 % 2816 = n.val; omega
  · show (n.val * 1024 + k.val) % 1024 = k.val; omega

/-- The result is the feed-forward part of those rows. -/
theorem val_chain : val_main_v55 (F := Ideal) x0 x1 x2 x3 x4 x5 x6 x7 x8
    = chain (val_main_v14 (F := Ideal) x0 x1 x3 x4 x5) x2 x6 (val_main_v22 (F := Ideal) x7) (val_main_v24 (F := Ideal) x8) := rfl

/-- One element of the result. -/
theorem res_apply (C : Fin 1024) :
    val_main_v55 (F := Ideal) x0 x1 x2 x3 x4 x5 x6 x7 x8 (ix2 (at_ b s) C)
      = row (mixed (p := 768) (q := 256) (n := 1024) rfl (fun k => x0 (ix2 (at_ b s) k)) (fun k => x1 (ix3 b (2 : Fin 3) k))
            (fun i => x3 (ix2 (at_ b s) i)) (fun i => x4 (ix2 (at_ b s) i)) (fun j k => x5 (ix3 (0 : Fin 2) j k)))
          (fun k => x2 (ix3 b (0 : Fin 3) k)) (fun k => x2 (ix3 b (1 : Fin 3) k)) (fun k => x2 (ix3 b (2 : Fin 3) k))
          (fun k => x6 (ix1 k)) (fun k n => x7 (ix4 (0 : Fin 4) (1 : Fin 2) k n)) (fun n C => x8 (ix4 (0 : Fin 4) (1 : Fin 2) n C)) C := by
  rw [val_chain]
  refine (chain_apply _ _ _ _ _ b s C).trans ?_
  simp only [mix_apply, up_apply, down_apply]

end Cert.Reference3Ideal.Mix

end
-- ==== Proof.Mix.Arr3.lean ====
/-
  The result array of the first output-projection kernel at extended reals: the reference's result of the same arguments,
  block by block.
-/
module

public import proofs.«01_k».proof.Proof.Gen.Kernel3Ideal.Value
public import proofs.«01_k».proof.Proof.Mix.Blk3
public import proofs.«01_k».proof.Proof.Mix.Ref3
public import Idealize.ShloMosaic.Lib.Claim

@[expose] public section

set_option maxRecDepth 16384

noncomputable section

namespace Cert.Kernel3Ideal.Mix

open Cert.Kernel3Ideal Cert.Kernel3Ideal.Gen
open Idealize.ShloMosaic Idealize.ShloMosaic.ValueIdx Idealize.ShloMosaic.TcCoe Idealize.ShloMosaic.Tactic
open Cert.Ffn Cert.Mix
open Cert.Reference2Ideal.Ffn (at_)

variable (m : (ℓ : Loc nD τ sig) → Buf (Elt Ideal) ℓ)

/-- Point `t` takes rows `512 t` on, of sample `t / 8`; the weights' blocks stay. -/
theorem idx_0 : ∀ t : Fin cfg0.N, win0_0.index t (0 : Fin 2) = t.val ∧ win0_0.index t (1 : Fin 2) = 0 := (by decide +kernel : ∀ t : Fin grid0.N, _)
theorem idx_1 : ∀ t : Fin cfg0.N, win0_1.index t (0 : Fin 3) = t.val / 8 ∧ win0_1.index t (1 : Fin 3) = 0 ∧ win0_1.index t (2 : Fin 3) = 0 := (by decide +kernel : ∀ t : Fin grid0.N, _)
theorem idx_2 : ∀ t : Fin cfg0.N, win0_2.index t (0 : Fin 3) = t.val / 8 ∧ win0_2.index t (1 : Fin 3) = 0 ∧ win0_2.index t (2 : Fin 3) = 0 := (by decide +kernel : ∀ t : Fin grid0.N, _)
theorem idx_3 : ∀ t : Fin cfg0.N, win0_3.index t (0 : Fin 2) = t.val ∧ win0_3.index t (1 : Fin 2) = 0 := (by decide +kernel : ∀ t : Fin grid0.N, _)
theorem idx_4 : ∀ t : Fin cfg0.N, win0_4.index t (0 : Fin 2) = t.val ∧ win0_4.index t (1 : Fin 2) = 0 := (by decide +kernel : ∀ t : Fin grid0.N, _)
theorem idx_5 : ∀ t : Fin cfg0.N, win0_5.index t (0 : Fin 3) = 0 ∧ win0_5.index t (1 : Fin 3) = 0 ∧ win0_5.index t (2 : Fin 3) = 0 := (by decide +kernel : ∀ t : Fin grid0.N, _)
theorem idx_6 : ∀ t : Fin cfg0.N, win0_6.index t (0 : Fin 2) = 0 ∧ win0_6.index t (1 : Fin 2) = 0 := (by decide +kernel : ∀ t : Fin grid0.N, _)
theorem idx_7 : ∀ t : Fin cfg0.N, win0_7.index t (0 : Fin 4) = 0 ∧ win0_7.index t (1 : Fin 4) = 1 ∧ win0_7.index t (2 : Fin 4) = 0 ∧ win0_7.index t (3 : Fin 4) = 0 := (by decide +kernel : ∀ t : Fin grid0.N, _)
theorem idx_8 : ∀ t : Fin cfg0.N, win0_8.index t (0 : Fin 4) = 0 ∧ win0_8.index t (1 : Fin 4) = 1 ∧ win0_8.index t (2 : Fin 4) = 0 ∧ win0_8.index t (3 : Fin 4) = 0 := (by decide +kernel : ∀ t : Fin grid0.N, _)
theorem idx_9 : ∀ t : Fin cfg0.N, win0_9.index t (0 : Fin 2) = t.val ∧ win0_9.index t (1 : Fin 2) = 0 := (by decide +kernel : ∀ t : Fin grid0.N, _)

theorem lt_128 (t : Fin cfg0.N) : t.val < 128 := lt_of_lt_of_eq t.isLt N_0

/-- The sample point `t` takes, and the place in it of the block's row `r`. -/
abbrev smp (t : Fin cfg0.N) : Fin 16 := tileSmp t.val (lt_128 t)
abbrev pos (t : Fin cfg0.N) (r : Fin 512) : Fin 4096 := tilePos t.val r

/-- The launched arguments. -/
abbrev arg0 (c : Dev nD) : Vec Ideal S65536x1024 .f32 := m ((c : Thread nD τ).loc main_arg0)
abbrev arg1 (c : Dev nD) : Vec Ideal S16x3x1024 .f32 := m ((c : Thread nD τ).loc main_arg1)
abbrev arg2 (c : Dev nD) : Vec Ideal S16x3x1024 .f32 := m ((c : Thread nD τ).loc main_arg2)
abbrev arg3 (c : Dev nD) : Vec Ideal S65536x768 .bf16 := m ((c : Thread nD τ).loc main_arg3)
abbrev arg4 (c : Dev nD) : Vec Ideal S65536x256 .bf16 := m ((c : Thread nD τ).loc main_arg4)
abbrev arg5 (c : Dev nD) : Vec Ideal S2x1024x1024 .f32 := m ((c : Thread nD τ).loc main_arg5)
abbrev arg6 (c : Dev nD) : Vec Ideal S1024 .f32 := m ((c : Thread nD τ).loc main_arg6)
abbrev arg7 (c : Dev nD) : Vec Ideal S4x2x1024x5632 .f32 := m ((c : Thread nD τ).loc main_arg7)
abbrev arg8 (c : Dev nD) : Vec Ideal S4x2x2816x1024 .f32 := m ((c : Thread nD τ).loc main_arg8)

theorem V_wo (c : Dev nD) : (V m c main_v0 : Vec Ideal S2x1024x1024 .bf16) = truncf (F := Ideal) .bf16 (arg5 m c : FVec Ideal S2x1024x1024 .f32) bitsLt_bf16_f32 := by
  entry_read <;> rfl
theorem V_up (c : Dev nD) : (V m c main_v1 : Vec Ideal S4x2x1024x5632 .bf16) = truncf (F := Ideal) .bf16 (arg7 m c : FVec Ideal S4x2x1024x5632 .f32) bitsLt_bf16_f32 := by
  entry_read <;> rfl
theorem V_down (c : Dev nD) : (V m c main_v2 : Vec Ideal S4x2x2816x1024 .bf16) = truncf (F := Ideal) .bf16 (arg8 m c : FVec Ideal S4x2x2816x1024 .f32) bitsLt_bf16_f32 := by
  entry_read <;> rfl
theorem V_g (c : Dev nD) : (V m c main_v3 : Vec Ideal S1x1024 .f32) = shapeCast S1x1024 (arg6 m c) shapeCasts_S1024_S1x1024 := by
  entry_read <;> rfl

theorem blk0_apply (c : Dev nD) (t : Fin cfg0.N) (r : Fin 512) (k : Fin 1024) :
    (iblk m c 0 t : Vec Ideal S512x1024 .f32) (ix2 r k) = arg0 m c (ix2 (at_ (smp t) (pos t r)) k) := by
  obtain ⟨e0, e1⟩ := idx_0 t
  show V m c main_arg0 (((cfg0.win 0).blk t).view.emb (ix2 r k)) = _
  rw [V_main_arg0]
  exact congrArg (arg0 m c) (ix2_of _ _ _ (row_at e0 r) (col_at e1 k))

theorem blk1_apply (c : Dev nD) (t : Fin cfg0.N) (e : Fin 3) (k : Fin 1024) :
    (iblk m c 1 t : Vec Ideal S1x3x1024 .f32) (ix3 (0 : Fin 1) e k) = arg1 m c (ix3 (smp t) e k) := by
  obtain ⟨e0, e1, e2⟩ := idx_1 t
  show V m c main_arg1 (((cfg0.win 1).blk t).view.emb (ix3 (0 : Fin 1) e k)) = _
  rw [V_main_arg1]
  exact congrArg (arg1 m c) (ix3_of _ _ _ _ (one_at e0) (col_at e1 e) (col_at e2 k))

theorem blk2_apply (c : Dev nD) (t : Fin cfg0.N) (e : Fin 3) (k : Fin 1024) :
    (iblk m c 2 t : Vec Ideal S1x3x1024 .f32) (ix3 (0 : Fin 1) e k) = arg2 m c (ix3 (smp t) e k) := by
  obtain ⟨e0, e1, e2⟩ := idx_2 t
  show V m c main_arg2 (((cfg0.win 2).blk t).view.emb (ix3 (0 : Fin 1) e k)) = _
  rw [V_main_arg2]
  exact congrArg (arg2 m c) (ix3_of _ _ _ _ (one_at e0) (col_at e1 e) (col_at e2 k))

theorem blk3_apply (c : Dev nD) (t : Fin cfg0.N) (r : Fin 512) (i : Fin 768) :
    (iblk m c 3 t : Vec Ideal S512x768 .bf16) (ix2 r i) = arg3 m c (ix2 (at_ (smp t) (pos t r)) i) := by
  obtain ⟨e0, e1⟩ := idx_3 t
  show V m c main_arg3 (((cfg0.win 3).blk t).view.emb (ix2 r i)) = _
  rw [V_main_arg3]
  exact congrArg (arg3 m c) (ix2_of _ _ _ (row_at e0 r) (col_at e1 i))

theorem blk4_apply (c : Dev nD) (t : Fin cfg0.N) (r : Fin 512) (i : Fin 256) :
    (iblk m c 4 t : Vec Ideal S512x256 .bf16) (ix2 r i) = arg4 m c (ix2 (at_ (smp t) (pos t r)) i) := by
  obtain ⟨e0, e1⟩ := idx_4 t
  show V m c main_arg4 (((cfg0.win 4).blk t).view.emb (ix2 r i)) = _
  rw [V_main_arg4]
  exact congrArg (arg4 m c) (ix2_of _ _ _ (row_at e0 r) (col_at e1 i))

theorem blk5_apply (c : Dev nD) (t : Fin cfg0.N) (j k : Fin 1024) :
    (iblk m c 5 t : Vec Ideal S1x1024x1024 .bf16) (ix3 (0 : Fin 1) j k) = arg5 m c (ix3 (0 : Fin 2) j k) := by
  obtain ⟨e0, e1, e2⟩ := idx_5 t
  show (V m c main_v0 : Vec Ideal S2x1024x1024 .bf16) (((cfg0.win 5).blk t).view.emb (ix3 (0 : Fin 1) j k)) = _
  rw [V_wo]
  exact congrArg (arg5 m c) (ix3_of _ _ _ _ (one_at e0) (col_at e1 j) (col_at e2 k))

theorem blk6_apply (c : Dev nD) (t : Fin cfg0.N) (k : Fin 1024) :
    (iblk m c 6 t : Vec Ideal S1x1024 .f32) (ix2 (0 : Fin 1) k) = arg6 m c (ix1 k) := by
  obtain ⟨e0, e1⟩ := idx_6 t
  show (V m c main_v3 : Vec Ideal S1x1024 .f32) (((cfg0.win 6).blk t).view.emb (ix2 (0 : Fin 1) k)) = _
  rw [V_g]
  exact (congrArg (shapeCast S1x1024 (arg6 m c) shapeCasts_S1024_S1x1024) (ix2_of _ (0 : Fin 1) k (one_at e0) (col_at e1 k))).trans (shapeCast_a_1a_apply _ _ _ _)

theorem blk7_apply (c : Dev nD) (t : Fin cfg0.N) (k : Fin 1024) (n : Fin 5632) :
    (iblk m c 7 t : Vec Ideal S1x1x1024x5632 .bf16) (ix4 (0 : Fin 1) (0 : Fin 1) k n) = arg7 m c (ix4 (0 : Fin 4) (1 : Fin 2) k n) := by
  obtain ⟨e0, e1, e2, e3⟩ := idx_7 t
  show (V m c main_v1 : Vec Ideal S4x2x1024x5632 .bf16) (((cfg0.win 7).blk t).view.emb (ix4 (0 : Fin 1) (0 : Fin 1) k n)) = _
  rw [V_up]
  exact congrArg (arg7 m c) (ix4_of _ _ _ _ _ (one_at e0) (one_at e1) (col_at e2 k) (col_at e3 n))

theorem blk8_apply (c : Dev nD) (t : Fin cfg0.N) (n : Fin 2816) (k : Fin 1024) :
    (iblk m c 8 t : Vec Ideal S1x1x2816x1024 .bf16) (ix4 (0 : Fin 1) (0 : Fin 1) n k) = arg8 m c (ix4 (0 : Fin 4) (1 : Fin 2) n k) := by
  obtain ⟨e0, e1, e2, e3⟩ := idx_8 t
  show (V m c main_v2 : Vec Ideal S4x2x2816x1024 .bf16) (((cfg0.win 8).blk t).view.emb (ix4 (0 : Fin 1) (0 : Fin 1) n k)) = _
  rw [V_down]
  exact congrArg (arg8 m c) (ix4_of _ _ _ _ _ (one_at e0) (one_at e1) (col_at e2 n) (col_at e3 k))

/-- What the result array is shown to hold. -/
abbrev res (c : Dev nD) : Vec Ideal S65536x1024 .f32 :=
  Cert.Reference3Ideal.Read.val_main_v55 (F := Ideal) (arg0 m c) (arg1 m c) (arg2 m c) (arg3 m c) (arg4 m c) (arg5 m c) (arg6 m c) (arg7 m c) (arg8 m c)

theorem emb_9 (t : Fin cfg0.N) (r : Fin 512) (C : Fin 1024) :
    ((cfg0.win 9).blk t).view.emb (ix2 r C) = ix2 (at_ (smp t) (pos t r)) C := by
  obtain ⟨e0, e1⟩ := idx_9 t
  exact ix2_of _ _ _ (row_at e0 r) (col_at e1 C)

/-- What point `t` leaves is its rows of the reference's result. -/
theorem left_apply (c : Dev nD) (t : Fin cfg0.N) (r : Fin 512) (C : Fin 1024) :
    (out0_9 (iblk m c 0 t) (iblk m c 1 t) (iblk m c 2 t) (iblk m c 3 t) (iblk m c 4 t) (iblk m c 5 t) (iblk m c 6 t) (iblk m c 7 t) (iblk m c 8 t) : Vec Ideal S512x1024 .f32) (ix2 r C)
      = res m c (((cfg0.win 9).blk t).view.emb (ix2 r C)) := by
  rw [emb_9]
  refine (out_apply _ _ _ _ _ _ _ _ _ r C).trans ?_
  refine Eq.trans ?_ (Cert.Reference3Ideal.Mix.res_apply (arg0 m c) (arg1 m c) (arg2 m c) (arg3 m c) (arg4 m c) (arg5 m c) (arg6 m c) (arg7 m c) (arg8 m c)
    (smp t) (pos t r) C).symm
  simp only [blk0_apply, blk1_apply, blk2_apply, blk3_apply, blk4_apply, blk5_apply, blk6_apply, blk7_apply, blk8_apply]

theorem flushed_9 (c : Dev nD) (t : Fin cfg0.N) :
    (dats m 0 c).flushed 9 t = ((cfg0.win 9).blk t).view.read (Elt Ideal) (res m c) := by
  rw [Cert.Kernel3Ideal.Value.flushed9]
  funext j
  have e := left_apply m c t (j 0) (j 1)
  rw [← ix2_of j (j 0) (j 1) rfl rfl] at e
  exact e

/-- The points' blocks fill the array. -/
theorem covered_9 (i : S65536x1024.Idx) : ∃ t : Fin cfg0.N, (cfg0.win 9).flush t = true ∧ i ∈ ((cfg0.win 9).blk t).view.set := by
  have h0 : (i 0).val < 65536 := (i 0).isLt
  have hN : cfg0.N = 128 := N_0
  have ht : (i 0).val / 512 < cfg0.N := by omega
  have hr : (i 0).val % 512 < 512 := by omega
  refine ⟨⟨(i 0).val / 512, ht⟩, flush0_9 _, ?_⟩
  have h := ((cfg0.win 9).blk (⟨(i 0).val / 512, ht⟩ : Fin cfg0.N)).view.emb_mem_set (ix2 (⟨(i 0).val % 512, hr⟩ : Fin 512) (i 1))
  have e := emb_9 (⟨(i 0).val / 512, ht⟩ : Fin cfg0.N) ⟨(i 0).val % 512, hr⟩ (i 1)
  rw [e, ← ix2_of i _ (i 1) (tile_of h0) rfl] at h
  exact h

theorem final_9 (c : Dev nD) : (dats m 0 c).arrAt 9 cfg0.N = res m c :=
  (dats m 0 c).arrAt_eq_of_cover 9 (res m c) (fun t _ => flushed_9 m c t) covered_9

/-- The run's result, the arguments as launched. -/
theorem run_res (ρ : Dev nD → PrngReg) :
    θ_run defs (onTc (τ := τ) (main (F := Ideal))) ⟨m, fun _ => 0, ρ⟩ (fun r => ∀ c : Dev nD,
      r.2.mem ((c.tc : Thread nD τ).loc main_v4) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (final_9 m c), (h c).2⟩) (Cert.Kernel3Ideal.Value.run_blocks m ρ)

end Cert.Kernel3Ideal.Mix

end
-- ==== Proof.Mix.Blk4.lean ====
/-
  One block of the second output-projection kernel's result (512 and 512 branch columns).
-/
module

public import proofs.«01_k».proof.Proof.Gen.Kernel4Ideal.Frame
public import proofs.«01_k».proof.Proof.Mix.Row

@[expose] public section

set_option maxRecDepth 16384

noncomputable section

namespace Cert.Kernel4Ideal.Mix

open Cert.Kernel4Ideal Cert.Kernel4Ideal.Gen
open Idealize.ShloMosaic Idealize.ShloMosaic.ValueIdx
open Cert.Ffn Cert.Mix

variable (x : FVec Ideal S512x1024 .f32) (mm md : FVec Ideal S1x3x1024 .f32) (a b : FVec Ideal S512x512 .bf16)
  (wo : FVec Ideal S1x1024x1024 .bf16) (g : FVec Ideal S1x1024 .f32) (W : FVec Ideal S1x1x1024x5632 .bf16) (D : FVec Ideal S1x1x2816x1024 .bf16)

/-- The rows that enter the feed-forward part. -/
def ins : FVec Ideal S512x1024 .f32 := k0_pay2 (F := Ideal) a (View.ld wo r0_1) b (View.ld wo r0_2) x mm

theorem ins_apply (r : Fin 512) (k : Fin 1024) :
    ins x mm a b wo (ix2 r k)
      = mixed (p := 512) (q := 512) (n := 1024) rfl (fun k => x (ix2 r k)) (fun k => mm (ix3 (0 : Fin 1) (2 : Fin 3) k))
          (fun i => a (ix2 r i)) (fun i => b (ix2 r i)) (fun j k => wo (ix3 (0 : Fin 1) j k)) k := by
  unfold ins k0_pay2 mixed proj
  rw [addf_apply, mulf_apply, broadcastTo_1b_ab_apply, addf_apply]
  refine congrArg (x (ix2 r k) + ·) (congrArg₂ (· * ·) (Cert.Kernel2Ideal.Ffn.md_apply mm 2 _ 2 rfl k) (congrArg₂ (· + ·) ?_ ?_))
  · exact (part_apply a _ _ r k).trans (Finset.sum_congr rfl fun i _ => congrArg (fun j => a (ix2 r i) * wo j) (ix3_of _ _ _ _ rfl (by show 0 + 1 * i.val = i.val; omega) (by show 0 + 1 * k.val = k.val; omega)))
  · exact (part_apply b _ _ r k).trans (Finset.sum_congr rfl fun i _ => congrArg (fun j => b (ix2 r i) * wo j) (ix3_of _ _ _ _ rfl (by show 512 + 1 * i.val = 512 + i.val; omega) (by show 0 + 1 * k.val = k.val; omega)))

/-- What the body stores is the feed-forward body's own function of those rows. -/
theorem out_eq : out0_9 (F := Ideal) x mm md a b wo g W D
    = Cert.Kernel2Ideal.Gen.k0_pay1 (F := Ideal) (ins x mm a b wo) (Cert.Kernel2Ideal.Gen.k0_pay2 md) (Cert.Kernel2Ideal.Gen.k0_pay3 (ins x mm a b wo) md g W) D := by
  have h2 : (![0, 0] : Fin 2 → ℕ) = fun _ => 0 := funext fun a => by fin_cases a <;> rfl
  have h3 : (![0, 0, 0] : Fin 3 → ℕ) = fun _ => 0 := funext fun a => by fin_cases a <;> rfl
  have h4 : (![0, 0, 0, 0] : Fin 4 → ℕ) = fun _ => 0 := funext fun a => by fin_cases a <;> rfl
  unfold out0_9
  refine (View.canon_unit_zero h2 ..).trans ?_
  have e0 : View.ld (Val := Elt Ideal) (e' := .f32) x r0_3 = x := View.ld_unit_zero h2 ..
  have e1 : View.ld (Val := Elt Ideal) (e' := .f32) mm r0_4 = mm := View.ld_unit_zero h3 ..
  have e2 : View.ld (Val := Elt Ideal) (e' := .f32) md r0_4 = md := View.ld_unit_zero h3 ..
  have e3 : View.ld (Val := Elt Ideal) (e' := .bf16) a r0_0 = a := View.ld_unit_zero h2 ..
  have e4 : View.ld (Val := Elt Ideal) (e' := .bf16) b r0_0 = b := View.ld_unit_zero h2 ..
  have e5 : View.ld (Val := Elt Ideal) (e' := .f32) g r0_5 = g := View.ld_unit_zero h2 ..
  have e6 : View.ld (Val := Elt Ideal) (e' := .bf16) W r0_6 = W := View.ld_unit_zero h4 ..
  have e7 : View.ld (Val := Elt Ideal) (e' := .bf16) D r0_7 = D := View.ld_unit_zero h4 ..
  rw [e0, e1, e2, e3, e4, e5, e6, e7]
  rfl

/-- One element of the block. -/
theorem out_apply (r : Fin 512) (C : Fin 1024) :
    (out0_9 (F := Ideal) x mm md a b wo g W D : FVec Ideal S512x1024 .f32) (ix2 r C)
      = row (mixed (p := 512) (q := 512) (n := 1024) rfl (fun k => x (ix2 r k)) (fun k => mm (ix3 (0 : Fin 1) (2 : Fin 3) k))
            (fun i => a (ix2 r i)) (fun i => b (ix2 r i)) (fun j k => wo (ix3 (0 : Fin 1) j k)))
          (fun k => md (ix3 (0 : Fin 1) (0 : Fin 3) k)) (fun k => md (ix3 (0 : Fin 1) (1 : Fin 3) k)) (fun k => md (ix3 (0 : Fin 1) (2 : Fin 3) k))
          (fun k => g (ix2 (0 : Fin 1) k)) (fun k n => W (ix4 (0 : Fin 1) (0 : Fin 1) k n)) (fun n C => D (ix4 (0 : Fin 1) (0 : Fin 1) n C)) C := by
  rw [out_eq]
  refine (Cert.Kernel2Ideal.Ffn.tile_apply _ _ _ _ _ r C).trans ?_
  exact congrArg (fun y => row y _ _ _ _ _ _ C) (funext fun k => ins_apply x mm a b wo r k)

end Cert.Kernel4Ideal.Mix

end
-- ==== Proof.Mix.Ref4.lean ====
/-
  One element of the second output-projection reference's result (512 and 512 branch columns).
-/
module

public import proofs.«01_k».proof.Proof.Gen.Reference4Ideal.Read
public import proofs.«01_k».proof.Proof.Mix.Ref3

@[expose] public section

set_option maxRecDepth 16384

noncomputable section

namespace Cert.Reference4Ideal.Mix

open Cert.Reference4Ideal Cert.Reference4Ideal.Gen Cert.Reference4Ideal.Read
open Idealize.ShloMosaic Idealize.ShloMosaic.ValueIdx
open Cert.Ffn Cert.Mix
open Cert.Reference2Ideal.Ffn (at_)

variable (x0 : FVec Ideal S65536x1024 .f32) (x1 x2 : FVec Ideal S16x3x1024 .f32) (x3 x4 : FVec Ideal S65536x512 .bf16)
  (x5 : FVec Ideal S2x1024x1024 .f32) (x6 : FVec Ideal S1024 .f32) (x7 : FVec Ideal S4x2x1024x5632 .f32) (x8 : FVec Ideal S4x2x2816x1024 .f32)
  (b : Fin 16) (s : Fin 4096)

/-- The rows that enter the feed-forward part. -/
theorem mix_apply (k : Fin 1024) :
    val_main_v14 (F := Ideal) x0 x1 x3 x4 x5 (ix3 b s k)
      = mixed (p := 512) (q := 512) (n := 1024) rfl (fun k => x0 (ix2 (at_ b s) k)) (fun k => x1 (ix3 b (2 : Fin 3) k))
          (fun i => x3 (ix2 (at_ b s) i)) (fun i => x4 (ix2 (at_ b s) i)) (fun j k => x5 (ix3 (0 : Fin 2) j k)) k := by
  rw [val_main_v14_apply, val_main_v13_apply, val_main_v12_apply, val_main_v11_apply, sum_split (p := 512) (q := 512) (n := 1024) rfl]
  unfold mixed proj
  refine congrArg₂ (· + ·) (Cert.Reference2Ideal.Ffn.x_apply x0 b s k) (congrArg₂ (· * ·) ?_ (congrArg₂ (· + ·) ?_ ?_))
  · exact (congrArg (val_main_v7 (F := Ideal) x1) (ix3_of _ b (0 : Fin 1) k rfl rfl rfl)).trans (Cert.Reference2Ideal.Ffn.gate_apply x1 b k)
  · refine Finset.sum_congr rfl fun i _ => congrArg₂ (· * ·) ?_ ?_
    · exact (congrArg (val_main_v5 (F := Ideal) x3 x4) (ix3_of _ b s _ rfl rfl rfl)).trans (join_lo (p := 512) (q := 512) (n := 1024) rfl x3 x4 _ _ _ b s i)
    · exact (congrArg (val_main_v10 (F := Ideal) x5) (ix2_of _ _ k rfl rfl)).trans (Cert.Reference3Ideal.Mix.wo_apply x5 _ k)
  · refine Finset.sum_congr rfl fun i _ => congrArg₂ (· * ·) ?_ ?_
    · exact (congrArg (val_main_v5 (F := Ideal) x3 x4) (ix3_of _ b s _ rfl rfl rfl)).trans (join_hi (p := 512) (q := 512) (n := 1024) rfl x3 x4 _ _ _ b s i)
    · exact (congrArg (val_main_v10 (F := Ideal) x5) (ix2_of _ _ k rfl rfl)).trans (Cert.Reference3Ideal.Mix.wo_apply x5 _ k)

/-- The result is the feed-forward part of those rows. -/
theorem val_chain : val_main_v55 (F := Ideal) x0 x1 x2 x3 x4 x5 x6 x7 x8
    = chain (val_main_v14 (F := Ideal) x0 x1 x3 x4 x5) x2 x6 (Cert.Reference3Ideal.Read.val_main_v22 (F := Ideal) x7) (Cert.Reference3Ideal.Read.val_main_v24 (F := Ideal) x8) := rfl

/-- One element of the result. -/
theorem res_apply (C : Fin 1024) :
    val_main_v55 (F := Ideal) x0 x1 x2 x3 x4 x5 x6 x7 x8 (ix2 (at_ b s) C)
      = row (mixed (p := 512) (q := 512) (n := 1024) rfl (fun k => x0 (ix2 (at_ b s) k)) (fun k => x1 (ix3 b (2 : Fin 3) k))
            (fun i => x3 (ix2 (at_ b s) i)) (fun i => x4 (ix2 (at_ b s) i)) (fun j k => x5 (ix3 (0 : Fin 2) j k)))
          (fun k => x2 (ix3 b (0 : Fin 3) k)) (fun k => x2 (ix3 b (1 : Fin 3) k)) (fun k => x2 (ix3 b (2 : Fin 3) k))
          (fun k => x6 (ix1 k)) (fun k n => x7 (ix4 (0 : Fin 4) (1 : Fin 2) k n)) (fun n C => x8 (ix4 (0 : Fin 4) (1 : Fin 2) n C)) C := by
  rw [val_chain]
  refine (chain_apply _ _ _ _ _ b s C).trans ?_
  simp only [mix_apply, Cert.Reference3Ideal.Mix.up_apply, Cert.Reference3Ideal.Mix.down_apply]

end Cert.Reference4Ideal.Mix

end
-- ==== Proof.Mix.Arr4.lean ====
/-
  The result array of the second output-projection kernel at extended reals: the reference's result of the same arguments,
  block by block.
-/
module

public import proofs.«01_k».proof.Proof.Gen.Kernel4Ideal.Value
public import proofs.«01_k».proof.Proof.Mix.Blk4
public import proofs.«01_k».proof.Proof.Mix.Ref4
public import Idealize.ShloMosaic.Lib.Claim

@[expose] public section

set_option maxRecDepth 16384

noncomputable section

namespace Cert.Kernel4Ideal.Mix

open Cert.Kernel4Ideal Cert.Kernel4Ideal.Gen
open Idealize.ShloMosaic Idealize.ShloMosaic.ValueIdx Idealize.ShloMosaic.TcCoe Idealize.ShloMosaic.Tactic
open Cert.Ffn Cert.Mix
open Cert.Reference2Ideal.Ffn (at_)

variable (m : (ℓ : Loc nD τ sig) → Buf (Elt Ideal) ℓ)

/-- Point `t` takes rows `512 t` on, of sample `t / 8`; the weights' blocks stay. -/
theorem idx_0 : ∀ t : Fin cfg0.N, win0_0.index t (0 : Fin 2) = t.val ∧ win0_0.index t (1 : Fin 2) = 0 := (by decide +kernel : ∀ t : Fin grid0.N, _)
theorem idx_1 : ∀ t : Fin cfg0.N, win0_1.index t (0 : Fin 3) = t.val / 8 ∧ win0_1.index t (1 : Fin 3) = 0 ∧ win0_1.index t (2 : Fin 3) = 0 := (by decide +kernel : ∀ t : Fin grid0.N, _)
theorem idx_2 : ∀ t : Fin cfg0.N, win0_2.index t (0 : Fin 3) = t.val / 8 ∧ win0_2.index t (1 : Fin 3) = 0 ∧ win0_2.index t (2 : Fin 3) = 0 := (by decide +kernel : ∀ t : Fin grid0.N, _)
theorem idx_3 : ∀ t : Fin cfg0.N, win0_3.index t (0 : Fin 2) = t.val ∧ win0_3.index t (1 : Fin 2) = 0 := (by decide +kernel : ∀ t : Fin grid0.N, _)
theorem idx_4 : ∀ t : Fin cfg0.N, win0_4.index t (0 : Fin 2) = t.val ∧ win0_4.index t (1 : Fin 2) = 0 := (by decide +kernel : ∀ t : Fin grid0.N, _)
theorem idx_5 : ∀ t : Fin cfg0.N, win0_5.index t (0 : Fin 3) = 0 ∧ win0_5.index t (1 : Fin 3) = 0 ∧ win0_5.index t (2 : Fin 3) = 0 := (by decide +kernel : ∀ t : Fin grid0.N, _)
theorem idx_6 : ∀ t : Fin cfg0.N, win0_6.index t (0 : Fin 2) = 0 ∧ win0_6.index t (1 : Fin 2) = 0 := (by decide +kernel : ∀ t : Fin grid0.N, _)
theorem idx_7 : ∀ t : Fin cfg0.N, win0_7.index t (0 : Fin 4) = 0 ∧ win0_7.index t (1 : Fin 4) = 1 ∧ win0_7.index t (2 : Fin 4) = 0 ∧ win0_7.index t (3 : Fin 4) = 0 := (by decide +kernel : ∀ t : Fin grid0.N, _)
theorem idx_8 : ∀ t : Fin cfg0.N, win0_8.index t (0 : Fin 4) = 0 ∧ win0_8.index t (1 : Fin 4) = 1 ∧ win0_8.index t (2 : Fin 4) = 0 ∧ win0_8.index t (3 : Fin 4) = 0 := (by decide +kernel : ∀ t : Fin grid0.N, _)
theorem idx_9 : ∀ t : Fin cfg0.N, win0_9.index t (0 : Fin 2) = t.val ∧ win0_9.index t (1 : Fin 2) = 0 := (by decide +kernel : ∀ t : Fin grid0.N, _)

theorem lt_128 (t : Fin cfg0.N) : t.val < 128 := lt_of_lt_of_eq t.isLt N_0

/-- The sample point `t` takes, and the place in it of the block's row `r`. -/
abbrev smp (t : Fin cfg0.N) : Fin 16 := tileSmp t.val (lt_128 t)
abbrev pos (t : Fin cfg0.N) (r : Fin 512) : Fin 4096 := tilePos t.val r

/-- The launched arguments. -/
abbrev arg0 (c : Dev nD) : Vec Ideal S65536x1024 .f32 := m ((c : Thread nD τ).loc main_arg0)
abbrev arg1 (c : Dev nD) : Vec Ideal S16x3x1024 .f32 := m ((c : Thread nD τ).loc main_arg1)
abbrev arg2 (c : Dev nD) : Vec Ideal S16x3x1024 .f32 := m ((c : Thread nD τ).loc main_arg2)
abbrev arg3 (c : Dev nD) : Vec Ideal S65536x512 .bf16 := m ((c : Thread nD τ).loc main_arg3)
abbrev arg4 (c : Dev nD) : Vec Ideal S65536x512 .bf16 := m ((c : Thread nD τ).loc main_arg4)
abbrev arg5 (c : Dev nD) : Vec Ideal S2x1024x1024 .f32 := m ((c : Thread nD τ).loc main_arg5)
abbrev arg6 (c : Dev nD) : Vec Ideal S1024 .f32 := m ((c : Thread nD τ).loc main_arg6)
abbrev arg7 (c : Dev nD) : Vec Ideal S4x2x1024x5632 .f32 := m ((c : Thread nD τ).loc main_arg7)
abbrev arg8 (c : Dev nD) : Vec Ideal S4x2x2816x1024 .f32 := m ((c : Thread nD τ).loc main_arg8)

theorem V_wo (c : Dev nD) : (V m c main_v0 : Vec Ideal S2x1024x1024 .bf16) = truncf (F := Ideal) .bf16 (arg5 m c : FVec Ideal S2x1024x1024 .f32) bitsLt_bf16_f32 := by
  entry_read <;> rfl
theorem V_up (c : Dev nD) : (V m c main_v1 : Vec Ideal S4x2x1024x5632 .bf16) = truncf (F := Ideal) .bf16 (arg7 m c : FVec Ideal S4x2x1024x5632 .f32) bitsLt_bf16_f32 := by
  entry_read <;> rfl
theorem V_down (c : Dev nD) : (V m c main_v2 : Vec Ideal S4x2x2816x1024 .bf16) = truncf (F := Ideal) .bf16 (arg8 m c : FVec Ideal S4x2x2816x1024 .f32) bitsLt_bf16_f32 := by
  entry_read <;> rfl
theorem V_g (c : Dev nD) : (V m c main_v3 : Vec Ideal S1x1024 .f32) = shapeCast S1x1024 (arg6 m c) shapeCasts_S1024_S1x1024 := by
  entry_read <;> rfl

theorem blk0_apply (c : Dev nD) (t : Fin cfg0.N) (r : Fin 512) (k : Fin 1024) :
    (iblk m c 0 t : Vec Ideal S512x1024 .f32) (ix2 r k) = arg0 m c (ix2 (at_ (smp t) (pos t r)) k) := by
  obtain ⟨e0, e1⟩ := idx_0 t
  show V m c main_arg0 (((cfg0.win 0).blk t).view.emb (ix2 r k)) = _
  rw [V_main_arg0]
  exact congrArg (arg0 m c) (ix2_of _ _ _ (row_at e0 r) (col_at e1 k))

theorem blk1_apply (c : Dev nD) (t : Fin cfg0.N) (e : Fin 3) (k : Fin 1024) :
    (iblk m c 1 t : Vec Ideal S1x3x1024 .f32) (ix3 (0 : Fin 1) e k) = arg1 m c (ix3 (smp t) e k) := by
  obtain ⟨e0, e1, e2⟩ := idx_1 t
  show V m c main_arg1 (((cfg0.win 1).blk t).view.emb (ix3 (0 : Fin 1) e k)) = _
  rw [V_main_arg1]
  exact congrArg (arg1 m c) (ix3_of _ _ _ _ (one_at e0) (col_at e1 e) (col_at e2 k))

theorem blk2_apply (c : Dev nD) (t : Fin cfg0.N) (e : Fin 3) (k : Fin 1024) :
    (iblk m c 2 t : Vec Ideal S1x3x1024 .f32) (ix3 (0 : Fin 1) e k) = arg2 m c (ix3 (smp t) e k) := by
  obtain ⟨e0, e1, e2⟩ := idx_2 t
  show V m c main_arg2 (((cfg0.win 2).blk t).view.emb (ix3 (0 : Fin 1) e k)) = _
  rw [V_main_arg2]
  exact congrArg (arg2 m c) (ix3_of _ _ _ _ (one_at e0) (col_at e1 e) (col_at e2 k))

theorem blk3_apply (c : Dev nD) (t : Fin cfg0.N) (r : Fin 512) (i : Fin 512) :
    (iblk m c 3 t : Vec Ideal S512x512 .bf16) (ix2 r i) = arg3 m c (ix2 (at_ (smp t) (pos t r)) i) := by
  obtain ⟨e0, e1⟩ := idx_3 t
  show V m c main_arg3 (((cfg0.win 3).blk t).view.emb (ix2 r i)) = _
  rw [V_main_arg3]
  exact congrArg (arg3 m c) (ix2_of _ _ _ (row_at e0 r) (col_at e1 i))

theorem blk4_apply (c : Dev nD) (t : Fin cfg0.N) (r : Fin 512) (i : Fin 512) :
    (iblk m c 4 t : Vec Ideal S512x512 .bf16) (ix2 r i) = arg4 m c (ix2 (at_ (smp t) (pos t r)) i) := by
  obtain ⟨e0, e1⟩ := idx_4 t
  show V m c main_arg4 (((cfg0.win 4).blk t).view.emb (ix2 r i)) = _
  rw [V_main_arg4]
  exact congrArg (arg4 m c) (ix2_of _ _ _ (row_at e0 r) (col_at e1 i))

theorem blk5_apply (c : Dev nD) (t : Fin cfg0.N) (j k : Fin 1024) :
    (iblk m c 5 t : Vec Ideal S1x1024x1024 .bf16) (ix3 (0 : Fin 1) j k) = arg5 m c (ix3 (0 : Fin 2) j k) := by
  obtain ⟨e0, e1, e2⟩ := idx_5 t
  show (V m c main_v0 : Vec Ideal S2x1024x1024 .bf16) (((cfg0.win 5).blk t).view.emb (ix3 (0 : Fin 1) j k)) = _
  rw [V_wo]
  exact congrArg (arg5 m c) (ix3_of _ _ _ _ (one_at e0) (col_at e1 j) (col_at e2 k))

theorem blk6_apply (c : Dev nD) (t : Fin cfg0.N) (k : Fin 1024) :
    (iblk m c 6 t : Vec Ideal S1x1024 .f32) (ix2 (0 : Fin 1) k) = arg6 m c (ix1 k) := by
  obtain ⟨e0, e1⟩ := idx_6 t
  show (V m c main_v3 : Vec Ideal S1x1024 .f32) (((cfg0.win 6).blk t).view.emb (ix2 (0 : Fin 1) k)) = _
  rw [V_g]
  exact (congrArg (shapeCast S1x1024 (arg6 m c) shapeCasts_S1024_S1x1024) (ix2_of _ (0 : Fin 1) k (one_at e0) (col_at e1 k))).trans (shapeCast_a_1a_apply _ _ _ _)

theorem blk7_apply (c : Dev nD) (t : Fin cfg0.N) (k : Fin 1024) (n : Fin 5632) :
    (iblk m c 7 t : Vec Ideal S1x1x1024x5632 .bf16) (ix4 (0 : Fin 1) (0 : Fin 1) k n) = arg7 m c (ix4 (0 : Fin 4) (1 : Fin 2) k n) := by
  obtain ⟨e0, e1, e2, e3⟩ := idx_7 t
  show (V m c main_v1 : Vec Ideal S4x2x1024x5632 .bf16) (((cfg0.win 7).blk t).view.emb (ix4 (0 : Fin 1) (0 : Fin 1) k n)) = _
  rw [V_up]
  exact congrArg (arg7 m c) (ix4_of _ _ _ _ _ (one_at e0) (one_at e1) (col_at e2 k) (col_at e3 n))

theorem blk8_apply (c : Dev nD) (t : Fin cfg0.N) (n : Fin 2816) (k : Fin 1024) :
    (iblk m c 8 t : Vec Ideal S1x1x2816x1024 .bf16) (ix4 (0 : Fin 1) (0 : Fin 1) n k) = arg8 m c (ix4 (0 : Fin 4) (1 : Fin 2) n k) := by
  obtain ⟨e0, e1, e2, e3⟩ := idx_8 t
  show (V m c main_v2 : Vec Ideal S4x2x2816x1024 .bf16) (((cfg0.win 8).blk t).view.emb (ix4 (0 : Fin 1) (0 : Fin 1) n k)) = _
  rw [V_down]
  exact congrArg (arg8 m c) (ix4_of _ _ _ _ _ (one_at e0) (one_at e1) (col_at e2 n) (col_at e3 k))

/-- What the result array is shown to hold. -/
abbrev res (c : Dev nD) : Vec Ideal S65536x1024 .f32 :=
  Cert.Reference4Ideal.Read.val_main_v55 (F := Ideal) (arg0 m c) (arg1 m c) (arg2 m c) (arg3 m c) (arg4 m c) (arg5 m c) (arg6 m c) (arg7 m c) (arg8 m c)

theorem emb_9 (t : Fin cfg0.N) (r : Fin 512) (C : Fin 1024) :
    ((cfg0.win 9).blk t).view.emb (ix2 r C) = ix2 (at_ (smp t) (pos t r)) C := by
  obtain ⟨e0, e1⟩ := idx_9 t
  exact ix2_of _ _ _ (row_at e0 r) (col_at e1 C)

/-- What point `t` leaves is its rows of the reference's result. -/
theorem left_apply (c : Dev nD) (t : Fin cfg0.N) (r : Fin 512) (C : Fin 1024) :
    (out0_9 (iblk m c 0 t) (iblk m c 1 t) (iblk m c 2 t) (iblk m c 3 t) (iblk m c 4 t) (iblk m c 5 t) (iblk m c 6 t) (iblk m c 7 t) (iblk m c 8 t) : Vec Ideal S512x1024 .f32) (ix2 r C)
      = res m c (((cfg0.win 9).blk t).view.emb (ix2 r C)) := by
  rw [emb_9]
  refine (out_apply _ _ _ _ _ _ _ _ _ r C).trans ?_
  refine Eq.trans ?_ (Cert.Reference4Ideal.Mix.res_apply (arg0 m c) (arg1 m c) (arg2 m c) (arg3 m c) (arg4 m c) (arg5 m c) (arg6 m c) (arg7 m c) (arg8 m c)
    (smp t) (pos t r) C).symm
  simp only [blk0_apply, blk1_apply, blk2_apply, blk3_apply, blk4_apply, blk5_apply, blk6_apply, blk7_apply, blk8_apply]

theorem flushed_9 (c : Dev nD) (t : Fin cfg0.N) :
    (dats m 0 c).flushed 9 t = ((cfg0.win 9).blk t).view.read (Elt Ideal) (res m c) := by
  rw [Cert.Kernel4Ideal.Value.flushed9]
  funext j
  have e := left_apply m c t (j 0) (j 1)
  rw [← ix2_of j (j 0) (j 1) rfl rfl] at e
  exact e

/-- The points' blocks fill the array. -/
theorem covered_9 (i : S65536x1024.Idx) : ∃ t : Fin cfg0.N, (cfg0.win 9).flush t = true ∧ i ∈ ((cfg0.win 9).blk t).view.set := by
  have h0 : (i 0).val < 65536 := (i 0).isLt
  have hN : cfg0.N = 128 := N_0
  have ht : (i 0).val / 512 < cfg0.N := by omega
  have hr : (i 0).val % 512 < 512 := by omega
  refine ⟨⟨(i 0).val / 512, ht⟩, flush0_9 _, ?_⟩
  have h := ((cfg0.win 9).blk (⟨(i 0).val / 512, ht⟩ : Fin cfg0.N)).view.emb_mem_set (ix2 (⟨(i 0).val % 512, hr⟩ : Fin 512) (i 1))
  have e := emb_9 (⟨(i 0).val / 512, ht⟩ : Fin cfg0.N) ⟨(i 0).val % 512, hr⟩ (i 1)
  rw [e, ← ix2_of i _ (i 1) (tile_of h0) rfl] at h
  exact h

theorem final_9 (c : Dev nD) : (dats m 0 c).arrAt 9 cfg0.N = res m c :=
  (dats m 0 c).arrAt_eq_of_cover 9 (res m c) (fun t _ => flushed_9 m c t) covered_9

/-- The run's result, the arguments as launched. -/
theorem run_res (ρ : Dev nD → PrngReg) :
    θ_run defs (onTc (τ := τ) (main (F := Ideal))) ⟨m, fun _ => 0, ρ⟩ (fun r => ∀ c : Dev nD,
      r.2.mem ((c.tc : Thread nD τ).loc main_v4) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (final_9 m c), (h c).2⟩) (Cert.Kernel4Ideal.Value.run_blocks m ρ)

end Cert.Kernel4Ideal.Mix

end
-- ==== Proof.Proj.Row.lean ====
/-
  One row of the even layers' input projection at extended reals: each head's columns normalised, and what a row of finite
  arguments has for granted, that its projected columns are reals.
-/
module

public import proofs.«01_k».proof.Proof.Id.Soft
public import proofs.«01_k».proof.Proof.Ffn.Row

@[expose] public section

set_option maxRecDepth 16384

noncomputable section

namespace Cert.Proj

open Idealize.ShloMosaic
open Cert.Ffn

/-- An extended real that is a real. -/
def Real1 (x : EReal) : Prop := ∃ r : ℝ, x = (r : EReal)

theorem real_add {x y : EReal} : Real1 x → Real1 y → Real1 (x + y) := fun ⟨a, ha⟩ ⟨b, hb⟩ => ⟨a + b, by rw [ha, hb, EReal.coe_add]⟩
theorem real_mul {x y : EReal} : Real1 x → Real1 y → Real1 (x * y) := fun ⟨a, ha⟩ ⟨b, hb⟩ => ⟨a * b, by rw [ha, hb, EReal.coe_mul]⟩
theorem real_one : Real1 1 := ⟨1, rfl⟩
theorem real_sum {n : ℕ} {f : Fin n → EReal} (h : ∀ i, Real1 (f i)) : Real1 (∑ i, f i) := by
  choose v hv using h
  exact ⟨∑ i, v i, by rw [Cert.Soft.coe_sum]; exact Finset.sum_congr rfl fun i _ => hv i⟩

theorem ofBits_1024 : Ideal.ofBits .f32 0x44800000#32 = ((1024 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_64th : Ideal.ofBits .f32 0x3C800000#32 = ((64⁻¹ : ℝ) : EReal) := by
  simp [Ideal.ofBits, Ideal.ieee, -EReal.coe_mul]; norm_num
theorem ofBits_eps : ∃ e : ℝ, 0 < e ∧ Ideal.ofBits .f32 0x358637BD#32 = (e : EReal) := by
  refine ⟨_, ?_, by simp [Ideal.ofBits, Ideal.ieee, -EReal.coe_mul]; rfl⟩
  positivity

/-- The factor of a row of reals is a real: what the root is taken of is positive. -/
theorem rinv_real {x : Fin 1024 → EReal} (h : ∀ k, Real1 (x k)) : Real1 (rinv x) := by
  choose v hv using h
  obtain ⟨e, he, hb⟩ := ofBits_eps
  have hs : (∑ j, x j * x j) = ((∑ j, v j * v j : ℝ) : EReal) := by
    rw [Cert.Soft.coe_sum]
    exact Finset.sum_congr rfl fun j _ => by rw [hv j, EReal.coe_mul]
  have hp : 0 < (∑ j, v j * v j) * 1024⁻¹ + e := add_pos_of_nonneg_of_pos (mul_nonneg (Finset.sum_nonneg fun j _ => mul_self_nonneg _) (by norm_num)) he
  unfold rinv
  rw [hs, ofBits_1024, hb, Cert.Soft.div_coe_pos (by norm_num), ← EReal.coe_mul, ← EReal.coe_add, Ideal.rsqrt_coe, if_neg hp.le.not_gt, if_neg hp.ne']
  exact ⟨_, rfl⟩

/-- A row normalised is real whatever the row is: with an infinite element the factor is zero. -/
theorem norm_real (x : Fin 1024 → EReal) (k : Fin 1024) : Real1 (x k * rinv x) := by
  by_cases h : ∀ k, Real1 (x k)
  · exact real_mul (h k) (rinv_real h)
  · obtain ⟨j, hj⟩ := not_forall.mp h
    have hsq : ∀ y : EReal, 0 ≤ y * y := fun y => by induction y using EReal.rec with
      | bot => simp
      | top => simp
      | coe r => rw [← EReal.coe_mul]; exact EReal.coe_nonneg.mpr (mul_self_nonneg r)
    have htop : ∀ y : EReal, ¬ Real1 y → y * y = ⊤ := fun y hy => by induction y using EReal.rec with
      | bot => simp
      | top => simp
      | coe r => exact absurd ⟨r, rfl⟩ hy
    have hs : (∑ i, x i * x i) = ⊤ := top_le_iff.mp ((htop _ hj).symm.le.trans (Finset.single_le_sum (f := fun i => x i * x i) (fun i _ => hsq _) (Finset.mem_univ j)))
    obtain ⟨e, he, hb⟩ := ofBits_eps
    have hr : rinv x = 0 := by
      unfold rinv
      rw [hs, ofBits_1024, hb, Cert.Soft.div_coe_pos (by norm_num), EReal.top_mul_coe_of_pos (by norm_num), EReal.top_add_coe]
      exact Ideal.rsqrt_top
    rw [hr, mul_zero]
    exact ⟨0, rfl⟩

/-- A projected column. -/
def col (h w : Fin 1024 → EReal) : EReal := ∑ k : Fin 1024, h k * w k

theorem col_real {x sh sc g w : Fin 1024 → EReal} (h0 : ∀ k, Real1 (sh k)) (h1 : ∀ k, Real1 (sc k)) (hg : ∀ k, Real1 (g k))
    (hw : ∀ k, Real1 (w k)) : Real1 (col (hid x sh sc g) w) :=
  real_sum fun k => real_mul (real_add (real_mul (real_mul (norm_real x k) (hg k)) (real_add real_one (h1 k))) (h0 k)) (hw k)

/-- The mean of a head's squares, and the factor that normalises its columns. -/
def mean (y : Fin 64 → EReal) : EReal := Ideal.div (∑ i : Fin 64, y i * y i) (Ideal.ofBits .f32 0x42800000#32)
def fac (y : Fin 64 → EReal) : EReal := Ideal.rsqrt (mean y + Ideal.ofBits .f32 0x358637BD#32)

theorem headAt_lt {n : ℕ} (h : 64 ∣ n) (c : Fin n) (i : Fin 64) : 64 * (c.val / 64) + i.val < n := by omega
theorem gainAt_lt (c : ℕ) : c % 64 < 64 := Nat.mod_lt _ (by decide)

/-- A column normalised over its head, times its place's gain. -/
def headCol (y : Fin 768 → EReal) (g : Fin 64 → EReal) (c : Fin 768) : EReal :=
  y c * fac (fun i => y ⟨64 * (c.val / 64) + i.val, headAt_lt (by decide) c i⟩) * g ⟨c.val % 64, gainAt_lt _⟩

/-- The mean as a product. -/
theorem mean_eq (y : Fin 64 → EReal) : (∑ i : Fin 64, y i * y i) * Ideal.ofBits .f32 0x3C800000#32 = mean y := by
  unfold mean
  rw [ofBits_64, ofBits_64th, Cert.Soft.div_coe_pos (by norm_num)]

/-- The second of two sums of reals is both less the first. -/
theorem sub_first {a b : EReal} : Real1 a → Real1 b → a + b - a = b := fun ⟨r, hr⟩ ⟨s, hs⟩ => by
  rw [hr, hs, ← EReal.coe_add, ← EReal.coe_sub, add_sub_cancel_left]

end Cert.Proj

end
-- ==== Proof.Proj.Blk.lean ====
/-
  One element of what a point of the even input projection's kernel leaves in each of its four results, at extended reals.
-/
module

public import proofs.«01_k».proof.Proof.Gen.Kernel5Ideal.Frame
public import proofs.«01_k».proof.Proof.Mix.Row
public import proofs.«01_k».proof.Proof.Proj.Row

@[expose] public section

set_option maxRecDepth 16384

noncomputable section

namespace Cert.Kernel5Ideal.Proj

open Cert.Kernel5Ideal Cert.Kernel5Ideal.Gen
open Idealize.ShloMosaic Idealize.ShloMosaic.ValueIdx
open Cert.Ffn Cert.Proj Cert.Mix

section Rows
variable (x : FVec Ideal S1024x1024 .f32) (md : FVec Ideal S1x3x1024 .f32) (g : FVec Ideal S1x1024 .f32) (W : FVec Ideal S1x1024x2560 .bf16)

/-- The column of the rows' normalising factors. -/
def normCol : FVec Ideal S1024x1 .f32 :=
  rsqrt (addf (divf (shapeCast S1024x1 (multiReduction .add [1] S1024 (mulf x x) 0x00000000#32 reduces_S1024x1024_S1024 (.inl rfl) rfl) shapeCasts_S1024_S1024x1)
    (broadcast S1024x1 (Scalar.ofBits .f32 0x44800000#32))) (broadcast S1024x1 (Scalar.ofBits .f32 0x358637BD#32)))

theorem normCol_apply (r : Fin 1024) : normCol x (ix2 r (0 : Fin 1)) = rinv fun k => x (ix2 r k) := by
  unfold normCol rinv
  show Ideal.rsqrt (Ideal.div (shapeCast S1024x1 _ _ (ix2 r (0 : Fin 1))) _ + _) = _
  rw [shapeCast_a_a1_apply]
  refine congrArg (fun s => Ideal.rsqrt (Ideal.div s _ + _)) ((Ideal.multiReduction_add_single _ _ _ _ _ _).trans ?_)
  refine Finset.sum_congr rfl fun k _ => ?_
  rw [mulf_apply]
  exact congrArg (fun i => x i * x i) (ix2_of _ _ _ rfl rfl)

/-- A row of the modulation. -/
theorem md_apply (o : ℕ) (h : S3x1024.Slices ![o, 0] S1x1024) (e : Fin 3) (he : e.val = o) (C : Fin 1024) :
    extractStridedSlice S1x1024 ![o, 0] (shapeCast S3x1024 md shapeCasts_S1x3x1024_S3x1024) h (ix2 (0 : Fin 1) C) = md (ix3 (0 : Fin 1) e C) := by
  rw [slice2_axis0_apply o _ _ (0 : Fin 1) C e (by simpa using he)]
  exact shapeCast_1ab_ab_apply _ _ _ _

/-- The rows that are projected. -/
def hids : FVec Ideal S1024x1024 .bf16 :=
  truncf .bf16 (addf (mulf (mulf (mulf x (broadcastTo S1024x1024 (normCol x) broadcasts_S1024x1_S1024x1024))
      (broadcastTo S1024x1024 (shapeCast S1x1024 g shapeCasts_S1x1024_S1x1024) broadcasts_S1x1024_S1024x1024))
      (broadcastTo S1024x1024 (addf (broadcast S1x1024 (Scalar.ofBits .f32 0x3F800000#32)) (extractStridedSlice S1x1024 ![1, 0] (shapeCast S3x1024 md shapeCasts_S1x3x1024_S3x1024) slices_S3x1024_o1_0_S1x1024)) broadcasts_S1x1024_S1024x1024))
    (broadcastTo S1024x1024 (extractStridedSlice S1x1024 ![0, 0] (shapeCast S3x1024 md shapeCasts_S1x3x1024_S3x1024) slices_S3x1024_o0_0_S1x1024) broadcasts_S1x1024_S1024x1024)) bitsLt_bf16_f32

/-- The projected row, out of a point's blocks. -/
def prow (r : Fin 1024) (c : Fin 2560) : EReal :=
  col (hid (fun k => x (ix2 r k)) (fun k => md (ix3 (0 : Fin 1) (0 : Fin 3) k)) (fun k => md (ix3 (0 : Fin 1) (1 : Fin 3) k)) (fun k => g (ix2 (0 : Fin 1) k)))
    (fun k => W (ix3 (0 : Fin 1) k c))

theorem hids_apply (r : Fin 1024) (k : Fin 1024) :
    hids x md g (ix2 r k) = hid (fun k => x (ix2 r k)) (fun k => md (ix3 (0 : Fin 1) (0 : Fin 3) k)) (fun k => md (ix3 (0 : Fin 1) (1 : Fin 3) k)) (fun k => g (ix2 (0 : Fin 1) k)) k := by
  unfold hids hid
  rw [truncf_apply, addf_apply, mulf_apply, mulf_apply, mulf_apply, broadcastTo_1b_ab_apply, broadcastTo_1b_ab_apply, broadcastTo_1b_ab_apply,
    addf_apply, broadcast_apply, md_apply md 1 _ 1 rfl, md_apply md 0 _ 0 rfl, shapeCast_self,
    broadcastTo_apply _ _ (ix2 r k) (ix2 r (0 : Fin 1)) (fun a => by match a with | ⟨0, _⟩ => rfl | ⟨1, _⟩ => rfl), normCol_apply]
  exact congrArg (fun o => _ * (o + _) + _) Ideal.ofBits_one_f32

theorem pay1_eq : k0_pay1 (F := Ideal) x g md W = matmul dot_S1024x1024_S1024x2560_S1024x2560_1_0_0_1_n_n none (hids x md g)
    (shapeCast S1024x2560 W shapeCasts_S1x1024x2560_S1024x2560 : FVec Ideal S1024x2560 .bf16) (constant S1024x2560 .f32 0x00000000#32) := rfl

theorem z_apply (r : Fin 1024) (c : Fin 2560) : k0_pay1 (F := Ideal) x g md W (ix2 r c) = prow x md g W r c := by
  rw [pay1_eq]
  unfold prow col
  refine (Ideal.matmul_plain_apply (M := 1024) (K := 1024) (N := 2560) none _ _ _ r c).trans ?_
  rw [constant_apply, Ideal.ofBits_zero_f32, zero_add]
  exact Finset.sum_congr rfl fun k _ => congrArg₂ (· * ·) (hids_apply x md g r k) (shapeCast_1ab_ab_apply W _ k c)

end Rows

/-- The lanes of a half's first head. -/
theorem mask_apply : ∀ l : Fin 128, k0_pay4 (ix2 (0 : Fin 1) l) = if l.val < 64 then 1#1 else 0#1 := by decide +kernel

/-- The mask along the rows. -/
def maskRows : IVec S1024x128 1 := broadcastTo S1024x128 (shapeCast S1x128 k0_pay4 shapeCasts_S1x128_S1x128) broadcasts_S1x128_S1024x128
theorem maskRows_apply (r : Fin 1024) (l : Fin 128) : maskRows (ix2 r l) = if l.val < 64 then 1#1 else 0#1 := by
  unfold maskRows
  rw [broadcastTo_1b_ab_apply, shapeCast_self, mask_apply]

section Half
variable (u : FVec Ideal S1024x128 .f32) (r : Fin 1024)

/-- The sums of a half's squares, over its first head and over both. -/
def lo : FVec Ideal S1024x1 .f32 :=
  shapeCast S1024x1 (multiReduction .add [1] S1024 (select maskRows (mulf u u) (broadcast S1024x128 (Scalar.ofBits .f32 0x00000000#32))) 0x00000000#32 reduces_S1024x128_S1024 (.inl rfl) rfl) shapeCasts_S1024_S1024x1
def all : FVec Ideal S1024x1 .f32 :=
  shapeCast S1024x1 (multiReduction .add [1] S1024 (mulf u u) 0x00000000#32 reduces_S1024x128_S1024 (.inl rfl) rfl) shapeCasts_S1024_S1024x1

/-- The mean of the squares of each lane's head. -/
def half : FVec Ideal S1024x128 .f32 :=
  mulf (select maskRows (broadcastTo S1024x128 (shapeCast S1024x1 (lo u) shapeCasts_S1024x1_S1024x1) broadcasts_S1024x1_S1024x128)
      (broadcastTo S1024x128 (shapeCast S1024x1 (subf (all u) (lo u)) shapeCasts_S1024x1_S1024x1) broadcasts_S1024x1_S1024x128))
    (broadcast S1024x128 (Scalar.ofBits .f32 0x3C800000#32))

/-- A head's sum of squares. -/
def sq0 : EReal := ∑ i : Fin 64, u (ix2 r ⟨i.val, lo_lt (p := 64) (q := 64) rfl i⟩) * u (ix2 r ⟨i.val, lo_lt (p := 64) (q := 64) rfl i⟩)
def sq1 : EReal := ∑ i : Fin 64, u (ix2 r ⟨64 + i.val, hi_lt (p := 64) (q := 64) rfl i⟩) * u (ix2 r ⟨64 + i.val, hi_lt (p := 64) (q := 64) rfl i⟩)

theorem lo_apply : lo u (ix2 r (0 : Fin 1)) = sq0 u r := by
  unfold lo sq0
  rw [shapeCast_a_a1_apply]
  refine (Ideal.multiReduction_add_single _ _ _ _ _ _).trans ?_
  refine (sum_split (p := 64) (q := 64) rfl _).trans ((congrArg₂ (· + ·) (Finset.sum_congr rfl fun i _ => ?_) (Finset.sum_eq_zero fun i _ => ?_)).trans (add_zero _))
  · refine (congrArg _ (ix2_of _ r ⟨i.val, lo_lt (p := 64) (q := 64) rfl i⟩ rfl rfl)).trans ?_
    rw [select_apply, maskRows_apply, if_pos (show i.val < 64 from i.isLt)]
    exact select_one _ _
  · refine (congrArg _ (ix2_of _ r ⟨64 + i.val, hi_lt (p := 64) (q := 64) rfl i⟩ rfl rfl)).trans ?_
    rw [select_apply, maskRows_apply, if_neg (show ¬ 64 + i.val < 64 by omega)]
    exact (select_zero _ _).trans Ideal.ofBits_zero_f32

theorem all_apply : all u (ix2 r (0 : Fin 1)) = sq0 u r + sq1 u r := by
  unfold all sq0 sq1
  rw [shapeCast_a_a1_apply]
  refine (Ideal.multiReduction_add_single _ _ _ _ _ _).trans ?_
  refine (sum_split (p := 64) (q := 64) rfl _).trans (congrArg₂ (· + ·) (Finset.sum_congr rfl fun i _ => ?_) (Finset.sum_congr rfl fun i _ => ?_)) <;>
  exact congrArg (fun j => u j * u j) (ix2_of _ _ _ rfl rfl)

theorem half_apply (hu : ∀ l, Real1 (u (ix2 r l))) (l : Fin 128) :
    half u (ix2 r l) = mean fun i => u (ix2 r ⟨64 * (l.val / 64) + i.val, headAt_lt (by decide) l i⟩) := by
  have h0 : Real1 (sq0 u r) := real_sum fun i => real_mul (hu _) (hu _)
  have h1 : Real1 (sq1 u r) := real_sum fun i => real_mul (hu _) (hu _)
  have hb : ∀ v : FVec Ideal S1024x1 .f32, broadcastTo S1024x128 (shapeCast S1024x1 v shapeCasts_S1024x1_S1024x1) broadcasts_S1024x1_S1024x128 (ix2 r l) = v (ix2 r (0 : Fin 1)) := fun v => by
    rw [broadcastTo_apply _ _ (ix2 r l) (ix2 r (0 : Fin 1)) (fun a => by match a with | ⟨0, _⟩ => rfl | ⟨1, _⟩ => rfl), shapeCast_self]
  unfold half
  rw [mulf_apply, select_apply, hb, hb, maskRows_apply, broadcast_apply, ← mean_eq]
  refine congrArg (· * _) ?_
  by_cases h : l.val < 64
  · rw [if_pos h]
    refine (select_one _ _).trans ((lo_apply u r).trans (Finset.sum_congr rfl fun i _ => ?_))
    exact congrArg (fun j => u j * u j) (ix2_of _ _ _ rfl (show i.val = 64 * (l.val / 64) + i.val by omega))
  · rw [if_neg h]
    refine (select_zero _ _).trans ((congrArg₂ (· - ·) (all_apply u r) (lo_apply u r)).trans ((sub_first h0 h1).trans (Finset.sum_congr rfl fun i _ => ?_)))
    exact congrArg (fun j => u j * u j) (ix2_of _ _ _ rfl (show 64 + i.val = 64 * (l.val / 64) + i.val by omega))

end Half

section Piece
variable (t : FVec Ideal S1024x256 .f32) (g : FVec Ideal S1x256 .f32) (r : Fin 1024)

/-- Four heads normalised, times their gains. -/
def sl0 : FVec Ideal S1024x128 .f32 := extractStridedSlice S1024x128 ![0, 0] t slices_S1024x256_o0_0_S1024x128
def sl1 : FVec Ideal S1024x128 .f32 := extractStridedSlice S1024x128 ![0, 128] t slices_S1024x256_o0_128_S1024x128
def means : FVec Ideal S1024x256 .f32 := concatenate S1024x256 1 [⟨S1024x128, half (sl0 t)⟩, ⟨S1024x128, half (sl1 t)⟩] concatenates_S1024x128_S1024x128_S1024x256_d1
def nrm : FVec Ideal S1024x256 .bf16 :=
  truncf .bf16 (mulf (mulf t (rsqrt (addf (means t) (broadcast S1024x256 (Scalar.ofBits .f32 0x358637BD#32)))))
    (broadcastTo S1024x256 (shapeCast S1x256 g shapeCasts_S1x256_S1x256) broadcasts_S1x256_S1024x256)) bitsLt_bf16_f32

theorem sl0_apply (l : Fin 128) : sl0 t (ix2 r l) = t (ix2 r ⟨l.val, lo_lt (p := 128) (q := 128) rfl l⟩) :=
  slice2_axis1_apply 0 _ _ r l ⟨l.val, lo_lt (p := 128) (q := 128) rfl l⟩ (Nat.zero_add _).symm
theorem sl1_apply (l : Fin 128) : sl1 t (ix2 r l) = t (ix2 r ⟨128 + l.val, hi_lt (p := 128) (q := 128) rfl l⟩) :=
  slice2_axis1_apply 128 _ _ r l ⟨128 + l.val, hi_lt (p := 128) (q := 128) rfl l⟩ rfl

theorem means_apply (ht : ∀ C, Real1 (t (ix2 r C))) (C : Fin 256) :
    means t (ix2 r C) = mean fun i => t (ix2 r ⟨64 * (C.val / 64) + i.val, headAt_lt (by decide) C i⟩) := by
  unfold means
  by_cases h : C.val < 128
  · refine (concatenate_pair_apply_left (t := S1024x256) (s₁ := S1024x128) (s₂ := S1024x128) 1 _ _ concatenates_S1024x128_S1024x128_S1024x256_d1 (ix2 r C) rfl (ix2 r (⟨C.val, h⟩ : Fin 128))
      (fun a => by match a with | ⟨0, _⟩ => rfl | ⟨1, _⟩ => rfl)).trans ?_
    rw [half_apply _ r (fun l => by rw [sl0_apply]; exact ht _)]
    exact congrArg mean (funext fun i => sl0_apply t r _)
  · have hl : C.val - 128 < 128 := by omega
    refine (concatenate_pair_apply_right (t := S1024x256) (s₁ := S1024x128) (s₂ := S1024x128) 1 _ _ concatenates_S1024x128_S1024x128_S1024x256_d1 (ix2 r C) rfl rfl (ix2 r (⟨C.val - 128, hl⟩ : Fin 128))
      (fun a ha => by match a, ha with | ⟨0, _⟩, _ => rfl | ⟨1, _⟩, ha => exact absurd rfl ha)
      (show C.val - 128 + 128 = C.val by omega)).trans ?_
    rw [half_apply _ r (fun l => by rw [sl1_apply]; exact ht _)]
    refine congrArg mean (funext fun i => (sl1_apply t r _).trans (congrArg t (ix2_of _ _ _ rfl ?_)))
    show 128 + (64 * ((C.val - 128) / 64) + i.val) = 64 * (C.val / 64) + i.val
    omega

theorem nrm_apply (ht : ∀ C, Real1 (t (ix2 r C))) (C : Fin 256) :
    nrm t g (ix2 r C) = t (ix2 r C) * fac (fun i => t (ix2 r ⟨64 * (C.val / 64) + i.val, headAt_lt (by decide) C i⟩)) * g (ix2 (0 : Fin 1) C) := by
  unfold nrm fac
  rw [truncf_apply, mulf_apply, mulf_apply, broadcastTo_1b_ab_apply, shapeCast_self, ← means_apply t r ht C]
  rfl

end Piece

/-- A piece of the projected columns. -/
def cut (z : FVec Ideal S1024x2560 .f32) (o : ℕ) (h : S1024x2560.Slices ![0, o] S1024x256) : FVec Ideal S1024x256 .f32 := extractStridedSlice S1024x256 ![0, o] z h

section Pieces
variable (x : FVec Ideal S1024x1024 .f32) (md : FVec Ideal S1x3x1024 .f32) (g : FVec Ideal S1x1024 .f32) (W : FVec Ideal S1x1024x2560 .bf16)
  (z : FVec Ideal S1024x2560 .f32) (e : FVec Ideal S1x256 .f32)

theorem q0_eq : k0_pay7 (F := Ideal) (k0_pay2 x g md W) k0_pay4 (k0_pay5 x g md W) (k0_pay6 x g md W) e = nrm (cut (k0_pay1 x g md W) 0 slices_S1024x2560_o0_0_S1024x256) e := rfl
theorem q1_eq : k0_pay14 (F := Ideal) (k0_pay11 z) (k0_pay13 z) e = nrm (cut z 256 slices_S1024x2560_o0_256_S1024x256) e := rfl
theorem q2_eq : k0_pay28 (F := Ideal) (k0_pay22 z) k0_pay24 (k0_pay25 z) (k0_pay26 z) (Scalar.ofBits .f32 0x00000000#32) k0_pay27 e = nrm (cut z 512 slices_S1024x2560_o0_512_S1024x256) e := rfl
theorem k0_eq : k0_pay10 (k0_pay9 (F := Ideal) (k0_pay3 x g md W) k0_pay8 e) = nrm (cut (k0_pay1 x g md W) 768 slices_S1024x2560_o0_768_S1024x256) e := rfl
theorem k1_eq : k0_pay21 (F := Ideal) (k0_pay12 z) (k0_pay16 (k0_pay12 z)) (k0_pay18 (k0_pay12 z)) (k0_pay19 (k0_pay12 z)) k0_pay20 e = nrm (cut z 1024 slices_S1024x2560_o0_1024_S1024x256) e := rfl
theorem k2_eq : k0_pay35 (F := Ideal) (k0_pay23 z) k0_pay29 k0_pay32 (k0_pay33 (k0_pay23 z)) (k0_pay34 (k0_pay23 z)) e = nrm (cut z 1280 slices_S1024x2560_o0_1280_S1024x256) e := rfl

end Pieces

end Cert.Kernel5Ideal.Proj

end
-- ==== Proof.Proj.Out.lean ====
/-
  One element of each block a point of the even input projection's kernel leaves: queries and keys normalised over their
  heads, the values as they come, the spectrum projected once more.
-/
module

public import proofs.«01_k».proof.Proof.Proj.Blk

@[expose] public section

set_option maxRecDepth 16384

noncomputable section

namespace Cert.Kernel5Ideal.Proj

open Cert.Kernel5Ideal Cert.Kernel5Ideal.Gen
open Idealize.ShloMosaic Idealize.ShloMosaic.ValueIdx
open Cert.Ffn Cert.Proj Cert.Mix

/-- The columns of one branch, queries or keys, `b` on. -/
theorem branch_lt {b : ℕ} (hb : b ≤ 1792) (c : Fin 768) : b + c.val < 2560 := by omega
def branch (y : Fin 2560 → EReal) (b : ℕ) (hb : b ≤ 1792) (c : Fin 768) : EReal := y ⟨b + c.val, branch_lt hb c⟩

theorem third_lt {p : ℕ} (hp : p ≤ 2) (C : Fin 256) : 256 * p + C.val < 768 := by omega

/-- One piece is a third of its branch's normalised columns. -/
theorem piece_apply (z : FVec Ideal S1024x2560 .f32) (e : FVec Ideal S1x256 .f32) (r : Fin 1024) (hz : ∀ c, Real1 (z (ix2 r c))) (b p o : ℕ) (hb : b ≤ 1792) (hp : p ≤ 2)
    (ho : o = b + 256 * p) (h : S1024x2560.Slices ![0, o] S1024x256) (G : Fin 64 → EReal) (he : ∀ C : Fin 256, e (ix2 (0 : Fin 1) C) = G ⟨(256 * p + C.val) % 64, gainAt_lt _⟩) (C : Fin 256) :
    nrm (cut z o h) e (ix2 r C) = headCol (branch (fun c => z (ix2 r c)) b hb) G ⟨256 * p + C.val, third_lt hp C⟩ := by
  subst ho
  have hc : ∀ C : Fin 256, cut z (b + 256 * p) h (ix2 r C) = branch (fun c => z (ix2 r c)) b hb ⟨256 * p + C.val, third_lt hp C⟩ := fun C =>
    slice2_axis1_apply (b + 256 * p) _ _ r C ⟨b + (256 * p + C.val), branch_lt hb ⟨256 * p + C.val, third_lt hp C⟩⟩ (Nat.add_assoc _ _ _).symm
  rw [nrm_apply _ e r (fun C => by rw [hc]; exact hz _) C, he, hc]
  unfold headCol
  refine congrArg (_ * · * _) (congrArg fac (funext fun i => ?_))
  rw [hc]
  exact congrArg (branch _ b hb) (Fin.ext (show 256 * p + (64 * (C.val / 64) + i.val) = 64 * ((256 * p + C.val) / 64) + i.val by omega))

section Out
variable (x : FVec Ideal S1024x1024 .f32) (md : FVec Ideal S1x3x1024 .f32) (g : FVec Ideal S1x1024 .f32) (W : FVec Ideal S1x1024x2560 .bf16)
  (gq gk : FVec Ideal S1x768 .f32) (cs : FVec Ideal S256x512 .bf16)

theorem h2 : (![0, 0] : Fin 2 → ℕ) = fun _ => 0 := funext fun a => by match a with | ⟨0, _⟩ => rfl | ⟨1, _⟩ => rfl
theorem h3 : (![0, 0, 0] : Fin 3 → ℕ) = fun _ => 0 := funext fun a => by match a with | ⟨0, _⟩ => rfl | ⟨1, _⟩ => rfl | ⟨2, _⟩ => rfl

/-- The projected rows, out of the blocks as loaded. -/
theorem pay38_eq : k0_pay38 (F := Ideal) x md g W gq gk cs = k0_pay1 x g md W := by
  have e0 : View.ld (Val := Elt Ideal) (e' := .f32) x r0_0 = x := View.ld_unit_zero h2 ..
  have e1 : View.ld (Val := Elt Ideal) (e' := .f32) g r0_1 = g := View.ld_unit_zero h2 ..
  have e2 : View.ld (Val := Elt Ideal) (e' := .f32) md r0_2 = md := View.ld_unit_zero h3 ..
  have e3 : View.ld (Val := Elt Ideal) (e' := .bf16) W r0_3 = W := View.ld_unit_zero h3 ..
  unfold k0_pay38
  rw [e0, e1, e2, e3]

/-- The gains a piece loads. -/
theorem gain_apply (v : FVec Ideal S1x768 .f32) (G : Fin 64 → EReal) (hv : ∀ c : Fin 768, v (ix2 (0 : Fin 1) c) = G ⟨c.val % 64, gainAt_lt _⟩) (p o : ℕ) (hp : p ≤ 2) (ho : o = 256 * p)
    (inb : ∀ a, (![0, o] : Fin 2 → ℕ) a + S1x256.size a ≤ S1x768.size a) (C : Fin 256) :
    View.ld (Val := Elt Ideal) (e' := .f32) v (Rect.unit (s := S1x768) ![0, o] S1x256.size inb) (ix2 (0 : Fin 1) C) = G ⟨(256 * p + C.val) % 64, gainAt_lt _⟩ := by
  subst ho
  exact (congrArg v (ix2_of _ (0 : Fin 1) (⟨256 * p + C.val, third_lt hp C⟩ : Fin 768) rfl (show 256 * p + 1 * C.val = 256 * p + C.val by omega))).trans (hv _)

/-- Where a piece lies in its block. -/
theorem third_at (p o : ℕ) (hp : p ≤ 2) (ho : o = 256 * p) (inb : ∀ a, (![0, o] : Fin 2 → ℕ) a + S1024x256.size a ≤ S1024x768.size a) (r : Fin 1024) (C : Fin 256) :
    (Rect.unit (s := S1024x768) ![0, o] S1024x256.size inb).emb (ix2 r C) = ix2 r (⟨256 * p + C.val, third_lt hp C⟩ : Fin 768) := by
  subst ho
  exact ix2_of _ _ _ (show 0 + 1 * r.val = r.val by omega) (show 256 * p + 1 * C.val = 256 * p + C.val by omega)

variable (hz : ∀ r c, Real1 (prow x md g W r c)) (G : Fin 64 → EReal)

/-- What a branch's block holds. -/
def block (z : FVec Ideal S1024x2560 .f32) (b : ℕ) (hb : b ≤ 1792) : FVec Ideal S1024x768 .bf16 := fun y => headCol (branch (fun c => z (ix2 (y 0) c)) b hb) G (y 1)

/-- A piece of the block, at every place in it. -/
theorem block_piece (z : FVec Ideal S1024x2560 .f32) (hz : ∀ r c, Real1 (z (ix2 r c))) (v : FVec Ideal S1x768 .f32) (hv : ∀ c : Fin 768, v (ix2 (0 : Fin 1) c) = G ⟨c.val % 64, gainAt_lt _⟩)
    (b p o q : ℕ) (hb : b ≤ 1792) (hp : p ≤ 2) (ho : o = b + 256 * p) (hq : q = 256 * p) (h : S1024x2560.Slices ![0, o] S1024x256)
    (inv : ∀ a, (![0, q] : Fin 2 → ℕ) a + S1x256.size a ≤ S1x768.size a) (inb : ∀ a, (![0, q] : Fin 2 → ℕ) a + S1024x256.size a ≤ S1024x768.size a) (y : S1024x256.Idx) :
    nrm (cut z o h) (View.ld (Val := Elt Ideal) (e' := .f32) v (Rect.unit (s := S1x768) ![0, q] S1x256.size inv)) y
      = block G z b hb ((Rect.unit (s := S1024x768) ![0, q] S1024x256.size inb).emb y) := by
  have e : ∀ (r : Fin 1024) (C : Fin 256), nrm (cut z o h) (View.ld (Val := Elt Ideal) (e' := .f32) v (Rect.unit (s := S1x768) ![0, q] S1x256.size inv)) (ix2 r C)
      = block G z b hb ((Rect.unit (s := S1024x768) ![0, q] S1024x256.size inb).emb (ix2 r C)) := fun r C => by
    rw [third_at p q hp hq inb r C]
    exact piece_apply z _ r (fun c => hz r c) b p o hb hp ho h G (gain_apply v G hv p q hp hq inv) C
  have e := e (y 0) (y 1)
  rw [← ix2_of y (y 0) (y 1) rfl rfl] at e
  exact e

include hz

theorem hz1 : ∀ r c, Real1 (k0_pay1 (F := Ideal) x g md W (ix2 r c)) := fun r c => by rw [z_apply]; exact hz r c

theorem q_apply (hv : ∀ c : Fin 768, gq (ix2 (0 : Fin 1) c) = G ⟨c.val % 64, gainAt_lt _⟩) (r : Fin 1024) (c : Fin 768) :
    out0_7 (F := Ideal) x md g W gq gk cs (ix2 r c) = headCol (branch (prow x md g W r) 0 (by decide)) G c := by
  have hz1 := hz1 x md g W hz
  have e : out0_7 (F := Ideal) x md g W gq gk cs (ix2 r c) = block G (k0_pay1 x g md W) 0 (by decide) (ix2 r c) := by
    unfold out0_7
    refine View.canon_apply_of_pieces (Val := Elt Ideal) (block G (k0_pay1 (F := Ideal) x g md W) 0 (by decide)) _ (fun p hp y => ?_) (ix2 r c) (cover0_7 _ _ _ _)
    rw [pay38_eq] at hp
    rcases List.mem_cons.mp hp with rfl | hp
    · exact block_piece G _ hz1 gq hv 0 2 512 512 _ (by decide) rfl rfl _ _ inb_S1024x768_S1024x256_0_512 y
    rcases List.mem_cons.mp hp with rfl | hp
    · exact block_piece G _ hz1 gq hv 0 1 256 256 _ (by decide) rfl rfl _ _ inb_S1024x768_S1024x256_0_256 y
    rcases List.mem_cons.mp hp with rfl | hp
    · refine Eq.trans ?_ (block_piece G _ hz1 gq hv 0 0 0 0 _ (by decide) rfl rfl slices_S1024x2560_o0_0_S1024x256 inb_S1x768_S1x256_0_0 inb_S1024x768_S1024x256_0_0 y)
      rw [← pay38_eq x md g W gq gk cs]
      rfl
    nomatch hp
  rw [e]
  exact congrArg (fun z => headCol (branch z 0 _) G c) (funext fun c => z_apply x md g W r c)

theorem k_apply (hv : ∀ c : Fin 768, gk (ix2 (0 : Fin 1) c) = G ⟨c.val % 64, gainAt_lt _⟩) (r : Fin 1024) (c : Fin 768) :
    out0_8 (F := Ideal) x md g W gq gk cs (ix2 r c) = headCol (branch (prow x md g W r) 768 (by decide)) G c := by
  have hz1 := hz1 x md g W hz
  have e : out0_8 (F := Ideal) x md g W gq gk cs (ix2 r c) = block G (k0_pay1 x g md W) 768 (by decide) (ix2 r c) := by
    unfold out0_8
    refine View.canon_apply_of_pieces (Val := Elt Ideal) (block G (k0_pay1 (F := Ideal) x g md W) 768 (by decide)) _ (fun p hp y => ?_) (ix2 r c) (cover0_8 _ _ _ _)
    unfold k0_pay39 k0_pay40 at hp
    rw [pay38_eq] at hp
    rcases List.mem_cons.mp hp with rfl | hp
    · exact block_piece G _ hz1 gk hv 768 2 1280 512 _ (by decide) rfl rfl _ _ inb_S1024x768_S1024x256_0_512 y
    rcases List.mem_cons.mp hp with rfl | hp
    · exact block_piece G _ hz1 gk hv 768 1 1024 256 _ (by decide) rfl rfl _ _ inb_S1024x768_S1024x256_0_256 y
    rcases List.mem_cons.mp hp with rfl | hp
    · refine Eq.trans ?_ (block_piece G _ hz1 gk hv 768 0 768 0 _ (by decide) rfl rfl slices_S1024x2560_o0_768_S1024x256 inb_S1x768_S1x256_0_0 inb_S1024x768_S1024x256_0_0 y)
      rw [← pay38_eq x md g W gq gk cs]
      rfl
    nomatch hp
  rw [e]
  exact congrArg (fun z => headCol (branch z 768 _) G c) (funext fun c => z_apply x md g W r c)

omit hz

theorem v_lt (c : Fin 768) : 1536 + c.val < 2560 := by omega
theorem f_lt (c : Fin 256) : 2304 + c.val < 2560 := by omega

theorem v_apply (r : Fin 1024) (c : Fin 768) : out0_9 (F := Ideal) x md g W gq gk cs (ix2 r c) = prow x md g W r ⟨1536 + c.val, v_lt c⟩ := by
  unfold out0_9
  refine (congrFun (View.canon_unit_zero h2 ..) (ix2 r c)).trans ?_
  rw [pay38_eq]
  unfold k0_pay36
  rw [truncf_apply, slice2_axis1_apply 1536 _ _ r c ⟨1536 + c.val, v_lt c⟩ rfl, z_apply]

theorem uv_apply (r : Fin 1024) (c : Fin 512) :
    out0_10 (F := Ideal) x md g W gq gk cs (ix2 r c) = ∑ j : Fin 256, prow x md g W r ⟨2304 + j.val, f_lt j⟩ * cs (ix2 j c) := by
  have e6 : View.ld (Val := Elt Ideal) (e' := .bf16) cs r0_11 = cs := View.ld_unit_zero h2 ..
  unfold out0_10
  refine (congrFun (View.canon_unit_zero h2 ..) (ix2 r c)).trans ?_
  rw [pay38_eq, e6]
  unfold k0_pay37
  rw [truncf_apply]
  refine (Ideal.matmul_plain_apply (M := 1024) (K := 256) (N := 512) none _ _ _ r c).trans ?_
  rw [constant_apply, Ideal.ofBits_zero_f32, zero_add]
  refine Finset.sum_congr rfl fun j _ => congrArg (· * _) ?_
  rw [truncf_apply, slice2_axis1_apply 2304 _ _ r j ⟨2304 + j.val, f_lt j⟩ rfl, z_apply]

end Out

end Cert.Kernel5Ideal.Proj

end
-- ==== Proof.Proj.Ref.lean ====
/-
  One element of each of the even input projection reference's four results.
-/
module

public import proofs.«01_k».proof.Proof.Gen.Reference5Ideal.Read
public import proofs.«01_k».proof.Proof.Mix.Row
public import proofs.«01_k».proof.Proof.Proj.Row

@[expose] public section

set_option maxRecDepth 16384

noncomputable section

namespace Cert.Reference5Ideal.Proj

open Cert.Reference5Ideal Cert.Reference5Ideal.Gen Cert.Reference5Ideal.Read
open Idealize.ShloMosaic Idealize.ShloMosaic.ValueIdx
open Cert.Ffn Cert.Proj Cert.Mix
open Cert.Reference2Ideal.Ffn (at_)

/-- Columns normalised over their heads, as the reference writes it. -/
def split (y : FVec Ideal S16x4096x768 .f32) : FVec Ideal S16x4096x12x64 .f32 := shapeCast S16x4096x12x64 y shapeCasts_S16x4096x768_S16x4096x12x64
def sums (h : FVec Ideal S16x4096x12x64 .f32) : FVec Ideal S16x4096x12 .f32 :=
  Host.reduceAdd (mulf h h) (val_main_cst_3 (F := Ideal)) reducesTo_S16x4096x12x64_S16x4096x12_d3 h_S_
def facs (h : FVec Ideal S16x4096x12x64 .f32) : FVec Ideal S16x4096x12x1 .f32 :=
  Host.rsqrt (addf (Host.divf (broadcastInDim S16x4096x12x1 ![0, 1, 2] bcast_S16x4096x12_S16x4096x12x1_0_1_2 (sums h)) (val_main_v36 (F := Ideal))) (val_main_v38 (F := Ideal)))
def heads (y : FVec Ideal S16x4096x768 .f32) (g : FVec Ideal S64 .f32) : FVec Ideal S65536x768 .f32 :=
  shapeCast S65536x768 (mulf (mulf (split y) (broadcastInDim S16x4096x12x64 ![0, 1, 2, 3] bcast_S16x4096x12x1_S16x4096x12x64_0_1_2_3 (facs (split y)))) (val_main_v44 (F := Ideal) g))
    shapeCasts_S16x4096x12x64_S65536x768

variable (b : Fin 16) (s : Fin 4096)

theorem splitAt_lt (e : Fin 12) (i : Fin 64) : 64 * e.val + i.val < 768 := by omega

theorem split_apply (y : FVec Ideal S16x4096x768 .f32) (e : Fin 12) (i : Fin 64) : split y (ix4 b s e i) = y (ix3 b s ⟨64 * e.val + i.val, splitAt_lt e i⟩) :=
  shapeCast_apply y _ _ _ (by
    rw [Shape.rowMajor_val_three, Shape.rowMajor_val_four]
    show (b.val * 4096 + s.val) * 768 + (64 * e.val + i.val) = ((b.val * 4096 + s.val) * 12 + e.val) * 64 + i.val
    omega)

theorem sums_apply (h : FVec Ideal S16x4096x12x64 .f32) (e : Fin 12) : sums h (ix3 b s e) = ∑ i : Fin 64, h (ix4 b s e i) * h (ix4 b s e i) := by
  unfold sums
  simp only [Host.reduceAdd, Ideal.hostReduceAdd_def]
  rw [Ideal.hostReduceAdd_single reducesTo_S16x4096x12x64_S16x4096x12_d3 (by decide)]
  refine (congrArg (· + _) Ideal.ofBits_zero_f32).trans ((zero_add _).trans (Finset.sum_congr rfl fun i _ => ?_))
  exact congrArg (fun j => h j * h j) (ix4_of _ b s e i rfl rfl rfl rfl)

theorem facs_apply (h : FVec Ideal S16x4096x12x64 .f32) (e : Fin 12) : facs h (ix4 b s e (0 : Fin 1)) = fac fun i => h (ix4 b s e i) := by
  unfold facs fac mean
  show Ideal.rsqrt (Ideal.div (broadcastInDim S16x4096x12x1 ![0, 1, 2] _ (sums h) (ix4 b s e (0 : Fin 1))) (val_main_v36 (F := Ideal) _) + val_main_v38 (F := Ideal) _) = _
  rw [broadcastInDim_apply _ bcast_S16x4096x12_S16x4096x12x1_0_1_2 (sums h) (ix4 b s e (0 : Fin 1)) (ix3 b s e) (fun a => by match a with | ⟨0, _⟩ => rfl | ⟨1, _⟩ => rfl | ⟨2, _⟩ => rfl),
    sums_apply, val_main_v36_apply, val_main_v38_apply]
  rfl

theorem heads_apply (y : FVec Ideal S16x4096x768 .f32) (g : FVec Ideal S64 .f32) (c : Fin 768) :
    heads y g (ix2 (at_ b s) c) = headCol (fun c => y (ix3 b s c)) (fun i => g (ix1 i)) c := by
  have he : c.val / 64 < 12 := by omega
  unfold heads headCol
  rw [shapeCast_apply _ shapeCasts_S16x4096x12x64_S65536x768 (ix2 (at_ b s) c) (ix4 b s (⟨c.val / 64, he⟩ : Fin 12) (⟨c.val % 64, gainAt_lt _⟩ : Fin 64)) (by
    rw [Shape.rowMajor_val_two, Shape.rowMajor_val_four]
    show ((b.val * 4096 + s.val) * 12 + c.val / 64) * 64 + c.val % 64 = (4096 * b.val + s.val) * 768 + c.val
    omega)]
  rw [mulf_apply, mulf_apply, split_apply,
    broadcastInDim_apply _ bcast_S16x4096x12x1_S16x4096x12x64_0_1_2_3 (facs (split y)) _ (ix4 b s (⟨c.val / 64, he⟩ : Fin 12) (0 : Fin 1))
      (fun a => by match a with | ⟨0, _⟩ => rfl | ⟨1, _⟩ => rfl | ⟨2, _⟩ => rfl | ⟨3, _⟩ => rfl),
    facs_apply, val_main_v44_apply, val_main_v43_apply]
  refine congrArg₂ (· * ·) (congrArg₂ (· * ·) (congrArg y (ix3_of _ b s c rfl rfl (Nat.div_add_mod c.val 64))) (congrArg fac (funext fun i => split_apply b s y _ i))) ?_
  exact congrArg g (funext fun a => by match a with | ⟨0, _⟩ => rfl)

variable (x0 : FVec Ideal S65536x1024 .f32) (x1 : FVec Ideal S16x3x1024 .f32) (x2 : FVec Ideal S1024 .f32) (x3 : FVec Ideal S2x1024x2560 .f32)
  (x4 x5 : FVec Ideal S64 .f32) (x6 : FVec Ideal S256x512 .bf16)

/-- The projected row. -/
def prow (c : Fin 2560) : EReal :=
  col (hid (fun k => x0 (ix2 (at_ b s) k)) (fun k => x1 (ix3 b (0 : Fin 3) k)) (fun k => x1 (ix3 b (1 : Fin 3) k)) (fun k => x2 (ix1 k))) (fun k => x3 (ix3 (0 : Fin 2) k c))

theorem w_apply (k : Fin 1024) (c : Fin 2560) : val_main_v26 (F := Ideal) x3 (ix2 k c) = x3 (ix3 (0 : Fin 2) k c) := by
  rw [val_main_v26_apply, val_main_v25_apply]
  exact congrArg x3 (ix3_of _ _ _ _ rfl (show (k.val * 2560 + c.val) / 2560 % 1024 = k.val by omega) (show (k.val * 2560 + c.val) % 2560 = c.val by omega))

theorem h_eq : val_main_v24 (F := Ideal) x0 x1 x2 = Cert.Reference2Ideal.Read.val_main_v30 (F := Ideal) x0 x1 x2 := rfl

theorem z_apply (c : Fin 2560) : val_main_v27 (F := Ideal) x0 x1 x2 x3 (ix3 b s c) = prow b s x0 x1 x2 x3 c := by
  rw [val_main_v27_apply]
  unfold prow col
  refine Finset.sum_congr rfl fun k _ => congrArg₂ (· * ·) ?_ ?_
  · refine (congrArg (val_main_v24 (F := Ideal) x0 x1 x2) (ix3_of _ b s k rfl rfl rfl)).trans ?_
    rw [h_eq, Cert.Reference2Ideal.Ffn.hid_apply]
  · exact (congrArg (val_main_v26 (F := Ideal) x3) (ix2_of _ k c rfl rfl)).trans (w_apply x3 k c)

theorem q_lt (c : Fin 768) : c.val < 2560 := by omega
theorem k_lt (c : Fin 768) : 768 + c.val < 2560 := by omega
theorem v_lt (c : Fin 768) : 1536 + c.val < 2560 := by omega
theorem f_lt (c : Fin 256) : 2304 + c.val < 2560 := by omega

theorem q_eq : val_main_v46 (F := Ideal) x0 x1 x2 x3 x4 = heads (val_main_v28 (F := Ideal) x0 x1 x2 x3) x4 := rfl
theorem k_eq : val_main_v61 (F := Ideal) x0 x1 x2 x3 x5 = heads (val_main_v29 (F := Ideal) x0 x1 x2 x3) x5 := rfl

/-- The queries, the keys, the values and the spectrum. -/
theorem q_apply (c : Fin 768) :
    val_main_v66 (F := Ideal) x0 x1 x2 x3 x4 (ix2 (at_ b s) c) = headCol (fun c => prow b s x0 x1 x2 x3 ⟨c.val, q_lt c⟩) (fun i => x4 (ix1 i)) c := by
  rw [val_main_v66_apply, q_eq, heads_apply]
  refine congrArg (headCol · _ c) (funext fun c => ?_)
  rw [val_main_v28_apply, ← z_apply]
  exact congrArg _ (ix3_of _ _ _ _ rfl rfl rfl)

theorem k_apply (c : Fin 768) :
    val_main_v67 (F := Ideal) x0 x1 x2 x3 x5 (ix2 (at_ b s) c) = headCol (fun c => prow b s x0 x1 x2 x3 ⟨768 + c.val, k_lt c⟩) (fun i => x5 (ix1 i)) c := by
  rw [val_main_v67_apply, k_eq, heads_apply]
  refine congrArg (headCol · _ c) (funext fun c => ?_)
  rw [val_main_v29_apply, ← z_apply]
  exact congrArg _ (ix3_of _ _ _ _ rfl rfl rfl)

theorem v_apply (c : Fin 768) : val_main_v68 (F := Ideal) x0 x1 x2 x3 (ix2 (at_ b s) c) = prow b s x0 x1 x2 x3 ⟨1536 + c.val, v_lt c⟩ := by
  rw [val_main_v68_apply, val_main_v65_apply, val_main_v30_apply]
  refine Eq.trans ?_ (z_apply b s x0 x1 x2 x3 ⟨1536 + c.val, v_lt c⟩)
  exact congrArg (val_main_v27 (F := Ideal) x0 x1 x2 x3) (ix3_of _ _ _ _ (show ((4096 * b.val + s.val) * 768 + c.val) / 3145728 = b.val by omega) (show ((4096 * b.val + s.val) * 768 + c.val) / 768 % 4096 = s.val by omega)
    (show 1536 + ((4096 * b.val + s.val) * 768 + c.val) % 768 = 1536 + c.val by omega))

theorem uv_apply (c : Fin 512) :
    val_main_v69 (F := Ideal) x0 x1 x2 x3 x6 (ix2 (at_ b s) c) = ∑ j : Fin 256, prow b s x0 x1 x2 x3 ⟨2304 + j.val, f_lt j⟩ * x6 (ix2 j c) := by
  rw [val_main_v69_apply, val_main_v64_apply, val_main_v63_apply]
  refine Finset.sum_congr rfl fun j _ => congrArg₂ (· * ·) ?_ ?_
  · rw [val_main_v31_apply, ← z_apply]
    exact congrArg _ (ix3_of _ _ _ _ (show ((4096 * b.val + s.val) * 512 + c.val) / 2097152 = b.val by omega) (show ((4096 * b.val + s.val) * 512 + c.val) / 512 % 4096 = s.val by omega) rfl)
  · exact congrArg x6 (ix2_of _ j c rfl (show ((4096 * b.val + s.val) * 512 + c.val) % 512 = c.val by omega))

end Cert.Reference5Ideal.Proj

end
-- ==== Proof.Proj.Arr.lean ====
/-
  The result arrays of the even input projection's kernel at extended reals: the reference's four results of the same
  arguments, block by block.
-/
module

public import proofs.«01_k».proof.Proof.Gen.Kernel5Ideal.Value
public import proofs.«01_k».proof.Proof.Proj.Out
public import proofs.«01_k».proof.Proof.Proj.Ref
public import Idealize.ShloMosaic.Lib.Claim

@[expose] public section

set_option maxRecDepth 16384

noncomputable section

namespace Cert.Kernel5Ideal.Proj

open Cert.Kernel5Ideal Cert.Kernel5Ideal.Gen
open Idealize.ShloMosaic Idealize.ShloMosaic.ValueIdx Idealize.ShloMosaic.TcCoe Idealize.ShloMosaic.Tactic
open Cert.Ffn Cert.Proj
open Cert.Mix (ix2_of ix3_of col_at one_at)
open Cert.Reference2Ideal.Ffn (at_)

variable (m : (ℓ : Loc nD τ sig) → Buf (Elt Ideal) ℓ)

/-- Point `t` takes rows `1024 t` on, of sample `t / 4`; the weights' blocks stay. -/
theorem idx_0 : ∀ t : Fin cfg0.N, win0_0.index t (0 : Fin 2) = t.val ∧ win0_0.index t (1 : Fin 2) = 0 := (by decide +kernel : ∀ t : Fin grid0.N, _)
theorem idx_1 : ∀ t : Fin cfg0.N, win0_1.index t (0 : Fin 3) = t.val / 4 ∧ win0_1.index t (1 : Fin 3) = 0 ∧ win0_1.index t (2 : Fin 3) = 0 := (by decide +kernel : ∀ t : Fin grid0.N, _)
theorem idx_2 : ∀ t : Fin cfg0.N, win0_2.index t (0 : Fin 2) = 0 ∧ win0_2.index t (1 : Fin 2) = 0 := (by decide +kernel : ∀ t : Fin grid0.N, _)
theorem idx_3 : ∀ t : Fin cfg0.N, win0_3.index t (0 : Fin 3) = 0 ∧ win0_3.index t (1 : Fin 3) = 0 ∧ win0_3.index t (2 : Fin 3) = 0 := (by decide +kernel : ∀ t : Fin grid0.N, _)
theorem idx_4 : ∀ t : Fin cfg0.N, win0_4.index t (0 : Fin 2) = 0 ∧ win0_4.index t (1 : Fin 2) = 0 := (by decide +kernel : ∀ t : Fin grid0.N, _)
theorem idx_5 : ∀ t : Fin cfg0.N, win0_5.index t (0 : Fin 2) = 0 ∧ win0_5.index t (1 : Fin 2) = 0 := (by decide +kernel : ∀ t : Fin grid0.N, _)
theorem idx_6 : ∀ t : Fin cfg0.N, win0_6.index t (0 : Fin 2) = 0 ∧ win0_6.index t (1 : Fin 2) = 0 := (by decide +kernel : ∀ t : Fin grid0.N, _)
theorem idx_7 : ∀ t : Fin cfg0.N, win0_7.index t (0 : Fin 2) = t.val ∧ win0_7.index t (1 : Fin 2) = 0 := (by decide +kernel : ∀ t : Fin grid0.N, _)
theorem idx_8 : ∀ t : Fin cfg0.N, win0_8.index t (0 : Fin 2) = t.val ∧ win0_8.index t (1 : Fin 2) = 0 := (by decide +kernel : ∀ t : Fin grid0.N, _)
theorem idx_9 : ∀ t : Fin cfg0.N, win0_9.index t (0 : Fin 2) = t.val ∧ win0_9.index t (1 : Fin 2) = 0 := (by decide +kernel : ∀ t : Fin grid0.N, _)
theorem idx_10 : ∀ t : Fin cfg0.N, win0_10.index t (0 : Fin 2) = t.val ∧ win0_10.index t (1 : Fin 2) = 0 := (by decide +kernel : ∀ t : Fin grid0.N, _)

theorem lt_64 (t : Fin cfg0.N) : t.val < 64 := lt_of_lt_of_eq t.isLt N_0

/-- The sample point `t` takes, and the place in it of the block's row `r`. -/
theorem smp_lt (t : Fin cfg0.N) : t.val / 4 < 16 := by have := lt_64 t; omega
theorem pos_lt (t : ℕ) (r : Fin 1024) : 1024 * (t % 4) + r.val < 4096 := by omega
abbrev smp (t : Fin cfg0.N) : Fin 16 := ⟨t.val / 4, smp_lt t⟩
abbrev pos (t : Fin cfg0.N) (r : Fin 1024) : Fin 4096 := ⟨1024 * (t.val % 4) + r.val, pos_lt t.val r⟩

/-- A tile's row in the whole array, and the tile and row a row of it is. -/
theorem row_at {x t : ℕ} (h : x = t) (r : Fin 1024) : x * 1024 + 1 * r.val = 4096 * (t / 4) + (1024 * (t % 4) + r.val) := by omega
theorem tile_of {i : ℕ} (h : i < 65536) : i = 4096 * (i / 1024 / 4) + (1024 * (i / 1024 % 4) + i % 1024) := by omega

/-- The launched arguments. -/
abbrev arg0 (c : Dev nD) : Vec Ideal S65536x1024 .f32 := m ((c : Thread nD τ).loc main_arg0)
abbrev arg1 (c : Dev nD) : Vec Ideal S16x3x1024 .f32 := m ((c : Thread nD τ).loc main_arg1)
abbrev arg2 (c : Dev nD) : Vec Ideal S1024 .f32 := m ((c : Thread nD τ).loc main_arg2)
abbrev arg3 (c : Dev nD) : Vec Ideal S2x1024x2560 .f32 := m ((c : Thread nD τ).loc main_arg3)
abbrev arg4 (c : Dev nD) : Vec Ideal S64 .f32 := m ((c : Thread nD τ).loc main_arg4)
abbrev arg5 (c : Dev nD) : Vec Ideal S64 .f32 := m ((c : Thread nD τ).loc main_arg5)
abbrev arg6 (c : Dev nD) : Vec Ideal S256x512 .bf16 := m ((c : Thread nD τ).loc main_arg6)

/-- A head's gain, at every head's place. -/
def tiled (x : FVec Ideal S64 .f32) : FVec Ideal S1x768 .f32 :=
  broadcastInDim S1x768 ![1] bcast_S768_S1x768_1 (shapeCast S768 (broadcastInDim S12x64 ![0, 1] bcast_S1x64_S12x64_0_1 (shapeCast S1x64 x shapeCasts_S64_S1x64)) shapeCasts_S12x64_S768)

theorem tiled_apply (x : FVec Ideal S64 .f32) (c : Fin 768) : tiled x (ix2 (0 : Fin 1) c) = x (ix1 ⟨c.val % 64, gainAt_lt _⟩) := by
  have he : c.val / 64 < 12 := by omega
  unfold tiled
  rw [broadcastInDim_apply _ bcast_S768_S1x768_1 _ (ix2 (0 : Fin 1) c) (ix1 c) (fun a => by match a with | ⟨0, _⟩ => rfl),
    shapeCast_apply _ shapeCasts_S12x64_S768 (ix1 c) (ix2 (⟨c.val / 64, he⟩ : Fin 12) (⟨c.val % 64, gainAt_lt _⟩ : Fin 64)) (by
      rw [Shape.rowMajor_val_two, Shape.rowMajor_val_one]
      show c.val / 64 * 64 + c.val % 64 = c.val
      omega),
    broadcastInDim_apply _ bcast_S1x64_S12x64_0_1 _ (ix2 (⟨c.val / 64, he⟩ : Fin 12) (⟨c.val % 64, gainAt_lt _⟩ : Fin 64)) (ix2 (0 : Fin 1) (⟨c.val % 64, gainAt_lt _⟩ : Fin 64))
      (fun a => by match a with | ⟨0, _⟩ => rfl | ⟨1, _⟩ => rfl)]
  exact shapeCast_a_1a_apply _ _ _ _

theorem V_w (c : Dev nD) : (V m c main_v0 : Vec Ideal S2x1024x2560 .bf16) = truncf (F := Ideal) .bf16 (arg3 m c : FVec Ideal S2x1024x2560 .f32) bitsLt_bf16_f32 := by
  entry_read <;> rfl
theorem V_gq (c : Dev nD) : (V m c main_v4 : Vec Ideal S1x768 .f32) = tiled (arg4 m c) := by
  entry_read <;> rfl
theorem V_gk (c : Dev nD) : (V m c main_v8 : Vec Ideal S1x768 .f32) = tiled (arg5 m c) := by
  entry_read <;> rfl
theorem V_g (c : Dev nD) : (V m c main_v9 : Vec Ideal S1x1024 .f32) = shapeCast S1x1024 (arg2 m c) shapeCasts_S1024_S1x1024 := by
  entry_read <;> rfl

theorem blk0_apply (c : Dev nD) (t : Fin cfg0.N) (r k : Fin 1024) :
    (iblk m c 0 t : Vec Ideal S1024x1024 .f32) (ix2 r k) = arg0 m c (ix2 (at_ (smp t) (pos t r)) k) := by
  obtain ⟨e0, e1⟩ := idx_0 t
  show V m c main_arg0 (((cfg0.win 0).blk t).view.emb (ix2 r k)) = _
  rw [V_main_arg0]
  exact congrArg (arg0 m c) (ix2_of _ _ _ (row_at e0 r) (col_at e1 k))

theorem blk1_apply (c : Dev nD) (t : Fin cfg0.N) (e : Fin 3) (k : Fin 1024) :
    (iblk m c 1 t : Vec Ideal S1x3x1024 .f32) (ix3 (0 : Fin 1) e k) = arg1 m c (ix3 (smp t) e k) := by
  obtain ⟨e0, e1, e2⟩ := idx_1 t
  show V m c main_arg1 (((cfg0.win 1).blk t).view.emb (ix3 (0 : Fin 1) e k)) = _
  rw [V_main_arg1]
  exact congrArg (arg1 m c) (ix3_of _ _ _ _ (one_at e0) (col_at e1 e) (col_at e2 k))

theorem blk2_apply (c : Dev nD) (t : Fin cfg0.N) (k : Fin 1024) :
    (iblk m c 2 t : Vec Ideal S1x1024 .f32) (ix2 (0 : Fin 1) k) = arg2 m c (ix1 k) := by
  obtain ⟨e0, e1⟩ := idx_2 t
  show (V m c main_v9 : Vec Ideal S1x1024 .f32) (((cfg0.win 2).blk t).view.emb (ix2 (0 : Fin 1) k)) = _
  rw [V_g]
  exact (congrArg (shapeCast S1x1024 (arg2 m c) shapeCasts_S1024_S1x1024) (ix2_of _ (0 : Fin 1) k (one_at e0) (col_at e1 k))).trans (shapeCast_a_1a_apply _ _ _ _)

theorem blk3_apply (c : Dev nD) (t : Fin cfg0.N) (k : Fin 1024) (n : Fin 2560) :
    (iblk m c 3 t : Vec Ideal S1x1024x2560 .bf16) (ix3 (0 : Fin 1) k n) = arg3 m c (ix3 (0 : Fin 2) k n) := by
  obtain ⟨e0, e1, e2⟩ := idx_3 t
  show (V m c main_v0 : Vec Ideal S2x1024x2560 .bf16) (((cfg0.win 3).blk t).view.emb (ix3 (0 : Fin 1) k n)) = _
  rw [V_w]
  exact congrArg (arg3 m c) (ix3_of _ _ _ _ (one_at e0) (col_at e1 k) (col_at e2 n))

theorem blk4_apply (c : Dev nD) (t : Fin cfg0.N) (k : Fin 768) :
    (iblk m c 4 t : Vec Ideal S1x768 .f32) (ix2 (0 : Fin 1) k) = arg4 m c (ix1 ⟨k.val % 64, gainAt_lt _⟩) := by
  obtain ⟨e0, e1⟩ := idx_4 t
  show (V m c main_v4 : Vec Ideal S1x768 .f32) (((cfg0.win 4).blk t).view.emb (ix2 (0 : Fin 1) k)) = _
  rw [V_gq]
  exact (congrArg (tiled (arg4 m c)) (ix2_of _ (0 : Fin 1) k (one_at e0) (col_at e1 k))).trans (tiled_apply _ _)

theorem blk5_apply (c : Dev nD) (t : Fin cfg0.N) (k : Fin 768) :
    (iblk m c 5 t : Vec Ideal S1x768 .f32) (ix2 (0 : Fin 1) k) = arg5 m c (ix1 ⟨k.val % 64, gainAt_lt _⟩) := by
  obtain ⟨e0, e1⟩ := idx_5 t
  show (V m c main_v8 : Vec Ideal S1x768 .f32) (((cfg0.win 5).blk t).view.emb (ix2 (0 : Fin 1) k)) = _
  rw [V_gk]
  exact (congrArg (tiled (arg5 m c)) (ix2_of _ (0 : Fin 1) k (one_at e0) (col_at e1 k))).trans (tiled_apply _ _)

theorem blk6_apply (c : Dev nD) (t : Fin cfg0.N) (j : Fin 256) (k : Fin 512) :
    (iblk m c 6 t : Vec Ideal S256x512 .bf16) (ix2 j k) = arg6 m c (ix2 j k) := by
  obtain ⟨e0, e1⟩ := idx_6 t
  show V m c main_arg6 (((cfg0.win 6).blk t).view.emb (ix2 j k)) = _
  rw [V_main_arg6]
  exact congrArg (arg6 m c) (ix2_of _ _ _ (col_at e0 j) (col_at e1 k))

/-- A block's projected row is the reference's. -/
theorem prow_eq (c : Dev nD) (t : Fin cfg0.N) (r : Fin 1024) :
    prow (iblk m c 0 t) (iblk m c 1 t) (iblk m c 2 t) (iblk m c 3 t) r = Cert.Reference5Ideal.Proj.prow (smp t) (pos t r) (arg0 m c) (arg1 m c) (arg2 m c) (arg3 m c) := by
  funext n
  unfold prow Cert.Reference5Ideal.Proj.prow
  simp only [blk0_apply, blk1_apply, blk2_apply, blk3_apply]

/-- What the result arrays are shown to hold. -/
abbrev res0 (c : Dev nD) : Vec Ideal S65536x768 .bf16 := Cert.Reference5Ideal.Read.val_main_v66 (F := Ideal) (arg0 m c) (arg1 m c) (arg2 m c) (arg3 m c) (arg4 m c)
abbrev res1 (c : Dev nD) : Vec Ideal S65536x768 .bf16 := Cert.Reference5Ideal.Read.val_main_v67 (F := Ideal) (arg0 m c) (arg1 m c) (arg2 m c) (arg3 m c) (arg5 m c)
abbrev res2 (c : Dev nD) : Vec Ideal S65536x768 .bf16 := Cert.Reference5Ideal.Read.val_main_v68 (F := Ideal) (arg0 m c) (arg1 m c) (arg2 m c) (arg3 m c)
abbrev res3 (c : Dev nD) : Vec Ideal S65536x512 .bf16 := Cert.Reference5Ideal.Read.val_main_v69 (F := Ideal) (arg0 m c) (arg1 m c) (arg2 m c) (arg3 m c) (arg6 m c)

theorem emb_7 (t : Fin cfg0.N) (r : Fin 1024) (C : Fin 768) : ((cfg0.win 7).blk t).view.emb (ix2 r C) = ix2 (at_ (smp t) (pos t r)) C := by
  obtain ⟨e0, e1⟩ := idx_7 t
  exact ix2_of _ _ _ (row_at e0 r) (col_at e1 C)
theorem emb_8 (t : Fin cfg0.N) (r : Fin 1024) (C : Fin 768) : ((cfg0.win 8).blk t).view.emb (ix2 r C) = ix2 (at_ (smp t) (pos t r)) C := by
  obtain ⟨e0, e1⟩ := idx_8 t
  exact ix2_of _ _ _ (row_at e0 r) (col_at e1 C)
theorem emb_9 (t : Fin cfg0.N) (r : Fin 1024) (C : Fin 768) : ((cfg0.win 9).blk t).view.emb (ix2 r C) = ix2 (at_ (smp t) (pos t r)) C := by
  obtain ⟨e0, e1⟩ := idx_9 t
  exact ix2_of _ _ _ (row_at e0 r) (col_at e1 C)
theorem emb_10 (t : Fin cfg0.N) (r : Fin 1024) (C : Fin 512) : ((cfg0.win 10).blk t).view.emb (ix2 r C) = ix2 (at_ (smp t) (pos t r)) C := by
  obtain ⟨e0, e1⟩ := idx_10 t
  exact ix2_of _ _ _ (row_at e0 r) (col_at e1 C)

/-- Modulation, gain and projection are reals. -/
def Real3 (c : Dev nD) : Prop := (∀ i, Real1 (arg1 m c i)) ∧ (∀ i, Real1 (arg2 m c i)) ∧ (∀ i, Real1 (arg3 m c i))

theorem prow_real (c : Dev nD) (h : Real3 m c) (t : Fin cfg0.N) (r : Fin 1024) (n : Fin 2560) :
    Real1 (prow (iblk m c 0 t) (iblk m c 1 t) (iblk m c 2 t) (iblk m c 3 t) r n) := by
  rw [prow_eq]
  exact col_real (fun _ => h.1 _) (fun _ => h.1 _) (fun _ => h.2.1 _) (fun _ => h.2.2 _)

/-- What point `t` leaves in each is its rows of the reference's result. -/
theorem left_7 (c : Dev nD) (h : Real3 m c) (t : Fin cfg0.N) (r : Fin 1024) (C : Fin 768) :
    (out0_7 (iblk m c 0 t) (iblk m c 1 t) (iblk m c 2 t) (iblk m c 3 t) (iblk m c 4 t) (iblk m c 5 t) (iblk m c 6 t) : Vec Ideal S1024x768 .bf16) (ix2 r C)
      = res0 m c (((cfg0.win 7).blk t).view.emb (ix2 r C)) := by
  rw [emb_7]
  refine (q_apply (iblk m c 0 t) (iblk m c 1 t) (iblk m c 2 t) (iblk m c 3 t) (iblk m c 4 t) (iblk m c 5 t) (iblk m c 6 t) (prow_real m c h t) (fun i => arg4 m c (ix1 i)) (fun k => blk4_apply m c t k) r C).trans ?_
  refine Eq.trans ?_ (Cert.Reference5Ideal.Proj.q_apply (smp t) (pos t r) (arg0 m c) (arg1 m c) (arg2 m c) (arg3 m c) (arg4 m c) C).symm
  rw [prow_eq]
  exact congrArg (headCol · _ C) (funext fun k => congrArg (Cert.Reference5Ideal.Proj.prow _ _ _ _ _ _) (Fin.ext (Nat.zero_add _)))

theorem left_8 (c : Dev nD) (h : Real3 m c) (t : Fin cfg0.N) (r : Fin 1024) (C : Fin 768) :
    (out0_8 (iblk m c 0 t) (iblk m c 1 t) (iblk m c 2 t) (iblk m c 3 t) (iblk m c 4 t) (iblk m c 5 t) (iblk m c 6 t) : Vec Ideal S1024x768 .bf16) (ix2 r C)
      = res1 m c (((cfg0.win 8).blk t).view.emb (ix2 r C)) := by
  rw [emb_8]
  refine (k_apply (iblk m c 0 t) (iblk m c 1 t) (iblk m c 2 t) (iblk m c 3 t) (iblk m c 4 t) (iblk m c 5 t) (iblk m c 6 t) (prow_real m c h t) (fun i => arg5 m c (ix1 i)) (fun k => blk5_apply m c t k) r C).trans ?_
  refine Eq.trans ?_ (Cert.Reference5Ideal.Proj.k_apply (smp t) (pos t r) (arg0 m c) (arg1 m c) (arg2 m c) (arg3 m c) (arg5 m c) C).symm
  rw [prow_eq]
  rfl

theorem left_9 (c : Dev nD) (t : Fin cfg0.N) (r : Fin 1024) (C : Fin 768) :
    (out0_9 (iblk m c 0 t) (iblk m c 1 t) (iblk m c 2 t) (iblk m c 3 t) (iblk m c 4 t) (iblk m c 5 t) (iblk m c 6 t) : Vec Ideal S1024x768 .bf16) (ix2 r C)
      = res2 m c (((cfg0.win 9).blk t).view.emb (ix2 r C)) := by
  rw [emb_9]
  refine (v_apply (iblk m c 0 t) (iblk m c 1 t) (iblk m c 2 t) (iblk m c 3 t) (iblk m c 4 t) (iblk m c 5 t) (iblk m c 6 t) r C).trans ?_
  refine Eq.trans ?_ (Cert.Reference5Ideal.Proj.v_apply (smp t) (pos t r) (arg0 m c) (arg1 m c) (arg2 m c) (arg3 m c)  C).symm
  rw [prow_eq]

theorem left_10 (c : Dev nD) (t : Fin cfg0.N) (r : Fin 1024) (C : Fin 512) :
    (out0_10 (iblk m c 0 t) (iblk m c 1 t) (iblk m c 2 t) (iblk m c 3 t) (iblk m c 4 t) (iblk m c 5 t) (iblk m c 6 t) : Vec Ideal S1024x512 .bf16) (ix2 r C)
      = res3 m c (((cfg0.win 10).blk t).view.emb (ix2 r C)) := by
  rw [emb_10]
  refine (uv_apply (iblk m c 0 t) (iblk m c 1 t) (iblk m c 2 t) (iblk m c 3 t) (iblk m c 4 t) (iblk m c 5 t) (iblk m c 6 t) r C).trans ?_
  refine Eq.trans ?_ (Cert.Reference5Ideal.Proj.uv_apply (smp t) (pos t r) (arg0 m c) (arg1 m c) (arg2 m c) (arg3 m c) (arg6 m c) C).symm
  rw [prow_eq]
  simp only [blk6_apply]

/-- Blocks that lie as the points' rows do fill an array, and agree when they agree place by place. -/
theorem fill {n : ℕ} (emb : Fin cfg0.N → (⟨2, ![1024, n]⟩ : Shape).Idx → (⟨2, ![65536, n]⟩ : Shape).Idx)
    (he : ∀ t r C, emb t (ix2 r C) = ix2 (at_ (smp t) (pos t r)) C) (i : (⟨2, ![65536, n]⟩ : Shape).Idx) : ∃ t y, emb t y = i := by
  have h0 : (i 0).val < 65536 := (i 0).isLt
  have hN : cfg0.N = 64 := N_0
  have ht : (i 0).val / 1024 < cfg0.N := by omega
  have hr : (i 0).val % 1024 < 1024 := by omega
  exact ⟨⟨_, ht⟩, ix2 ⟨_, hr⟩ (i 1), (he _ _ _).trans (ix2_of i _ (i 1) (tile_of h0) rfl).symm⟩

theorem rows_ext {n : ℕ} {f g : (⟨2, ![1024, n]⟩ : Shape).Idx → EReal} (h : ∀ r C, f (ix2 r C) = g (ix2 r C)) : f = g := funext fun j => by
  have e := h (j 0) (j 1)
  rw [← ix2_of j (j 0) (j 1) rfl rfl] at e
  exact e

theorem final_7 (c : Dev nD) (h : Real3 m c) : (dats m 0 c).arrAt 7 cfg0.N = res0 m c :=
  (dats m 0 c).arrAt_eq_of_cover 7 (res0 m c) (fun t _ => (Cert.Kernel5Ideal.Value.flushed7 m c t).trans (rows_ext (left_7 m c h t)))
    fun i => let ⟨t, y, e⟩ := fill (fun t => ((cfg0.win 7).blk t).view.emb) emb_7 i
      ⟨t, flush0_7 t, e ▸ ((cfg0.win 7).blk t).view.emb_mem_set y⟩

theorem final_8 (c : Dev nD) (h : Real3 m c) : (dats m 0 c).arrAt 8 cfg0.N = res1 m c :=
  (dats m 0 c).arrAt_eq_of_cover 8 (res1 m c) (fun t _ => (Cert.Kernel5Ideal.Value.flushed8 m c t).trans (rows_ext (left_8 m c h t)))
    fun i => let ⟨t, y, e⟩ := fill (fun t => ((cfg0.win 8).blk t).view.emb) emb_8 i
      ⟨t, flush0_8 t, e ▸ ((cfg0.win 8).blk t).view.emb_mem_set y⟩

theorem final_9 (c : Dev nD) : (dats m 0 c).arrAt 9 cfg0.N = res2 m c :=
  (dats m 0 c).arrAt_eq_of_cover 9 (res2 m c) (fun t _ => (Cert.Kernel5Ideal.Value.flushed9 m c t).trans (rows_ext (left_9 m c t)))
    fun i => let ⟨t, y, e⟩ := fill (fun t => ((cfg0.win 9).blk t).view.emb) emb_9 i
      ⟨t, flush0_9 t, e ▸ ((cfg0.win 9).blk t).view.emb_mem_set y⟩

theorem final_10 (c : Dev nD) : (dats m 0 c).arrAt 10 cfg0.N = res3 m c :=
  (dats m 0 c).arrAt_eq_of_cover 10 (res3 m c) (fun t _ => (Cert.Kernel5Ideal.Value.flushed10 m c t).trans (rows_ext (left_10 m c t)))
    fun i => let ⟨t, y, e⟩ := fill (fun t => ((cfg0.win 10).blk t).view.emb) emb_10 i
      ⟨t, flush0_10 t, e ▸ ((cfg0.win 10).blk t).view.emb_mem_set y⟩

/-- The run's results, the arguments as launched. -/
theorem run_res (ρ : Dev nD → PrngReg) (h : ∀ c, Real3 m c) :
    θ_run defs (onTc (τ := τ) (main (F := Ideal))) ⟨m, fun _ => 0, ρ⟩ (fun r => ∀ c : Dev nD,
      r.2.mem ((c.tc : Thread nD τ).loc main_v10_0) = res0 m c
      ∧ r.2.mem ((c.tc : Thread nD τ).loc main_v10_1) = res1 m c
      ∧ r.2.mem ((c.tc : Thread nD τ).loc main_v10_2) = res2 m c
      ∧ r.2.mem ((c.tc : Thread nD τ).loc main_v10_3) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ hr c => ⟨(hr c).1.trans (final_7 m c (h c)), (hr c).2.1.trans (final_8 m c (h c)), (hr c).2.2.1.trans (final_9 m c),
    (hr c).2.2.2.1.trans (final_10 m c), (hr c).2.2.2.2⟩) (Cert.Kernel5Ideal.Value.run_blocks m ρ)

end Cert.Kernel5Ideal.Proj

end
-- ==== Proof.Proj.Fin.lean ====
/-
  What the even input projection's precondition says at extended reals: modulation, gain and projection are reals.
-/
module

public import proofs.«01_k».proof.Pre_finite_weights
public import proofs.«01_k».proof.Proof.Id.Fin

@[expose] public section

set_option maxRecDepth 16384

noncomputable section

namespace Cert.Pre_finite_weights.Proj

open Cert.Pre_finite_weights
open Idealize.ShloMosaic Idealize.ShloMosaic.ValueIdx
open Cert.Pre_finite_scores.Att (real_of_lt ofBits_inf_f32)

theorem facts : Cert.Pre_finite_weights.Facts := ⟨by decide, by decide, by decide⟩

/-- The three tests passed. -/
theorem real_of_pre [Cert.Pre_finite_weights.Facts] (x0 : FVec Ideal S65536x1024 .f32) (x1 : FVec Ideal S16x3x1024 .f32) (x2 : FVec Ideal S1024 .f32) (x3 : FVec Ideal S2x1024x2560 .f32)
    (x4 x5 : FVec Ideal S64 .f32) (x6 : FVec Ideal S256x512 .bf16)
    (h : (fn (F := Ideal) x0 x1 x2 x3 x4 x5 x6).1 = (fun _ => 1#1) ∧ (fn (F := Ideal) x0 x1 x2 x3 x4 x5 x6).2.1 = (fun _ => 1#1) ∧ (fn (F := Ideal) x0 x1 x2 x3 x4 x5 x6).2.2 = (fun _ => 1#1)) :
    (∀ i, ∃ r : ℝ, x1 i = (r : EReal)) ∧ (∀ i, ∃ r : ℝ, x2 i = (r : EReal)) ∧ (∀ i, ∃ r : ℝ, x3 i = (r : EReal)) :=
  ⟨real_of_lt x1 _ (fun _ => ofBits_inf_f32) h.1, real_of_lt x2 _ (fun _ => ofBits_inf_f32) h.2.1, real_of_lt x3 _ (fun _ => ofBits_inf_f32) h.2.2⟩

end Cert.Pre_finite_weights.Proj

end
-- ==== Proof.Four.Arr.lean ====
/-
  The Fourier mixing over the positions at extended reals: each element of a block is the two tables' rows against the
  sample's two halves, which is the reference's element.
-/
module

public import proofs.«01_k».proof.Proof.Gen.Kernel6Ideal.Value
public import proofs.«01_k».proof.Proof.Gen.Reference6Ideal.Read
public import proofs.«01_k».proof.Proof.Mix.Row
public import proofs.«01_k».proof.Proof.Mix.Ref3
public import Idealize.ShloMosaic.Lib.Claim

@[expose] public section

set_option maxRecDepth 16384

noncomputable section

namespace Cert.Four

theorem u_lt (c : Fin 256) : c.val < 512 := by omega
theorem v_lt (c : Fin 256) : 256 + c.val < 512 := by omega

end Cert.Four

namespace Cert.Reference6Ideal.Four

open Cert.Reference6Ideal Cert.Reference6Ideal.Gen Cert.Reference6Ideal.Read
open Idealize.ShloMosaic Idealize.ShloMosaic.ValueIdx
open Cert.Four
open Cert.Mix (ix2_of ix3_of)
open Cert.Reference2Ideal.Ffn (at_)

/-- An element of the reference's result. -/
theorem res_apply (x0 : FVec Ideal S65536x512 .bf16) (x1 x2 : FVec Ideal S4096x4096 .bf16) (b : Fin 16) (t : Fin 4096) (c : Fin 256) :
    val_main_v11 (F := Ideal) x0 x1 x2 (ix3 b t c)
      = (∑ s : Fin 4096, x1 (ix2 t s) * x0 (ix2 (at_ b s) ⟨c.val, u_lt c⟩)) + ∑ s : Fin 4096, x2 (ix2 t s) * x0 (ix2 (at_ b s) ⟨256 + c.val, v_lt c⟩) := by
  have h1 : ∀ (s : Fin 4096) (k : Fin 512), val_main_v1 (F := Ideal) x0 (ix3 b s k) = x0 (ix2 (at_ b s) k) := fun s k => by
    rw [val_main_v1_apply, val_main_v0_apply]
    exact congrArg x0 (ix2_of _ _ _ (show ((b.val * 4096 + s.val) * 512 + k.val) / 512 = 4096 * b.val + s.val by omega) (show ((b.val * 4096 + s.val) * 512 + k.val) % 512 = k.val by omega))
  rw [val_main_v11_apply, val_main_v10_apply, val_main_v6_apply, val_main_v9_apply, val_main_v5_apply, val_main_v8_apply]
  refine congrArg₂ (· + ·) (Finset.sum_congr rfl fun s _ => ?_) (Finset.sum_congr rfl fun s _ => ?_)
  · rw [mul_comm, val_main_v2_apply, val_main_v4_apply, ← h1]
    exact congrArg₂ (· * ·) (congrArg x1 (ix2_of _ t s rfl rfl)) (congrArg (val_main_v1 (F := Ideal) x0) (ix3_of _ b s _ rfl rfl rfl))
  · rw [mul_comm, val_main_v3_apply, val_main_v7_apply, ← h1]
    exact congrArg₂ (· * ·) (congrArg x2 (ix2_of _ t s rfl rfl)) (congrArg (val_main_v1 (F := Ideal) x0) (ix3_of _ b s _ rfl rfl rfl))

end Cert.Reference6Ideal.Four

namespace Cert.Kernel6Ideal.Four

open Cert.Kernel6Ideal Cert.Kernel6Ideal.Gen
open Idealize.ShloMosaic Idealize.ShloMosaic.ValueIdx Idealize.ShloMosaic.TcCoe Idealize.ShloMosaic.Tactic
open Cert.Four
open Cert.Mix (ix2_of ix3_of col_at one_at)
open Cert.Reference2Ideal.Ffn (at_)

theorem h2 : (![0, 0] : Fin 2 → ℕ) = fun _ => 0 := funext fun a => by match a with | ⟨0, _⟩ => rfl | ⟨1, _⟩ => rfl
theorem h3 : (![0, 0, 0] : Fin 3 → ℕ) = fun _ => 0 := funext fun a => by match a with | ⟨0, _⟩ => rfl | ⟨1, _⟩ => rfl | ⟨2, _⟩ => rfl

/-- One table's rows against one half of a sample's columns. -/
theorem half_apply (x : FVec Ideal S512x4096 .bf16) (z : FVec Ideal S1x4096x512 .bf16) (o : ℕ) (h : S4096x512.Slices ![0, o] S4096x256) (r : Fin 512) (c : Fin 256)
    (k : Fin 512) (hk : k.val = o + c.val) :
    matmul dot_S512x4096_S4096x256_S512x256_1_0_0_1_n_n none x (extractStridedSlice S4096x256 ![0, o] (shapeCast S4096x512 z shapeCasts_S1x4096x512_S4096x512) h : FVec Ideal S4096x256 .bf16)
      (constant S512x256 .f32 0x00000000#32) (ix2 r c) = ∑ s : Fin 4096, x (ix2 r s) * z (ix3 (0 : Fin 1) s k) := by
  refine (Ideal.matmul_plain_apply (M := 512) (K := 4096) (N := 256) none _ _ _ r c).trans ?_
  rw [constant_apply, Ideal.ofBits_zero_f32, zero_add]
  refine Finset.sum_congr rfl fun s _ => congrArg (_ * ·) ?_
  rw [slice2_axis1_apply o _ _ s c k hk]
  exact shapeCast_1ab_ab_apply z _ s k

theorem out_apply (x0 x1 : FVec Ideal S512x4096 .bf16) (z : FVec Ideal S1x4096x512 .bf16) (r : Fin 512) (c : Fin 256) :
    out0_3 (F := Ideal) x0 x1 z (ix3 (0 : Fin 1) r c)
      = (∑ s : Fin 4096, x0 (ix2 r s) * z (ix3 (0 : Fin 1) s ⟨c.val, u_lt c⟩)) + ∑ s : Fin 4096, x1 (ix2 r s) * z (ix3 (0 : Fin 1) s ⟨256 + c.val, v_lt c⟩) := by
  have e0 : View.ld (Val := Elt Ideal) (e' := .bf16) x0 r0_1 = x0 := View.ld_unit_zero h2 ..
  have e1 : View.ld (Val := Elt Ideal) (e' := .bf16) x1 r0_1 = x1 := View.ld_unit_zero h2 ..
  have e2 : View.ld (Val := Elt Ideal) (e' := .bf16) z r0_0 = z := View.ld_unit_zero h3 ..
  unfold out0_3
  refine (congrFun (View.canon_unit_zero h3 ..) (ix3 (0 : Fin 1) r c)).trans ?_
  rw [e0, e1, e2]
  unfold k0_pay1
  refine (shapeCast_ab_1ab_apply _ _ _ r c).trans ?_
  rw [truncf_apply, addf_apply]
  exact congrArg₂ (· + ·) (half_apply x0 z 0 _ r c _ (Nat.zero_add _).symm) (half_apply x1 z 256 _ r c _ rfl)

variable (m : (ℓ : Loc nD τ sig) → Buf (Elt Ideal) ℓ)

/-- Point `t` takes the tables' rows `512 (t / 16)` on and sample `t % 16`. -/
theorem idx_0 : ∀ t : Fin cfg0.N, win0_0.index t (0 : Fin 2) = t.val / 16 ∧ win0_0.index t (1 : Fin 2) = 0 := (by decide +kernel : ∀ t : Fin grid0.N, _)
theorem idx_1 : ∀ t : Fin cfg0.N, win0_1.index t (0 : Fin 2) = t.val / 16 ∧ win0_1.index t (1 : Fin 2) = 0 := (by decide +kernel : ∀ t : Fin grid0.N, _)
theorem idx_2 : ∀ t : Fin cfg0.N, win0_2.index t (0 : Fin 3) = t.val % 16 ∧ win0_2.index t (1 : Fin 3) = 0 ∧ win0_2.index t (2 : Fin 3) = 0 := (by decide +kernel : ∀ t : Fin grid0.N, _)
theorem idx_3 : ∀ t : Fin cfg0.N, win0_3.index t (0 : Fin 3) = t.val % 16 ∧ win0_3.index t (1 : Fin 3) = t.val / 16 ∧ win0_3.index t (2 : Fin 3) = 0 := (by decide +kernel : ∀ t : Fin grid0.N, _)

theorem lt_128 (t : Fin cfg0.N) : t.val < 128 := lt_of_lt_of_eq t.isLt N_0
theorem smp_lt (t : Fin cfg0.N) : t.val % 16 < 16 := Nat.mod_lt _ (by decide)
theorem pos_lt (t : Fin cfg0.N) (r : Fin 512) : 512 * (t.val / 16) + r.val < 4096 := by have := lt_128 t; omega
abbrev smp (t : Fin cfg0.N) : Fin 16 := ⟨t.val % 16, smp_lt t⟩
abbrev pos (t : Fin cfg0.N) (r : Fin 512) : Fin 4096 := ⟨512 * (t.val / 16) + r.val, pos_lt t r⟩

theorem row_at {x t : ℕ} (h : x = t) (r : Fin 512) : x * 512 + 1 * r.val = 512 * t + r.val := by omega

/-- The launched arguments. -/
abbrev arg0 (c : Dev nD) : Vec Ideal S65536x512 .bf16 := m ((c : Thread nD τ).loc main_arg0)
abbrev arg1 (c : Dev nD) : Vec Ideal S4096x4096 .bf16 := m ((c : Thread nD τ).loc main_arg1)
abbrev arg2 (c : Dev nD) : Vec Ideal S4096x4096 .bf16 := m ((c : Thread nD τ).loc main_arg2)

theorem V_uv (c : Dev nD) : (V m c main_v0 : Vec Ideal S16x4096x512 .bf16) = shapeCast S16x4096x512 (arg0 m c) shapeCasts_S65536x512_S16x4096x512 := by
  entry_read <;> rfl

theorem uv_apply (x : FVec Ideal S65536x512 .bf16) (b : Fin 16) (s : Fin 4096) (k : Fin 512) :
    shapeCast S16x4096x512 x shapeCasts_S65536x512_S16x4096x512 (ix3 b s k) = x (ix2 (at_ b s) k) :=
  shapeCast_apply x _ _ _ (by
    rw [Shape.rowMajor_val_two, Shape.rowMajor_val_three]
    show (4096 * b.val + s.val) * 512 + k.val = (b.val * 4096 + s.val) * 512 + k.val
    omega)

theorem blk0_apply (c : Dev nD) (t : Fin cfg0.N) (r : Fin 512) (s : Fin 4096) : (iblk m c 0 t : Vec Ideal S512x4096 .bf16) (ix2 r s) = arg1 m c (ix2 (pos t r) s) := by
  obtain ⟨e0, e1⟩ := idx_0 t
  show V m c main_arg1 (((cfg0.win 0).blk t).view.emb (ix2 r s)) = _
  rw [V_main_arg1]
  exact congrArg (arg1 m c) (ix2_of _ _ _ (row_at e0 r) (col_at e1 s))

theorem blk1_apply (c : Dev nD) (t : Fin cfg0.N) (r : Fin 512) (s : Fin 4096) : (iblk m c 1 t : Vec Ideal S512x4096 .bf16) (ix2 r s) = arg2 m c (ix2 (pos t r) s) := by
  obtain ⟨e0, e1⟩ := idx_1 t
  show V m c main_arg2 (((cfg0.win 1).blk t).view.emb (ix2 r s)) = _
  rw [V_main_arg2]
  exact congrArg (arg2 m c) (ix2_of _ _ _ (row_at e0 r) (col_at e1 s))

theorem blk2_apply (c : Dev nD) (t : Fin cfg0.N) (s : Fin 4096) (k : Fin 512) :
    (iblk m c 2 t : Vec Ideal S1x4096x512 .bf16) (ix3 (0 : Fin 1) s k) = arg0 m c (ix2 (at_ (smp t) s) k) := by
  obtain ⟨e0, e1, e2⟩ := idx_2 t
  show (V m c main_v0 : Vec Ideal S16x4096x512 .bf16) (((cfg0.win 2).blk t).view.emb (ix3 (0 : Fin 1) s k)) = _
  rw [V_uv]
  exact (congrArg (shapeCast S16x4096x512 (arg0 m c) shapeCasts_S65536x512_S16x4096x512) (ix3_of _ (smp t) s k (one_at e0) (col_at e1 s) (col_at e2 k))).trans (uv_apply _ _ _ _)

/-- What the result array is shown to hold. -/
abbrev res (c : Dev nD) : Vec Ideal S16x4096x256 .bf16 := Cert.Reference6Ideal.Read.val_main_v11 (F := Ideal) (arg0 m c) (arg1 m c) (arg2 m c)

theorem emb_3 (t : Fin cfg0.N) (r : Fin 512) (C : Fin 256) : ((cfg0.win 3).blk t).view.emb (ix3 (0 : Fin 1) r C) = ix3 (smp t) (pos t r) C := by
  obtain ⟨e0, e1, e2⟩ := idx_3 t
  exact ix3_of _ _ _ _ (one_at e0) (row_at e1 r) (col_at e2 C)

/-- What point `t` leaves is its rows of the reference's result. -/
theorem left_apply (c : Dev nD) (t : Fin cfg0.N) (r : Fin 512) (C : Fin 256) :
    (out0_3 (iblk m c 0 t) (iblk m c 1 t) (iblk m c 2 t) : Vec Ideal S1x512x256 .bf16) (ix3 (0 : Fin 1) r C) = res m c (((cfg0.win 3).blk t).view.emb (ix3 (0 : Fin 1) r C)) := by
  rw [emb_3]
  refine (out_apply (iblk m c 0 t) (iblk m c 1 t) (iblk m c 2 t) r C).trans ?_
  refine Eq.trans ?_ (Cert.Reference6Ideal.Four.res_apply (arg0 m c) (arg1 m c) (arg2 m c) (smp t) (pos t r) C).symm
  simp only [blk0_apply, blk1_apply, blk2_apply]

theorem flushed_3 (c : Dev nD) (t : Fin cfg0.N) : (dats m 0 c).flushed 3 t = ((cfg0.win 3).blk t).view.read (Elt Ideal) (res m c) := by
  rw [Cert.Kernel6Ideal.Value.flushed3]
  funext j
  have e := left_apply m c t (j 1) (j 2)
  have h0 : (j 0).val = (0 : Fin 1).val := Nat.lt_one_iff.mp (j 0).isLt
  rw [← ix3_of j 0 (j 1) (j 2) h0 rfl rfl] at e
  exact e

/-- The points' blocks fill the array. -/
theorem covered_3 (i : S16x4096x256.Idx) : ∃ t : Fin cfg0.N, (cfg0.win 3).flush t = true ∧ i ∈ ((cfg0.win 3).blk t).view.set := by
  have h0 : (i 0).val < 16 := (i 0).isLt
  have h1 : (i 1).val < 4096 := (i 1).isLt
  have hN : cfg0.N = 128 := N_0
  have ht : 16 * ((i 1).val / 512) + (i 0).val < cfg0.N := by omega
  have hr : (i 1).val % 512 < 512 := by omega
  refine ⟨⟨_, ht⟩, flush0_3 _, ?_⟩
  have h := ((cfg0.win 3).blk (⟨_, ht⟩ : Fin cfg0.N)).view.emb_mem_set (ix3 (0 : Fin 1) (⟨(i 1).val % 512, hr⟩ : Fin 512) (i 2))
  have e := emb_3 (⟨_, ht⟩ : Fin cfg0.N) ⟨(i 1).val % 512, hr⟩ (i 2)
  rw [e, ← ix3_of i _ _ (i 2) (show (i 0).val = (16 * ((i 1).val / 512) + (i 0).val) % 16 by omega)
    (show (i 1).val = 512 * ((16 * ((i 1).val / 512) + (i 0).val) / 16) + (i 1).val % 512 by omega) rfl] at h
  exact h

theorem final_3 (c : Dev nD) : (dats m 0 c).arrAt 3 cfg0.N = res m c :=
  (dats m 0 c).arrAt_eq_of_cover 3 (res m c) (fun t _ => flushed_3 m c t) covered_3

/-- The run's result, the arguments as launched. -/
theorem run_res (ρ : Dev nD → PrngReg) :
    θ_run defs (onTc (τ := τ) (main (F := Ideal))) ⟨m, fun _ => 0, ρ⟩ (fun r => ∀ c : Dev nD,
      r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final_3 m c), (h c).2⟩) (Cert.Kernel6Ideal.Value.run_blocks m ρ)

end Cert.Kernel6Ideal.Four

end
-- ==== Proof.Adaln.Arr.lean ====
/-
  The modulation at extended reals: each element of a block is a condition's gated row against one column of a layer's
  weights, with that column's offset, which is the reference's element.
-/
module

public import proofs.«01_k».proof.Proof.Gen.Kernel7Ideal.Value
public import proofs.«01_k».proof.Proof.Gen.Reference7Ideal.Read
public import proofs.«01_k».proof.Proof.Mix.Row
public import Idealize.ShloMosaic.Lib.Claim

@[expose] public section

set_option maxRecDepth 16384

noncomputable section

namespace Cert.Adaln

open Idealize.ShloMosaic

/-- The gated activation of one element. -/
def silu (u : EReal) : EReal := u * Ideal.div 1 (1 + Ideal.exp (-u))

end Cert.Adaln

namespace Cert.Reference7Ideal.Adaln

open Cert.Reference7Ideal Cert.Reference7Ideal.Gen Cert.Reference7Ideal.Read
open Idealize.ShloMosaic Idealize.ShloMosaic.ValueIdx
open Cert.Adaln
open Cert.Mix (ix2_of ix3_of)

theorem silu_apply (x0 : FVec Ideal S24x1024 .f32) (i : S24x1024.Idx) : val_main_v0 (F := Ideal) x0 i = silu (x0 i) := by
  rw [val_main_v0_apply, val_main_call0_v5_apply, val_main_call0_v3_apply, val_main_call0_v1_apply, val_main_call0_v0_apply, val_main_call0_v4_apply,
    val_main_call0_v2_apply]
  unfold silu
  exact congrArg (fun o => _ * Ideal.div o (o + _)) Ideal.ofBits_one_f32

/-- An element of the reference's result. -/
theorem res_apply (x0 : FVec Ideal S24x1024 .f32) (x1 : FVec Ideal S4x1024x9216 .f32) (x2 : FVec Ideal S4x9216 .f32) (l : Fin 4) (r : Fin 24) (n : Fin 9216) :
    val_main_v5 (F := Ideal) x0 x1 x2 (ix3 l r n) = (∑ k : Fin 1024, silu (x0 (ix2 r k)) * x1 (ix3 l k n)) + x2 (ix2 l n) := by
  rw [val_main_v5_apply, val_main_v2_apply, val_main_v1_apply, val_main_v4_apply, val_main_v3_apply]
  refine congrArg₂ (· + ·) (Finset.sum_congr rfl fun k _ => ?_) (congrArg x2 (ix2_of _ l n rfl rfl))
  rw [mul_comm, silu_apply]
  exact congrArg₂ (fun a b => silu (x0 a) * x1 b) (ix2_of _ r k rfl rfl) (ix3_of _ l k n rfl rfl rfl)

end Cert.Reference7Ideal.Adaln

namespace Cert.Kernel7Ideal.Adaln

open Cert.Kernel7Ideal Cert.Kernel7Ideal.Gen
open Idealize.ShloMosaic Idealize.ShloMosaic.ValueIdx Idealize.ShloMosaic.TcCoe Idealize.ShloMosaic.Tactic
open Cert.Adaln
open Cert.Mix (ix2_of ix3_of col_at one_at)

theorem h2 : (![0, 0] : Fin 2 → ℕ) = fun _ => 0 := funext fun a => by match a with | ⟨0, _⟩ => rfl | ⟨1, _⟩ => rfl
theorem h3 : (![0, 0, 0] : Fin 3 → ℕ) = fun _ => 0 := funext fun a => by match a with | ⟨0, _⟩ => rfl | ⟨1, _⟩ => rfl | ⟨2, _⟩ => rfl

/-- The gated rows, as the body forms them. -/
abbrev gated (x : FVec Ideal S24x1024 .f32) : FVec Ideal S24x1024 .bf16 :=
  truncf .bf16 (mulf x (divf (broadcast S24x1024 (Scalar.ofBits .f32 0x3F800000#32)) (addf (broadcast S24x1024 (Scalar.ofBits .f32 0x3F800000#32))
    (exp (subf (broadcast S24x1024 (Scalar.ofBits .f32 0x00000000#32)) x))))) bitsLt_bf16_f32

theorem gated_apply (x : FVec Ideal S24x1024 .f32) (i : S24x1024.Idx) : gated x i = silu (x i) := by
  unfold silu
  show _ * Ideal.div (Ideal.ofBits .f32 0x3F800000#32) (Ideal.ofBits .f32 0x3F800000#32 + Ideal.exp (Ideal.ofBits .f32 0x00000000#32 - _)) = _
  rw [Ideal.ofBits_one_f32, Ideal.ofBits_zero_f32, zero_sub]

theorem out_apply (x : FVec Ideal S24x1024 .f32) (w : FVec Ideal S1x1024x1536 .f32) (b : FVec Ideal S1x1x1536 .f32) (r : Fin 24) (n : Fin 1536) :
    out0_3 (F := Ideal) x w b (ix3 (0 : Fin 1) r n) = (∑ k : Fin 1024, silu (x (ix2 r k)) * w (ix3 (0 : Fin 1) k n)) + b (ix3 (0 : Fin 1) (0 : Fin 1) n) := by
  have e0 : View.ld (Val := Elt Ideal) (e' := .f32) x r0_0 = x := View.ld_unit_zero h2 ..
  have e1 : View.ld (Val := Elt Ideal) (e' := .f32) w r0_1 = w := View.ld_unit_zero h3 ..
  have e2 : View.ld (Val := Elt Ideal) (e' := .f32) b r0_2 = b := View.ld_unit_zero h3 ..
  unfold out0_3
  refine (congrFun (View.canon_unit_zero h3 ..) (ix3 (0 : Fin 1) r n)).trans ?_
  rw [e0, e1, e2]
  unfold k0_pay1
  refine (shapeCast_ab_1ab_apply _ _ _ r n).trans ?_
  rw [addf_apply, broadcastTo_1b_ab_apply]
  refine congrArg₂ (· + ·) ?_ (shapeCast_1ab_ab_apply b _ (0 : Fin 1) n)
  refine (Ideal.matmul_plain_apply (M := 24) (K := 1024) (N := 1536) none (gated x) _ _ r n).trans ?_
  rw [constant_apply, Ideal.ofBits_zero_f32, zero_add]
  refine Finset.sum_congr rfl fun k _ => ?_
  rw [gated_apply]
  exact congrArg (_ * ·) (shapeCast_1ab_ab_apply w _ k n)

variable (m : (ℓ : Loc nD τ sig) → Buf (Elt Ideal) ℓ)

/-- Point `t` takes layer `t / 6` and its columns `1536 (t % 6)` on. -/
theorem idx_0 : ∀ t : Fin cfg0.N, win0_0.index t (0 : Fin 2) = 0 ∧ win0_0.index t (1 : Fin 2) = 0 := (by decide +kernel : ∀ t : Fin grid0.N, _)
theorem idx_1 : ∀ t : Fin cfg0.N, win0_1.index t (0 : Fin 3) = t.val / 6 ∧ win0_1.index t (1 : Fin 3) = 0 ∧ win0_1.index t (2 : Fin 3) = t.val % 6 := (by decide +kernel : ∀ t : Fin grid0.N, _)
theorem idx_2 : ∀ t : Fin cfg0.N, win0_2.index t (0 : Fin 3) = t.val / 6 ∧ win0_2.index t (1 : Fin 3) = 0 ∧ win0_2.index t (2 : Fin 3) = t.val % 6 := (by decide +kernel : ∀ t : Fin grid0.N, _)
theorem idx_3 : ∀ t : Fin cfg0.N, win0_3.index t (0 : Fin 3) = t.val / 6 ∧ win0_3.index t (1 : Fin 3) = 0 ∧ win0_3.index t (2 : Fin 3) = t.val % 6 := (by decide +kernel : ∀ t : Fin grid0.N, _)

theorem lay_lt (t : Fin cfg0.N) : t.val / 6 < 4 := by have : t.val < 24 := lt_of_lt_of_eq t.isLt N_0; omega
theorem col_lt (t : Fin cfg0.N) (n : Fin 1536) : 1536 * (t.val % 6) + n.val < 9216 := by omega
abbrev lay (t : Fin cfg0.N) : Fin 4 := ⟨t.val / 6, lay_lt t⟩
abbrev col (t : Fin cfg0.N) (n : Fin 1536) : Fin 9216 := ⟨1536 * (t.val % 6) + n.val, col_lt t n⟩

theorem tile_at {x t : ℕ} (h : x = t) (n : Fin 1536) : x * 1536 + 1 * n.val = 1536 * t + n.val := by omega

/-- The launched arguments. -/
abbrev arg0 (c : Dev nD) : Vec Ideal S24x1024 .f32 := m ((c : Thread nD τ).loc main_arg0)
abbrev arg1 (c : Dev nD) : Vec Ideal S4x1024x9216 .f32 := m ((c : Thread nD τ).loc main_arg1)
abbrev arg2 (c : Dev nD) : Vec Ideal S4x9216 .f32 := m ((c : Thread nD τ).loc main_arg2)

theorem V_off (c : Dev nD) : (V m c main_v0 : Vec Ideal S4x1x9216 .f32) = shapeCast S4x1x9216 (arg2 m c) shapeCasts_S4x9216_S4x1x9216 := by
  entry_read <;> rfl

theorem off_apply (x : FVec Ideal S4x9216 .f32) (l : Fin 4) (n : Fin 9216) :
    shapeCast S4x1x9216 x shapeCasts_S4x9216_S4x1x9216 (ix3 l (0 : Fin 1) n) = x (ix2 l n) :=
  shapeCast_apply x _ _ _ (by
    rw [Shape.rowMajor_val_two, Shape.rowMajor_val_three]
    show l.val * 9216 + n.val = (l.val * 1 + 0) * 9216 + n.val
    omega)

theorem blk0_apply (c : Dev nD) (t : Fin cfg0.N) (r : Fin 24) (k : Fin 1024) : (iblk m c 0 t : Vec Ideal S24x1024 .f32) (ix2 r k) = arg0 m c (ix2 r k) := by
  obtain ⟨e0, e1⟩ := idx_0 t
  show V m c main_arg0 (((cfg0.win 0).blk t).view.emb (ix2 r k)) = _
  rw [V_main_arg0]
  exact congrArg (arg0 m c) (ix2_of _ _ _ (col_at e0 r) (col_at e1 k))

theorem blk1_apply (c : Dev nD) (t : Fin cfg0.N) (k : Fin 1024) (n : Fin 1536) :
    (iblk m c 1 t : Vec Ideal S1x1024x1536 .f32) (ix3 (0 : Fin 1) k n) = arg1 m c (ix3 (lay t) k (col t n)) := by
  obtain ⟨e0, e1, e2⟩ := idx_1 t
  show V m c main_arg1 (((cfg0.win 1).blk t).view.emb (ix3 (0 : Fin 1) k n)) = _
  rw [V_main_arg1]
  exact congrArg (arg1 m c) (ix3_of _ _ _ _ (one_at e0) (col_at e1 k) (tile_at e2 n))

theorem blk2_apply (c : Dev nD) (t : Fin cfg0.N) (n : Fin 1536) :
    (iblk m c 2 t : Vec Ideal S1x1x1536 .f32) (ix3 (0 : Fin 1) (0 : Fin 1) n) = arg2 m c (ix2 (lay t) (col t n)) := by
  obtain ⟨e0, e1, e2⟩ := idx_2 t
  show (V m c main_v0 : Vec Ideal S4x1x9216 .f32) (((cfg0.win 2).blk t).view.emb (ix3 (0 : Fin 1) (0 : Fin 1) n)) = _
  rw [V_off]
  exact (congrArg (shapeCast S4x1x9216 (arg2 m c) shapeCasts_S4x9216_S4x1x9216) (ix3_of _ (lay t) (0 : Fin 1) (col t n) (one_at e0) (one_at e1) (tile_at e2 n))).trans (off_apply _ _ _)

/-- What the result array is shown to hold. -/
abbrev res (c : Dev nD) : Vec Ideal S4x24x9216 .f32 := Cert.Reference7Ideal.Read.val_main_v5 (F := Ideal) (arg0 m c) (arg1 m c) (arg2 m c)

theorem emb_3 (t : Fin cfg0.N) (r : Fin 24) (n : Fin 1536) : ((cfg0.win 3).blk t).view.emb (ix3 (0 : Fin 1) r n) = ix3 (lay t) r (col t n) := by
  obtain ⟨e0, e1, e2⟩ := idx_3 t
  exact ix3_of _ _ _ _ (one_at e0) (col_at e1 r) (tile_at e2 n)

/-- What point `t` leaves is its columns of the reference's result. -/
theorem left_apply (c : Dev nD) (t : Fin cfg0.N) (r : Fin 24) (n : Fin 1536) :
    (out0_3 (iblk m c 0 t) (iblk m c 1 t) (iblk m c 2 t) : Vec Ideal S1x24x1536 .f32) (ix3 (0 : Fin 1) r n) = res m c (((cfg0.win 3).blk t).view.emb (ix3 (0 : Fin 1) r n)) := by
  rw [emb_3]
  refine (out_apply (iblk m c 0 t) (iblk m c 1 t) (iblk m c 2 t) r n).trans ?_
  refine Eq.trans ?_ (Cert.Reference7Ideal.Adaln.res_apply (arg0 m c) (arg1 m c) (arg2 m c) (lay t) r (col t n)).symm
  simp only [blk0_apply, blk1_apply, blk2_apply]

theorem flushed_3 (c : Dev nD) (t : Fin cfg0.N) : (dats m 0 c).flushed 3 t = ((cfg0.win 3).blk t).view.read (Elt Ideal) (res m c) := by
  rw [Cert.Kernel7Ideal.Value.flushed3]
  funext j
  have e := left_apply m c t (j 1) (j 2)
  have h0 : (j 0).val = (0 : Fin 1).val := Nat.lt_one_iff.mp (j 0).isLt
  rw [← ix3_of j 0 (j 1) (j 2) h0 rfl rfl] at e
  exact e

/-- The points' blocks fill the array. -/
theorem covered_3 (i : S4x24x9216.Idx) : ∃ t : Fin cfg0.N, (cfg0.win 3).flush t = true ∧ i ∈ ((cfg0.win 3).blk t).view.set := by
  have h0 : (i 0).val < 4 := (i 0).isLt
  have h2 : (i 2).val < 9216 := (i 2).isLt
  have hN : cfg0.N = 24 := N_0
  have ht : 6 * (i 0).val + (i 2).val / 1536 < cfg0.N := by omega
  have hn : (i 2).val % 1536 < 1536 := by omega
  refine ⟨⟨_, ht⟩, flush0_3 _, ?_⟩
  have h := ((cfg0.win 3).blk (⟨_, ht⟩ : Fin cfg0.N)).view.emb_mem_set (ix3 (0 : Fin 1) (i 1) (⟨(i 2).val % 1536, hn⟩ : Fin 1536))
  have e := emb_3 (⟨_, ht⟩ : Fin cfg0.N) (i 1) ⟨(i 2).val % 1536, hn⟩
  rw [e, ← ix3_of i _ (i 1) _ (show (i 0).val = (6 * (i 0).val + (i 2).val / 1536) / 6 by omega) rfl
    (show (i 2).val = 1536 * ((6 * (i 0).val + (i 2).val / 1536) % 6) + (i 2).val % 1536 by omega)] at h
  exact h

theorem final_3 (c : Dev nD) : (dats m 0 c).arrAt 3 cfg0.N = res m c :=
  (dats m 0 c).arrAt_eq_of_cover 3 (res m c) (fun t _ => flushed_3 m c t) covered_3

/-- The run's result, the arguments as launched. -/
theorem run_res (ρ : Dev nD → PrngReg) :
    θ_run defs (onTc (τ := τ) (main (F := Ideal))) ⟨m, fun _ => 0, ρ⟩ (fun r => ∀ c : Dev nD,
      r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final_3 m c), (h c).2⟩) (Cert.Kernel7Ideal.Value.run_blocks m ρ)

end Cert.Kernel7Ideal.Adaln

end
-- ==== Proof.Odd.Row.lean ====
/-
  One row of the odd layers' input projection at extended reals: heads normalised and turned by their place's angles, and the
  gated branch, whose other half is normalised by groups and mixed over the places of its chunk.
-/
module

public import proofs.«01_k».proof.Proof.Proj.Row
public import proofs.«01_k».proof.Proof.Mix.Row

@[expose] public section

set_option maxRecDepth 16384

noncomputable section

namespace Cert.Odd

open Idealize.ShloMosaic
open Cert.Proj

variable {n : ℕ}

theorem pair0_lt (h : 64 ∣ n) (c : Fin n) : 2 * (c.val / 2) < n := by omega
theorem pair1_lt (h : 64 ∣ n) (c : Fin n) : 2 * (c.val / 2) + 1 < n := by omega
theorem angle_lt (c : ℕ) : c % 64 / 2 < 32 := by omega

/-- A column normalised over its head, times its place's gain. -/
def headCol (h : 64 ∣ n) (y : Fin n → EReal) (g : Fin 64 → EReal) (c : Fin n) : EReal :=
  y c * fac (fun i => y ⟨64 * (c.val / 64) + i.val, headAt_lt h c i⟩) * g ⟨c.val % 64, gainAt_lt _⟩

/-- A column of a row whose pairs of columns are turned. -/
def turn (h : 64 ∣ n) (t : Fin n → EReal) (co si : Fin 32 → EReal) (c : Fin n) : EReal :=
  if c.val % 2 = 0 then t ⟨_, pair0_lt h c⟩ * co ⟨_, angle_lt c.val⟩ - t ⟨_, pair1_lt h c⟩ * si ⟨_, angle_lt c.val⟩
  else t ⟨_, pair0_lt h c⟩ * si ⟨_, angle_lt c.val⟩ + t ⟨_, pair1_lt h c⟩ * co ⟨_, angle_lt c.val⟩

/-- The tanh form of gelu. -/
def gelu (x : EReal) : EReal :=
  x * (Ideal.ofBits .f32 0x3F000000#32 * (Ideal.ofBits .f32 0x3F800000#32 + Ideal.tanh (Ideal.ofBits .f32 0x3F4C422A#32 * (x + Ideal.ofBits .f32 0x3D372713#32 * (x * x * x)))))

/-- A group's factor, and a column of the branch normalised over its group. -/
def gfac (y : Fin 128 → EReal) : EReal :=
  Ideal.rsqrt (Ideal.div (∑ i : Fin 128, y i * y i) (Ideal.ofBits .f32 0x43000000#32) + Ideal.ofBits .f32 0x358637BD#32)
theorem groupAt_lt (c : Fin 512) (i : Fin 128) : 128 * (c.val / 128) + i.val < 512 := by omega
theorem group_lt (c : Fin 512) : c.val / 128 < 4 := by omega
def groupCol (y g : Fin 512 → EReal) (c : Fin 512) : EReal :=
  gelu (y c) * gfac (fun i => gelu (y ⟨128 * (c.val / 128) + i.val, groupAt_lt c i⟩)) * g c

theorem u_lt (c : Fin 512) : 768 + c.val < 1792 := by omega
theorem v_lt (c : Fin 512) : 1280 + c.val < 1792 := by omega

/-- The gated branch at a place `i` of a chunk whose projected rows are `P`. -/
def gate (P : Fin 128 → Fin 1792 → EReal) (g : Fin 512 → EReal) (w : Fin 4 → Fin 128 → Fin 128 → EReal) (b : Fin 4 → Fin 128 → EReal) (i : Fin 128) (c : Fin 512) : EReal :=
  gelu (P i ⟨768 + c.val, u_lt c⟩) * (∑ j : Fin 128, w ⟨_, group_lt c⟩ i j * groupCol (fun k => P j ⟨1280 + k.val, v_lt k⟩) g c + b ⟨_, group_lt c⟩ i)

theorem sq_nonneg (y : EReal) : 0 ≤ y * y := by
  induction y using EReal.rec with
  | bot => simp
  | top => simp
  | coe r => rw [← EReal.coe_mul]; exact EReal.coe_nonneg.mpr (mul_self_nonneg r)

theorem sum_mul {ι : Type} (s : Finset ι) (f : ι → EReal) (h : ∀ i, 0 ≤ f i) (w : EReal) : (∑ i ∈ s, f i) * w = ∑ i ∈ s, f i * w := by
  classical
  induction s using Finset.induction with
  | empty => simp
  | insert a s ha ih => rw [Finset.sum_insert ha, Finset.sum_insert ha, EReal.right_distrib_of_nonneg (h a) (Finset.sum_nonneg fun i _ => h i), ih]

/-- Squares summed against a head's sixty-fourths are the head's mean. -/
theorem mean_of (h : 64 ∣ n) (y : Fin n → EReal) (c : Fin n) :
    ∑ k : Fin n, y k * y k * (if k.val / 64 = c.val / 64 then Ideal.ofBits .f32 0x3C800000#32 else 0)
      = mean fun i => y ⟨64 * (c.val / 64) + i.val, headAt_lt h c i⟩ := by
  rw [← mean_eq, sum_mul _ _ fun _ => sq_nonneg _]
  simp only [mul_ite, mul_zero]
  rw [← Finset.sum_filter]
  refine Finset.sum_nbij' (fun k => (⟨k.val % 64, gainAt_lt _⟩ : Fin 64)) (fun i => ⟨64 * (c.val / 64) + i.val, headAt_lt h c i⟩) (by simp) ?_ ?_ ?_ ?_
  · intro i _
    simp only [Finset.mem_filter, Finset.mem_univ, true_and]
    omega
  · intro k hk
    simp only [Finset.mem_filter, Finset.mem_univ, true_and] at hk
    exact Fin.ext (by show 64 * (c.val / 64) + k.val % 64 = k.val; omega)
  · intro i _
    exact Fin.ext (by show (64 * (c.val / 64) + i.val) % 64 = i.val; omega)
  · intro k hk
    simp only [Finset.mem_filter, Finset.mem_univ, true_and] at hk
    have e : (⟨64 * (c.val / 64) + k.val % 64, headAt_lt h c ⟨k.val % 64, gainAt_lt _⟩⟩ : Fin n) = k := Fin.ext (by show 64 * (c.val / 64) + k.val % 64 = k.val; omega)
    show _ = y (⟨64 * (c.val / 64) + k.val % 64, headAt_lt h c ⟨k.val % 64, gainAt_lt _⟩⟩ : Fin n) * y (⟨64 * (c.val / 64) + k.val % 64, headAt_lt h c ⟨k.val % 64, gainAt_lt _⟩⟩ : Fin n) * _
    rw [e]

end Cert.Odd

end
-- ==== Proof.Odd.Blk.lean ====
/-
  One element of each piece of what a point of the odd input projection's kernel leaves, at extended reals.
-/
module

public import proofs.«01_k».proof.Proof.Gen.Kernel8Ideal.Frame
public import proofs.«01_k».proof.Proof.Odd.Row
public import Idealize.ShloMosaic.Lib.KernelVsHost

@[expose] public section

set_option maxRecDepth 16384

noncomputable section

namespace Cert.Kernel8Ideal.Odd

open Cert.Kernel8Ideal Cert.Kernel8Ideal.Gen
open Idealize.ShloMosaic Idealize.ShloMosaic.ValueIdx
open Cert.Ffn Cert.Mix Cert.Odd
open Cert.Proj (col mean fac gainAt_lt headAt_lt)

section Rows
variable (x : FVec Ideal S1024x1024 .f32) (md : FVec Ideal S1x3x1024 .f32) (g : FVec Ideal S1x1024 .f32) (W : FVec Ideal S1x1024x1792 .bf16)

/-- The column of the rows' normalising factors. -/
def normCol : FVec Ideal S1024x1 .f32 :=
  rsqrt (addf (divf (shapeCast S1024x1 (multiReduction .add [1] S1024 (mulf x x) 0x00000000#32 reduces_S1024x1024_S1024 (.inl rfl) rfl) shapeCasts_S1024_S1024x1)
    (broadcast S1024x1 (Scalar.ofBits .f32 0x44800000#32))) (broadcast S1024x1 (Scalar.ofBits .f32 0x358637BD#32)))

theorem normCol_apply (r : Fin 1024) : normCol x (ix2 r (0 : Fin 1)) = rinv fun k => x (ix2 r k) := by
  unfold normCol rinv
  show Ideal.rsqrt (Ideal.div (shapeCast S1024x1 _ _ (ix2 r (0 : Fin 1))) _ + _) = _
  rw [shapeCast_a_a1_apply]
  refine congrArg (fun s => Ideal.rsqrt (Ideal.div s _ + _)) ((Ideal.multiReduction_add_single _ _ _ _ _ _).trans ?_)
  refine Finset.sum_congr rfl fun k _ => ?_
  rw [mulf_apply]
  exact congrArg (fun i => x i * x i) (ix2_of _ _ _ rfl rfl)

/-- A row of the modulation. -/
theorem md_apply (o : ℕ) (h : S3x1024.Slices ![o, 0] S1x1024) (e : Fin 3) (he : e.val = o) (C : Fin 1024) :
    extractStridedSlice S1x1024 ![o, 0] (shapeCast S3x1024 md shapeCasts_S1x3x1024_S3x1024) h (ix2 (0 : Fin 1) C) = md (ix3 (0 : Fin 1) e C) := by
  rw [slice2_axis0_apply o _ _ (0 : Fin 1) C e (by simpa using he)]
  exact shapeCast_1ab_ab_apply _ _ _ _

/-- The rows that are projected. -/
def hids : FVec Ideal S1024x1024 .bf16 :=
  truncf .bf16 (addf (mulf (mulf (mulf x (broadcastTo S1024x1024 (normCol x) broadcasts_S1024x1_S1024x1024))
      (broadcastTo S1024x1024 (shapeCast S1x1024 g shapeCasts_S1x1024_S1x1024) broadcasts_S1x1024_S1024x1024))
      (broadcastTo S1024x1024 (addf (broadcast S1x1024 (Scalar.ofBits .f32 0x3F800000#32)) (extractStridedSlice S1x1024 ![1, 0] (shapeCast S3x1024 md shapeCasts_S1x3x1024_S3x1024) slices_S3x1024_o1_0_S1x1024)) broadcasts_S1x1024_S1024x1024))
    (broadcastTo S1024x1024 (extractStridedSlice S1x1024 ![0, 0] (shapeCast S3x1024 md shapeCasts_S1x3x1024_S3x1024) slices_S3x1024_o0_0_S1x1024) broadcasts_S1x1024_S1024x1024)) bitsLt_bf16_f32

/-- The projected row, out of a point's blocks. -/
def prow (r : Fin 1024) (c : Fin 1792) : EReal :=
  col (hid (fun k => x (ix2 r k)) (fun k => md (ix3 (0 : Fin 1) (0 : Fin 3) k)) (fun k => md (ix3 (0 : Fin 1) (1 : Fin 3) k)) (fun k => g (ix2 (0 : Fin 1) k)))
    (fun k => W (ix3 (0 : Fin 1) k c))

theorem hids_apply (r : Fin 1024) (k : Fin 1024) :
    hids x md g (ix2 r k) = hid (fun k => x (ix2 r k)) (fun k => md (ix3 (0 : Fin 1) (0 : Fin 3) k)) (fun k => md (ix3 (0 : Fin 1) (1 : Fin 3) k)) (fun k => g (ix2 (0 : Fin 1) k)) k := by
  unfold hids hid
  rw [truncf_apply, addf_apply, mulf_apply, mulf_apply, mulf_apply, broadcastTo_1b_ab_apply, broadcastTo_1b_ab_apply, broadcastTo_1b_ab_apply,
    addf_apply, broadcast_apply, md_apply md 1 _ 1 rfl, md_apply md 0 _ 0 rfl, shapeCast_self,
    broadcastTo_apply _ _ (ix2 r k) (ix2 r (0 : Fin 1)) (fun a => by match a with | ⟨0, _⟩ => rfl | ⟨1, _⟩ => rfl), normCol_apply]
  exact congrArg (fun o => _ * (o + _) + _) Ideal.ofBits_one_f32

theorem pay3_eq : k0_pay3 (F := Ideal) x g md W = matmul dot_S1024x1024_S1024x1792_S1024x1792_1_0_0_1_n_n none (hids x md g)
    (shapeCast S1024x1792 W shapeCasts_S1x1024x1792_S1024x1792 : FVec Ideal S1024x1792 .bf16) (constant S1024x1792 .f32 0x00000000#32) := rfl

theorem z_apply (r : Fin 1024) (c : Fin 1792) : k0_pay3 (F := Ideal) x g md W (ix2 r c) = prow x md g W r c := by
  rw [pay3_eq]
  unfold prow col
  refine (Ideal.matmul_plain_apply (M := 1024) (K := 1024) (N := 1792) none _ _ _ r c).trans ?_
  rw [constant_apply, Ideal.ofBits_zero_f32, zero_add]
  exact Finset.sum_congr rfl fun k _ => congrArg₂ (· * ·) (hids_apply x md g r k) (shapeCast_1ab_ab_apply W _ k c)

end Rows

/-- The even lanes. -/
def lanes : IVec S1x128 1 := k0_pay7 (iota .tc S1x128 32 [1] iota_S1x128_d1_w32) (Scalar.select (Scalar.cmpi .eq 2#32 0#32) 1#32 2#32) k0_pay6
theorem lanes_apply : ∀ l : Fin 128, lanes (ix2 (0 : Fin 1) l) = if l.val % 2 = 0 then 1#1 else 0#1 := by decide +kernel

def laneRows : IVec S1024x128 1 := broadcastTo S1024x128 (shapeCast S1x128 lanes shapeCasts_S1x128_S1x128) broadcasts_S1x128_S1024x128
theorem laneRows_apply (r : Fin 1024) (l : Fin 128) : laneRows (ix2 r l) = if l.val % 2 = 0 then 1#1 else 0#1 := by
  unfold laneRows
  rw [broadcastTo_1b_ab_apply, shapeCast_self, lanes_apply]

section Turn
variable (t c s : FVec Ideal S1024x128 .f32)

/-- Lanes turned in pairs: each times its cosine, plus its neighbour times its sine. -/
def rope : FVec Ideal S1024x128 .bf16 :=
  truncf .bf16 (addf (mulf t c) (mulf (select laneRows (dynamicRotate 1 127#32 none t rotates_S1024x128_d1) (dynamicRotate 1 1#32 none t rotates_S1024x128_d1)) s)) bitsLt_bf16_f32

theorem lane_lt {n p : ℕ} (hp : 128 * p + 128 ≤ n) (l : Fin 128) : 128 * p + l.val < n := by omega

theorem rope_apply {n p : ℕ} (h : 64 ∣ n) (hp : 128 * p + 128 ≤ n) (r : Fin 1024) (T : Fin n → EReal) (co si : Fin 32 → EReal)
    (hT : ∀ l : Fin 128, t (ix2 r l) = T ⟨128 * p + l.val, lane_lt hp l⟩) (hc : ∀ l : Fin 128, c (ix2 r l) = co ⟨_, angle_lt l.val⟩)
    (hs : ∀ l : Fin 128, s (ix2 r l) = if l.val % 2 = 0 then -si ⟨_, angle_lt l.val⟩ else si ⟨_, angle_lt l.val⟩) (l : Fin 128) :
    rope t c s (ix2 r l) = turn h T co si ⟨128 * p + l.val, lane_lt hp l⟩ := by
  have ha : (⟨_, angle_lt (128 * p + l.val)⟩ : Fin 32) = ⟨_, angle_lt l.val⟩ := Fin.ext (show (128 * p + l.val) % 64 / 2 = l.val % 64 / 2 by omega)
  unfold rope turn
  rw [truncf_apply, addf_apply, mulf_apply, mulf_apply, select_apply, laneRows_apply, hT, hc, hs]
  by_cases hl : l.val % 2 = 0
  · have hl1 : l.val + 1 < 128 := by omega
    rw [if_pos hl, if_pos hl, if_pos (show (128 * p + l.val) % 2 = 0 by omega), select_one,
      dynamicRotate_apply (1 : Fin 2) 127#32 t rotates_S1024x128_d1 (ix2 r l) (ix2 r (⟨l.val + 1, hl1⟩ : Fin 128)) (fun b => by
        match b with
        | ⟨0, _⟩ => rfl
        | ⟨1, _⟩ => show l.val + 1 = (l.val + 128 - 127 % 128) % 128; omega), hT, mul_neg, ← sub_eq_add_neg, ha]
    exact congrArg₂ (fun a b => T a * _ - T b * _) (Fin.ext (show 128 * p + l.val = 2 * ((128 * p + l.val) / 2) by omega)) (Fin.ext (show 128 * p + (l.val + 1) = 2 * ((128 * p + l.val) / 2) + 1 by omega))
  · have hl1 : l.val - 1 < 128 := by omega
    rw [if_neg hl, if_neg hl, if_neg (show ¬ (128 * p + l.val) % 2 = 0 by omega), select_zero,
      dynamicRotate_apply (1 : Fin 2) 1#32 t rotates_S1024x128_d1 (ix2 r l) (ix2 r (⟨l.val - 1, hl1⟩ : Fin 128)) (fun b => by
        match b with
        | ⟨0, _⟩ => rfl
        | ⟨1, _⟩ => show l.val - 1 = (l.val + 128 - 1 % 128) % 128; omega), hT, add_comm, ha]
    exact congrArg₂ (fun a b => T a * _ + T b * _) (Fin.ext (show 128 * p + (l.val - 1) = 2 * ((128 * p + l.val) / 2) by omega)) (Fin.ext (show 128 * p + l.val = 2 * ((128 * p + l.val) / 2) + 1 by omega))

end Turn

section Norm
variable (P : FVec Ideal S256x256 .bf16) (r : Fin 1024)

/-- Columns of queries, or of keys, normalised over their heads, times their gains. -/
def nrm256 (t : FVec Ideal S1024x256 .f32) (g : FVec Ideal S1x256 .f32) : FVec Ideal S1024x256 .f32 :=
  mulf (mulf t (rsqrt (addf (matmul dot_S1024x256_S256x256_S1024x256_1_0_0_1_n_n none (truncf .bf16 (mulf t t) bitsLt_bf16_f32 : FVec Ideal S1024x256 .bf16) (shapeCast S256x256 P shapeCasts_S256x256_S256x256 : FVec Ideal S256x256 .bf16)
      (constant S1024x256 .f32 0x00000000#32)) (broadcast S1024x256 (Scalar.ofBits .f32 0x358637BD#32)))))
    (broadcastTo S1024x256 (shapeCast S1x256 g shapeCasts_S1x256_S1x256) broadcasts_S1x256_S1024x256)

def nrm128 (Q : FVec Ideal S128x128 .bf16) (t : FVec Ideal S1024x128 .f32) (g : FVec Ideal S1x128 .f32) : FVec Ideal S1024x128 .f32 :=
  mulf (mulf t (rsqrt (addf (matmul dot_S1024x128_S128x128_S1024x128_1_0_0_1_n_n none (truncf .bf16 (mulf t t) bitsLt_bf16_f32 : FVec Ideal S1024x128 .bf16) (shapeCast S128x128 Q shapeCasts_S128x128_S128x128 : FVec Ideal S128x128 .bf16)
      (constant S1024x128 .f32 0x00000000#32)) (broadcast S1024x128 (Scalar.ofBits .f32 0x358637BD#32)))))
    (broadcastTo S1024x128 (shapeCast S1x128 g shapeCasts_S1x128_S1x128) broadcasts_S1x128_S1024x128)

/-- The entries of the matrix that averages over heads. -/
def sixty {n : ℕ} (k c : Fin n) : EReal := if k.val / 64 = c.val / 64 then Ideal.ofBits .f32 0x3C800000#32 else 0

theorem nrm256_apply (t : FVec Ideal S1024x256 .f32) (g : FVec Ideal S1x256 .f32) (hP : ∀ k c, P (ix2 k c) = sixty k c) (C : Fin 256) :
    nrm256 P t g (ix2 r C) = t (ix2 r C) * fac (fun i => t (ix2 r ⟨64 * (C.val / 64) + i.val, headAt_lt (by decide) C i⟩)) * g (ix2 (0 : Fin 1) C) := by
  unfold nrm256 fac
  simp only [shapeCast_self]
  rw [mulf_apply, mulf_apply, broadcastTo_1b_ab_apply, ← mean_of (by decide) (fun c => t (ix2 r c)) C]
  refine congrArg (fun e : EReal => t (ix2 r C) * Ideal.rsqrt (e + Ideal.ofBits .f32 0x358637BD#32) * g (ix2 (0 : Fin 1) C)) ((Ideal.matmul_plain_apply (M := 1024) (K := 256) (N := 256) none _ _ _ r C).trans ?_)
  rw [constant_apply, Ideal.ofBits_zero_f32, zero_add]
  exact Finset.sum_congr rfl fun k _ => congrArg₂ (· * ·) rfl (hP k C)

theorem nrm128_apply (Q : FVec Ideal S128x128 .bf16) (t : FVec Ideal S1024x128 .f32) (g : FVec Ideal S1x128 .f32) (hQ : ∀ k c, Q (ix2 k c) = sixty k c) (C : Fin 128) :
    nrm128 Q t g (ix2 r C) = t (ix2 r C) * fac (fun i => t (ix2 r ⟨64 * (C.val / 64) + i.val, headAt_lt (by decide) C i⟩)) * g (ix2 (0 : Fin 1) C) := by
  unfold nrm128 fac
  simp only [shapeCast_self]
  rw [mulf_apply, mulf_apply, broadcastTo_1b_ab_apply, ← mean_of (by decide) (fun c => t (ix2 r c)) C]
  refine congrArg (fun e : EReal => t (ix2 r C) * Ideal.rsqrt (e + Ideal.ofBits .f32 0x358637BD#32) * g (ix2 (0 : Fin 1) C)) ((Ideal.matmul_plain_apply (M := 1024) (K := 128) (N := 128) none _ _ _ r C).trans ?_)
  rw [constant_apply, Ideal.ofBits_zero_f32, zero_add]
  exact Finset.sum_congr rfl fun k _ => congrArg₂ (· * ·) rfl (hQ k C)

end Norm

section Gate
variable (t : FVec Ideal S1024x128 .f32) (r : Fin 1024)

/-- The gelu of a branch's columns. -/
def gel : FVec Ideal S1024x128 .f32 :=
  mulf (mulf (broadcast S1024x128 (Scalar.ofBits .f32 0x3F000000#32)) t) (addf (broadcast S1024x128 (Scalar.ofBits .f32 0x3F800000#32))
    (tanh (mulf (broadcast S1024x128 (Scalar.ofBits .f32 0x3F4C422A#32)) (addf t (mulf (broadcast S1024x128 (Scalar.ofBits .f32 0x3D372713#32)) (mulf (mulf t t) t))))))

theorem gel_apply (i : S1024x128.Idx) : gel t i = gelu (t i) := by
  unfold gel gelu
  show Ideal.ofBits .f32 0x3F000000#32 * t i * _ = _
  rw [mul_comm (Ideal.ofBits .f32 0x3F000000#32), mul_assoc]
  rfl

/-- A group of the branch's columns normalised, times their gains. -/
def grp (g : FVec Ideal S1x128 .f32) : FVec Ideal S1024x128 .bf16 :=
  truncf .bf16 (mulf (mulf (gel t) (broadcastTo S1024x128 (rsqrt (addf (divf (shapeCast S1024x1 (multiReduction .add [1] S1024 (mulf (gel t) (gel t)) 0x00000000#32 reduces_S1024x128_S1024 (.inl rfl) rfl) shapeCasts_S1024_S1024x1)
      (broadcast S1024x1 (Scalar.ofBits .f32 0x43000000#32))) (broadcast S1024x1 (Scalar.ofBits .f32 0x358637BD#32)))) broadcasts_S1024x1_S1024x128))
    (broadcastTo S1024x128 (shapeCast S1x128 g shapeCasts_S1x128_S1x128) broadcasts_S1x128_S1024x128)) bitsLt_bf16_f32

theorem grp_apply (g : FVec Ideal S1x128 .f32) (l : Fin 128) :
    grp t g (ix2 r l) = gelu (t (ix2 r l)) * gfac (fun i => gelu (t (ix2 r i))) * g (ix2 (0 : Fin 1) l) := by
  unfold grp gfac
  rw [truncf_apply, mulf_apply, mulf_apply, broadcastTo_1b_ab_apply, shapeCast_self, gel_apply,
    broadcastTo_apply _ _ (ix2 r l) (ix2 r (0 : Fin 1)) (fun a => by match a with | ⟨0, _⟩ => rfl | ⟨1, _⟩ => rfl)]
  refine congrArg (fun e : EReal => gelu (t (ix2 r l)) * e * g (ix2 (0 : Fin 1) l)) ?_
  show Ideal.rsqrt (Ideal.div (shapeCast S1024x1 _ _ (ix2 r (0 : Fin 1))) _ + _) = _
  rw [shapeCast_a_a1_apply]
  refine congrArg (fun s => Ideal.rsqrt (Ideal.div s _ + _)) ((Ideal.multiReduction_add_single _ _ _ _ _ _).trans ?_)
  refine Finset.sum_congr rfl fun k _ => ?_
  rw [mulf_apply, gel_apply]
  exact congrArg (fun i => gelu (t i) * gelu (t i)) (ix2_of _ _ _ rfl rfl)

/-- One chunk's places mixed, and gated. -/
def mix (u : FVec Ideal S1024x128 .f32) (v : FVec Ideal S1024x128 .bf16) (w : FVec Ideal S1x128x128 .bf16) (b : FVec Ideal S1x128x128 .f32) (o : ℕ) (h : S1024x128.Slices ![o, 0] S128x128) : FVec Ideal S128x128 .bf16 :=
  truncf .bf16 (mulf (extractStridedSlice S128x128 ![o, 0] u h)
    (addf (matmul dot_S128x128_S128x128_S128x128_1_0_0_1_n_n none (shapeCast S128x128 w shapeCasts_S1x128x128_S128x128 : FVec Ideal S128x128 .bf16) (extractStridedSlice S128x128 ![o, 0] v h : FVec Ideal S128x128 .bf16) (constant S128x128 .f32 0x00000000#32))
      (shapeCast S128x128 b shapeCasts_S1x128x128_S128x128))) bitsLt_bf16_f32

theorem chunk_lt (k : Fin 8) (i : Fin 128) : 128 * k.val + i.val < 1024 := by omega

theorem mix_apply (u : FVec Ideal S1024x128 .f32) (v : FVec Ideal S1024x128 .bf16) (w : FVec Ideal S1x128x128 .bf16) (b : FVec Ideal S1x128x128 .f32) (k : Fin 8) (h : S1024x128.Slices ![128 * k.val, 0] S128x128) (i l : Fin 128) :
    mix u v w b (128 * k.val) h (ix2 i l)
      = u (ix2 ⟨_, chunk_lt k i⟩ l) * (∑ j : Fin 128, w (ix3 (0 : Fin 1) i j) * v (ix2 ⟨_, chunk_lt k j⟩ l) + b (ix3 (0 : Fin 1) i l)) := by
  unfold mix
  rw [truncf_apply, mulf_apply, addf_apply, slice2_axis0_apply (128 * k.val) _ _ i l ⟨_, chunk_lt k i⟩ rfl, shapeCast_1ab_ab_apply]
  refine congrArg (fun e : EReal => u (ix2 ⟨_, chunk_lt k i⟩ l) * (e + b (ix3 (0 : Fin 1) i l))) ((Ideal.matmul_plain_apply (M := 128) (K := 128) (N := 128) none _ _ _ i l).trans ?_)
  rw [constant_apply, Ideal.ofBits_zero_f32, zero_add]
  refine Finset.sum_congr rfl fun j _ => congrArg₂ (· * ·) (shapeCast_1ab_ab_apply w _ i j) ?_
  exact slice2_axis0_apply (128 * k.val) _ _ j l ⟨_, chunk_lt k j⟩ rfl

end Gate

end Cert.Kernel8Ideal.Odd

end
-- ==== Proof.Odd.Out.lean ====
/-
  One element of each block a point of the odd input projection's kernel leaves: queries and keys normalised over their heads
  and turned, the values as they come, the gated branch.
-/
module

public import proofs.«01_k».proof.Proof.Odd.Blk

@[expose] public section

set_option maxRecDepth 16384

noncomputable section

namespace Cert.Kernel8Ideal.Odd

open Cert.Kernel8Ideal Cert.Kernel8Ideal.Gen
open Idealize.ShloMosaic Idealize.ShloMosaic.ValueIdx
open Cert.Ffn Cert.Mix Cert.Odd
open Cert.Proj (col mean fac gainAt_lt headAt_lt)

theorem h2 : (![0, 0] : Fin 2 → ℕ) = fun _ => 0 := funext fun a => by match a with | ⟨0, _⟩ => rfl | ⟨1, _⟩ => rfl
theorem h3 : (![0, 0, 0] : Fin 3 → ℕ) = fun _ => 0 := funext fun a => by match a with | ⟨0, _⟩ => rfl | ⟨1, _⟩ => rfl | ⟨2, _⟩ => rfl

theorem q_lt (c : Fin 512) : c.val < 1792 := by omega
theorem k_lt (c : Fin 128) : 512 + c.val < 1792 := by omega
theorem val_lt (c : Fin 128) : 640 + c.val < 1792 := by omega

/-- Columns of the projected rows. -/
def cut256 (z : FVec Ideal S1024x1792 .f32) (o : ℕ) (h : S1024x1792.Slices ![0, o] S1024x256) : FVec Ideal S1024x256 .f32 := extractStridedSlice S1024x256 ![0, o] z h
def cut128 (z : FVec Ideal S1024x1792 .f32) (o : ℕ) (h : S1024x1792.Slices ![0, o] S1024x128) : FVec Ideal S1024x128 .f32 := extractStridedSlice S1024x128 ![0, o] z h

section Pieces
variable (z : FVec Ideal S1024x1792 .f32) (P : FVec Ideal S256x256 .bf16) (cs sn : FVec Ideal S1024x128 .f32)

/-- Two of the queries' heads. -/
def heads (o p : ℕ) (h : S1024x1792.Slices ![0, o] S1024x256) (h' : S1024x256.Slices ![0, p] S1024x128) (e : FVec Ideal S1x256 .f32) : FVec Ideal S1024x128 .f32 :=
  extractStridedSlice S1024x128 ![0, p] (nrm256 P (cut256 z o h) e) h'

variable (co si : Fin 1024 → Fin 32 → EReal) (G : Fin 64 → EReal)
  (hP : ∀ k c, P (ix2 k c) = sixty k c) (hc : ∀ (r : Fin 1024) (l : Fin 128), cs (ix2 r l) = co r ⟨_, angle_lt l.val⟩)
  (hs : ∀ (r : Fin 1024) (l : Fin 128), sn (ix2 r l) = if l.val % 2 = 0 then -si r ⟨_, angle_lt l.val⟩ else si r ⟨_, angle_lt l.val⟩)

/-- What the queries' block holds, and the keys'. -/
def qblock : FVec Ideal S1024x512 .bf16 := fun y => turn (by decide) (headCol (by decide) (fun c => z (ix2 (y 0) ⟨c.val, q_lt c⟩)) G) (co (y 0)) (si (y 0)) (y 1)

include hP

theorem heads_apply (v : FVec Ideal S1x512 .f32) (hv : ∀ c : Fin 512, v (ix2 (0 : Fin 1) c) = G ⟨c.val % 64, gainAt_lt _⟩) (a b : ℕ) (hab : 256 * a + 128 * b + 128 ≤ 512) (hb : 128 * b + 128 ≤ 256)
    (o p : ℕ) (ho : o = 256 * a) (hp : p = 128 * b) (q : ℕ) (hq : q = 2 * a + b) (hq' : 128 * q + 128 ≤ 512)
    (h : S1024x1792.Slices ![0, o] S1024x256) (h' : S1024x256.Slices ![0, p] S1024x128) (inv : ∀ a, (![0, o] : Fin 2 → ℕ) a + S1x256.size a ≤ S1x512.size a) (r : Fin 1024) (l : Fin 128) :
    heads z P o p h h' (View.ld (Val := Elt Ideal) (e' := .f32) v (Rect.unit (s := S1x512) ![0, o] S1x256.size inv)) (ix2 r l)
      = headCol (by decide) (fun c : Fin 512 => z (ix2 r ⟨c.val, q_lt c⟩)) G ⟨128 * q + l.val, lane_lt hq' l⟩ := by
  subst ho hp hq
  have hl : 128 * b + l.val < 256 := by omega
  have ht : ∀ C : Fin 256, cut256 z (256 * a) h (ix2 r C) = z (ix2 r ⟨256 * a + C.val, by omega⟩) := fun C =>
    slice2_axis1_apply (256 * a) _ _ r C ⟨256 * a + C.val, by omega⟩ rfl
  unfold heads headCol
  rw [slice2_axis1_apply (128 * b) _ _ r l ⟨128 * b + l.val, hl⟩ rfl, nrm256_apply P r _ _ hP, ht]
  refine congrArg₂ (· * ·) (congrArg₂ (· * ·) (congrArg (fun c => z (ix2 r c)) (Fin.ext (show 256 * a + (128 * b + l.val) = 128 * (2 * a + b) + l.val by omega)))
    (congrArg fac (funext fun i => (ht _).trans (congrArg (fun c => z (ix2 r c)) (Fin.ext (show 256 * a + (64 * ((128 * b + l.val) / 64) + i.val) = 64 * ((128 * (2 * a + b) + l.val) / 64) + i.val by omega)))))) ?_
  have hg : 256 * a + (128 * b + l.val) < 512 := by omega
  refine (congrArg v (ix2_of _ (0 : Fin 1) (⟨256 * a + (128 * b + l.val), hg⟩ : Fin 512) rfl (show 256 * a + 1 * (128 * b + l.val) = 256 * a + (128 * b + l.val) by omega))).trans ((hv _).trans ?_)
  exact congrArg G (Fin.ext (show (256 * a + (128 * b + l.val)) % 64 = (128 * (2 * a + b) + l.val) % 64 by omega))

include hc hs

theorem qpiece (v : FVec Ideal S1x512 .f32) (hv : ∀ c : Fin 512, v (ix2 (0 : Fin 1) c) = G ⟨c.val % 64, gainAt_lt _⟩) (a b : ℕ) (hab : 256 * a + 128 * b + 128 ≤ 512) (hb : 128 * b + 128 ≤ 256)
    (o p w : ℕ) (ho : o = 256 * a) (hp : p = 128 * b) (hw : w = 128 * (2 * a + b)) (h : S1024x1792.Slices ![0, o] S1024x256) (h' : S1024x256.Slices ![0, p] S1024x128)
    (inv : ∀ a, (![0, o] : Fin 2 → ℕ) a + S1x256.size a ≤ S1x512.size a) (inb : ∀ a, (![0, w] : Fin 2 → ℕ) a + S1024x128.size a ≤ S1024x512.size a) (y : S1024x128.Idx) :
    rope (heads z P o p h h' (View.ld (Val := Elt Ideal) (e' := .f32) v (Rect.unit (s := S1x512) ![0, o] S1x256.size inv))) cs sn y
      = qblock z co si G ((Rect.unit (s := S1024x512) ![0, w] S1024x128.size inb).emb y) := by
  subst hw
  have hq' : 128 * (2 * a + b) + 128 ≤ 512 := by omega
  have e : ∀ (r : Fin 1024) (l : Fin 128), rope (heads z P o p h h' (View.ld (Val := Elt Ideal) (e' := .f32) v (Rect.unit (s := S1x512) ![0, o] S1x256.size inv))) cs sn (ix2 r l)
      = qblock z co si G ((Rect.unit (s := S1024x512) ![0, 128 * (2 * a + b)] S1024x128.size inb).emb (ix2 r l)) := fun r l => by
    rw [ix2_of ((Rect.unit (s := S1024x512) ![0, 128 * (2 * a + b)] S1024x128.size inb).emb (ix2 r l)) r (⟨128 * (2 * a + b) + l.val, lane_lt hq' l⟩ : Fin 512)
      (show 0 + 1 * r.val = r.val by omega) (show 128 * (2 * a + b) + 1 * l.val = 128 * (2 * a + b) + l.val by omega)]
    exact rope_apply _ cs sn (by decide) hq' r _ (co r) (si r) (heads_apply z P G hP v hv a b hab hb o p ho hp _ rfl hq' h h' inv r) (hc r) (hs r) l
  have e := e (y 0) (y 1)
  rw [← ix2_of y (y 0) (y 1) rfl rfl] at e
  exact e

end Pieces

section Gates
variable (z : FVec Ideal S1024x1792 .f32) (vg : FVec Ideal S1x512 .f32) (w : FVec Ideal S4x128x128 .bf16) (bs : FVec Ideal S4x128x128 .f32) (B : Fin 4 → Fin 128 → EReal)

theorem grp_lt (g : Fin 4) (l : Fin 128) : 128 * g.val + l.val < 512 := by omega
theorem chunkOf_lt (r : Fin 1024) (j : Fin 128) : 128 * (r.val / 128) + j.val < 1024 := by omega

theorem sl_u : ∀ g : Fin 4, S1024x1792.Slices ![0, 768 + 128 * g.val] S1024x128 := by decide
theorem sl_v : ∀ g : Fin 4, S1024x1792.Slices ![0, 1280 + 128 * g.val] S1024x128 := by decide
theorem sl_k : ∀ k : Fin 8, S1024x128.Slices ![128 * k.val, 0] S128x128 := by decide
theorem inb_v : ∀ g : Fin 4, ∀ a, (![0, 128 * g.val] : Fin 2 → ℕ) a + S1x128.size a ≤ S1x512.size a := by decide
theorem inb_w : ∀ g : Fin 4, ∀ a, (![g.val, 0, 0] : Fin 3 → ℕ) a + S1x128x128.size a ≤ S4x128x128.size a := by decide
theorem inb_o : ∀ (k : Fin 8) (g : Fin 4), ∀ a, (![128 * k.val, 128 * g.val] : Fin 2 → ℕ) a + S128x128.size a ≤ S1024x512.size a := by decide

/-- A group's chunk, gated. -/
def gated (k : Fin 8) (g : Fin 4) : FVec Ideal S128x128 .bf16 :=
  mix (gel (cut128 z (768 + 128 * g.val) (sl_u g)))
    (grp (cut128 z (1280 + 128 * g.val) (sl_v g)) (View.ld (Val := Elt Ideal) (e' := .f32) vg (Rect.unit (s := S1x512) ![0, 128 * g.val] S1x128.size (inb_v g))))
    (View.ld (Val := Elt Ideal) (e' := .bf16) w (Rect.unit (s := S4x128x128) ![g.val, 0, 0] S1x128x128.size (inb_w g)))
    (View.ld (Val := Elt Ideal) (e' := .f32) bs (Rect.unit (s := S4x128x128) ![g.val, 0, 0] S1x128x128.size (inb_w g))) (128 * k.val) (sl_k k)

/-- What the gated branch's block holds. -/
def gblock : FVec Ideal S1024x512 .bf16 := fun y =>
  gate (fun j c => z (ix2 ⟨_, chunkOf_lt (y 0) j⟩ c)) (fun k => vg (ix2 (0 : Fin 1) k)) (fun e i j => w (ix3 e i j)) B ⟨(y 0).val % 128, Nat.mod_lt _ (by decide)⟩ (y 1)

theorem gated_apply (hb : ∀ e i l, bs (ix3 e i l) = B e i) (k : Fin 8) (g : Fin 4) (y : S128x128.Idx) :
    gated z vg w bs k g y = gblock z vg w B ((Rect.unit (s := S1024x512) ![128 * k.val, 128 * g.val] S128x128.size (inb_o k g)).emb y) := by
  have hu : ∀ r l, cut128 z (768 + 128 * g.val) (sl_u g) (ix2 r l) = z (ix2 r ⟨768 + (128 * g.val + l.val), u_lt ⟨_, grp_lt g l⟩⟩) := fun r l =>
    slice2_axis1_apply (768 + 128 * g.val) _ _ r l ⟨768 + (128 * g.val + l.val), u_lt ⟨_, grp_lt g l⟩⟩ (Nat.add_assoc _ _ _).symm
  have hv : ∀ r l, cut128 z (1280 + 128 * g.val) (sl_v g) (ix2 r l) = z (ix2 r ⟨1280 + (128 * g.val + l.val), v_lt ⟨_, grp_lt g l⟩⟩) := fun r l =>
    slice2_axis1_apply (1280 + 128 * g.val) _ _ r l ⟨1280 + (128 * g.val + l.val), v_lt ⟨_, grp_lt g l⟩⟩ (Nat.add_assoc _ _ _).symm
  have hg : ∀ l : Fin 128, View.ld (Val := Elt Ideal) (e' := .f32) vg (Rect.unit (s := S1x512) ![0, 128 * g.val] S1x128.size (inb_v g)) (ix2 (0 : Fin 1) l) = vg (ix2 (0 : Fin 1) ⟨_, grp_lt g l⟩) := fun l =>
    congrArg vg (ix2_of _ (0 : Fin 1) (⟨_, grp_lt g l⟩ : Fin 512) rfl (show 128 * g.val + 1 * l.val = 128 * g.val + l.val by omega))
  have hw : ∀ i j : Fin 128, View.ld (Val := Elt Ideal) (e' := .bf16) w (Rect.unit (s := S4x128x128) ![g.val, 0, 0] S1x128x128.size (inb_w g)) (ix3 (0 : Fin 1) i j) = w (ix3 g i j) := fun i j =>
    congrArg w (ix3_of _ g i j (show g.val + 1 * 0 = g.val by omega) (show 0 + 1 * i.val = i.val by omega) (show 0 + 1 * j.val = j.val by omega))
  have hbs : ∀ i j : Fin 128, View.ld (Val := Elt Ideal) (e' := .f32) bs (Rect.unit (s := S4x128x128) ![g.val, 0, 0] S1x128x128.size (inb_w g)) (ix3 (0 : Fin 1) i j) = B g i := fun i j =>
    (congrArg bs (ix3_of _ g i j (show g.val + 1 * 0 = g.val by omega) (show 0 + 1 * i.val = i.val by omega) (show 0 + 1 * j.val = j.val by omega))).trans (hb g i j)
  have e : ∀ i l : Fin 128, gated z vg w bs k g (ix2 i l) = gblock z vg w B ((Rect.unit (s := S1024x512) ![128 * k.val, 128 * g.val] S128x128.size (inb_o k g)).emb (ix2 i l)) := fun i l => by
    rw [ix2_of ((Rect.unit (s := S1024x512) ![128 * k.val, 128 * g.val] S128x128.size (inb_o k g)).emb (ix2 i l)) (⟨_, chunk_lt k i⟩ : Fin 1024) (⟨_, grp_lt g l⟩ : Fin 512)
      (show 128 * k.val + 1 * i.val = 128 * k.val + i.val by omega) (show 128 * g.val + 1 * l.val = 128 * g.val + l.val by omega)]
    have hi : (⟨(128 * k.val + i.val) % 128, Nat.mod_lt _ (by decide)⟩ : Fin 128) = i := Fin.ext (show (128 * k.val + i.val) % 128 = i.val by omega)
    have he : (⟨_, group_lt ⟨_, grp_lt g l⟩⟩ : Fin 4) = g := Fin.ext (show (128 * g.val + l.val) / 128 = g.val by omega)
    have hj : ∀ j : Fin 128, (⟨_, chunkOf_lt ⟨_, chunk_lt k i⟩ j⟩ : Fin 1024) = ⟨_, chunk_lt k j⟩ := fun j => Fin.ext (show 128 * ((128 * k.val + i.val) / 128) + j.val = 128 * k.val + j.val by omega)
    unfold gated gblock
    refine (mix_apply _ _ _ _ k _ i l).trans ?_
    show _ = gate (fun j c => z (ix2 (⟨_, chunkOf_lt ⟨_, chunk_lt k i⟩ j⟩ : Fin 1024) c)) _ _ B (⟨(128 * k.val + i.val) % 128, Nat.mod_lt _ (by decide)⟩ : Fin 128) ⟨_, grp_lt g l⟩
    simp only [hi, hj]
    unfold gate
    rw [he, gel_apply, hu, hbs]
    refine congrArg (fun e : EReal => gelu _ * (e + B g i)) (Finset.sum_congr rfl fun j _ => ?_)
    rw [hw, grp_apply, hg]
    unfold groupCol
    simp only [hv]
    refine congrArg (fun e : EReal => _ * (_ * e * _)) (congrArg gfac (funext fun m => congrArg (fun c => gelu (z (ix2 _ c))) (Fin.ext ?_)))
    show 1280 + (128 * g.val + m.val) = 1280 + (128 * ((128 * g.val + l.val) / 128) + m.val)
    omega
  have e := e (y 0) (y 1)
  rw [← ix2_of y (y 0) (y 1) rfl rfl] at e
  exact e

/-- A group's eight pieces, and all of them, the last stored first. -/
def gpiece (g : Fin 4) (k : Fin 8) : View.Piece (Elt Ideal) S1024x512 .bf16 := ⟨Rect.unit (s := S1024x512) ![128 * k.val, 128 * g.val] S128x128.size (inb_o k g), gated z vg w bs k g⟩
def chunks : List (Fin 8) := [7, 6, 5, 4, 3, 2, 1, 0]
def gpieces : List (View.Piece (Elt Ideal) S1024x512 .bf16) := [(3 : Fin 4), 2, 1, 0].flatMap fun g => chunks.map (gpiece z vg w bs g)

end Gates

section Out
variable (x : FVec Ideal S1024x1024 .f32) (md : FVec Ideal S1x3x1024 .f32) (g : FVec Ideal S1x1024 .f32) (W : FVec Ideal S1x1024x1792 .bf16)
  (gq : FVec Ideal S1x512 .f32) (gk : FVec Ideal S1x128 .f32) (cs sn : FVec Ideal S1024x128 .f32) (P : FVec Ideal S256x256 .bf16) (vg : FVec Ideal S1x512 .f32) (w : FVec Ideal S4x128x128 .bf16) (bs : FVec Ideal S4x128x128 .f32)

/-- The values the pieces share, out of the blocks as loaded. -/
theorem z_eq : k0_pay79 (F := Ideal) x md g W gq gk cs sn P vg w bs = k0_pay3 x g md W := by
  have e0 : View.ld (Val := Elt Ideal) (e' := .f32) x r0_0 = x := View.ld_unit_zero h2 ..
  have e1 : View.ld (Val := Elt Ideal) (e' := .f32) g r0_1 = g := View.ld_unit_zero h2 ..
  have e2 : View.ld (Val := Elt Ideal) (e' := .f32) md r0_2 = md := View.ld_unit_zero h3 ..
  have e3 : View.ld (Val := Elt Ideal) (e' := .bf16) W r0_3 = W := View.ld_unit_zero h3 ..
  unfold k0_pay79
  rw [e0, e1, e2, e3]
theorem cs_eq : k0_pay80 (F := Ideal) x md g W gq gk cs sn P vg w bs = cs := by
  have e : View.ld (Val := Elt Ideal) (e' := .f32) cs r0_4 = cs := View.ld_unit_zero h2 ..
  unfold k0_pay80 k0_pay4
  rw [e]
  exact shapeCast_self _ _
theorem sn_eq : k0_pay81 (F := Ideal) x md g W gq gk cs sn P vg w bs = sn := by
  have e : View.ld (Val := Elt Ideal) (e' := .f32) sn r0_4 = sn := View.ld_unit_zero h2 ..
  unfold k0_pay81 k0_pay5
  rw [e]
  exact shapeCast_self _ _
theorem lanes_eq : k0_pay83 (F := Ideal) x md g W gq gk cs sn P vg w bs = lanes := rfl

variable (co si : Fin 1024 → Fin 32 → EReal) (G : Fin 64 → EReal) (B : Fin 4 → Fin 128 → EReal)
  (hP : ∀ k c, P (ix2 k c) = sixty k c) (hc : ∀ (r : Fin 1024) (l : Fin 128), cs (ix2 r l) = co r ⟨_, angle_lt l.val⟩)
  (hs : ∀ (r : Fin 1024) (l : Fin 128), sn (ix2 r l) = if l.val % 2 = 0 then -si r ⟨_, angle_lt l.val⟩ else si r ⟨_, angle_lt l.val⟩)

include hP hc hs in
theorem q_apply (hv : ∀ c : Fin 512, gq (ix2 (0 : Fin 1) c) = G ⟨c.val % 64, gainAt_lt _⟩) (r : Fin 1024) (c : Fin 512) :
    out0_12 (F := Ideal) x md g W gq gk cs sn P vg w bs (ix2 r c) = turn (by decide) (headCol (by decide) (fun c => prow x md g W r ⟨c.val, q_lt c⟩) G) (co r) (si r) c := by
  have eP : View.ld (Val := Elt Ideal) (e' := .bf16) P r0_5 = P := View.ld_unit_zero h2 ..
  have e : out0_12 (F := Ideal) x md g W gq gk cs sn P vg w bs (ix2 r c) = qblock (k0_pay3 x g md W) co si G (ix2 r c) := by
    unfold out0_12
    refine View.canon_apply_of_pieces (Val := Elt Ideal) (qblock (k0_pay3 (F := Ideal) x g md W) co si G) _ (fun p hp y => ?_) (ix2 r c) (cover0_12 _ _ _ _ _)
    rw [z_eq, cs_eq, sn_eq, lanes_eq, eP] at hp
    rcases List.mem_cons.mp hp with rfl | hp
    · exact qpiece _ P cs sn co si G hP hc hs gq hv 1 1 (by decide) (by decide) 256 128 384 rfl rfl rfl slices_S1024x1792_o0_256_S1024x256 slices_S1024x256_o0_128_S1024x128 inb_S1x512_S1x256_0_256 inb_S1024x512_S1024x128_0_384 y
    rcases List.mem_cons.mp hp with rfl | hp
    · exact qpiece _ P cs sn co si G hP hc hs gq hv 1 0 (by decide) (by decide) 256 0 256 rfl rfl rfl slices_S1024x1792_o0_256_S1024x256 slices_S1024x256_o0_0_S1024x128 inb_S1x512_S1x256_0_256 inb_S1024x512_S1024x128_0_256 y
    rcases List.mem_cons.mp hp with rfl | hp
    · exact qpiece _ P cs sn co si G hP hc hs gq hv 0 1 (by decide) (by decide) 0 128 128 rfl rfl rfl slices_S1024x1792_o0_0_S1024x256 slices_S1024x256_o0_128_S1024x128 inb_S1x512_S1x256_0_0 inb_S1024x512_S1024x128_0_128 y
    rcases List.mem_cons.mp hp with rfl | hp
    · exact qpiece _ P cs sn co si G hP hc hs gq hv 0 0 (by decide) (by decide) 0 0 0 rfl rfl rfl slices_S1024x1792_o0_0_S1024x256 slices_S1024x256_o0_0_S1024x128 inb_S1x512_S1x256_0_0 inb_S1024x512_S1024x128_0_0 y
    nomatch hp
  rw [e]
  exact congrArg (fun z => turn _ (headCol _ z G) (co r) (si r) c) (funext fun c => z_apply x md g W r _)

include hP hc hs in
theorem k_apply (hv : ∀ c : Fin 128, gk (ix2 (0 : Fin 1) c) = G ⟨c.val % 64, gainAt_lt _⟩) (r : Fin 1024) (c : Fin 128) :
    out0_13 (F := Ideal) x md g W gq gk cs sn P vg w bs (ix2 r c) = turn (by decide) (headCol (by decide) (fun c => prow x md g W r ⟨512 + c.val, k_lt c⟩) G) (co r) (si r) c := by
  have e5 : View.ld (Val := Elt Ideal) (e' := .f32) gk r0_13 = gk := View.ld_unit_zero h2 ..
  have hQ : ∀ k c : Fin 128, View.ld (Val := Elt Ideal) (e' := .bf16) P r0_12 (ix2 k c) = sixty k c := fun k c =>
    (congrArg P (ix2_of _ (⟨k.val, by omega⟩ : Fin 256) (⟨c.val, by omega⟩ : Fin 256) (show 0 + 1 * k.val = k.val by omega) (show 0 + 1 * c.val = c.val by omega))).trans (hP _ _)
  unfold out0_13
  refine (congrFun (View.canon_unit_zero h2 ..) (ix2 r c)).trans ?_
  rw [z_eq, cs_eq, sn_eq, lanes_eq, e5]
  have ht : ∀ C : Fin 128, cut128 (k0_pay3 (F := Ideal) x g md W) 512 slices_S1024x1792_o0_512_S1024x128 (ix2 r C) = prow x md g W r ⟨512 + C.val, k_lt C⟩ := fun C =>
    (slice2_axis1_apply 512 _ _ r C ⟨512 + C.val, k_lt C⟩ rfl).trans (z_apply x md g W r _)
  refine Eq.trans (b := rope (nrm128 (View.ld (Val := Elt Ideal) (e' := .bf16) P r0_12) (cut128 (k0_pay3 (F := Ideal) x g md W) 512 slices_S1024x1792_o0_512_S1024x128) gk) cs sn (ix2 r c)) rfl ?_
  refine (rope_apply (n := 128) (p := 0) _ cs sn (by decide) (by decide) r (headCol (by decide) (fun c => prow x md g W r ⟨512 + c.val, k_lt c⟩) G) (co r) (si r) (fun l => ?_) (hc r) (hs r) c).trans ?_
  · rw [nrm128_apply r _ _ _ hQ]
    have hl : (⟨128 * 0 + l.val, by omega⟩ : Fin 128) = l := Fin.ext (by show 128 * 0 + l.val = l.val; omega)
    rw [hl, hv]
    unfold headCol
    simp only [ht]
  · exact congrArg _ (Fin.ext (by show 128 * 0 + c.val = c.val; omega))

theorem v_apply (r : Fin 1024) (c : Fin 128) : out0_14 (F := Ideal) x md g W gq gk cs sn P vg w bs (ix2 r c) = prow x md g W r ⟨640 + c.val, val_lt c⟩ := by
  unfold out0_14
  refine (congrFun (View.canon_unit_zero h2 ..) (ix2 r c)).trans ?_
  rw [z_eq]
  unfold k0_pay18
  rw [truncf_apply, slice2_axis1_apply 640 _ _ r c ⟨640 + c.val, val_lt c⟩ rfl, z_apply]

theorem gpieces_eq : out0_15 (F := Ideal) x md g W gq gk cs sn P vg w bs = View.canon (gpieces (k0_pay79 x md g W gq gk cs sn P vg w bs) vg w bs) := rfl

theorem g_apply (hb : ∀ e i l, bs (ix3 e i l) = B e i) (r : Fin 1024) (c : Fin 512) :
    out0_15 (F := Ideal) x md g W gq gk cs sn P vg w bs (ix2 r c)
      = gate (fun j => prow x md g W ⟨_, chunkOf_lt r j⟩) (fun k => vg (ix2 (0 : Fin 1) k)) (fun e i j => w (ix3 e i j)) B ⟨r.val % 128, Nat.mod_lt _ (by decide)⟩ c := by
  rw [gpieces_eq]
  refine (View.canon_apply_of_pieces (Val := Elt Ideal) (gblock (k0_pay79 (F := Ideal) x md g W gq gk cs sn P vg w bs) vg w B) _ (fun p hp y => ?_) (ix2 r c) ?_).trans ?_
  · obtain ⟨e, _, hp⟩ := List.mem_flatMap.mp hp
    obtain ⟨k, _, rfl⟩ := List.mem_map.mp hp
    exact gated_apply _ vg w bs B hb k e y
  · exact cover0_15 (F := Ideal) _ _ _ _ _ _ _ _ _ _ _ _ _ _ _ _ _ _ _ _ _ _ _ _ _ _ _ _ _ _ _ _ (ix2 r c)
  · rw [z_eq]
    unfold gblock
    exact congrArg (fun z => gate z _ _ B _ c) (funext fun j => funext fun n => z_apply x md g W _ n)

end Out

end Cert.Kernel8Ideal.Odd

end
-- ==== Proof.Odd.Ref.lean ====
/-
  One element of each of the odd input projection reference's four results.
-/
module

public import proofs.«01_k».proof.Proof.Gen.Reference8Ideal.Read
public import proofs.«01_k».proof.Proof.Odd.Row

@[expose] public section

set_option maxRecDepth 16384

noncomputable section

namespace Cert.Reference8Ideal.Odd

open Cert.Reference8Ideal Cert.Reference8Ideal.Gen Cert.Reference8Ideal.Read
open Idealize.ShloMosaic Idealize.ShloMosaic.ValueIdx
open Cert.Ffn Cert.Mix Cert.Odd
open Cert.Proj (col mean fac gainAt_lt headAt_lt)
open Cert.Reference2Ideal.Ffn (at_)

variable (b : Fin 16) (s : Fin 4096)

section Heads
variable {H n : ℕ} (hn : n = 64 * H)

theorem dvd {H n : ℕ} (hn : n = 64 * H) : 64 ∣ n := ⟨H, hn⟩
theorem place_lt (hn : n = 64 * H) (e : Fin H) (i : Fin 64) : 64 * e.val + i.val < n := by omega
theorem headNo_lt (hn : n = 64 * H) (c : Fin n) : c.val / 64 < H := by omega

theorem split_apply {α : Type} (y : (⟨3, ![16, 4096, n]⟩ : Shape).Idx → α) (h : (⟨3, ![16, 4096, n]⟩ : Shape).ShapeCasts ⟨4, ![16, 4096, H, 64]⟩) (e : Fin H) (i : Fin 64) :
    shapeCast ⟨4, ![16, 4096, H, 64]⟩ y h (ix4 b s e i) = y (ix3 b s ⟨64 * e.val + i.val, place_lt hn e i⟩) :=
  shapeCast_apply y _ _ _ (by
    subst hn
    rw [Shape.rowMajor_val_three, Shape.rowMajor_val_four]
    show (b.val * 4096 + s.val) * (64 * H) + (64 * e.val + i.val) = ((b.val * 4096 + s.val) * H + e.val) * 64 + i.val
    ring)

theorem join_apply {α : Type} (t : (⟨4, ![16, 4096, H, 64]⟩ : Shape).Idx → α) (h : (⟨4, ![16, 4096, H, 64]⟩ : Shape).ShapeCasts ⟨2, ![65536, n]⟩) (c : Fin n) :
    shapeCast ⟨2, ![65536, n]⟩ t h (ix2 (at_ b s) c) = t (ix4 b s ⟨c.val / 64, headNo_lt hn c⟩ ⟨c.val % 64, gainAt_lt _⟩) :=
  shapeCast_apply t _ _ _ (by
    have hc : c.val = 64 * (c.val / 64) + c.val % 64 := (Nat.div_add_mod _ _).symm
    subst hn
    rw [Shape.rowMajor_val_two, Shape.rowMajor_val_four]
    show ((b.val * 4096 + s.val) * H + c.val / 64) * 64 + c.val % 64 = (4096 * b.val + s.val) * (64 * H) + c.val
    generalize c.val / 64 = q at *
    generalize c.val % 64 = r at *
    rw [hc]
    ring)

/-- A head's pair of columns, its first or its second. -/
theorem pair_apply {α : Type} (t : (⟨4, ![16, 4096, H, 64]⟩ : Shape).Idx → α) (h1 : (⟨4, ![16, 4096, H, 64]⟩ : Shape).ShapeCasts ⟨5, ![16, 4096, H, 32, 2]⟩) (o : ℕ)
    (hs : (⟨5, ![16, 4096, H, 32, 2]⟩ : Shape).Slices ![0, 0, 0, 0, o] ⟨5, ![16, 4096, H, 32, 1]⟩) (h2 : (⟨5, ![16, 4096, H, 32, 1]⟩ : Shape).ShapeCasts ⟨4, ![16, 4096, H, 32]⟩)
    (ho : o < 2) (e : Fin H) (p : Fin 32) :
    shapeCast ⟨4, ![16, 4096, H, 32]⟩ (extractStridedSlice ⟨5, ![16, 4096, H, 32, 1]⟩ ![0, 0, 0, 0, o] (shapeCast ⟨5, ![16, 4096, H, 32, 2]⟩ t h1) hs) h2 (ix4 b s e p)
      = t (ix4 b s e ⟨2 * p.val + o, by omega⟩) := by
  rw [shapeCast_apply _ h2 _ (ix5 b s e p (0 : Fin 1)) (by
      rw [Shape.rowMajor_val_five, Shape.rowMajor_val_four]
      show (((b.val * 4096 + s.val) * H + e.val) * 32 + p.val) * 1 + 0 = ((b.val * 4096 + s.val) * H + e.val) * 32 + p.val
      ring),
    extractStridedSlice_apply _ _ hs _ (ix5 b s e p (⟨o, ho⟩ : Fin 2)) (fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => rfl)]
  exact shapeCast_apply _ h1 _ _ (by
    rw [Shape.rowMajor_val_five, Shape.rowMajor_val_four]
    show ((b.val * 4096 + s.val) * H + e.val) * 64 + (2 * p.val + o) = (((b.val * 4096 + s.val) * H + e.val) * 32 + p.val) * 2 + o
    ring)

/-- An angle's table, along the samples and heads. -/
theorem table_apply {α : Type} (x : (⟨2, ![4096, 32]⟩ : Shape).Idx → α) (h1 : (⟨2, ![4096, 32]⟩ : Shape).BroadcastsInDim ⟨4, ![1, 4096, 1, 32]⟩ ![1, 3])
    (h2 : (⟨4, ![1, 4096, 1, 32]⟩ : Shape).BroadcastsInDim ⟨4, ![16, 4096, H, 32]⟩ ![0, 1, 2, 3]) (e : Fin H) (p : Fin 32) :
    broadcastInDim ⟨4, ![16, 4096, H, 32]⟩ ![0, 1, 2, 3] h2 (broadcastInDim ⟨4, ![1, 4096, 1, 32]⟩ ![1, 3] h1 x) (ix4 b s e p) = x (ix2 s p) := by
  rw [broadcastInDim_apply _ h2 _ _ (ix4 (0 : Fin 1) s (0 : Fin 1) p) (fun a => by match a with | ⟨0, _⟩ => rfl | ⟨1, _⟩ => rfl | ⟨2, _⟩ => rfl | ⟨3, _⟩ => rfl)]
  exact broadcastInDim_apply _ h1 x _ _ (fun a => by match a with | ⟨0, _⟩ => rfl | ⟨1, _⟩ => rfl)

/-- Turned pairs, side by side again. -/
theorem pairs_apply {α : Type} (u v : (⟨4, ![16, 4096, H, 32]⟩ : Shape).Idx → α) (h1 : (⟨4, ![16, 4096, H, 32]⟩ : Shape).BroadcastsInDim ⟨5, ![16, 4096, H, 32, 1]⟩ ![0, 1, 2, 3])
    (hc : Shape.Concatenates [(⟨5, ![16, 4096, H, 32, 1]⟩ : Shape), ⟨5, ![16, 4096, H, 32, 1]⟩] ⟨5, ![16, 4096, H, 32, 2]⟩ 4)
    (h3 : (⟨5, ![16, 4096, H, 32, 2]⟩ : Shape).ShapeCasts ⟨4, ![16, 4096, H, 64]⟩) (e : Fin H) (i : Fin 64) :
    shapeCast ⟨4, ![16, 4096, H, 64]⟩ (concatenate ⟨5, ![16, 4096, H, 32, 2]⟩ 4
        [⟨⟨5, ![16, 4096, H, 32, 1]⟩, broadcastInDim ⟨5, ![16, 4096, H, 32, 1]⟩ ![0, 1, 2, 3] h1 u⟩, ⟨⟨5, ![16, 4096, H, 32, 1]⟩, broadcastInDim ⟨5, ![16, 4096, H, 32, 1]⟩ ![0, 1, 2, 3] h1 v⟩] hc) h3 (ix4 b s e i)
      = if i.val % 2 = 0 then u (ix4 b s e ⟨i.val / 2, by omega⟩) else v (ix4 b s e ⟨i.val / 2, by omega⟩) := by
  have hb : ∀ (w : (⟨4, ![16, 4096, H, 32]⟩ : Shape).Idx → α) (p : Fin 32), broadcastInDim ⟨5, ![16, 4096, H, 32, 1]⟩ ![0, 1, 2, 3] h1 w (ix5 b s e p (0 : Fin 1)) = w (ix4 b s e p) := fun w p =>
    broadcastInDim_apply _ h1 w _ _ (fun a => by
      match a with
      | ⟨0, _⟩ => rfl
      | ⟨1, _⟩ => rfl
      | ⟨2, _⟩ =>
        show e.val = if H = 1 then 0 else e.val
        split <;> omega
      | ⟨3, _⟩ => rfl)
  rw [shapeCast_apply _ h3 _ (ix5 b s e (⟨i.val / 2, by omega⟩ : Fin 32) (⟨i.val % 2, by omega⟩ : Fin 2)) (by
    rw [Shape.rowMajor_val_five, Shape.rowMajor_val_four]
    show (((b.val * 4096 + s.val) * H + e.val) * 32 + i.val / 2) * 2 + i.val % 2 = ((b.val * 4096 + s.val) * H + e.val) * 64 + i.val
    omega)]
  by_cases hi : i.val % 2 = 0
  · rw [if_pos hi]
    refine (concatenate_pair_apply_left (t := ⟨5, ![16, 4096, H, 32, 2]⟩) (s₁ := ⟨5, ![16, 4096, H, 32, 1]⟩) (s₂ := ⟨5, ![16, 4096, H, 32, 1]⟩) 4 _ _ hc _ rfl (ix5 b s e (⟨i.val / 2, by omega⟩ : Fin 32) (0 : Fin 1))
      (fun a => by match a with | ⟨0, _⟩ => rfl | ⟨1, _⟩ => rfl | ⟨2, _⟩ => rfl | ⟨3, _⟩ => rfl | ⟨4, _⟩ => exact hi.symm)).trans (hb u _)
  · rw [if_neg hi]
    refine (concatenate_pair_apply_right (t := ⟨5, ![16, 4096, H, 32, 2]⟩) (s₁ := ⟨5, ![16, 4096, H, 32, 1]⟩) (s₂ := ⟨5, ![16, 4096, H, 32, 1]⟩) 4 _ _ hc _ rfl rfl (ix5 b s e (⟨i.val / 2, by omega⟩ : Fin 32) (0 : Fin 1))
      (fun a ha => by match a with | ⟨0, _⟩ => rfl | ⟨1, _⟩ => rfl | ⟨2, _⟩ => rfl | ⟨3, _⟩ => rfl | ⟨4, _⟩ => exact absurd rfl ha) (by show 0 + 1 = i.val % 2; omega)).trans (hb v _)

/-- A head's columns normalised. -/
theorem norm_apply (y : FVec Ideal ⟨4, ![16, 4096, H, 64]⟩ .f32) (ini : FVec Ideal S_ .f32) (hini : ∀ i, ini i = 0) (cn ce : FVec Ideal ⟨4, ![16, 4096, H, 1]⟩ .f32) (gg : FVec Ideal ⟨4, ![16, 4096, H, 64]⟩ .f32)
    (hcn : ∀ i, cn i = Ideal.ofBits .f32 0x42800000#32) (hce : ∀ i, ce i = Ideal.ofBits .f32 0x358637BD#32)
    (hr : (⟨4, ![16, 4096, H, 64]⟩ : Shape).ReducesTo [3] ⟨3, ![16, 4096, H]⟩) (hr1 : (⟨4, ![16, 4096, H, 64]⟩ : Shape).Reduces [3] ⟨3, ![16, 4096, H]⟩) (h1 : (⟨3, ![16, 4096, H]⟩ : Shape).BroadcastsInDim ⟨4, ![16, 4096, H, 1]⟩ ![0, 1, 2])
    (h2 : (⟨4, ![16, 4096, H, 1]⟩ : Shape).BroadcastsInDim ⟨4, ![16, 4096, H, 64]⟩ ![0, 1, 2, 3]) (e : Fin H) (i : Fin 64) :
    mulf (mulf y (broadcastInDim ⟨4, ![16, 4096, H, 64]⟩ ![0, 1, 2, 3] h2 (Host.rsqrt (addf (Host.divf (broadcastInDim ⟨4, ![16, 4096, H, 1]⟩ ![0, 1, 2] h1 (Host.reduceAdd (mulf y y) ini hr h_S_)) cn) ce)))) gg (ix4 b s e i)
      = y (ix4 b s e i) * fac (fun i => y (ix4 b s e i)) * gg (ix4 b s e i) := by
  have hq : Host.reduceAdd (mulf y y) ini hr h_S_ (ix3 b s e) = ∑ i : Fin 64, y (ix4 b s e i) * y (ix4 b s e i) := by
    simp only [Host.reduceAdd, Ideal.hostReduceAdd_def]
    rw [Ideal.hostReduceAdd_single hr hr1]
    refine (congrArg (· + _) (hini _)).trans ((zero_add _).trans (Finset.sum_congr rfl fun i _ => ?_))
    exact congrArg (fun j => y j * y j) (ix4_of _ b s e i rfl rfl rfl rfl)
  have hd : ∀ (v : Fin H) , v.val = if H = 1 then 0 else v.val := fun v => by split <;> omega
  rw [mulf_apply, mulf_apply, broadcastInDim_apply _ h2 _ _ (ix4 b s e (0 : Fin 1)) (fun a => by match a with | ⟨0, _⟩ => rfl | ⟨1, _⟩ => rfl | ⟨2, _⟩ => exact hd e | ⟨3, _⟩ => rfl)]
  refine congrArg (_ * · * _) ?_
  show Ideal.rsqrt (Ideal.div (broadcastInDim _ ![0, 1, 2] h1 (Host.reduceAdd (mulf y y) ini hr h_S_) (ix4 b s e (0 : Fin 1))) (cn _) + ce _) = _
  rw [broadcastInDim_apply _ h1 _ _ (ix3 b s e) (fun a => by match a with | ⟨0, _⟩ => rfl | ⟨1, _⟩ => rfl | ⟨2, _⟩ => exact hd e), hq, hcn, hce]
  rfl

end Heads

variable (x0 : FVec Ideal S65536x1024 .f32) (x1 : FVec Ideal S16x3x1024 .f32) (x2 : FVec Ideal S1024 .f32) (x3 : FVec Ideal S2x1024x1792 .f32)
  (x4 x5 : FVec Ideal S64 .f32) (x6 x7 : FVec Ideal S4096x32 .f32) (x8 : FVec Ideal S512 .f32) (x9 : FVec Ideal S4x128x128 .f32) (x10 : FVec Ideal S4x128 .f32)

/-- The projected row. -/
def prow (c : Fin 1792) : EReal :=
  col (hid (fun k => x0 (ix2 (at_ b s) k)) (fun k => x1 (ix3 b (0 : Fin 3) k)) (fun k => x1 (ix3 b (1 : Fin 3) k)) (fun k => x2 (ix1 k))) (fun k => x3 (ix3 (0 : Fin 2) k c))

theorem w_apply (k : Fin 1024) (c : Fin 1792) : val_main_v26 (F := Ideal) x3 (ix2 k c) = x3 (ix3 (0 : Fin 2) k c) := by
  rw [val_main_v26_apply, val_main_v25_apply]
  exact congrArg x3 (ix3_of _ _ _ _ rfl (show (k.val * 1792 + c.val) / 1792 % 1024 = k.val by omega) (show (k.val * 1792 + c.val) % 1792 = c.val by omega))

theorem h_eq : val_main_v24 (F := Ideal) x0 x1 x2 = Cert.Reference2Ideal.Read.val_main_v30 (F := Ideal) x0 x1 x2 := rfl

theorem z_apply (c : Fin 1792) : val_main_v27 (F := Ideal) x0 x1 x2 x3 (ix3 b s c) = prow b s x0 x1 x2 x3 c := by
  rw [val_main_v27_apply]
  unfold prow col
  refine Finset.sum_congr rfl fun k _ => congrArg₂ (· * ·) ?_ ?_
  · refine (congrArg (val_main_v24 (F := Ideal) x0 x1 x2) (ix3_of _ b s k rfl rfl rfl)).trans ?_
    rw [h_eq, Cert.Reference2Ideal.Ffn.hid_apply]
  · exact (congrArg (val_main_v26 (F := Ideal) x3) (ix2_of _ k c rfl rfl)).trans (w_apply x3 k c)

theorem q_lt (c : Fin 512) : c.val < 1792 := by omega
theorem k_lt (c : Fin 128) : 512 + c.val < 1792 := by omega
theorem val_lt (c : Fin 128) : 640 + c.val < 1792 := by omega

theorem v28_at (c : Fin 512) : val_main_v28 (F := Ideal) x0 x1 x2 x3 (ix3 b s c) = prow b s x0 x1 x2 x3 ⟨c.val, q_lt c⟩ := by
  rw [val_main_v28_apply, ← z_apply]; exact congrArg _ (ix3_of _ _ _ _ rfl rfl rfl)
theorem v29_at (c : Fin 128) : val_main_v29 (F := Ideal) x0 x1 x2 x3 (ix3 b s c) = prow b s x0 x1 x2 x3 ⟨512 + c.val, k_lt c⟩ := by
  rw [val_main_v29_apply, ← z_apply]; exact congrArg _ (ix3_of _ _ _ _ rfl rfl rfl)
theorem v31_at (c : Fin 512) : val_main_v31 (F := Ideal) x0 x1 x2 x3 (ix3 b s c) = prow b s x0 x1 x2 x3 ⟨768 + c.val, u_lt c⟩ := by
  rw [val_main_v31_apply, ← z_apply]; exact congrArg _ (ix3_of _ _ _ _ rfl rfl rfl)
theorem v32_at (c : Fin 512) : val_main_v32 (F := Ideal) x0 x1 x2 x3 (ix3 b s c) = prow b s x0 x1 x2 x3 ⟨1280 + c.val, v_lt c⟩ := by
  rw [val_main_v32_apply, ← z_apply]; exact congrArg _ (ix3_of _ _ _ _ rfl rfl rfl)

/-- The normalised queries and keys. -/
theorem v46_at (e : Fin 8) (i : Fin 64) (c : Fin 512) (hc : c.val = 64 * e.val + i.val) :
    val_main_v46 (F := Ideal) x0 x1 x2 x3 x4 (ix4 b s e i) = headCol (by decide) (fun c => prow b s x0 x1 x2 x3 ⟨c.val, q_lt c⟩) (fun i => x4 (ix1 i)) c := by
  have hs : ∀ i : Fin 64, val_main_v33 (F := Ideal) x0 x1 x2 x3 (ix4 b s e i) = prow b s x0 x1 x2 x3 ⟨64 * e.val + i.val, by omega⟩ := fun i =>
    (split_apply (H := 8) (n := 512) b s rfl _ _ e i).trans (v28_at b s x0 x1 x2 x3 _)
  have h0 : c.val / 64 = e.val := by omega
  have h1 : c.val % 64 = i.val := by omega
  refine (norm_apply (H := 8) b s _ (val_main_cst_3 (F := Ideal)) (fun _ => Ideal.ofBits_zero_f32) (val_main_v37 (F := Ideal)) (val_main_v39 (F := Ideal)) (val_main_v45 (F := Ideal) x4)
    (fun i => val_main_v37_apply (F := Ideal) i) (fun i => val_main_v39_apply (F := Ideal) i) _ (by decide) _ _ e i).trans ?_
  unfold headCol
  rw [val_main_v45_apply, val_main_v44_apply, hs]
  refine congrArg₂ (· * ·) (congrArg₂ (· * ·) (congrArg _ (Fin.ext hc.symm)) (congrArg fac (funext fun j => (hs j).trans (congrArg _ (Fin.ext (by show 64 * e.val + j.val = 64 * (c.val / 64) + j.val; rw [h0])))))) ?_
  exact congrArg x4 (funext fun a => by match a with | ⟨0, _⟩ => exact Fin.ext h1.symm)

theorem v82_at (e : Fin 2) (i : Fin 64) (c : Fin 128) (hc : c.val = 64 * e.val + i.val) :
    val_main_v82 (F := Ideal) x0 x1 x2 x3 x5 (ix4 b s e i) = headCol (by decide) (fun c => prow b s x0 x1 x2 x3 ⟨512 + c.val, k_lt c⟩) (fun i => x5 (ix1 i)) c := by
  have hs : ∀ i : Fin 64, val_main_v69 (F := Ideal) x0 x1 x2 x3 (ix4 b s e i) = prow b s x0 x1 x2 x3 ⟨512 + (64 * e.val + i.val), by omega⟩ := fun i =>
    (split_apply (H := 2) (n := 128) b s rfl _ _ e i).trans (v29_at b s x0 x1 x2 x3 _)
  have h0 : c.val / 64 = e.val := by omega
  have h1 : c.val % 64 = i.val := by omega
  refine (norm_apply (H := 2) b s _ (val_main_cst_6 (F := Ideal)) (fun _ => Ideal.ofBits_zero_f32) (val_main_v73 (F := Ideal)) (val_main_v75 (F := Ideal)) (val_main_v81 (F := Ideal) x5)
    (fun i => val_main_v73_apply (F := Ideal) i) (fun i => val_main_v75_apply (F := Ideal) i) _ (by decide) _ _ e i).trans ?_
  unfold headCol
  rw [val_main_v81_apply, val_main_v80_apply, hs]
  refine congrArg₂ (· * ·) (congrArg₂ (· * ·) (congrArg _ (Fin.ext (congrArg (512 + ·) hc.symm))) (congrArg fac (funext fun j => (hs j).trans (congrArg _ (Fin.ext (by show 512 + (64 * e.val + j.val) = 512 + (64 * (c.val / 64) + j.val); rw [h0])))))) ?_
  exact congrArg x5 (funext fun a => by match a with | ⟨0, _⟩ => exact Fin.ext h1.symm)

/-- The queries, the keys and the values. -/
theorem q_apply (c : Fin 512) :
    val_main_v157 (F := Ideal) x0 x1 x2 x3 x4 x6 x7 (ix2 (at_ b s) c)
      = turn (by decide) (headCol (by decide) (fun c => prow b s x0 x1 x2 x3 ⟨c.val, q_lt c⟩) (fun i => x4 (ix1 i))) (fun p => x6 (ix2 s p)) (fun p => x7 (ix2 s p)) c := by
  rw [val_main_v157_apply]
  refine (join_apply (H := 8) (n := 512) b s rfl (val_main_v67 (F := Ideal) x0 x1 x2 x3 x4 x6 x7) _ c).trans ?_
  refine (pairs_apply (H := 8) (n := 512) b s (val_main_v58 (F := Ideal) x0 x1 x2 x3 x4 x6 x7) (val_main_v63 (F := Ideal) x0 x1 x2 x3 x4 x6 x7) _ _ _ _ _).trans ?_
  have t0 : ∀ e p, val_main_v49 (F := Ideal) x0 x1 x2 x3 x4 (ix4 b s e p) = _ := fun e p => pair_apply (H := 8) (n := 512) b s (val_main_v46 (F := Ideal) x0 x1 x2 x3 x4) _ 0 _ _ (by decide) e p
  have t1 : ∀ e p, val_main_v51 (F := Ideal) x0 x1 x2 x3 x4 (ix4 b s e p) = _ := fun e p => pair_apply (H := 8) (n := 512) b s (val_main_v46 (F := Ideal) x0 x1 x2 x3 x4) _ 1 _ _ (by decide) e p
  have c0 : ∀ e p, val_main_v54 (F := Ideal) x6 (ix4 b s e p) = _ := fun e p => table_apply (H := 8) b s x6 _ _ e p
  have c1 : ∀ e p, val_main_v61 (F := Ideal) x6 (ix4 b s e p) = _ := fun e p => table_apply (H := 8) b s x6 _ _ e p
  have s0 : ∀ e p, val_main_v56 (F := Ideal) x7 (ix4 b s e p) = _ := fun e p => table_apply (H := 8) b s x7 _ _ e p
  have s1 : ∀ e p, val_main_v59 (F := Ideal) x7 (ix4 b s e p) = _ := fun e p => table_apply (H := 8) b s x7 _ _ e p
  unfold turn
  refine if_congr (by show c.val % 64 % 2 = 0 ↔ _; omega) ?_ ?_
  · show val_main_v49 (F := Ideal) x0 x1 x2 x3 x4 _ * val_main_v54 (F := Ideal) x6 _ - val_main_v51 (F := Ideal) x0 x1 x2 x3 x4 _ * val_main_v56 (F := Ideal) x7 _ = _
    rw [t0, t1, c0, s0, v46_at b s x0 x1 x2 x3 x4 _ _ ⟨2 * (c.val / 2), by omega⟩ (by show 2 * (c.val / 2) = 64 * (c.val / 64) + (2 * (c.val % 64 / 2) + 0); omega),
      v46_at b s x0 x1 x2 x3 x4 _ _ ⟨2 * (c.val / 2) + 1, by omega⟩ (by show 2 * (c.val / 2) + 1 = 64 * (c.val / 64) + (2 * (c.val % 64 / 2) + 1); omega)]
  · show val_main_v49 (F := Ideal) x0 x1 x2 x3 x4 _ * val_main_v59 (F := Ideal) x7 _ + val_main_v51 (F := Ideal) x0 x1 x2 x3 x4 _ * val_main_v61 (F := Ideal) x6 _ = _
    rw [t0, t1, c1, s1, v46_at b s x0 x1 x2 x3 x4 _ _ ⟨2 * (c.val / 2), by omega⟩ (by show 2 * (c.val / 2) = 64 * (c.val / 64) + (2 * (c.val % 64 / 2) + 0); omega),
      v46_at b s x0 x1 x2 x3 x4 _ _ ⟨2 * (c.val / 2) + 1, by omega⟩ (by show 2 * (c.val / 2) + 1 = 64 * (c.val / 64) + (2 * (c.val % 64 / 2) + 1); omega)]

theorem k_apply (c : Fin 128) :
    val_main_v158 (F := Ideal) x0 x1 x2 x3 x5 x6 x7 (ix2 (at_ b s) c)
      = turn (by decide) (headCol (by decide) (fun c => prow b s x0 x1 x2 x3 ⟨512 + c.val, k_lt c⟩) (fun i => x5 (ix1 i))) (fun p => x6 (ix2 s p)) (fun p => x7 (ix2 s p)) c := by
  rw [val_main_v158_apply]
  refine (join_apply (H := 2) (n := 128) b s rfl (val_main_v103 (F := Ideal) x0 x1 x2 x3 x5 x6 x7) _ c).trans ?_
  refine (pairs_apply (H := 2) (n := 128) b s (val_main_v94 (F := Ideal) x0 x1 x2 x3 x5 x6 x7) (val_main_v99 (F := Ideal) x0 x1 x2 x3 x5 x6 x7) _ _ _ _ _).trans ?_
  have t0 : ∀ e p, val_main_v85 (F := Ideal) x0 x1 x2 x3 x5 (ix4 b s e p) = _ := fun e p => pair_apply (H := 2) (n := 128) b s (val_main_v82 (F := Ideal) x0 x1 x2 x3 x5) _ 0 _ _ (by decide) e p
  have t1 : ∀ e p, val_main_v87 (F := Ideal) x0 x1 x2 x3 x5 (ix4 b s e p) = _ := fun e p => pair_apply (H := 2) (n := 128) b s (val_main_v82 (F := Ideal) x0 x1 x2 x3 x5) _ 1 _ _ (by decide) e p
  have c0 : ∀ e p, val_main_v90 (F := Ideal) x6 (ix4 b s e p) = _ := fun e p => table_apply (H := 2) b s x6 _ _ e p
  have c1 : ∀ e p, val_main_v97 (F := Ideal) x6 (ix4 b s e p) = _ := fun e p => table_apply (H := 2) b s x6 _ _ e p
  have s0 : ∀ e p, val_main_v92 (F := Ideal) x7 (ix4 b s e p) = _ := fun e p => table_apply (H := 2) b s x7 _ _ e p
  have s1 : ∀ e p, val_main_v95 (F := Ideal) x7 (ix4 b s e p) = _ := fun e p => table_apply (H := 2) b s x7 _ _ e p
  unfold turn
  refine if_congr (by show c.val % 64 % 2 = 0 ↔ _; omega) ?_ ?_
  · show val_main_v85 (F := Ideal) x0 x1 x2 x3 x5 _ * val_main_v90 (F := Ideal) x6 _ - val_main_v87 (F := Ideal) x0 x1 x2 x3 x5 _ * val_main_v92 (F := Ideal) x7 _ = _
    rw [t0, t1, c0, s0, v82_at b s x0 x1 x2 x3 x5 _ _ ⟨2 * (c.val / 2), by omega⟩ (by show 2 * (c.val / 2) = 64 * (c.val / 64) + (2 * (c.val % 64 / 2) + 0); omega),
      v82_at b s x0 x1 x2 x3 x5 _ _ ⟨2 * (c.val / 2) + 1, by omega⟩ (by show 2 * (c.val / 2) + 1 = 64 * (c.val / 64) + (2 * (c.val % 64 / 2) + 1); omega)]
  · show val_main_v85 (F := Ideal) x0 x1 x2 x3 x5 _ * val_main_v95 (F := Ideal) x7 _ + val_main_v87 (F := Ideal) x0 x1 x2 x3 x5 _ * val_main_v97 (F := Ideal) x6 _ = _
    rw [t0, t1, c1, s1, v82_at b s x0 x1 x2 x3 x5 _ _ ⟨2 * (c.val / 2), by omega⟩ (by show 2 * (c.val / 2) = 64 * (c.val / 64) + (2 * (c.val % 64 / 2) + 0); omega),
      v82_at b s x0 x1 x2 x3 x5 _ _ ⟨2 * (c.val / 2) + 1, by omega⟩ (by show 2 * (c.val / 2) + 1 = 64 * (c.val / 64) + (2 * (c.val % 64 / 2) + 1); omega)]

theorem v_apply (c : Fin 128) : val_main_v159 (F := Ideal) x0 x1 x2 x3 (ix2 (at_ b s) c) = prow b s x0 x1 x2 x3 ⟨640 + c.val, val_lt c⟩ := by
  rw [val_main_v159_apply, val_main_v156_apply, val_main_v30_apply]
  refine Eq.trans ?_ (z_apply b s x0 x1 x2 x3 ⟨640 + c.val, val_lt c⟩)
  exact congrArg (val_main_v27 (F := Ideal) x0 x1 x2 x3) (ix3_of _ _ _ _ (show ((4096 * b.val + s.val) * 128 + c.val) / 524288 = b.val by omega) (show ((4096 * b.val + s.val) * 128 + c.val) / 128 % 4096 = s.val by omega)
    (show 640 + ((4096 * b.val + s.val) * 128 + c.val) % 128 = 640 + c.val by omega))

/-- The gated branch's two halves. -/
theorem u_at (c : Fin 512) : val_main_v117 (F := Ideal) x0 x1 x2 x3 (ix3 b s c) = gelu (prow b s x0 x1 x2 x3 ⟨768 + c.val, u_lt c⟩) := by
  rw [← v31_at]
  simp only [val_main_v117_apply, val_main_v116_apply, val_main_v115_apply, val_main_v114_apply, val_main_v113_apply, val_main_v112_apply, val_main_v111_apply, val_main_v110_apply,
    val_main_v109_apply, val_main_v108_apply, val_main_v107_apply, val_main_v106_apply, val_main_v105_apply]
  rfl
theorem v_at (c : Fin 512) : val_main_v130 (F := Ideal) x0 x1 x2 x3 (ix3 b s c) = gelu (prow b s x0 x1 x2 x3 ⟨1280 + c.val, v_lt c⟩) := by
  rw [← v32_at]
  simp only [val_main_v130_apply, val_main_v129_apply, val_main_v128_apply, val_main_v127_apply, val_main_v126_apply, val_main_v125_apply, val_main_v124_apply, val_main_v123_apply,
    val_main_v122_apply, val_main_v121_apply, val_main_v120_apply, val_main_v119_apply, val_main_v118_apply]
  rfl

theorem grp_lt (e : Fin 4) (i : Fin 128) : 128 * e.val + i.val < 512 := by omega
theorem split4_at (e : Fin 4) (i : Fin 128) : val_main_v131 (F := Ideal) x0 x1 x2 x3 (ix4 b s e i) = gelu (prow b s x0 x1 x2 x3 ⟨1280 + (128 * e.val + i.val), v_lt ⟨_, grp_lt e i⟩⟩) := by
  refine Eq.trans ?_ (v_at b s x0 x1 x2 x3 ⟨_, grp_lt e i⟩)
  exact shapeCast_apply (val_main_v130 (F := Ideal) x0 x1 x2 x3) _ _ _ (by
    rw [Shape.rowMajor_val_three, Shape.rowMajor_val_four]
    show (b.val * 4096 + s.val) * 512 + (128 * e.val + i.val) = ((b.val * 4096 + s.val) * 4 + e.val) * 128 + i.val
    omega)

theorem gfac_at (e : Fin 4) : val_main_v140 (F := Ideal) x0 x1 x2 x3 (ix4 b s e (0 : Fin 1)) = gfac fun i => val_main_v131 (F := Ideal) x0 x1 x2 x3 (ix4 b s e i) := by
  rw [val_main_v140_apply, val_main_v139_apply, val_main_v137_apply, val_main_v135_apply, val_main_v134_apply, val_main_v136_apply, val_main_v138_apply]
  unfold gfac
  refine congrArg (fun q => Ideal.rsqrt (Ideal.div q _ + _)) ((congrArg (· + _) Ideal.ofBits_zero_f32).trans ((zero_add _).trans (Finset.sum_congr rfl fun i _ => ?_)))
  rw [val_main_v133_apply]
  exact congrArg (fun j => val_main_v131 (F := Ideal) x0 x1 x2 x3 j * val_main_v131 (F := Ideal) x0 x1 x2 x3 j) (ix4_of _ b s e i rfl rfl rfl rfl)

theorem vn_at (e : Fin 4) (i : Fin 128) :
    val_main_v145 (F := Ideal) x0 x1 x2 x3 x8 (ix4 b s e i) = groupCol (fun k => prow b s x0 x1 x2 x3 ⟨1280 + k.val, v_lt k⟩) (fun k => x8 (ix1 k)) ⟨128 * e.val + i.val, grp_lt e i⟩ := by
  rw [val_main_v145_apply, val_main_v142_apply, val_main_v141_apply, val_main_v144_apply, val_main_v143_apply, val_main_v132_apply, split4_at]
  unfold groupCol
  refine congrArg₂ (· * ·) (congrArg₂ (· * ·) rfl ?_) ?_
  · refine (congrArg (val_main_v140 (F := Ideal) x0 x1 x2 x3) (ix4_of _ b s e (0 : Fin 1) rfl rfl rfl rfl)).trans ((gfac_at b s x0 x1 x2 x3 e).trans (congrArg gfac (funext fun j => ?_)))
    rw [split4_at]
    exact congrArg (fun k => gelu (prow b s x0 x1 x2 x3 k)) (Fin.ext (by show 1280 + (128 * e.val + j.val) = 1280 + (128 * ((128 * e.val + i.val) / 128) + j.val); omega))
  · exact congrArg x8 (funext fun a => by match a with | ⟨0, _⟩ => exact Fin.ext (show e.val * 128 + i.val = 128 * e.val + i.val by omega))

theorem chunk_lt (s : Fin 4096) (j : Fin 128) : 128 * (s.val / 128) + j.val < 4096 := by omega

/-- The gated branch. -/
theorem g_apply (c : Fin 512) :
    val_main_v160 (F := Ideal) x0 x1 x2 x3 x8 x9 x10 (ix2 (at_ b s) c)
      = gate (fun j => prow b ⟨_, chunk_lt s j⟩ x0 x1 x2 x3) (fun k => x8 (ix1 k)) (fun e i j => x9 (ix3 e i j)) (fun e i => x10 (ix2 e i)) ⟨s.val % 128, Nat.mod_lt _ (by decide)⟩ c := by
  have e1 : (⟨s.val % 128, Nat.mod_lt _ (by decide)⟩ : Fin 128).val = s.val % 128 := rfl
  rw [val_main_v160_apply, val_main_v155_apply,
    ix3_of (idx_main_v155 (ix2 (at_ b s) c)) b s c (show ((4096 * b.val + s.val) * 512 + c.val) / 2097152 = b.val by omega) (show ((4096 * b.val + s.val) * 512 + c.val) / 512 % 4096 = s.val by omega)
      (show ((4096 * b.val + s.val) * 512 + c.val) % 512 = c.val by omega),
    val_main_v154_apply, u_at, val_main_v153_apply, val_main_v152_apply, val_main_v148_apply, val_main_v147_apply, val_main_v151_apply, val_main_v150_apply, val_main_v149_apply]
  unfold gate
  refine congrArg₂ (· * ·) ?_ (congrArg₂ (· + ·) (Finset.sum_congr rfl fun j _ => ?_) ?_)
  · exact congrArg (fun s => gelu (prow b s x0 x1 x2 x3 _)) (Fin.ext (show s.val = 128 * (s.val / 128) + s.val % 128 by omega))
  · rw [mul_comm]
    refine congrArg₂ (· * ·) ?_ ?_
    · exact congrArg x9 (ix3_of _ _ _ _ (show ((b.val * 4096 + s.val) * 512 + c.val) / 128 % 4 = c.val / 128 by omega) (show ((b.val * 4096 + s.val) * 512 + c.val) / 512 % 128 = s.val % 128 by omega) rfl)
    · refine Eq.trans ?_ ((vn_at b ⟨_, chunk_lt s j⟩ x0 x1 x2 x3 x8 ⟨_, group_lt c⟩ ⟨c.val % 128, Nat.mod_lt _ (by decide)⟩).trans (congrArg (groupCol _ _) (Fin.ext (show 128 * (c.val / 128) + c.val % 128 = c.val by omega))))
      exact shapeCast_apply (val_main_v145 (F := Ideal) x0 x1 x2 x3 x8) _ _ _ (by
        rw [Shape.rowMajor_val_four, Shape.rowMajor_val_five]
        show ((b.val * 4096 + (128 * (s.val / 128) + j.val)) * 4 + c.val / 128) * 128 + c.val % 128
          = ((((((b.val * 4096 + s.val) * 512 + c.val) / 2097152) * 32 + ((b.val * 4096 + s.val) * 512 + c.val) / 65536 % 32) * 128 + j.val) * 4 + ((b.val * 4096 + s.val) * 512 + c.val) / 128 % 4) * 128 + ((b.val * 4096 + s.val) * 512 + c.val) % 128
        omega)
  · exact congrArg x10 (ix2_of _ _ _ (show ((b.val * 4096 + s.val) * 512 + c.val) / 128 % 4 = c.val / 128 by omega) (show ((b.val * 4096 + s.val) * 512 + c.val) / 512 % 128 = s.val % 128 by omega))

end Cert.Reference8Ideal.Odd

end
-- ==== Proof.Odd.Arr.lean ====
/-
  The result arrays of the odd input projection's kernel at extended reals: the reference's four results of the same
  arguments, block by block.
-/
module

public import proofs.«01_k».proof.Proof.Gen.Kernel8Ideal.Value
public import proofs.«01_k».proof.Proof.Odd.Out
public import proofs.«01_k».proof.Proof.Odd.Ref
public import Idealize.ShloMosaic.Lib.Claim

@[expose] public section

set_option maxRecDepth 16384

noncomputable section

namespace Cert.Kernel8Ideal.Odd

open Cert.Kernel8Ideal Cert.Kernel8Ideal.Gen
open Idealize.ShloMosaic Idealize.ShloMosaic.ValueIdx Idealize.ShloMosaic.TcCoe Idealize.ShloMosaic.Tactic
open Cert.Ffn Cert.Odd
open Cert.Proj (gainAt_lt)
open Cert.Mix (ix2_of ix3_of col_at one_at)
open Cert.Reference2Ideal.Ffn (at_)

variable (m : (ℓ : Loc nD τ sig) → Buf (Elt Ideal) ℓ)

/-- Point `t` takes rows `1024 t` on, of sample `t / 4`, and the angles of those rows' places; the weights' blocks stay. -/
theorem idx_0 : ∀ t : Fin cfg0.N, win0_0.index t (0 : Fin 2) = t.val ∧ win0_0.index t (1 : Fin 2) = 0 := (by decide +kernel : ∀ t : Fin grid0.N, _)
theorem idx_1 : ∀ t : Fin cfg0.N, win0_1.index t (0 : Fin 3) = t.val / 4 ∧ win0_1.index t (1 : Fin 3) = 0 ∧ win0_1.index t (2 : Fin 3) = 0 := (by decide +kernel : ∀ t : Fin grid0.N, _)
theorem idx_2 : ∀ t : Fin cfg0.N, win0_2.index t (0 : Fin 2) = 0 ∧ win0_2.index t (1 : Fin 2) = 0 := (by decide +kernel : ∀ t : Fin grid0.N, _)
theorem idx_3 : ∀ t : Fin cfg0.N, win0_3.index t (0 : Fin 3) = 0 ∧ win0_3.index t (1 : Fin 3) = 0 ∧ win0_3.index t (2 : Fin 3) = 0 := (by decide +kernel : ∀ t : Fin grid0.N, _)
theorem idx_4 : ∀ t : Fin cfg0.N, win0_4.index t (0 : Fin 2) = 0 ∧ win0_4.index t (1 : Fin 2) = 0 := (by decide +kernel : ∀ t : Fin grid0.N, _)
theorem idx_5 : ∀ t : Fin cfg0.N, win0_5.index t (0 : Fin 2) = 0 ∧ win0_5.index t (1 : Fin 2) = 0 := (by decide +kernel : ∀ t : Fin grid0.N, _)
theorem idx_6 : ∀ t : Fin cfg0.N, win0_6.index t (0 : Fin 2) = t.val % 4 ∧ win0_6.index t (1 : Fin 2) = 0 := (by decide +kernel : ∀ t : Fin grid0.N, _)
theorem idx_7 : ∀ t : Fin cfg0.N, win0_7.index t (0 : Fin 2) = t.val % 4 ∧ win0_7.index t (1 : Fin 2) = 0 := (by decide +kernel : ∀ t : Fin grid0.N, _)
theorem idx_8 : ∀ t : Fin cfg0.N, win0_8.index t (0 : Fin 2) = 0 ∧ win0_8.index t (1 : Fin 2) = 0 := (by decide +kernel : ∀ t : Fin grid0.N, _)
theorem idx_9 : ∀ t : Fin cfg0.N, win0_9.index t (0 : Fin 2) = 0 ∧ win0_9.index t (1 : Fin 2) = 0 := (by decide +kernel : ∀ t : Fin grid0.N, _)
theorem idx_10 : ∀ t : Fin cfg0.N, win0_10.index t (0 : Fin 3) = 0 ∧ win0_10.index t (1 : Fin 3) = 0 ∧ win0_10.index t (2 : Fin 3) = 0 := (by decide +kernel : ∀ t : Fin grid0.N, _)
theorem idx_11 : ∀ t : Fin cfg0.N, win0_11.index t (0 : Fin 3) = 0 ∧ win0_11.index t (1 : Fin 3) = 0 ∧ win0_11.index t (2 : Fin 3) = 0 := (by decide +kernel : ∀ t : Fin grid0.N, _)
theorem idx_12 : ∀ t : Fin cfg0.N, win0_12.index t (0 : Fin 2) = t.val ∧ win0_12.index t (1 : Fin 2) = 0 := (by decide +kernel : ∀ t : Fin grid0.N, _)
theorem idx_13 : ∀ t : Fin cfg0.N, win0_13.index t (0 : Fin 2) = t.val ∧ win0_13.index t (1 : Fin 2) = 0 := (by decide +kernel : ∀ t : Fin grid0.N, _)
theorem idx_14 : ∀ t : Fin cfg0.N, win0_14.index t (0 : Fin 2) = t.val ∧ win0_14.index t (1 : Fin 2) = 0 := (by decide +kernel : ∀ t : Fin grid0.N, _)
theorem idx_15 : ∀ t : Fin cfg0.N, win0_15.index t (0 : Fin 2) = t.val ∧ win0_15.index t (1 : Fin 2) = 0 := (by decide +kernel : ∀ t : Fin grid0.N, _)

theorem lt_64 (t : Fin cfg0.N) : t.val < 64 := lt_of_lt_of_eq t.isLt N_0

/-- The sample point `t` takes, and the place in it of the block's row `r`. -/
theorem smp_lt (t : Fin cfg0.N) : t.val / 4 < 16 := by have := lt_64 t; omega
theorem pos_lt (t : ℕ) (r : Fin 1024) : 1024 * (t % 4) + r.val < 4096 := by omega
abbrev smp (t : Fin cfg0.N) : Fin 16 := ⟨t.val / 4, smp_lt t⟩
abbrev pos (t : Fin cfg0.N) (r : Fin 1024) : Fin 4096 := ⟨1024 * (t.val % 4) + r.val, pos_lt t.val r⟩

/-- A tile's row in the whole array, and the tile and row a row of it is. -/
theorem row_at {x t : ℕ} (h : x = t) (r : Fin 1024) : x * 1024 + 1 * r.val = 4096 * (t / 4) + (1024 * (t % 4) + r.val) := by omega
theorem tile_of {i : ℕ} (h : i < 65536) : i = 4096 * (i / 1024 / 4) + (1024 * (i / 1024 % 4) + i % 1024) := by omega

theorem place_at {x t : ℕ} (h : x = t % 4) (r : Fin 1024) : x * 1024 + 1 * r.val = 1024 * (t % 4) + r.val := by omega

/-- The launched arguments. -/
abbrev arg0 (c : Dev nD) : Vec Ideal S65536x1024 .f32 := m ((c : Thread nD τ).loc main_arg0)
abbrev arg1 (c : Dev nD) : Vec Ideal S16x3x1024 .f32 := m ((c : Thread nD τ).loc main_arg1)
abbrev arg2 (c : Dev nD) : Vec Ideal S1024 .f32 := m ((c : Thread nD τ).loc main_arg2)
abbrev arg3 (c : Dev nD) : Vec Ideal S2x1024x1792 .f32 := m ((c : Thread nD τ).loc main_arg3)
abbrev arg4 (c : Dev nD) : Vec Ideal S64 .f32 := m ((c : Thread nD τ).loc main_arg4)
abbrev arg5 (c : Dev nD) : Vec Ideal S64 .f32 := m ((c : Thread nD τ).loc main_arg5)
abbrev arg6 (c : Dev nD) : Vec Ideal S4096x32 .f32 := m ((c : Thread nD τ).loc main_arg6)
abbrev arg7 (c : Dev nD) : Vec Ideal S4096x32 .f32 := m ((c : Thread nD τ).loc main_arg7)
abbrev arg8 (c : Dev nD) : Vec Ideal S512 .f32 := m ((c : Thread nD τ).loc main_arg8)
abbrev arg9 (c : Dev nD) : Vec Ideal S4x128x128 .f32 := m ((c : Thread nD τ).loc main_arg9)
abbrev arg10 (c : Dev nD) : Vec Ideal S4x128 .f32 := m ((c : Thread nD τ).loc main_arg10)

/-- A head's gain, at every query head's place and at every key head's. -/
def tiled8 (x : FVec Ideal S64 .f32) : FVec Ideal S1x512 .f32 :=
  broadcastInDim S1x512 ![1] bcast_S512_S1x512_1 (shapeCast S512 (broadcastInDim S8x64 ![0, 1] bcast_S1x64_S8x64_0_1 (shapeCast S1x64 x shapeCasts_S64_S1x64)) shapeCasts_S8x64_S512)
def tiled2 (x : FVec Ideal S64 .f32) : FVec Ideal S1x128 .f32 :=
  broadcastInDim S1x128 ![1] bcast_S128_S1x128_1 (shapeCast S128 (broadcastInDim S2x64 ![0, 1] bcast_S1x64_S2x64_0_1 (shapeCast S1x64 x shapeCasts_S64_S1x64)) shapeCasts_S2x64_S128)

/-- Gains tiled over `H` heads. -/
theorem tiled_apply {H n : ℕ} (hn : n = 64 * H) (x : FVec Ideal S64 .f32) (h0 : S64.ShapeCasts S1x64) (h1 : S1x64.BroadcastsInDim ⟨2, ![H, 64]⟩ ![0, 1]) (h2 : (⟨2, ![H, 64]⟩ : Shape).ShapeCasts ⟨1, ![n]⟩)
    (h3 : (⟨1, ![n]⟩ : Shape).BroadcastsInDim ⟨2, ![1, n]⟩ ![1]) (c : Fin n) :
    broadcastInDim ⟨2, ![1, n]⟩ ![1] h3 (shapeCast ⟨1, ![n]⟩ (broadcastInDim ⟨2, ![H, 64]⟩ ![0, 1] h1 (shapeCast S1x64 x h0)) h2) (ix2 (0 : Fin 1) c) = x (ix1 ⟨c.val % 64, gainAt_lt _⟩) := by
  have he : c.val / 64 < H := by omega
  have hn1 : c.val = if n = 1 then 0 else c.val := by split <;> omega
  rw [broadcastInDim_apply _ h3 _ (ix2 (0 : Fin 1) c) (ix1 c) (fun a => by match a with | ⟨0, _⟩ => exact hn1),
    shapeCast_apply _ h2 (ix1 c) (ix2 (⟨c.val / 64, he⟩ : Fin H) (⟨c.val % 64, gainAt_lt _⟩ : Fin 64)) (by
      rw [Shape.rowMajor_val_two, Shape.rowMajor_val_one]
      show c.val / 64 * 64 + c.val % 64 = c.val
      omega),
    broadcastInDim_apply _ h1 _ (ix2 (⟨c.val / 64, he⟩ : Fin H) (⟨c.val % 64, gainAt_lt _⟩ : Fin 64)) (ix2 (0 : Fin 1) (⟨c.val % 64, gainAt_lt _⟩ : Fin 64))
      (fun a => by match a with | ⟨0, _⟩ => rfl | ⟨1, _⟩ => rfl)]
  exact shapeCast_a_1a_apply _ _ _ _

/-- A table of angles' pairs, at every lane of two heads. -/
def wide (y : FVec Ideal S4096x32x2 .f32) : FVec Ideal S4096x128 .f32 :=
  shapeCast S4096x128 (broadcastInDim S1x4096x2x64 ![0, 1, 2, 3] bcast_S1x4096x1x64_S1x4096x2x64_0_1_2_3
    (shapeCast S1x4096x1x64 (shapeCast S4096x64 y shapeCasts_S4096x32x2_S4096x64) shapeCasts_S4096x64_S1x4096x1x64)) shapeCasts_S1x4096x2x64_S4096x128

theorem half_lt (l : Fin 128) : l.val / 64 < 2 := by omega
theorem par_lt (l : Fin 128) : l.val % 2 < 2 := by omega

theorem wide_apply (y : FVec Ideal S4096x32x2 .f32) (s : Fin 4096) (l : Fin 128) : wide y (ix2 s l) = y (ix3 s (⟨_, angle_lt l.val⟩ : Fin 32) (⟨_, par_lt l⟩ : Fin 2)) := by
  unfold wide
  rw [shapeCast_apply _ shapeCasts_S1x4096x2x64_S4096x128 (ix2 s l) (ix4 (0 : Fin 1) s (⟨_, half_lt l⟩ : Fin 2) (⟨_, gainAt_lt l.val⟩ : Fin 64)) (by
      rw [Shape.rowMajor_val_two, Shape.rowMajor_val_four]
      show ((0 * 4096 + s.val) * 2 + l.val / 64) * 64 + l.val % 64 = s.val * 128 + l.val
      omega),
    broadcastInDim_apply _ bcast_S1x4096x1x64_S1x4096x2x64_0_1_2_3 _ _ (ix4 (0 : Fin 1) s (0 : Fin 1) (⟨_, gainAt_lt l.val⟩ : Fin 64)) (fun a => by match a with | ⟨0, _⟩ => rfl | ⟨1, _⟩ => rfl | ⟨2, _⟩ => rfl | ⟨3, _⟩ => rfl),
    shapeCast_apply _ shapeCasts_S4096x64_S1x4096x1x64 _ (ix2 s (⟨_, gainAt_lt l.val⟩ : Fin 64)) (by
      rw [Shape.rowMajor_val_two, Shape.rowMajor_val_four]
      show s.val * 64 + l.val % 64 = ((0 * 4096 + s.val) * 1 + 0) * 64 + l.val % 64
      omega)]
  exact shapeCast_apply _ shapeCasts_S4096x32x2_S4096x64 _ _ (by
    rw [Shape.rowMajor_val_two, Shape.rowMajor_val_three]
    show (s.val * 32 + l.val % 64 / 2) * 2 + l.val % 2 = s.val * 64 + l.val % 64
    omega)

def cosines (x : FVec Ideal S4096x32 .f32) : FVec Ideal S4096x128 .f32 := wide (broadcastInDim S4096x32x2 ![0, 1] bcast_S4096x32_S4096x32x2_0_1 x)
def sines (x : FVec Ideal S4096x32 .f32) : FVec Ideal S4096x128 .f32 :=
  wide (concatenate S4096x32x2 2 [⟨S4096x32x1, broadcastInDim S4096x32x1 ![0, 1] bcast_S4096x32_S4096x32x1_0_1 (Host.negf x)⟩, ⟨S4096x32x1, broadcastInDim S4096x32x1 ![0, 1] bcast_S4096x32_S4096x32x1_0_1 x⟩]
    concatenates_S4096x32x1_S4096x32x1_S4096x32x2_d2)

theorem cosines_apply (x : FVec Ideal S4096x32 .f32) (s : Fin 4096) (l : Fin 128) : cosines x (ix2 s l) = x (ix2 s ⟨_, angle_lt l.val⟩) := by
  unfold cosines
  rw [wide_apply]
  exact broadcastInDim_apply _ bcast_S4096x32_S4096x32x2_0_1 x _ _ (fun a => by match a with | ⟨0, _⟩ => rfl | ⟨1, _⟩ => rfl)

theorem sines_apply (x : FVec Ideal S4096x32 .f32) (s : Fin 4096) (l : Fin 128) :
    sines x (ix2 s l) = if l.val % 2 = 0 then -x (ix2 s ⟨_, angle_lt l.val⟩) else x (ix2 s ⟨_, angle_lt l.val⟩) := by
  have hb : ∀ (w : FVec Ideal S4096x32 .f32) (p : Fin 32), broadcastInDim S4096x32x1 ![0, 1] bcast_S4096x32_S4096x32x1_0_1 w (ix3 s p (0 : Fin 1)) = w (ix2 s p) := fun w p =>
    broadcastInDim_apply _ bcast_S4096x32_S4096x32x1_0_1 w _ _ (fun a => by match a with | ⟨0, _⟩ => rfl | ⟨1, _⟩ => rfl)
  unfold sines
  rw [wide_apply]
  by_cases hl : l.val % 2 = 0
  · rw [if_pos hl]
    exact (concatenate_pair_apply_left (t := S4096x32x2) (s₁ := S4096x32x1) (s₂ := S4096x32x1) 2 _ _ concatenates_S4096x32x1_S4096x32x1_S4096x32x2_d2 _ rfl (ix3 s (⟨_, angle_lt l.val⟩ : Fin 32) (0 : Fin 1))
      (fun a => by match a with | ⟨0, _⟩ => rfl | ⟨1, _⟩ => rfl | ⟨2, _⟩ => exact hl.symm)).trans (hb (Host.negf x) _)
  · rw [if_neg hl]
    exact (concatenate_pair_apply_right (t := S4096x32x2) (s₁ := S4096x32x1) (s₂ := S4096x32x1) 2 _ _ concatenates_S4096x32x1_S4096x32x1_S4096x32x2_d2 _ rfl rfl (ix3 s (⟨_, angle_lt l.val⟩ : Fin 32) (0 : Fin 1))
      (fun a ha => by match a with | ⟨0, _⟩ => rfl | ⟨1, _⟩ => rfl | ⟨2, _⟩ => exact absurd rfl ha) (by show 0 + 1 = l.val % 2; omega)).trans (hb x _)

/-- The matrix that averages over heads: one's place in a 4 by 4 identity, times a sixty-fourth. -/
def same : IVec S4x4 1 := cmpi .eq (addi (iotaInDim S4x4 32 0) (broadcastInDim S4x4 ![] bcast_S_S4x4 (constantI S_ 32 0#32))) (iotaInDim S4x4 32 1)
def avg : FVec Ideal S256x256 .bf16 :=
  truncf .bf16 (shapeCast S256x256 (mulf
    (broadcastInDim S4x64x4x64 ![0, 1, 2, 3] bcast_S4x1x4x1_S4x64x4x64_0_1_2_3 (broadcastInDim S4x1x4x1 ![0, 2] bcast_S4x4_S4x1x4x1_0_2 (uitofp .f32 same : FVec Ideal S4x4 .f32)))
    (broadcastInDim S4x64x4x64 ![0, 1, 2, 3] bcast_S1x64x1x64_S4x64x4x64_0_1_2_3 (broadcastInDim S1x64x1x64 ![1, 3] bcast_S64x64_S1x64x1x64_1_3 (broadcastInDim S64x64 ![] bcast_S_S64x64 (constant S_ .f32 0x3C800000#32 : FVec Ideal S_ .f32)))))
    shapeCasts_S4x64x4x64_S256x256 : FVec Ideal S256x256 .f32) bitsLt_bf16_f32

theorem same_apply : ∀ a b : Fin 4, same (ix2 a b) = if a.val = b.val then 1#1 else 0#1 := by decide +kernel
theorem four_lt (k : Fin 256) : k.val / 64 < 4 := by omega

theorem avg_apply (k c : Fin 256) : avg (ix2 k c) = sixty k c := by
  unfold avg sixty
  rw [truncf_apply, shapeCast_apply _ shapeCasts_S4x64x4x64_S256x256 (ix2 k c) (ix4 (⟨_, four_lt k⟩ : Fin 4) (⟨_, gainAt_lt k.val⟩ : Fin 64) (⟨_, four_lt c⟩ : Fin 4) (⟨_, gainAt_lt c.val⟩ : Fin 64)) (by
      rw [Shape.rowMajor_val_two, Shape.rowMajor_val_four]
      show ((k.val / 64 * 64 + k.val % 64) * 4 + c.val / 64) * 64 + c.val % 64 = k.val * 256 + c.val
      omega), mulf_apply,
    broadcastInDim_apply _ bcast_S4x1x4x1_S4x64x4x64_0_1_2_3 _ _ (ix4 (⟨_, four_lt k⟩ : Fin 4) (0 : Fin 1) (⟨_, four_lt c⟩ : Fin 4) (0 : Fin 1)) (fun a => by match a with | ⟨0, _⟩ => rfl | ⟨1, _⟩ => rfl | ⟨2, _⟩ => rfl | ⟨3, _⟩ => rfl),
    broadcastInDim_apply _ bcast_S4x4_S4x1x4x1_0_2 _ _ (ix2 (⟨_, four_lt k⟩ : Fin 4) (⟨_, four_lt c⟩ : Fin 4)) (fun a => by match a with | ⟨0, _⟩ => rfl | ⟨1, _⟩ => rfl),
    show uitofp (F := Ideal) .f32 same (ix2 (⟨_, four_lt k⟩ : Fin 4) (⟨_, four_lt c⟩ : Fin 4)) = FloatOps.uitofp .f32 (same (ix2 (⟨_, four_lt k⟩ : Fin 4) (⟨_, four_lt c⟩ : Fin 4))) from rfl, same_apply]
  show _ * Ideal.ofBits .f32 0x3C800000#32 = _
  by_cases h : k.val / 64 = c.val / 64
  · rw [if_pos h, if_pos h]
    have e : (FloatOps.uitofp .f32 1#1 : Ideal .f32) = (1 : EReal) := by show (((1#1 : BitVec 1).toNat : ℝ) : EReal) = 1; simp
    rw [e]
    exact one_mul _
  · rw [if_neg h, if_neg h]
    have e : (FloatOps.uitofp .f32 0#1 : Ideal .f32) = (0 : EReal) := by show (((0#1 : BitVec 1).toNat : ℝ) : EReal) = 0; simp
    rw [e]
    exact zero_mul _

theorem V_cos (c : Dev nD) : (V m c main_v4 : Vec Ideal S4096x128 .f32) = cosines (arg6 m c) := by
  entry_read <;> rfl
theorem V_sin (c : Dev nD) : (V m c main_v12 : Vec Ideal S4096x128 .f32) = sines (arg7 m c) := by
  entry_read <;> rfl
theorem V_b (c : Dev nD) : (V m c main_v14 : Vec Ideal S4x128x128 .f32) = broadcastInDim S4x128x128 ![0, 1, 2] bcast_S4x128x1_S4x128x128_0_1_2 (broadcastInDim S4x128x1 ![0, 1] bcast_S4x128_S4x128x1_0_1 (arg10 m c)) := by
  entry_read <;> rfl
theorem V_w (c : Dev nD) : (V m c main_v15 : Vec Ideal S2x1024x1792 .bf16) = truncf (F := Ideal) .bf16 (arg3 m c : FVec Ideal S2x1024x1792 .f32) bitsLt_bf16_f32 := by
  entry_read <;> rfl
theorem V_gq (c : Dev nD) : (V m c main_v19 : Vec Ideal S1x512 .f32) = tiled8 (arg4 m c) := by
  entry_read <;> rfl
theorem V_gk (c : Dev nD) : (V m c main_v23 : Vec Ideal S1x128 .f32) = tiled2 (arg5 m c) := by
  entry_read <;> rfl
theorem V_p (c : Dev nD) : (V m c main_v32 : Vec Ideal S256x256 .bf16) = avg := by
  entry_read <;> rfl
theorem V_vg (c : Dev nD) : (V m c main_v33 : Vec Ideal S1x512 .f32) = broadcastInDim S1x512 ![1] bcast_S512_S1x512_1 (arg8 m c) := by
  entry_read <;> rfl
theorem V_ws (c : Dev nD) : (V m c main_v34 : Vec Ideal S4x128x128 .bf16) = truncf (F := Ideal) .bf16 (arg9 m c : FVec Ideal S4x128x128 .f32) bitsLt_bf16_f32 := by
  entry_read <;> rfl
theorem V_g (c : Dev nD) : (V m c main_v35 : Vec Ideal S1x1024 .f32) = shapeCast S1x1024 (arg2 m c) shapeCasts_S1024_S1x1024 := by
  entry_read <;> rfl

theorem blk0_apply (c : Dev nD) (t : Fin cfg0.N) (r k : Fin 1024) :
    (iblk m c 0 t : Vec Ideal S1024x1024 .f32) (ix2 r k) = arg0 m c (ix2 (at_ (smp t) (pos t r)) k) := by
  obtain ⟨e0, e1⟩ := idx_0 t
  show V m c main_arg0 (((cfg0.win 0).blk t).view.emb (ix2 r k)) = _
  rw [V_main_arg0]
  exact congrArg (arg0 m c) (ix2_of _ _ _ (row_at e0 r) (col_at e1 k))

theorem blk1_apply (c : Dev nD) (t : Fin cfg0.N) (e : Fin 3) (k : Fin 1024) :
    (iblk m c 1 t : Vec Ideal S1x3x1024 .f32) (ix3 (0 : Fin 1) e k) = arg1 m c (ix3 (smp t) e k) := by
  obtain ⟨e0, e1, e2⟩ := idx_1 t
  show V m c main_arg1 (((cfg0.win 1).blk t).view.emb (ix3 (0 : Fin 1) e k)) = _
  rw [V_main_arg1]
  exact congrArg (arg1 m c) (ix3_of _ _ _ _ (one_at e0) (col_at e1 e) (col_at e2 k))

theorem blk2_apply (c : Dev nD) (t : Fin cfg0.N) (k : Fin 1024) :
    (iblk m c 2 t : Vec Ideal S1x1024 .f32) (ix2 (0 : Fin 1) k) = arg2 m c (ix1 k) := by
  obtain ⟨e0, e1⟩ := idx_2 t
  show (V m c main_v35 : Vec Ideal S1x1024 .f32) (((cfg0.win 2).blk t).view.emb (ix2 (0 : Fin 1) k)) = _
  rw [V_g]
  exact (congrArg (shapeCast S1x1024 (arg2 m c) shapeCasts_S1024_S1x1024) (ix2_of _ (0 : Fin 1) k (one_at e0) (col_at e1 k))).trans (shapeCast_a_1a_apply _ _ _ _)

theorem blk3_apply (c : Dev nD) (t : Fin cfg0.N) (k : Fin 1024) (n : Fin 1792) :
    (iblk m c 3 t : Vec Ideal S1x1024x1792 .bf16) (ix3 (0 : Fin 1) k n) = arg3 m c (ix3 (0 : Fin 2) k n) := by
  obtain ⟨e0, e1, e2⟩ := idx_3 t
  show (V m c main_v15 : Vec Ideal S2x1024x1792 .bf16) (((cfg0.win 3).blk t).view.emb (ix3 (0 : Fin 1) k n)) = _
  rw [V_w]
  exact congrArg (arg3 m c) (ix3_of _ _ _ _ (one_at e0) (col_at e1 k) (col_at e2 n))

theorem blk4_apply (c : Dev nD) (t : Fin cfg0.N) (k : Fin 512) :
    (iblk m c 4 t : Vec Ideal S1x512 .f32) (ix2 (0 : Fin 1) k) = arg4 m c (ix1 ⟨k.val % 64, gainAt_lt _⟩) := by
  obtain ⟨e0, e1⟩ := idx_4 t
  show (V m c main_v19 : Vec Ideal S1x512 .f32) (((cfg0.win 4).blk t).view.emb (ix2 (0 : Fin 1) k)) = _
  rw [V_gq]
  exact (congrArg (tiled8 (arg4 m c)) (ix2_of _ (0 : Fin 1) k (one_at e0) (col_at e1 k))).trans (tiled_apply (H := 8) rfl (arg4 m c) _ _ _ _ k)

theorem blk5_apply (c : Dev nD) (t : Fin cfg0.N) (k : Fin 128) :
    (iblk m c 5 t : Vec Ideal S1x128 .f32) (ix2 (0 : Fin 1) k) = arg5 m c (ix1 ⟨k.val % 64, gainAt_lt _⟩) := by
  obtain ⟨e0, e1⟩ := idx_5 t
  show (V m c main_v23 : Vec Ideal S1x128 .f32) (((cfg0.win 5).blk t).view.emb (ix2 (0 : Fin 1) k)) = _
  rw [V_gk]
  exact (congrArg (tiled2 (arg5 m c)) (ix2_of _ (0 : Fin 1) k (one_at e0) (col_at e1 k))).trans (tiled_apply (H := 2) rfl (arg5 m c) _ _ _ _ k)

theorem blk6_apply (c : Dev nD) (t : Fin cfg0.N) (r : Fin 1024) (l : Fin 128) :
    (iblk m c 6 t : Vec Ideal S1024x128 .f32) (ix2 r l) = arg6 m c (ix2 (pos t r) ⟨_, angle_lt l.val⟩) := by
  obtain ⟨e0, e1⟩ := idx_6 t
  show (V m c main_v4 : Vec Ideal S4096x128 .f32) (((cfg0.win 6).blk t).view.emb (ix2 r l)) = _
  rw [V_cos]
  exact (congrArg (cosines (arg6 m c)) (ix2_of _ (pos t r) l (place_at e0 r) (col_at e1 l))).trans (cosines_apply _ _ _)

theorem blk7_apply (c : Dev nD) (t : Fin cfg0.N) (r : Fin 1024) (l : Fin 128) :
    (iblk m c 7 t : Vec Ideal S1024x128 .f32) (ix2 r l) = if l.val % 2 = 0 then -arg7 m c (ix2 (pos t r) ⟨_, angle_lt l.val⟩) else arg7 m c (ix2 (pos t r) ⟨_, angle_lt l.val⟩) := by
  obtain ⟨e0, e1⟩ := idx_7 t
  show (V m c main_v12 : Vec Ideal S4096x128 .f32) (((cfg0.win 7).blk t).view.emb (ix2 r l)) = _
  rw [V_sin]
  exact (congrArg (sines (arg7 m c)) (ix2_of _ (pos t r) l (place_at e0 r) (col_at e1 l))).trans (sines_apply _ _ _)

theorem blk8_apply (c : Dev nD) (t : Fin cfg0.N) (k n : Fin 256) : (iblk m c 8 t : Vec Ideal S256x256 .bf16) (ix2 k n) = sixty k n := by
  obtain ⟨e0, e1⟩ := idx_8 t
  show (V m c main_v32 : Vec Ideal S256x256 .bf16) (((cfg0.win 8).blk t).view.emb (ix2 k n)) = _
  rw [V_p]
  exact (congrArg avg (ix2_of _ k n (col_at e0 k) (col_at e1 n))).trans (avg_apply k n)

theorem blk9_apply (c : Dev nD) (t : Fin cfg0.N) (k : Fin 512) : (iblk m c 9 t : Vec Ideal S1x512 .f32) (ix2 (0 : Fin 1) k) = arg8 m c (ix1 k) := by
  obtain ⟨e0, e1⟩ := idx_9 t
  show (V m c main_v33 : Vec Ideal S1x512 .f32) (((cfg0.win 9).blk t).view.emb (ix2 (0 : Fin 1) k)) = _
  rw [V_vg]
  exact (congrArg (broadcastInDim S1x512 ![1] bcast_S512_S1x512_1 (arg8 m c)) (ix2_of (((cfg0.win 9).blk t).view.emb (ix2 (0 : Fin 1) k)) (0 : Fin 1) k (one_at e0) (col_at e1 k))).trans
    (broadcastInDim_apply _ bcast_S512_S1x512_1 (arg8 m c) (ix2 (0 : Fin 1) k) (ix1 k) (fun a => by match a with | ⟨0, _⟩ => rfl))

theorem blk10_apply (c : Dev nD) (t : Fin cfg0.N) (e : Fin 4) (i j : Fin 128) : (iblk m c 10 t : Vec Ideal S4x128x128 .bf16) (ix3 e i j) = arg9 m c (ix3 e i j) := by
  obtain ⟨e0, e1, e2⟩ := idx_10 t
  show (V m c main_v34 : Vec Ideal S4x128x128 .bf16) (((cfg0.win 10).blk t).view.emb (ix3 e i j)) = _
  rw [V_ws]
  exact congrArg (arg9 m c) (ix3_of _ _ _ _ (col_at e0 e) (col_at e1 i) (col_at e2 j))

theorem blk11_apply (c : Dev nD) (t : Fin cfg0.N) (e : Fin 4) (i j : Fin 128) : (iblk m c 11 t : Vec Ideal S4x128x128 .f32) (ix3 e i j) = arg10 m c (ix2 e i) := by
  obtain ⟨e0, e1, e2⟩ := idx_11 t
  show (V m c main_v14 : Vec Ideal S4x128x128 .f32) (((cfg0.win 11).blk t).view.emb (ix3 e i j)) = _
  rw [V_b, ix3_of (((cfg0.win 11).blk t).view.emb (ix3 e i j)) e i j (col_at e0 e) (col_at e1 i) (col_at e2 j),
    broadcastInDim_apply _ bcast_S4x128x1_S4x128x128_0_1_2 _ _ (ix3 e i (0 : Fin 1)) (fun a => by match a with | ⟨0, _⟩ => rfl | ⟨1, _⟩ => rfl | ⟨2, _⟩ => rfl)]
  exact broadcastInDim_apply _ bcast_S4x128_S4x128x1_0_1 (arg10 m c) _ _ (fun a => by match a with | ⟨0, _⟩ => rfl | ⟨1, _⟩ => rfl)

/-- A block's projected row is the reference's. -/
theorem prow_eq (c : Dev nD) (t : Fin cfg0.N) (r : Fin 1024) :
    prow (iblk m c 0 t) (iblk m c 1 t) (iblk m c 2 t) (iblk m c 3 t) r = Cert.Reference8Ideal.Odd.prow (smp t) (pos t r) (arg0 m c) (arg1 m c) (arg2 m c) (arg3 m c) := by
  funext n
  unfold prow Cert.Reference8Ideal.Odd.prow
  simp only [blk0_apply, blk1_apply, blk2_apply, blk3_apply]

/-- What the result arrays are shown to hold. -/
abbrev res0 (c : Dev nD) : Vec Ideal S65536x512 .bf16 := Cert.Reference8Ideal.Read.val_main_v157 (F := Ideal) (arg0 m c) (arg1 m c) (arg2 m c) (arg3 m c) (arg4 m c) (arg6 m c) (arg7 m c)
abbrev res1 (c : Dev nD) : Vec Ideal S65536x128 .bf16 := Cert.Reference8Ideal.Read.val_main_v158 (F := Ideal) (arg0 m c) (arg1 m c) (arg2 m c) (arg3 m c) (arg5 m c) (arg6 m c) (arg7 m c)
abbrev res2 (c : Dev nD) : Vec Ideal S65536x128 .bf16 := Cert.Reference8Ideal.Read.val_main_v159 (F := Ideal) (arg0 m c) (arg1 m c) (arg2 m c) (arg3 m c)
abbrev res3 (c : Dev nD) : Vec Ideal S65536x512 .bf16 := Cert.Reference8Ideal.Read.val_main_v160 (F := Ideal) (arg0 m c) (arg1 m c) (arg2 m c) (arg3 m c) (arg8 m c) (arg9 m c) (arg10 m c)

theorem emb_12 (t : Fin cfg0.N) (r : Fin 1024) (C : Fin 512) : ((cfg0.win 12).blk t).view.emb (ix2 r C) = ix2 (at_ (smp t) (pos t r)) C := by
  obtain ⟨e0, e1⟩ := idx_12 t
  exact ix2_of _ _ _ (row_at e0 r) (col_at e1 C)
theorem emb_13 (t : Fin cfg0.N) (r : Fin 1024) (C : Fin 128) : ((cfg0.win 13).blk t).view.emb (ix2 r C) = ix2 (at_ (smp t) (pos t r)) C := by
  obtain ⟨e0, e1⟩ := idx_13 t
  exact ix2_of _ _ _ (row_at e0 r) (col_at e1 C)
theorem emb_14 (t : Fin cfg0.N) (r : Fin 1024) (C : Fin 128) : ((cfg0.win 14).blk t).view.emb (ix2 r C) = ix2 (at_ (smp t) (pos t r)) C := by
  obtain ⟨e0, e1⟩ := idx_14 t
  exact ix2_of _ _ _ (row_at e0 r) (col_at e1 C)
theorem emb_15 (t : Fin cfg0.N) (r : Fin 1024) (C : Fin 512) : ((cfg0.win 15).blk t).view.emb (ix2 r C) = ix2 (at_ (smp t) (pos t r)) C := by
  obtain ⟨e0, e1⟩ := idx_15 t
  exact ix2_of _ _ _ (row_at e0 r) (col_at e1 C)

/-- What point `t` leaves in each is its rows of the reference's result. -/
theorem left_12 (c : Dev nD) (t : Fin cfg0.N) (r : Fin 1024) (C : Fin 512) :
    (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S1024x512 .bf16) (ix2 r C)
      = res0 m c (((cfg0.win 12).blk t).view.emb (ix2 r C)) := by
  rw [emb_12]
  refine (q_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun r p => arg6 m c (ix2 (pos t r) p)) (fun r p => arg7 m c (ix2 (pos t r) p)) (fun i => arg4 m c (ix1 i))
    (blk8_apply m c t) (blk6_apply m c t) (blk7_apply m c t) (blk4_apply m c t) r C).trans ?_
  refine Eq.trans ?_ (Cert.Reference8Ideal.Odd.q_apply (smp t) (pos t r) (arg0 m c) (arg1 m c) (arg2 m c) (arg3 m c) (arg4 m c) (arg6 m c) (arg7 m c) C).symm
  rw [prow_eq]

theorem left_13 (c : Dev nD) (t : Fin cfg0.N) (r : Fin 1024) (C : Fin 128) :
    (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S1024x128 .bf16) (ix2 r C)
      = res1 m c (((cfg0.win 13).blk t).view.emb (ix2 r C)) := by
  rw [emb_13]
  refine (k_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun r p => arg6 m c (ix2 (pos t r) p)) (fun r p => arg7 m c (ix2 (pos t r) p)) (fun i => arg5 m c (ix1 i))
    (blk8_apply m c t) (blk6_apply m c t) (blk7_apply m c t) (blk5_apply m c t) r C).trans ?_
  refine Eq.trans ?_ (Cert.Reference8Ideal.Odd.k_apply (smp t) (pos t r) (arg0 m c) (arg1 m c) (arg2 m c) (arg3 m c) (arg5 m c) (arg6 m c) (arg7 m c) C).symm
  rw [prow_eq]

theorem left_14 (c : Dev nD) (t : Fin cfg0.N) (r : Fin 1024) (C : Fin 128) :
    (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S1024x128 .bf16) (ix2 r C)
      = res2 m c (((cfg0.win 14).blk t).view.emb (ix2 r C)) := by
  rw [emb_14]
  refine (v_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r C).trans ?_
  refine Eq.trans ?_ (Cert.Reference8Ideal.Odd.v_apply (smp t) (pos t r) (arg0 m c) (arg1 m c) (arg2 m c) (arg3 m c) C).symm
  rw [prow_eq]

/-- A chunk of a tile's rows is a chunk of its sample's. -/
theorem chunk_pos (t : Fin cfg0.N) (r : Fin 1024) (j : Fin 128) : pos t ⟨_, chunkOf_lt r j⟩ = ⟨_, Cert.Reference8Ideal.Odd.chunk_lt (pos t r) j⟩ :=
  Fin.ext (show 1024 * (t.val % 4) + (128 * (r.val / 128) + j.val) = 128 * ((1024 * (t.val % 4) + r.val) / 128) + j.val by omega)

theorem left_15 (c : Dev nD) (t : Fin cfg0.N) (r : Fin 1024) (C : Fin 512) :
    (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S1024x512 .bf16) (ix2 r C)
      = res3 m c (((cfg0.win 15).blk t).view.emb (ix2 r C)) := by
  rw [emb_15]
  refine (g_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun e i => arg10 m c (ix2 e i)) (blk11_apply m c t) r C).trans ?_
  refine Eq.trans ?_ (Cert.Reference8Ideal.Odd.g_apply (smp t) (pos t r) (arg0 m c) (arg1 m c) (arg2 m c) (arg3 m c) (arg8 m c) (arg9 m c) (arg10 m c) C).symm
  have hr : (⟨r.val % 128, Nat.mod_lt _ (by decide)⟩ : Fin 128) = ⟨(pos t r).val % 128, Nat.mod_lt _ (by decide)⟩ := Fin.ext (show r.val % 128 = (1024 * (t.val % 4) + r.val) % 128 by omega)
  rw [hr]
  simp only [prow_eq, chunk_pos, blk9_apply, blk10_apply]

/-- Blocks that lie as the points' rows do fill an array, and agree when they agree place by place. -/
theorem fill {n : ℕ} (emb : Fin cfg0.N → (⟨2, ![1024, n]⟩ : Shape).Idx → (⟨2, ![65536, n]⟩ : Shape).Idx)
    (he : ∀ t r C, emb t (ix2 r C) = ix2 (at_ (smp t) (pos t r)) C) (i : (⟨2, ![65536, n]⟩ : Shape).Idx) : ∃ t y, emb t y = i := by
  have h0 : (i 0).val < 65536 := (i 0).isLt
  have hN : cfg0.N = 64 := N_0
  have ht : (i 0).val / 1024 < cfg0.N := by omega
  have hr : (i 0).val % 1024 < 1024 := by omega
  exact ⟨⟨_, ht⟩, ix2 ⟨_, hr⟩ (i 1), (he _ _ _).trans (ix2_of i _ (i 1) (tile_of h0) rfl).symm⟩

theorem rows_ext {n : ℕ} {f g : (⟨2, ![1024, n]⟩ : Shape).Idx → EReal} (h : ∀ r C, f (ix2 r C) = g (ix2 r C)) : f = g := funext fun j => by
  have e := h (j 0) (j 1)
  rw [← ix2_of j (j 0) (j 1) rfl rfl] at e
  exact e

theorem final_12 (c : Dev nD) : (dats m 0 c).arrAt 12 cfg0.N = res0 m c :=
  (dats m 0 c).arrAt_eq_of_cover 12 (res0 m c) (fun t _ => (Cert.Kernel8Ideal.Value.flushed12 m c t).trans (rows_ext (left_12 m c t)))
    fun i => let ⟨t, y, e⟩ := fill (fun t => ((cfg0.win 12).blk t).view.emb) emb_12 i
      ⟨t, flush0_12 t, e ▸ ((cfg0.win 12).blk t).view.emb_mem_set y⟩

theorem final_13 (c : Dev nD) : (dats m 0 c).arrAt 13 cfg0.N = res1 m c :=
  (dats m 0 c).arrAt_eq_of_cover 13 (res1 m c) (fun t _ => (Cert.Kernel8Ideal.Value.flushed13 m c t).trans (rows_ext (left_13 m c t)))
    fun i => let ⟨t, y, e⟩ := fill (fun t => ((cfg0.win 13).blk t).view.emb) emb_13 i
      ⟨t, flush0_13 t, e ▸ ((cfg0.win 13).blk t).view.emb_mem_set y⟩

theorem final_14 (c : Dev nD) : (dats m 0 c).arrAt 14 cfg0.N = res2 m c :=
  (dats m 0 c).arrAt_eq_of_cover 14 (res2 m c) (fun t _ => (Cert.Kernel8Ideal.Value.flushed14 m c t).trans (rows_ext (left_14 m c t)))
    fun i => let ⟨t, y, e⟩ := fill (fun t => ((cfg0.win 14).blk t).view.emb) emb_14 i
      ⟨t, flush0_14 t, e ▸ ((cfg0.win 14).blk t).view.emb_mem_set y⟩

theorem final_15 (c : Dev nD) : (dats m 0 c).arrAt 15 cfg0.N = res3 m c :=
  (dats m 0 c).arrAt_eq_of_cover 15 (res3 m c) (fun t _ => (Cert.Kernel8Ideal.Value.flushed15 m c t).trans (rows_ext (left_15 m c t)))
    fun i => let ⟨t, y, e⟩ := fill (fun t => ((cfg0.win 15).blk t).view.emb) emb_15 i
      ⟨t, flush0_15 t, e ▸ ((cfg0.win 15).blk t).view.emb_mem_set y⟩

/-- The run's results, the arguments as launched. -/
theorem run_res (ρ : Dev nD → PrngReg) :
    θ_run defs (onTc (τ := τ) (main (F := Ideal))) ⟨m, fun _ => 0, ρ⟩ (fun r => ∀ c : Dev nD,
      r.2.mem ((c.tc : Thread nD τ).loc main_v36_0) = res0 m c
      ∧ r.2.mem ((c.tc : Thread nD τ).loc main_v36_1) = res1 m c
      ∧ r.2.mem ((c.tc : Thread nD τ).loc main_v36_2) = res2 m c
      ∧ r.2.mem ((c.tc : Thread nD τ).loc main_v36_3) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ hr c => ⟨(hr c).1.trans (final_12 m c), (hr c).2.1.trans (final_13 m c), (hr c).2.2.1.trans (final_14 m c),
    (hr c).2.2.2.1.trans (final_15 m c), (hr c).2.2.2.2⟩) (Cert.Kernel8Ideal.Value.run_blocks m ρ)

end Cert.Kernel8Ideal.Odd

end
-- ==== Proof.lean ====
/- The certificate of the kernel's calls: the frames of their programs, and the agreement of each idealized call with its
   idealized reference. -/
module

public import proofs.«01_k».proof.Defs
public import proofs.«01_k».proof.Proof.Run
public import proofs.«01_k».proof.Proof.Id.Run
public import proofs.«01_k».proof.Proof.Gen.ReferenceIdeal
public import proofs.«01_k».proof.Proof.Id.Arr
public import proofs.«01_k».proof.Proof.Id.Fin
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Ffn.Arr
public import proofs.«01_k».proof.Proof.Mix.Arr3
public import proofs.«01_k».proof.Proof.Mix.Arr4
public import proofs.«01_k».proof.Proof.Proj.Arr
public import proofs.«01_k».proof.Proof.Proj.Fin
public import proofs.«01_k».proof.Proof.Four.Arr
public import proofs.«01_k».proof.Proof.Adaln.Arr
public import proofs.«01_k».proof.Proof.Odd.Arr
public import Idealize.ShloMosaic.Adequacy
public import Idealize.ShloMosaic.Init

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_scores.Att.facts
  Cert.Kernel2.Gen.facts Cert.Kernel2Ideal.Gen.facts Cert.Reference2Ideal.Gen.facts
  Cert.Kernel3.Gen.facts Cert.Kernel3Ideal.Gen.facts Cert.Reference3Ideal.Gen.facts
  Cert.Kernel4.Gen.facts Cert.Kernel4Ideal.Gen.facts Cert.Reference4Ideal.Gen.facts
  Cert.Kernel5.Gen.facts Cert.Kernel5Ideal.Gen.facts Cert.Reference5Ideal.Gen.facts Cert.Pre_finite_weights.Proj.facts
  Cert.Kernel6.Gen.facts Cert.Kernel6Ideal.Gen.facts Cert.Reference6Ideal.Gen.facts
  Cert.Kernel7.Gen.facts Cert.Kernel7Ideal.Gen.facts Cert.Reference7Ideal.Gen.facts
  Cert.Kernel8.Gen.facts Cert.Kernel8Ideal.Gen.facts Cert.Reference8Ideal.Gen.facts

/-- The reference leaves its arguments and ends with no counter up. -/
theorem reference_unchanged : Cert.quiescent_ReferenceIdeal := fun m ρ _ =>
  (θ_run _ _ _).mono (fun r h => ⟨fun c => (h c).2, Idealize.ShloMosaic.sem_eq_zero_of_no_sems (by decide) r.2⟩) (Cert.ReferenceIdeal.Value.run m ρ)

/-- The kernel computes the reference's function of finite queries and keys. -/
theorem attention : Cert.algebraic_KernelIdeal_ReferenceIdeal_pre_finite_scores := fun m ρ m' ρ' hpre hargs =>
  ⟨fun c => Cert.KernelIdeal.Att.res m c,
    Cert.KernelIdeal.Att.run_res m ρ fun c => Cert.Pre_finite_scores.Att.real_of_pre _ _ _ _ _ (hpre c),
    (θ_run _ _ _).mono (fun r h c => ⟨by
      obtain ⟨h0, h1, h2, h3, h4⟩ := hargs c
      refine (h c).1.trans ((Cert.ReferenceIdeal.Read.val_main_v27_eq m' c).trans ?_)
      rw [h0, h1, h2, h3, h4], (h c).2⟩) (Cert.ReferenceIdeal.Value.run m' ρ')⟩

theorem reference2_unchanged : Cert.quiescent_Reference2Ideal := fun m ρ _ =>
  (θ_run _ _ _).mono (fun r h => ⟨fun c => (h c).2, Idealize.ShloMosaic.sem_eq_zero_of_no_sems (by decide) r.2⟩) (Cert.Reference2Ideal.Value.run m ρ)

/-- The feed-forward call computes its reference's function. -/
theorem feed_forward : Cert.algebraic_Kernel2Ideal_Reference2Ideal := fun m ρ m' ρ' _ hargs =>
  ⟨fun c => Cert.Kernel2Ideal.Ffn.res m c, Cert.Kernel2Ideal.Ffn.run_res m ρ,
    (θ_run _ _ _).mono (fun r h c => ⟨by obtain ⟨h0, h1, h2, h3, h4⟩ := hargs c
                                         refine (h c).1.trans ((Cert.Reference2Ideal.Read.val_main_v42_eq m' c).trans ?_)
                                         rw [h0, h1, h2, h3, h4], (h c).2⟩) (Cert.Reference2Ideal.Value.run m' ρ')⟩

theorem reference3_unchanged : Cert.quiescent_Reference3Ideal := fun m ρ _ =>
  (θ_run _ _ _).mono (fun r h => ⟨fun c => (h c).2, Idealize.ShloMosaic.sem_eq_zero_of_no_sems (by decide) r.2⟩) (Cert.Reference3Ideal.Value.run m ρ)

/-- So do the output projection and feed-forward call of the even layers, -/
theorem mixed_even : Cert.algebraic_Kernel3Ideal_Reference3Ideal := fun m ρ m' ρ' _ hargs =>
  ⟨fun c => Cert.Kernel3Ideal.Mix.res m c, Cert.Kernel3Ideal.Mix.run_res m ρ,
    (θ_run _ _ _).mono (fun r h c => ⟨by
      obtain ⟨h0, h1, h2, h3, h4, h5, h6, h7, h8⟩ := hargs c
      refine (h c).1.trans ((Cert.Reference3Ideal.Read.val_main_v55_eq m' c).trans ?_)
      rw [h0, h1, h2, h3, h4, h5, h6, h7, h8], (h c).2⟩) (Cert.Reference3Ideal.Value.run m' ρ')⟩

theorem reference4_unchanged : Cert.quiescent_Reference4Ideal := fun m ρ _ =>
  (θ_run _ _ _).mono (fun r h => ⟨fun c => (h c).2, Idealize.ShloMosaic.sem_eq_zero_of_no_sems (by decide) r.2⟩) (Cert.Reference4Ideal.Value.run m ρ)

/-- and that of the odd layers. -/
theorem mixed_odd : Cert.algebraic_Kernel4Ideal_Reference4Ideal := fun m ρ m' ρ' _ hargs =>
  ⟨fun c => Cert.Kernel4Ideal.Mix.res m c, Cert.Kernel4Ideal.Mix.run_res m ρ,
    (θ_run _ _ _).mono (fun r h c => ⟨by
      obtain ⟨h0, h1, h2, h3, h4, h5, h6, h7, h8⟩ := hargs c
      refine (h c).1.trans ((Cert.Reference4Ideal.Read.val_main_v55_eq m' c).trans ?_)
      rw [h0, h1, h2, h3, h4, h5, h6, h7, h8], (h c).2⟩) (Cert.Reference4Ideal.Value.run m' ρ')⟩

theorem reference5_unchanged : Cert.quiescent_Reference5Ideal := fun m ρ _ =>
  (θ_run _ _ _).mono (fun r h => ⟨fun c => (h c).2.2.2.2, Idealize.ShloMosaic.sem_eq_zero_of_no_sems (by decide) r.2⟩) (Cert.Reference5Ideal.Value.run m ρ)

/-- The input projection of the even layers computes its reference's four results of finite modulation, gain and projection. -/
theorem projected_even : Cert.algebraic_Kernel5Ideal_Reference5Ideal_pre_finite_weights := fun m ρ m' ρ' hpre hargs =>
  ⟨fun c => Cert.Kernel5Ideal.Proj.res0 m c, fun c => Cert.Kernel5Ideal.Proj.res1 m c, fun c => Cert.Kernel5Ideal.Proj.res2 m c, fun c => Cert.Kernel5Ideal.Proj.res3 m c,
    Cert.Kernel5Ideal.Proj.run_res m ρ fun c => Cert.Pre_finite_weights.Proj.real_of_pre _ _ _ _ _ _ _ (hpre c),
    (θ_run _ _ _).mono (fun r h c => by
      obtain ⟨h0, h1, h2, h3, h4, h5, h6⟩ := hargs c
      obtain ⟨r0, r1, r2, r3, hr⟩ := h c
      refine ⟨r0.trans ((Cert.Reference5Ideal.Read.val_main_v66_eq m' c).trans ?_), r1.trans ((Cert.Reference5Ideal.Read.val_main_v67_eq m' c).trans ?_),
        r2.trans ((Cert.Reference5Ideal.Read.val_main_v68_eq _ _ _ _).trans ?_), r3.trans ((Cert.Reference5Ideal.Read.val_main_v69_eq _ _ _ _ _).trans ?_), hr⟩
      · rw [h0, h1, h2, h3, h4]
      · rw [h0, h1, h2, h3, h5]
      · rw [h0, h1, h2, h3]
      · rw [h0, h1, h2, h3, h6]) (Cert.Reference5Ideal.Value.run m' ρ')⟩

theorem reference6_unchanged : Cert.quiescent_Reference6Ideal := fun m ρ _ =>
  (θ_run _ _ _).mono (fun r h => ⟨fun c => (h c).2, Idealize.ShloMosaic.sem_eq_zero_of_no_sems (by decide) r.2⟩) (Cert.Reference6Ideal.Value.run m ρ)

/-- The Fourier mixing over the positions computes its reference's function. -/
theorem fourier : Cert.algebraic_Kernel6Ideal_Reference6Ideal := fun m ρ m' ρ' _ hargs =>
  ⟨fun c => Cert.Kernel6Ideal.Four.res m c, Cert.Kernel6Ideal.Four.run_res m ρ,
    (θ_run _ _ _).mono (fun r h c => ⟨by
      obtain ⟨h0, h1, h2⟩ := hargs c
      refine (h c).1.trans ((Cert.Reference6Ideal.Read.val_main_v11_eq _ _ _).trans ?_)
      rw [h0, h1, h2], (h c).2⟩) (Cert.Reference6Ideal.Value.run m' ρ')⟩

theorem reference7_unchanged : Cert.quiescent_Reference7Ideal := fun m ρ _ =>
  (θ_run _ _ _).mono (fun r h => ⟨fun c => (h c).2, Idealize.ShloMosaic.sem_eq_zero_of_no_sems (by decide) r.2⟩) (Cert.Reference7Ideal.Value.run m ρ)

/-- The modulation computes its reference's function. -/
theorem modulation : Cert.algebraic_Kernel7Ideal_Reference7Ideal := fun m ρ m' ρ' _ hargs =>
  ⟨fun c => Cert.Kernel7Ideal.Adaln.res m c, Cert.Kernel7Ideal.Adaln.run_res m ρ,
    (θ_run _ _ _).mono (fun r h c => ⟨by
      obtain ⟨h0, h1, h2⟩ := hargs c
      refine (h c).1.trans ((Cert.Reference7Ideal.Read.val_main_v5_eq _ _ _).trans ?_)
      rw [h0, h1, h2], (h c).2⟩) (Cert.Reference7Ideal.Value.run m' ρ')⟩

theorem reference8_unchanged : Cert.quiescent_Reference8Ideal := fun m ρ _ =>
  (θ_run _ _ _).mono (fun r h => ⟨fun c => (h c).2.2.2.2, Idealize.ShloMosaic.sem_eq_zero_of_no_sems (by decide) r.2⟩) (Cert.Reference8Ideal.Value.run m ρ)

theorem same_of_same {α0 α1 α2 α3 α4 α5 α6 β : Type} (f : α0 → α1 → α2 → α3 → α4 → α5 → α6 → β) {a0 b0 : α0} {a1 b1 : α1} {a2 b2 : α2} {a3 b3 : α3} {a4 b4 : α4} {a5 b5 : α5} {a6 b6 : α6}
    (h0 : a0 = b0) (h1 : a1 = b1) (h2 : a2 = b2) (h3 : a3 = b3) (h4 : a4 = b4) (h5 : a5 = b5) (h6 : a6 = b6) : f a0 a1 a2 a3 a4 a5 a6 = f b0 b1 b2 b3 b4 b5 b6 := by
  subst h0 h1 h2 h3 h4 h5 h6
  rfl

open Cert.Reference8Ideal.Read in
/-- The input projection of the odd layers computes its reference's four results. -/
theorem projected_odd : Cert.algebraic_Kernel8Ideal_Reference8Ideal := fun m ρ m' ρ' _ hargs =>
  ⟨fun c => Cert.Kernel8Ideal.Odd.res0 m c, fun c => Cert.Kernel8Ideal.Odd.res1 m c, fun c => Cert.Kernel8Ideal.Odd.res2 m c, fun c => Cert.Kernel8Ideal.Odd.res3 m c,
    Cert.Kernel8Ideal.Odd.run_res m ρ,
    (θ_run _ _ _).mono (fun r h c => by
      obtain ⟨h0, h1, h2, h3, h4, h5, h6, h7, h8, h9, h10⟩ := hargs c
      obtain ⟨r0, r1, r2, r3, hr⟩ := h c
      exact ⟨r0.trans ((val_main_v157_eq _).trans (same_of_same (val_main_v157 (F := Ideal)) h0 h1 h2 h3 h4 h6 h7)),
        r1.trans ((val_main_v158_eq _).trans (same_of_same (val_main_v158 (F := Ideal)) h0 h1 h2 h3 h5 h6 h7)),
        r2.trans ((val_main_v159_eq _).trans (same_of_same (fun x0 x1 x2 x3 _ _ _ => val_main_v159 (F := Ideal) x0 x1 x2 x3) h0 h1 h2 h3 h3 h3 h3)),
        r3.trans ((val_main_v160_eq _).trans (same_of_same (val_main_v160 (F := Ideal)) h0 h1 h2 h3 h8 h9 h10)), hr⟩) (Cert.Reference8Ideal.Value.run m' ρ')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Pre_finite_scores.Att.facts, Cert.Pre_finite_weights.Proj.facts,
    fun m ρ _ => Cert.Kernel.Att.unchanged m ρ, fun m ρ _ => Cert.KernelIdeal.Att.unchanged m ρ, fun m ρ _ => Cert.KernelIdeal.Att.unchanged m ρ,
    reference_unchanged, fun m ρ _ => reference_unchanged m ρ trivial,
    fun m ρ _ => Cert.Kernel2.Gen.frame m ρ, fun m ρ _ => Cert.Kernel2Ideal.Gen.frame m ρ, reference2_unchanged,
    fun m ρ _ => Cert.Kernel3.Gen.frame m ρ, fun m ρ _ => Cert.Kernel3Ideal.Gen.frame m ρ, reference3_unchanged,
    fun m ρ _ => Cert.Kernel4.Gen.frame m ρ, fun m ρ _ => Cert.Kernel4Ideal.Gen.frame m ρ, reference4_unchanged,
    fun m ρ _ => Cert.Kernel5.Gen.frame m ρ, fun m ρ _ => Cert.Kernel5Ideal.Gen.frame m ρ, fun m ρ _ => Cert.Kernel5Ideal.Gen.frame m ρ,
    reference5_unchanged, fun m ρ _ => reference5_unchanged m ρ trivial,
    fun m ρ _ => Cert.Kernel6.Gen.frame m ρ, fun m ρ _ => Cert.Kernel6Ideal.Gen.frame m ρ, reference6_unchanged,
    fun m ρ _ => Cert.Kernel7.Gen.frame m ρ, fun m ρ _ => Cert.Kernel7Ideal.Gen.frame m ρ, reference7_unchanged,
    fun m ρ _ => Cert.Kernel8.Gen.frame m ρ, fun m ρ _ => Cert.Kernel8Ideal.Gen.frame m ρ, reference8_unchanged,
    IdealRules.named_const.statement Cert.KernelIdeal.κ "q_gain" .f32 0x3E38AA3B#32 (((8 * (Real.log 2))⁻¹ : ℝ) : EReal) rfl,
    attention, trivial, feed_forward, trivial, mixed_even, trivial, mixed_odd, trivial, projected_even, trivial, fourier, trivial, modulation, trivial, projected_odd⟩

end Cert.Proof

end
